-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S2x1x5120 : Shape := ⟨3, ![2, 1, 5120]⟩
abbrev S100 : Shape := ⟨1, ![100]⟩
abbrev S5120x1792 : Shape := ⟨2, ![5120, 1792]⟩
abbrev S40x17920 : Shape := ⟨2, ![40, 17920]⟩
abbrev S5120x8960 : Shape := ⟨2, ![5120, 8960]⟩
abbrev S5120 : Shape := ⟨1, ![5120]⟩
abbrev S_ : Shape := ⟨0, ![]⟩

class Facts : Prop where
  bcast_S_S100 : S_.BroadcastsInDim S100 (![] : Fin 0 → Fin S100.rank)

variable [Facts]

def fn {F : FTy → Type} [FloatOps F] (main_arg0 : FVec F S2x1x5120 .bf16) (main_arg1 : IVec S100 32) (main_arg2 : IVec S5120x1792 32) (main_arg3 : FVec F S40x17920 .bf16) (main_arg4 : IVec S40x17920 8) (main_arg5 : IVec S5120x8960 8) (main_arg6 : FVec F S5120 .bf16) (main_arg7 : IVec S5120x1792 32) (main_arg8 : FVec F S40x17920 .bf16) (main_arg9 : IVec S40x17920 8) (main_arg10 : IVec S5120x8960 8) (main_arg11 : FVec F S5120 .bf16) : IVec S100 1 :=
  let main_c : IVec S_ 32 := constantI S_ 32 0#32
  let main_v0 : IVec S100 32 := broadcastInDim S100 ![] bcast_S_S100 main_c
  let main_v1 : IVec S100 1 := cmpi .sge main_arg1 main_v0
  let main_c_0 : IVec S_ 32 := constantI S_ 32 5120#32
  let main_v2 : IVec S100 32 := broadcastInDim S100 ![] bcast_S_S100 main_c_0
  let main_v3 : IVec S100 1 := cmpi .slt main_arg1 main_v2
  let main_v4 : IVec S100 1 := andi main_v1 main_v3
  main_v4
-- ==== Kernel.lean ====
abbrev S2x1x5120 : Shape := ⟨3, ![2, 1, 5120]⟩
abbrev S100 : Shape := ⟨1, ![100]⟩
abbrev S5120x1792 : Shape := ⟨2, ![5120, 1792]⟩
abbrev S40x17920 : Shape := ⟨2, ![40, 17920]⟩
abbrev S5120x8960 : Shape := ⟨2, ![5120, 8960]⟩
abbrev S5120 : Shape := ⟨1, ![5120]⟩
abbrev S100x2 : Shape := ⟨2, ![100, 2]⟩
abbrev S200 : Shape := ⟨1, ![200]⟩
abbrev S_ : Shape := ⟨0, ![]⟩
abbrev S256 : Shape := ⟨1, ![256]⟩
abbrev S1x256 : Shape := ⟨2, ![1, 256]⟩
abbrev S2x5120 : Shape := ⟨2, ![2, 5120]⟩
abbrev S1x5120 : Shape := ⟨2, ![1, 5120]⟩
abbrev S1280x4x8960 : Shape := ⟨3, ![1280, 4, 8960]⟩
abbrev S1280x1x8960 : Shape := ⟨3, ![1280, 1, 8960]⟩
abbrev S1280x8960 : Shape := ⟨2, ![1280, 8960]⟩
abbrev S2x1x17920 : Shape := ⟨3, ![2, 1, 17920]⟩
abbrev S1280x256 : Shape := ⟨2, ![1280, 256]⟩
abbrev S16x20480 : Shape := ⟨2, ![16, 20480]⟩
abbrev S5x2x320x2x128 : Shape := ⟨5, ![5, 2, 320, 2, 128]⟩
abbrev S5x16x256 : Shape := ⟨3, ![5, 16, 256]⟩
abbrev S128x8960 : Shape := ⟨2, ![128, 8960]⟩
abbrev S128x128 : Shape := ⟨2, ![128, 128]⟩
abbrev S1 : Shape := ⟨1, ![1]⟩
abbrev S1x8960 : Shape := ⟨2, ![1, 8960]⟩
abbrev S8x128 : Shape := ⟨2, ![8, 128]⟩
abbrev S2x128 : Shape := ⟨2, ![2, 128]⟩
abbrev S8x128x1 : Shape := ⟨3, ![8, 128, 1]⟩
abbrev S16x128 : Shape := ⟨2, ![16, 128]⟩
abbrev S40x256 : Shape := ⟨2, ![40, 256]⟩
abbrev S40x1x256 : Shape := ⟨3, ![40, 1, 256]⟩
abbrev S40x2x256 : Shape := ⟨3, ![40, 2, 256]⟩
abbrev S40x2x128 : Shape := ⟨3, ![40, 2, 128]⟩
abbrev S1x1x40x2x128 : Shape := ⟨5, ![1, 1, 40, 2, 128]⟩
abbrev S128x256 : Shape := ⟨2, ![128, 256]⟩
abbrev S16x512 : Shape := ⟨2, ![16, 512]⟩
abbrev S1x1x8x2x128 : Shape := ⟨5, ![1, 1, 8, 2, 128]⟩
abbrev S8x2x128 : Shape := ⟨3, ![8, 2, 128]⟩
abbrev S8x2x256 : Shape := ⟨3, ![8, 2, 256]⟩
abbrev S16x256 : Shape := ⟨2, ![16, 256]⟩
abbrev S512x256 : Shape := ⟨2, ![512, 256]⟩
abbrev S32x16x256 : Shape := ⟨3, ![32, 16, 256]⟩
abbrev S1x16x256 : Shape := ⟨3, ![1, 16, 256]⟩
abbrev S1x128 : Shape := ⟨2, ![1, 128]⟩
abbrev S12x5120 : Shape := ⟨2, ![12, 5120]⟩
abbrev S16x5120 : Shape := ⟨2, ![16, 5120]⟩
abbrev S5120x256 : Shape := ⟨2, ![5120, 256]⟩
abbrev S8x256 : Shape := ⟨2, ![8, 256]⟩
abbrev S256x8 : Shape := ⟨2, ![256, 8]⟩
abbrev S2x256 : Shape := ⟨2, ![2, 256]⟩
abbrev S12x256 : Shape := ⟨2, ![12, 256]⟩
abbrev S28x8960 : Shape := ⟨2, ![28, 8960]⟩
abbrev S256x1 : Shape := ⟨2, ![256, 1]⟩
abbrev S256x256 : Shape := ⟨2, ![256, 256]⟩
abbrev S2x1x128 : Shape := ⟨3, ![2, 1, 128]⟩
abbrev S1x2x256 : Shape := ⟨3, ![1, 2, 256]⟩
abbrev S2x1x256 : Shape := ⟨3, ![2, 1, 256]⟩

abbrev nBuf : Space → Nat
  | .hbm => 66
  | .vmem => 22
  | .smem => 1
  | _ => 0

abbrev bufTy : (tb : Table) → Fin (tcTables nBuf tb) → BufTy
  | .hbm, ⟨0, _⟩ => ⟨S2x1x5120, .bf16⟩
  | .hbm, ⟨1, _⟩ => ⟨S5120x1792, .i32⟩
  | .hbm, ⟨2, _⟩ => ⟨S40x17920, .bf16⟩
  | .hbm, ⟨3, _⟩ => ⟨S40x17920, .i8⟩
  | .hbm, ⟨4, _⟩ => ⟨S5120x8960, .i8⟩
  | .hbm, ⟨5, _⟩ => ⟨S5120, .bf16⟩
  | .hbm, ⟨6, _⟩ => ⟨S5120x1792, .i32⟩
  | .hbm, ⟨7, _⟩ => ⟨S40x17920, .bf16⟩
  | .hbm, ⟨8, _⟩ => ⟨S40x17920, .i8⟩
  | .hbm, ⟨9, _⟩ => ⟨S5120x8960, .i8⟩
  | .hbm, ⟨10, _⟩ => ⟨S5120, .bf16⟩
  | .hbm, ⟨11, _⟩ => ⟨S100x2, .i32⟩
  | .hbm, ⟨12, _⟩ => ⟨S200, .i32⟩
  | .hbm, ⟨13, _⟩ => ⟨S_, .i32⟩
  | .hbm, ⟨14, _⟩ => ⟨S256, .i32⟩
  | .hbm, ⟨15, _⟩ => ⟨S1x256, .i32⟩
  | .hbm, ⟨16, _⟩ => ⟨S2x5120, .bf16⟩
  | .hbm, ⟨17, _⟩ => ⟨S1x5120, .bf16⟩
  | .hbm, ⟨18, _⟩ => ⟨S1x5120, .bf16⟩
  | .hbm, ⟨19, _⟩ => ⟨S5120x8960, .i32⟩
  | .hbm, ⟨20, _⟩ => ⟨S1280x4x8960, .i32⟩
  | .hbm, ⟨21, _⟩ => ⟨S1280x1x8960, .i32⟩
  | .hbm, ⟨22, _⟩ => ⟨S1280x8960, .i32⟩
  | .hbm, ⟨23, _⟩ => ⟨S1280x1x8960, .i32⟩
  | .hbm, ⟨24, _⟩ => ⟨S1280x8960, .i32⟩
  | .hbm, ⟨25, _⟩ => ⟨S_, .i32⟩
  | .hbm, ⟨26, _⟩ => ⟨S1280x8960, .i32⟩
  | .hbm, ⟨27, _⟩ => ⟨S1280x8960, .i32⟩
  | .hbm, ⟨28, _⟩ => ⟨S1280x8960, .i32⟩
  | .hbm, ⟨29, _⟩ => ⟨S1280x1x8960, .i32⟩
  | .hbm, ⟨30, _⟩ => ⟨S1280x8960, .i32⟩
  | .hbm, ⟨31, _⟩ => ⟨S_, .i32⟩
  | .hbm, ⟨32, _⟩ => ⟨S1280x8960, .i32⟩
  | .hbm, ⟨33, _⟩ => ⟨S1280x8960, .i32⟩
  | .hbm, ⟨34, _⟩ => ⟨S1280x8960, .i32⟩
  | .hbm, ⟨35, _⟩ => ⟨S1280x1x8960, .i32⟩
  | .hbm, ⟨36, _⟩ => ⟨S1280x8960, .i32⟩
  | .hbm, ⟨37, _⟩ => ⟨S_, .i32⟩
  | .hbm, ⟨38, _⟩ => ⟨S1280x8960, .i32⟩
  | .hbm, ⟨39, _⟩ => ⟨S1280x8960, .i32⟩
  | .hbm, ⟨40, _⟩ => ⟨S1280x8960, .i32⟩
  | .hbm, ⟨41, _⟩ => ⟨S5120x8960, .i32⟩
  | .hbm, ⟨42, _⟩ => ⟨S1280x4x8960, .i32⟩
  | .hbm, ⟨43, _⟩ => ⟨S1280x1x8960, .i32⟩
  | .hbm, ⟨44, _⟩ => ⟨S1280x8960, .i32⟩
  | .hbm, ⟨45, _⟩ => ⟨S1280x1x8960, .i32⟩
  | .hbm, ⟨46, _⟩ => ⟨S1280x8960, .i32⟩
  | .hbm, ⟨47, _⟩ => ⟨S_, .i32⟩
  | .hbm, ⟨48, _⟩ => ⟨S1280x8960, .i32⟩
  | .hbm, ⟨49, _⟩ => ⟨S1280x8960, .i32⟩
  | .hbm, ⟨50, _⟩ => ⟨S1280x8960, .i32⟩
  | .hbm, ⟨51, _⟩ => ⟨S1280x1x8960, .i32⟩
  | .hbm, ⟨52, _⟩ => ⟨S1280x8960, .i32⟩
  | .hbm, ⟨53, _⟩ => ⟨S_, .i32⟩
  | .hbm, ⟨54, _⟩ => ⟨S1280x8960, .i32⟩
  | .hbm, ⟨55, _⟩ => ⟨S1280x8960, .i32⟩
  | .hbm, ⟨56, _⟩ => ⟨S1280x8960, .i32⟩
  | .hbm, ⟨57, _⟩ => ⟨S1280x1x8960, .i32⟩
  | .hbm, ⟨58, _⟩ => ⟨S1280x8960, .i32⟩
  | .hbm, ⟨59, _⟩ => ⟨S_, .i32⟩
  | .hbm, ⟨60, _⟩ => ⟨S1280x8960, .i32⟩
  | .hbm, ⟨61, _⟩ => ⟨S1280x8960, .i32⟩
  | .hbm, ⟨62, _⟩ => ⟨S1280x8960, .i32⟩
  | .hbm, ⟨63, _⟩ => ⟨S2x1x17920, .bf16⟩
  | .hbm, ⟨64, _⟩ => ⟨S2x1x17920, .f32⟩
  | .hbm, ⟨65, _⟩ => ⟨S2x1x17920, .f32⟩
  | .local _ .vmem, ⟨0, _⟩ => ⟨S1x256, .i32⟩
  | .local _ .vmem, ⟨1, _⟩ => ⟨S2x5120, .bf16⟩
  | .local _ .vmem, ⟨2, _⟩ => ⟨S1280x256, .i32⟩
  | .local _ .vmem, ⟨3, _⟩ => ⟨S1280x256, .i32⟩
  | .local _ .vmem, ⟨4, _⟩ => ⟨S1280x256, .i32⟩
  | .local _ .vmem, ⟨5, _⟩ => ⟨S1280x256, .i32⟩
  | .local _ .vmem, ⟨6, _⟩ => ⟨S40x17920, .bf16⟩
  | .local _ .vmem, ⟨7, _⟩ => ⟨S40x17920, .bf16⟩
  | .local _ .vmem, ⟨8, _⟩ => ⟨S40x17920, .i8⟩
  | .local _ .vmem, ⟨9, _⟩ => ⟨S40x17920, .i8⟩
  | .local _ .vmem, ⟨10, _⟩ => ⟨S1x5120, .bf16⟩
  | .local _ .vmem, ⟨11, _⟩ => ⟨S1x5120, .bf16⟩
  | .local _ .vmem, ⟨12, _⟩ => ⟨S2x1x17920, .bf16⟩
  | .local _ .vmem, ⟨13, _⟩ => ⟨S2x1x17920, .f32⟩
  | .local _ .vmem, ⟨14, _⟩ => ⟨S2x1x17920, .f32⟩
  | .local _ .vmem, ⟨15, _⟩ => ⟨S16x20480, .bf16⟩
  | .local _ .vmem, ⟨16, _⟩ => ⟨S5x2x320x2x128, .f32⟩
  | .local _ .vmem, ⟨17, _⟩ => ⟨S5x2x320x2x128, .f32⟩
  | .local _ .vmem, ⟨18, _⟩ => ⟨S5x16x256, .f32⟩
  | .local _ .vmem, ⟨19, _⟩ => ⟨S128x8960, .i32⟩
  | .local _ .vmem, ⟨20, _⟩ => ⟨S128x8960, .i32⟩
  | .local _ .vmem, ⟨21, _⟩ => ⟨S128x128, .i32⟩
  | .local _ .smem, ⟨0, _⟩ => ⟨S100, .i32⟩
  | _, _ => ⟨S2x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45_0 : Ref sig .tc := ⟨.hbm, 63, rfl⟩
abbrev main_v45_1 : Ref sig .tc := ⟨.hbm, 64, rfl⟩
abbrev main_v45_2 : Ref sig .tc := ⟨.hbm, 65, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨2, ![7, 4], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_10 : BitVec 32 := 0#32
  let c100_i32 : BitVec 32 := 100#32
  let v17 : BitVec 32 := Scalar.addi c0_i32_10 c100_i32
  let c1_i32_11 : BitVec 32 := 1#32
  ⟨c0_i32_10, v17, c1_i32_11⟩
def k0_off1 (k0_t1 : Fin k0_t1_loop.trips) : Fin 1 → Nat :=
  let c0_i32_10 : BitVec 32 := 0#32
  let c1_i32_11 : BitVec 32 := 1#32
  let arg26 : BitVec 32 := Scf.iv c0_i32_10 c1_i32_11 k0_t1
  let v26 : Index := Scalar.indexCast arg26
  ![v26.toNat]
def k0_off2 (k0_t1 : Fin k0_t1_loop.trips) : Fin 2 → Nat :=
  let c0_i32_10 : BitVec 32 := 0#32
  let c1_i32_11 : BitVec 32 := 1#32
  let arg26 : BitVec 32 := Scf.iv c0_i32_10 c1_i32_11 k0_t1
  let c0_i32_18 : BitVec 32 := 0#32
  ![arg26.toNat, 0]
def k0_off3 (v27 : BitVec 32) : Fin 2 → Nat :=
  let c2_i32 : BitVec 32 := 2#32
  let v28 : BitVec 32 := Scalar.shrsi v27 c2_i32
  let c0_i32_19 : BitVec 32 := 0#32
  ![v28.toNat, 0]

def k0_chk1 (i : grid0.Coords) (v27 : BitVec 32) : Prop :=
  (∀ (k0_h1 : k0_cond1 i = 1#1), ∀ a, (k0_off3 v27) a + S1x8960.size a ≤ S1280x8960.size a)
theorem k0_off3_inb : ∀ (i : grid0.Coords) (v27 : BitVec 32) (k0_hw1 : k0_chk1 i v27), ∀ (k0_h1 : k0_cond1 i = 1#1), ∀ a, (k0_off3 v27) a + S1x8960.size a ≤ S1280x8960.size a := fun i v27 k0_hw1 k0_h1 => k0_hw1 k0_h1

def k0_off4 (k0_t1 : Fin k0_t1_loop.trips) : Fin 1 → Nat :=
  let c0_i32_10 : BitVec 32 := 0#32
  let c1_i32_11 : BitVec 32 := 1#32
  let arg26 : BitVec 32 := Scf.iv c0_i32_10 c1_i32_11 k0_t1
  let v31 : Index := Scalar.indexCast arg26
  ![v31.toNat]
def k0_off5 (k0_t1 : Fin k0_t1_loop.trips) : Fin 2 → Nat :=
  let c0_i32_10 : BitVec 32 := 0#32
  let c1_i32_11 : BitVec 32 := 1#32
  let arg26 : BitVec 32 := Scf.iv c0_i32_10 c1_i32_11 k0_t1
  let c0_i32_21 : BitVec 32 := 0#32
  ![arg26.toNat, 0]
def k0_off6 (v32 : BitVec 32) : Fin 2 → Nat :=
  let c2_i32_20 : BitVec 32 := 2#32
  let v33 : BitVec 32 := Scalar.shrsi v32 c2_i32_20
  let c0_i32_22 : BitVec 32 := 0#32
  ![v33.toNat, 0]

def k0_chk2 (i : grid0.Coords) (v32 : BitVec 32) : Prop :=
  (∀ (k0_h1 : k0_cond1 i = 1#1), ∀ a, (k0_off6 v32) a + S1x8960.size a ≤ S1280x8960.size a)
theorem k0_off6_inb : ∀ (i : grid0.Coords) (v32 : BitVec 32) (k0_hw2 : k0_chk2 i v32), ∀ (k0_h1 : k0_cond1 i = 1#1), ∀ a, (k0_off6 v32) a + S1x8960.size a ≤ S1280x8960.size a := fun i v32 k0_hw2 k0_h1 => k0_hw2 k0_h1

@[reducible] def k0_t2_loop : Scf.Loop 32 :=
  let c0_i32_15 : BitVec 32 := 0#32
  let c40_i32 : BitVec 32 := 40#32
  let v25 : BitVec 32 := Scalar.addi c0_i32_15 c40_i32
  let c1_i32_16 : BitVec 32 := 1#32
  ⟨c0_i32_15, v25, c1_i32_16⟩
def k0_mult1 (k0_t2 : Fin k0_t2_loop.trips) : BitVec 32 :=
  let c0_i32_15 : BitVec 32 := 0#32
  let c1_i32_16 : BitVec 32 := 1#32
  let arg26 : BitVec 32 := Scf.iv c0_i32_15 c1_i32_16 k0_t2
  let c128_i32 : BitVec 32 := 128#32
  let v26 : BitVec 32 := Scalar.muli arg26 c128_i32
  v26
def k0_off7 (k0_t2 : Fin k0_t2_loop.trips) : Fin 2 → Nat :=
  let c0 : Index := 0#32
  let c0_i32_15 : BitVec 32 := 0#32
  let c1_i32_16 : BitVec 32 := 1#32
  let arg26 : BitVec 32 := Scf.iv c0_i32_15 c1_i32_16 k0_t2
  let c128_i32 : BitVec 32 := 128#32
  let v26 : BitVec 32 := Scalar.muli arg26 c128_i32
  let v27 : BitVec 32 := v26
  let v28 : Index := Scalar.indexCast v27
  ![0, v28.toNat]
def k0_mult2 (k0_t2 : Fin k0_t2_loop.trips) : BitVec 32 :=
  let c4_i32 : BitVec 32 := 4#32
  let c0_i32_15 : BitVec 32 := 0#32
  let c1_i32_16 : BitVec 32 := 1#32
  let arg26 : BitVec 32 := Scf.iv c0_i32_15 c1_i32_16 k0_t2
  let v50 : BitVec 32 := Scalar.muli c4_i32 arg26
  let c0_i32_22 : BitVec 32 := 0#32
  let v51 : BitVec 32 := Scalar.addi v50 c0_i32_22
  let c128_i32_23 : BitVec 32 := 128#32
  let v52 : BitVec 32 := Scalar.muli v51 c128_i32_23
  v52
def k0_off8 (k0_t2 : Fin k0_t2_loop.trips) (c0_i32_22 : BitVec 32) : Fin 2 → Nat :=
  let c0_24 : Index := 0#32
  let c4_i32 : BitVec 32 := 4#32
  let c0_i32_15 : BitVec 32 := 0#32
  let c1_i32_16 : BitVec 32 := 1#32
  let arg26 : BitVec 32 := Scf.iv c0_i32_15 c1_i32_16 k0_t2
  let v50 : BitVec 32 := Scalar.muli c4_i32 arg26
  let v51 : BitVec 32 := Scalar.addi v50 c0_i32_22
  let c128_i32_23 : BitVec 32 := 128#32
  let v52 : BitVec 32 := Scalar.muli v51 c128_i32_23
  let v53 : BitVec 32 := v52
  let v54 : Index := Scalar.indexCast v53
  ![0, v54.toNat]
def k0_mult3 (k0_t2 : Fin k0_t2_loop.trips) : BitVec 32 :=
  let c4_i32_30 : BitVec 32 := 4#32
  let c0_i32_15 : BitVec 32 := 0#32
  let c1_i32_16 : BitVec 32 := 1#32
  let arg26 : BitVec 32 := Scf.iv c0_i32_15 c1_i32_16 k0_t2
  let v75 : BitVec 32 := Scalar.muli c4_i32_30 arg26
  let c1_i32_31 : BitVec 32 := 1#32
  let v76 : BitVec 32 := Scalar.addi v75 c1_i32_31
  let c128_i32_32 : BitVec 32 := 128#32
  let v77 : BitVec 32 := Scalar.muli v76 c128_i32_32
  v77
def k0_mult4 (k0_t2 : Fin k0_t2_loop.trips) : BitVec 32 :=
  let c4_i32_39 : BitVec 32 := 4#32
  let c0_i32_15 : BitVec 32 := 0#32
  let c1_i32_16 : BitVec 32 := 1#32
  let arg26 : BitVec 32 := Scf.iv c0_i32_15 c1_i32_16 k0_t2
  let v100 : BitVec 32 := Scalar.muli c4_i32_39 arg26
  let c2_i32_40 : BitVec 32 := 2#32
  let v101 : BitVec 32 := Scalar.addi v100 c2_i32_40
  let c128_i32_41 : BitVec 32 := 128#32
  let v102 : BitVec 32 := Scalar.muli v101 c128_i32_41
  v102
def k0_mult5 (k0_t2 : Fin k0_t2_loop.trips) : BitVec 32 :=
  let c4_i32_48 : BitVec 32 := 4#32
  let c0_i32_15 : BitVec 32 := 0#32
  let c1_i32_16 : BitVec 32 := 1#32
  let arg26 : BitVec 32 := Scf.iv c0_i32_15 c1_i32_16 k0_t2
  let v125 : BitVec 32 := Scalar.muli c4_i32_48 arg26
  let c3_i32_49 : BitVec 32 := 3#32
  let v126 : BitVec 32 := Scalar.addi v125 c3_i32_49
  let c128_i32_50 : BitVec 32 := 128#32
  let v127 : BitVec 32 := Scalar.muli v126 c128_i32_50
  v127
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult6 (i : grid0.Coords) : BitVec 32 :=
  let c0_i32_10 : BitVec 32 := 0#32
  let arg0 : BitVec 32 := BitVec.ofNat 32 (i 0).val
  let c256_i32 : BitVec 32 := 256#32
  let v17 : BitVec 32 := Scalar.muli arg0 c256_i32
  let v18 : BitVec 32 := Scalar.addi c0_i32_10 v17
  v18
def k0_off9 (i : grid0.Coords) (c0_i32_10 : BitVec 32) : Fin 2 → Nat :=
  let c0 : Index := 0#32
  let arg0 : BitVec 32 := BitVec.ofNat 32 (i 0).val
  let c256_i32 : BitVec 32 := 256#32
  let v17 : BitVec 32 := Scalar.muli arg0 c256_i32
  let v18 : BitVec 32 := Scalar.addi c0_i32_10 v17
  let v19 : BitVec 32 := v18
  let v20 : Index := Scalar.indexCast v19
  ![0, v20.toNat]
def k0_mult7 (i : grid0.Coords) : BitVec 32 :=
  let c5376_i32 : BitVec 32 := 5376#32
  let arg0 : BitVec 32 := BitVec.ofNat 32 (i 0).val
  let c256_i32_11 : BitVec 32 := 256#32
  let v25 : BitVec 32 := Scalar.muli arg0 c256_i32_11
  let v26 : BitVec 32 := Scalar.addi c5376_i32 v25
  v26
def k0_mult8 (i : grid0.Coords) : BitVec 32 :=
  let c10752_i32 : BitVec 32 := 10752#32
  let arg0 : BitVec 32 := BitVec.ofNat 32 (i 0).val
  let c256_i32_14 : BitVec 32 := 256#32
  let v33 : BitVec 32 := Scalar.muli arg0 c256_i32_14
  let v34 : BitVec 32 := Scalar.addi c10752_i32 v33
  v34
def k0_mult9 (i : grid0.Coords) : BitVec 32 :=
  let c14336_i32 : BitVec 32 := 14336#32
  let arg0 : BitVec 32 := BitVec.ofNat 32 (i 0).val
  let c256_i32_17 : BitVec 32 := 256#32
  let v41 : BitVec 32 := Scalar.muli arg0 c256_i32_17
  let v42 : BitVec 32 := Scalar.addi c14336_i32 v41
  v42
def k0_mult10 (i : grid0.Coords) : BitVec 32 :=
  let c0_i32_94 : BitVec 32 := 0#32
  let arg0 : BitVec 32 := BitVec.ofNat 32 (i 0).val
  let c256_i32_93 : BitVec 32 := 256#32
  let v119 : BitVec 32 := Scalar.muli arg0 c256_i32_93
  let v120 : BitVec 32 := Scalar.addi c0_i32_94 v119
  v120
def k0_mult11 (i : grid0.Coords) : BitVec 32 :=
  let c5376_i32_98 : BitVec 32 := 5376#32
  let arg0 : BitVec 32 := BitVec.ofNat 32 (i 0).val
  let c256_i32_97 : BitVec 32 := 256#32
  let v128 : BitVec 32 := Scalar.muli arg0 c256_i32_97
  let v129 : BitVec 32 := Scalar.addi c5376_i32_98 v128
  v129
def k0_mult12 (i : grid0.Coords) : BitVec 32 :=
  let c10752_i32_102 : BitVec 32 := 10752#32
  let arg0 : BitVec 32 := BitVec.ofNat 32 (i 0).val
  let c256_i32_101 : BitVec 32 := 256#32
  let v137 : BitVec 32 := Scalar.muli arg0 c256_i32_101
  let v138 : BitVec 32 := Scalar.addi c10752_i32_102 v137
  v138
def k0_mult13 (i : grid0.Coords) : BitVec 32 :=
  let c14336_i32_106 : BitVec 32 := 14336#32
  let arg0 : BitVec 32 := BitVec.ofNat 32 (i 0).val
  let c256_i32_105 : BitVec 32 := 256#32
  let v146 : BitVec 32 := Scalar.muli arg0 c256_i32_105
  let v147 : BitVec 32 := Scalar.addi c14336_i32_106 v146
  v147
def k0_mult14 (i : grid0.Coords) : BitVec 32 :=
  let c1792_i32 : BitVec 32 := 1792#32
  let arg0 : BitVec 32 := BitVec.ofNat 32 (i 0).val
  let c256_i32_189 : BitVec 32 := 256#32
  let v225 : BitVec 32 := Scalar.muli arg0 c256_i32_189
  let v226 : BitVec 32 := Scalar.addi c1792_i32 v225
  v226
def k0_mult15 (i : grid0.Coords) : BitVec 32 :=
  let c7168_i32 : BitVec 32 := 7168#32
  let arg0 : BitVec 32 := BitVec.ofNat 32 (i 0).val
  let c256_i32_192 : BitVec 32 := 256#32
  let v233 : BitVec 32 := Scalar.muli arg0 c256_i32_192
  let v234 : BitVec 32 := Scalar.addi c7168_i32 v233
  v234
def k0_mult16 (i : grid0.Coords) : BitVec 32 :=
  let c12544_i32 : BitVec 32 := 12544#32
  let arg0 : BitVec 32 := BitVec.ofNat 32 (i 0).val
  let c256_i32_195 : BitVec 32 := 256#32
  let v241 : BitVec 32 := Scalar.muli arg0 c256_i32_195
  let v242 : BitVec 32 := Scalar.addi c12544_i32 v241
  v242
def k0_mult17 (i : grid0.Coords) : BitVec 32 :=
  let c16128_i32 : BitVec 32 := 16128#32
  let arg0 : BitVec 32 := BitVec.ofNat 32 (i 0).val
  let c256_i32_198 : BitVec 32 := 256#32
  let v249 : BitVec 32 := Scalar.muli arg0 c256_i32_198
  let v250 : BitVec 32 := Scalar.addi c16128_i32 v249
  v250
def k0_mult18 (i : grid0.Coords) : BitVec 32 :=
  let c1792_i32_282 : BitVec 32 := 1792#32
  let arg0 : BitVec 32 := BitVec.ofNat 32 (i 0).val
  let c256_i32_281 : BitVec 32 := 256#32
  let v327 : BitVec 32 := Scalar.muli arg0 c256_i32_281
  let v328 : BitVec 32 := Scalar.addi c1792_i32_282 v327
  v328
def k0_mult19 (i : grid0.Coords) : BitVec 32 :=
  let c7168_i32_286 : BitVec 32 := 7168#32
  let arg0 : BitVec 32 := BitVec.ofNat 32 (i 0).val
  let c256_i32_285 : BitVec 32 := 256#32
  let v336 : BitVec 32 := Scalar.muli arg0 c256_i32_285
  let v337 : BitVec 32 := Scalar.addi c7168_i32_286 v336
  v337
def k0_mult20 (i : grid0.Coords) : BitVec 32 :=
  let c12544_i32_290 : BitVec 32 := 12544#32
  let arg0 : BitVec 32 := BitVec.ofNat 32 (i 0).val
  let c256_i32_289 : BitVec 32 := 256#32
  let v345 : BitVec 32 := Scalar.muli arg0 c256_i32_289
  let v346 : BitVec 32 := Scalar.addi c12544_i32_290 v345
  v346
def k0_mult21 (i : grid0.Coords) : BitVec 32 :=
  let c16128_i32_294 : BitVec 32 := 16128#32
  let arg0 : BitVec 32 := BitVec.ofNat 32 (i 0).val
  let c256_i32_293 : BitVec 32 := 256#32
  let v354 : BitVec 32 := Scalar.muli arg0 c256_i32_293
  let v355 : BitVec 32 := Scalar.addi c16128_i32_294 v354
  v355
def k0_mult22 (i : grid0.Coords) : BitVec 32 :=
  let c0_i32_378 : BitVec 32 := 0#32
  let arg0 : BitVec 32 := BitVec.ofNat 32 (i 0).val
  let c256_i32_377 : BitVec 32 := 256#32
  let v433 : BitVec 32 := Scalar.muli arg0 c256_i32_377
  let v434 : BitVec 32 := Scalar.addi c0_i32_378 v433
  v434
def k0_mult23 (i : grid0.Coords) : BitVec 32 :=
  let c5376_i32_382 : BitVec 32 := 5376#32
  let arg0 : BitVec 32 := BitVec.ofNat 32 (i 0).val
  let c256_i32_381 : BitVec 32 := 256#32
  let v441 : BitVec 32 := Scalar.muli arg0 c256_i32_381
  let v442 : BitVec 32 := Scalar.addi c5376_i32_382 v441
  v442
def k0_mult24 (i : grid0.Coords) : BitVec 32 :=
  let c10752_i32_386 : BitVec 32 := 10752#32
  let arg0 : BitVec 32 := BitVec.ofNat 32 (i 0).val
  let c256_i32_385 : BitVec 32 := 256#32
  let v449 : BitVec 32 := Scalar.muli arg0 c256_i32_385
  let v450 : BitVec 32 := Scalar.addi c10752_i32_386 v449
  v450
def k0_mult25 (i : grid0.Coords) : BitVec 32 :=
  let c14336_i32_390 : BitVec 32 := 14336#32
  let arg0 : BitVec 32 := BitVec.ofNat 32 (i 0).val
  let c256_i32_389 : BitVec 32 := 256#32
  let v457 : BitVec 32 := Scalar.muli arg0 c256_i32_389
  let v458 : BitVec 32 := Scalar.addi c14336_i32_390 v457
  v458
def k0_mult26 (i : grid0.Coords) : BitVec 32 :=
  let c0_i32_474 : BitVec 32 := 0#32
  let arg0 : BitVec 32 := BitVec.ofNat 32 (i 0).val
  let c256_i32_473 : BitVec 32 := 256#32
  let v535 : BitVec 32 := Scalar.muli arg0 c256_i32_473
  let v536 : BitVec 32 := Scalar.addi c0_i32_474 v535
  v536
def k0_mult27 (i : grid0.Coords) : BitVec 32 :=
  let c5376_i32_478 : BitVec 32 := 5376#32
  let arg0 : BitVec 32 := BitVec.ofNat 32 (i 0).val
  let c256_i32_477 : BitVec 32 := 256#32
  let v544 : BitVec 32 := Scalar.muli arg0 c256_i32_477
  let v545 : BitVec 32 := Scalar.addi c5376_i32_478 v544
  v545
def k0_mult28 (i : grid0.Coords) : BitVec 32 :=
  let c10752_i32_482 : BitVec 32 := 10752#32
  let arg0 : BitVec 32 := BitVec.ofNat 32 (i 0).val
  let c256_i32_481 : BitVec 32 := 256#32
  let v553 : BitVec 32 := Scalar.muli arg0 c256_i32_481
  let v554 : BitVec 32 := Scalar.addi c10752_i32_482 v553
  v554
def k0_mult29 (i : grid0.Coords) : BitVec 32 :=
  let c14336_i32_486 : BitVec 32 := 14336#32
  let arg0 : BitVec 32 := BitVec.ofNat 32 (i 0).val
  let c256_i32_485 : BitVec 32 := 256#32
  let v562 : BitVec 32 := Scalar.muli arg0 c256_i32_485
  let v563 : BitVec 32 := Scalar.addi c14336_i32_486 v562
  v563
def k0_mult30 (i : grid0.Coords) : BitVec 32 :=
  let c1792_i32_570 : BitVec 32 := 1792#32
  let arg0 : BitVec 32 := BitVec.ofNat 32 (i 0).val
  let c256_i32_569 : BitVec 32 := 256#32
  let v641 : BitVec 32 := Scalar.muli arg0 c256_i32_569
  let v642 : BitVec 32 := Scalar.addi c1792_i32_570 v641
  v642
def k0_mult31 (i : grid0.Coords) : BitVec 32 :=
  let c7168_i32_574 : BitVec 32 := 7168#32
  let arg0 : BitVec 32 := BitVec.ofNat 32 (i 0).val
  let c256_i32_573 : BitVec 32 := 256#32
  let v649 : BitVec 32 := Scalar.muli arg0 c256_i32_573
  let v650 : BitVec 32 := Scalar.addi c7168_i32_574 v649
  v650
def k0_mult32 (i : grid0.Coords) : BitVec 32 :=
  let c12544_i32_578 : BitVec 32 := 12544#32
  let arg0 : BitVec 32 := BitVec.ofNat 32 (i 0).val
  let c256_i32_577 : BitVec 32 := 256#32
  let v657 : BitVec 32 := Scalar.muli arg0 c256_i32_577
  let v658 : BitVec 32 := Scalar.addi c12544_i32_578 v657
  v658
def k0_mult33 (i : grid0.Coords) : BitVec 32 :=
  let c16128_i32_582 : BitVec 32 := 16128#32
  let arg0 : BitVec 32 := BitVec.ofNat 32 (i 0).val
  let c256_i32_581 : BitVec 32 := 256#32
  let v665 : BitVec 32 := Scalar.muli arg0 c256_i32_581
  let v666 : BitVec 32 := Scalar.addi c16128_i32_582 v665
  v666
def k0_mult34 (i : grid0.Coords) : BitVec 32 :=
  let c1792_i32_666 : BitVec 32 := 1792#32
  let arg0 : BitVec 32 := BitVec.ofNat 32 (i 0).val
  let c256_i32_665 : BitVec 32 := 256#32
  let v743 : BitVec 32 := Scalar.muli arg0 c256_i32_665
  let v744 : BitVec 32 := Scalar.addi c1792_i32_666 v743
  v744
def k0_mult35 (i : grid0.Coords) : BitVec 32 :=
  let c7168_i32_670 : BitVec 32 := 7168#32
  let arg0 : BitVec 32 := BitVec.ofNat 32 (i 0).val
  let c256_i32_669 : BitVec 32 := 256#32
  let v752 : BitVec 32 := Scalar.muli arg0 c256_i32_669
  let v753 : BitVec 32 := Scalar.addi c7168_i32_670 v752
  v753
def k0_mult36 (i : grid0.Coords) : BitVec 32 :=
  let c12544_i32_674 : BitVec 32 := 12544#32
  let arg0 : BitVec 32 := BitVec.ofNat 32 (i 0).val
  let c256_i32_673 : BitVec 32 := 256#32
  let v761 : BitVec 32 := Scalar.muli arg0 c256_i32_673
  let v762 : BitVec 32 := Scalar.addi c12544_i32_674 v761
  v762
def k0_mult37 (i : grid0.Coords) : BitVec 32 :=
  let c16128_i32_678 : BitVec 32 := 16128#32
  let arg0 : BitVec 32 := BitVec.ofNat 32 (i 0).val
  let c256_i32_677 : BitVec 32 := 256#32
  let v770 : BitVec 32 := Scalar.muli arg0 c256_i32_677
  let v771 : BitVec 32 := Scalar.addi c16128_i32_678 v770
  v771
def k0_mult38 (i : grid0.Coords) : BitVec 32 :=
  let c3584_i32 : BitVec 32 := 3584#32
  let arg0 : BitVec 32 := BitVec.ofNat 32 (i 0).val
  let c256_i32_761 : BitVec 32 := 256#32
  let v849 : BitVec 32 := Scalar.muli arg0 c256_i32_761
  let v850 : BitVec 32 := Scalar.addi c3584_i32 v849
  v850
def k0_mult39 (i : grid0.Coords) : BitVec 32 :=
  let c8960_i32 : BitVec 32 := 8960#32
  let arg0 : BitVec 32 := BitVec.ofNat 32 (i 0).val
  let c256_i32_764 : BitVec 32 := 256#32
  let v857 : BitVec 32 := Scalar.muli arg0 c256_i32_764
  let v858 : BitVec 32 := Scalar.addi c8960_i32 v857
  v858
def k0_mult40 (i : grid0.Coords) : BitVec 32 :=
  let c3584_i32_768 : BitVec 32 := 3584#32
  let arg0 : BitVec 32 := BitVec.ofNat 32 (i 0).val
  let c256_i32_767 : BitVec 32 := 256#32
  let v865 : BitVec 32 := Scalar.muli arg0 c256_i32_767
  let v866 : BitVec 32 := Scalar.addi c3584_i32_768 v865
  v866
def k0_mult41 (i : grid0.Coords) : BitVec 32 :=
  let c8960_i32_772 : BitVec 32 := 8960#32
  let arg0 : BitVec 32 := BitVec.ofNat 32 (i 0).val
  let c256_i32_771 : BitVec 32 := 256#32
  let v873 : BitVec 32 := Scalar.muli arg0 c256_i32_771
  let v874 : BitVec 32 := Scalar.addi c8960_i32_772 v873
  v874
def k0_mult42 (i : grid0.Coords) : BitVec 32 :=
  let c3584_i32_856 : BitVec 32 := 3584#32
  let arg0 : BitVec 32 := BitVec.ofNat 32 (i 0).val
  let c256_i32_855 : BitVec 32 := 256#32
  let v951 : BitVec 32 := Scalar.muli arg0 c256_i32_855
  let v952 : BitVec 32 := Scalar.addi c3584_i32_856 v951
  v952
def k0_mult43 (i : grid0.Coords) : BitVec 32 :=
  let c8960_i32_860 : BitVec 32 := 8960#32
  let arg0 : BitVec 32 := BitVec.ofNat 32 (i 0).val
  let c256_i32_859 : BitVec 32 := 256#32
  let v960 : BitVec 32 := Scalar.muli arg0 c256_i32_859
  let v961 : BitVec 32 := Scalar.addi c8960_i32_860 v960
  v961
def k0_mult44 (i : grid0.Coords) : BitVec 32 :=
  let c3584_i32_864 : BitVec 32 := 3584#32
  let arg0 : BitVec 32 := BitVec.ofNat 32 (i 0).val
  let c256_i32_863 : BitVec 32 := 256#32
  let v969 : BitVec 32 := Scalar.muli arg0 c256_i32_863
  let v970 : BitVec 32 := Scalar.addi c3584_i32_864 v969
  v970
def k0_mult45 (i : grid0.Coords) : BitVec 32 :=
  let c8960_i32_868 : BitVec 32 := 8960#32
  let arg0 : BitVec 32 := BitVec.ofNat 32 (i 0).val
  let c256_i32_867 : BitVec 32 := 256#32
  let v978 : BitVec 32 := Scalar.muli arg0 c256_i32_867
  let v979 : BitVec 32 := Scalar.addi c8960_i32_868 v978
  v979
@[reducible] def k0_t3_loop : Scf.Loop 32 :=
  let c0_i32_4 : BitVec 32 := 0#32
  let c10_i32 : BitVec 32 := 10#32
  let v8 : BitVec 32 := Scalar.addi c0_i32_4 c10_i32
  let c1_i32 : BitVec 32 := 1#32
  ⟨c0_i32_4, v8, c1_i32⟩
def k0_mult46 (k0_t3 : Fin k0_t3_loop.trips) : BitVec 32 :=
  let c0_i32_4 : BitVec 32 := 0#32
  let c1_i32 : BitVec 32 := 1#32
  let arg26 : BitVec 32 := Scf.iv c0_i32_4 c1_i32 k0_t3
  let c128_i32 : BitVec 32 := 128#32
  let v19 : BitVec 32 := Scalar.muli arg26 c128_i32
  v19
def k0_off10 (k0_t3 : Fin k0_t3_loop.trips) : Fin 2 → Nat :=
  let c0_i32_4 : BitVec 32 := 0#32
  let c1_i32 : BitVec 32 := 1#32
  let arg26 : BitVec 32 := Scf.iv c0_i32_4 c1_i32 k0_t3
  let c128_i32 : BitVec 32 := 128#32
  let v19 : BitVec 32 := Scalar.muli arg26 c128_i32
  let v20 : BitVec 32 := v19
  let v21 : Index := Scalar.indexCast v20
  let c0 : Index := 0#32
  ![v21.toNat, 0]
def k0_mult47 (i : grid0.Coords) (k0_t3 : Fin k0_t3_loop.trips) : BitVec 32 :=
  let arg1 : BitVec 32 := BitVec.ofNat 32 (i 1).val
  let c10_i32_10 : BitVec 32 := 10#32
  let v17 : BitVec 32 := Scalar.muli arg1 c10_i32_10
  let c0_i32_4 : BitVec 32 := 0#32
  let c1_i32 : BitVec 32 := 1#32
  let arg26 : BitVec 32 := Scf.iv c0_i32_4 c1_i32 k0_t3
  let v18 : BitVec 32 := Scalar.addi v17 arg26
  let c128_i32_12 : BitVec 32 := 128#32
  let v25 : BitVec 32 := Scalar.muli v18 c128_i32_12
  let c4_i32 : BitVec 32 := 4#32
  let v26 : BitVec 32 := Scalar.muli v25 c4_i32
  v26
def k0_off11 (i : grid0.Coords) (k0_t3 : Fin k0_t3_loop.trips) : Fin 2 → Nat :=
  let c0_13 : Index := 0#32
  let arg1 : BitVec 32 := BitVec.ofNat 32 (i 1).val
  let c10_i32_10 : BitVec 32 := 10#32
  let v17 : BitVec 32 := Scalar.muli arg1 c10_i32_10
  let c0_i32_4 : BitVec 32 := 0#32
  let c1_i32 : BitVec 32 := 1#32
  let arg26 : BitVec 32 := Scf.iv c0_i32_4 c1_i32 k0_t3
  let v18 : BitVec 32 := Scalar.addi v17 arg26
  let c128_i32_12 : BitVec 32 := 128#32
  let v25 : BitVec 32 := Scalar.muli v18 c128_i32_12
  let c4_i32 : BitVec 32 := 4#32
  let v26 : BitVec 32 := Scalar.muli v25 c4_i32
  let v27 : BitVec 32 := v26
  let v28 : Index := Scalar.indexCast v27
  ![0, v28.toNat]
def k0_mult48 (i : grid0.Coords) (k0_t3 : Fin k0_t3_loop.trips) : BitVec 32 :=
  let arg1 : BitVec 32 := BitVec.ofNat 32 (i 1).val
  let c10_i32_10 : BitVec 32 := 10#32
  let v17 : BitVec 32 := Scalar.muli arg1 c10_i32_10
  let c0_i32_4 : BitVec 32 := 0#32
  let c1_i32 : BitVec 32 := 1#32
  let arg26 : BitVec 32 := Scf.iv c0_i32_4 c1_i32 k0_t3
  let v18 : BitVec 32 := Scalar.addi v17 arg26
  let c8_i32 : BitVec 32 := 8#32
  let v47 : BitVec 32 := Scalar.muli v18 c8_i32
  v47
def k0_off12 (i : grid0.Coords) (k0_t3 : Fin k0_t3_loop.trips) : Fin 5 → Nat :=
  let c0_17 : Index := 0#32
  let c0_18 : Index := 0#32
  let arg1 : BitVec 32 := BitVec.ofNat 32 (i 1).val
  let c10_i32_10 : BitVec 32 := 10#32
  let v17 : BitVec 32 := Scalar.muli arg1 c10_i32_10
  let c0_i32_4 : BitVec 32 := 0#32
  let c1_i32 : BitVec 32 := 1#32
  let arg26 : BitVec 32 := Scf.iv c0_i32_4 c1_i32 k0_t3
  let v18 : BitVec 32 := Scalar.addi v17 arg26
  let c8_i32 : BitVec 32 := 8#32
  let v47 : BitVec 32 := Scalar.muli v18 c8_i32
  let v48 : BitVec 32 := v47
  let v49 : Index := Scalar.indexCast v48
  let c0_19 : Index := 0#32
  let c0_20 : Index := 0#32
  ![0, 0, v49.toNat, 0, 0]
def k0_off13 (i : grid0.Coords) (k0_t3 : Fin k0_t3_loop.trips) : Fin 5 → Nat :=
  let c0_21 : Index := 0#32
  let c1 : Index := 1#32
  let arg1 : BitVec 32 := BitVec.ofNat 32 (i 1).val
  let c10_i32_10 : BitVec 32 := 10#32
  let v17 : BitVec 32 := Scalar.muli arg1 c10_i32_10
  let c0_i32_4 : BitVec 32 := 0#32
  let c1_i32 : BitVec 32 := 1#32
  let arg26 : BitVec 32 := Scf.iv c0_i32_4 c1_i32 k0_t3
  let v18 : BitVec 32 := Scalar.addi v17 arg26
  let c8_i32 : BitVec 32 := 8#32
  let v47 : BitVec 32 := Scalar.muli v18 c8_i32
  let v48 : BitVec 32 := v47
  let v52 : Index := Scalar.indexCast v48
  let c0_22 : Index := 0#32
  let c0_23 : Index := 0#32
  ![0, 1, v52.toNat, 0, 0]
def k0_off14 (i : grid0.Coords) (k0_t3 : Fin k0_t3_loop.trips) : Fin 5 → Nat :=
  let c1_38 : Index := 1#32
  let c0_39 : Index := 0#32
  let arg1 : BitVec 32 := BitVec.ofNat 32 (i 1).val
  let c10_i32_10 : BitVec 32 := 10#32
  let v17 : BitVec 32 := Scalar.muli arg1 c10_i32_10
  let c0_i32_4 : BitVec 32 := 0#32
  let c1_i32 : BitVec 32 := 1#32
  let arg26 : BitVec 32 := Scf.iv c0_i32_4 c1_i32 k0_t3
  let v18 : BitVec 32 := Scalar.addi v17 arg26
  let c8_i32 : BitVec 32 := 8#32
  let v47 : BitVec 32 := Scalar.muli v18 c8_i32
  let v48 : BitVec 32 := v47
  let v84 : Index := Scalar.indexCast v48
  let c0_40 : Index := 0#32
  let c0_41 : Index := 0#32
  ![1, 0, v84.toNat, 0, 0]
def k0_off15 (i : grid0.Coords) (k0_t3 : Fin k0_t3_loop.trips) : Fin 5 → Nat :=
  let c1_42 : Index := 1#32
  let c1_43 : Index := 1#32
  let arg1 : BitVec 32 := BitVec.ofNat 32 (i 1).val
  let c10_i32_10 : BitVec 32 := 10#32
  let v17 : BitVec 32 := Scalar.muli arg1 c10_i32_10
  let c0_i32_4 : BitVec 32 := 0#32
  let c1_i32 : BitVec 32 := 1#32
  let arg26 : BitVec 32 := Scf.iv c0_i32_4 c1_i32 k0_t3
  let v18 : BitVec 32 := Scalar.addi v17 arg26
  let c8_i32 : BitVec 32 := 8#32
  let v47 : BitVec 32 := Scalar.muli v18 c8_i32
  let v48 : BitVec 32 := v47
  let v87 : Index := Scalar.indexCast v48
  let c0_44 : Index := 0#32
  let c0_45 : Index := 0#32
  ![1, 1, v87.toNat, 0, 0]
def k0_off16 (i : grid0.Coords) (k0_t3 : Fin k0_t3_loop.trips) : Fin 5 → Nat :=
  let c2 : Index := 2#32
  let c0_61 : Index := 0#32
  let arg1 : BitVec 32 := BitVec.ofNat 32 (i 1).val
  let c10_i32_10 : BitVec 32 := 10#32
  let v17 : BitVec 32 := Scalar.muli arg1 c10_i32_10
  let c0_i32_4 : BitVec 32 := 0#32
  let c1_i32 : BitVec 32 := 1#32
  let arg26 : BitVec 32 := Scf.iv c0_i32_4 c1_i32 k0_t3
  let v18 : BitVec 32 := Scalar.addi v17 arg26
  let c8_i32 : BitVec 32 := 8#32
  let v47 : BitVec 32 := Scalar.muli v18 c8_i32
  let v48 : BitVec 32 := v47
  let v119 : Index := Scalar.indexCast v48
  let c0_62 : Index := 0#32
  let c0_63 : Index := 0#32
  ![2, 0, v119.toNat, 0, 0]
def k0_off17 (i : grid0.Coords) (k0_t3 : Fin k0_t3_loop.trips) : Fin 5 → Nat :=
  let c2_64 : Index := 2#32
  let c1_65 : Index := 1#32
  let arg1 : BitVec 32 := BitVec.ofNat 32 (i 1).val
  let c10_i32_10 : BitVec 32 := 10#32
  let v17 : BitVec 32 := Scalar.muli arg1 c10_i32_10
  let c0_i32_4 : BitVec 32 := 0#32
  let c1_i32 : BitVec 32 := 1#32
  let arg26 : BitVec 32 := Scf.iv c0_i32_4 c1_i32 k0_t3
  let v18 : BitVec 32 := Scalar.addi v17 arg26
  let c8_i32 : BitVec 32 := 8#32
  let v47 : BitVec 32 := Scalar.muli v18 c8_i32
  let v48 : BitVec 32 := v47
  let v122 : Index := Scalar.indexCast v48
  let c0_66 : Index := 0#32
  let c0_67 : Index := 0#32
  ![2, 1, v122.toNat, 0, 0]
def k0_off18 (i : grid0.Coords) (k0_t3 : Fin k0_t3_loop.trips) : Fin 5 → Nat :=
  let c3 : Index := 3#32
  let c0_83 : Index := 0#32
  let arg1 : BitVec 32 := BitVec.ofNat 32 (i 1).val
  let c10_i32_10 : BitVec 32 := 10#32
  let v17 : BitVec 32 := Scalar.muli arg1 c10_i32_10
  let c0_i32_4 : BitVec 32 := 0#32
  let c1_i32 : BitVec 32 := 1#32
  let arg26 : BitVec 32 := Scf.iv c0_i32_4 c1_i32 k0_t3
  let v18 : BitVec 32 := Scalar.addi v17 arg26
  let c8_i32 : BitVec 32 := 8#32
  let v47 : BitVec 32 := Scalar.muli v18 c8_i32
  let v48 : BitVec 32 := v47
  let v154 : Index := Scalar.indexCast v48
  let c0_84 : Index := 0#32
  let c0_85 : Index := 0#32
  ![3, 0, v154.toNat, 0, 0]
def k0_off19 (i : grid0.Coords) (k0_t3 : Fin k0_t3_loop.trips) : Fin 5 → Nat :=
  let c3_86 : Index := 3#32
  let c1_87 : Index := 1#32
  let arg1 : BitVec 32 := BitVec.ofNat 32 (i 1).val
  let c10_i32_10 : BitVec 32 := 10#32
  let v17 : BitVec 32 := Scalar.muli arg1 c10_i32_10
  let c0_i32_4 : BitVec 32 := 0#32
  let c1_i32 : BitVec 32 := 1#32
  let arg26 : BitVec 32 := Scf.iv c0_i32_4 c1_i32 k0_t3
  let v18 : BitVec 32 := Scalar.addi v17 arg26
  let c8_i32 : BitVec 32 := 8#32
  let v47 : BitVec 32 := Scalar.muli v18 c8_i32
  let v48 : BitVec 32 := v47
  let v157 : Index := Scalar.indexCast v48
  let c0_88 : Index := 0#32
  let c0_89 : Index := 0#32
  ![3, 1, v157.toNat, 0, 0]
def k0_off20 (i : grid0.Coords) (k0_t3 : Fin k0_t3_loop.trips) : Fin 5 → Nat :=
  let c4 : Index := 4#32
  let c0_105 : Index := 0#32
  let arg1 : BitVec 32 := BitVec.ofNat 32 (i 1).val
  let c10_i32_10 : BitVec 32 := 10#32
  let v17 : BitVec 32 := Scalar.muli arg1 c10_i32_10
  let c0_i32_4 : BitVec 32 := 0#32
  let c1_i32 : BitVec 32 := 1#32
  let arg26 : BitVec 32 := Scf.iv c0_i32_4 c1_i32 k0_t3
  let v18 : BitVec 32 := Scalar.addi v17 arg26
  let c8_i32 : BitVec 32 := 8#32
  let v47 : BitVec 32 := Scalar.muli v18 c8_i32
  let v48 : BitVec 32 := v47
  let v189 : Index := Scalar.indexCast v48
  let c0_106 : Index := 0#32
  let c0_107 : Index := 0#32
  ![4, 0, v189.toNat, 0, 0]
def k0_off21 (i : grid0.Coords) (k0_t3 : Fin k0_t3_loop.trips) : Fin 5 → Nat :=
  let c4_108 : Index := 4#32
  let c1_109 : Index := 1#32
  let arg1 : BitVec 32 := BitVec.ofNat 32 (i 1).val
  let c10_i32_10 : BitVec 32 := 10#32
  let v17 : BitVec 32 := Scalar.muli arg1 c10_i32_10
  let c0_i32_4 : BitVec 32 := 0#32
  let c1_i32 : BitVec 32 := 1#32
  let arg26 : BitVec 32 := Scf.iv c0_i32_4 c1_i32 k0_t3
  let v18 : BitVec 32 := Scalar.addi v17 arg26
  let c8_i32 : BitVec 32 := 8#32
  let v47 : BitVec 32 := Scalar.muli v18 c8_i32
  let v48 : BitVec 32 := v47
  let v192 : Index := Scalar.indexCast v48
  let c0_110 : Index := 0#32
  let c0_111 : Index := 0#32
  ![4, 1, v192.toNat, 0, 0]
def k0_cond3 (i : grid0.Coords) : BitVec 1 :=
  let arg0 : BitVec 32 := BitVec.ofNat 32 (i 0).val
  let c0_i32_6 : BitVec 32 := 0#32
  let v9 : BitVec 1 := Scalar.cmpi .eq arg0 c0_i32_6
  let arg1 : BitVec 32 := BitVec.ofNat 32 (i 1).val
  let c3_i32 : BitVec 32 := 3#32
  let v10 : BitVec 1 := Scalar.cmpi .eq arg1 c3_i32
  let v11 : BitVec 1 := Scalar.andi v9 v10
  let v12 : BitVec 32 := Scalar.extui v11
  let c0_i32_7 : BitVec 32 := 0#32
  let v13 : BitVec 1 := Scalar.cmpi .ne v12 c0_i32_7
  v13

@[reducible] def k0_t4_loop : Scf.Loop 32 :=
  let c0_i32_12 : BitVec 32 := 0#32
  let c100_i32 : BitVec 32 := 100#32
  let v21 : BitVec 32 := Scalar.addi c0_i32_12 c100_i32
  let c1_i32_13 : BitVec 32 := 1#32
  ⟨c0_i32_12, v21, c1_i32_13⟩
def k0_off22 (k0_t4 : Fin k0_t4_loop.trips) : Fin 1 → Nat :=
  let c0_i32_12 : BitVec 32 := 0#32
  let c1_i32_13 : BitVec 32 := 1#32
  let arg26 : BitVec 32 := Scf.iv c0_i32_12 c1_i32_13 k0_t4
  let v89 : Index := Scalar.indexCast arg26
  ![v89.toNat]
def k0_off23 (k0_t4 : Fin k0_t4_loop.trips) : Fin 2 → Nat :=
  let c0_i32_12 : BitVec 32 := 0#32
  let c1_i32_13 : BitVec 32 := 1#32
  let arg26 : BitVec 32 := Scf.iv c0_i32_12 c1_i32_13 k0_t4
  let v92 : Index := Scalar.indexCast arg26
  let c0_52 : Index := 0#32
  ![v92.toNat, 0]
@[reducible] def k0_t5_loop : Scf.Loop 32 :=
  let c0_i32_36 : BitVec 32 := 0#32
  let c100_i32_37 : BitVec 32 := 100#32
  let v68 : BitVec 32 := Scalar.addi c0_i32_36 c100_i32_37
  let c1_i32_38 : BitVec 32 := 1#32
  ⟨c0_i32_36, v68, c1_i32_38⟩
def k0_off24 (k0_t5 : Fin k0_t5_loop.trips) : Fin 1 → Nat :=
  let c0_i32_36 : BitVec 32 := 0#32
  let c1_i32_38 : BitVec 32 := 1#32
  let arg26 : BitVec 32 := Scf.iv c0_i32_36 c1_i32_38 k0_t5
  let v89 : Index := Scalar.indexCast arg26
  ![v89.toNat]
def k0_off25 (k0_t5 : Fin k0_t5_loop.trips) : Fin 2 → Nat :=
  let c0_i32_36 : BitVec 32 := 0#32
  let c1_i32_38 : BitVec 32 := 1#32
  let arg26 : BitVec 32 := Scf.iv c0_i32_36 c1_i32_38 k0_t5
  let c0_i32_52 : BitVec 32 := 0#32
  ![arg26.toNat, 0]
def k0_off26 (v90 : BitVec 32) : Fin 2 → Nat :=
  let c2_i32 : BitVec 32 := 2#32
  let v91 : BitVec 32 := Scalar.shrsi v90 c2_i32
  let c0_i32_53 : BitVec 32 := 0#32
  ![v91.toNat, 0]

def k0_chk3 (i : grid0.Coords) (v90 : BitVec 32) : Prop :=
  (∀ (k0_h3 : k0_cond3 i = 1#1), ∀ a, (k0_off26 v90) a + S1x8960.size a ≤ S1280x8960.size a)
theorem k0_off26_inb : ∀ (i : grid0.Coords) (v90 : BitVec 32) (k0_hw3 : k0_chk3 i v90), ∀ (k0_h3 : k0_cond3 i = 1#1), ∀ a, (k0_off26 v90) a + S1x8960.size a ≤ S1280x8960.size a := fun i v90 k0_hw3 k0_h3 => k0_hw3 k0_h3

def k0_off27 (k0_t5 : Fin k0_t5_loop.trips) : Fin 1 → Nat :=
  let c0_i32_36 : BitVec 32 := 0#32
  let c1_i32_38 : BitVec 32 := 1#32
  let arg26 : BitVec 32 := Scf.iv c0_i32_36 c1_i32_38 k0_t5
  let v94 : Index := Scalar.indexCast arg26
  ![v94.toNat]
def k0_off28 (k0_t5 : Fin k0_t5_loop.trips) : Fin 2 → Nat :=
  let c0_i32_36 : BitVec 32 := 0#32
  let c1_i32_38 : BitVec 32 := 1#32
  let arg26 : BitVec 32 := Scf.iv c0_i32_36 c1_i32_38 k0_t5
  let c0_i32_55 : BitVec 32 := 0#32
  ![arg26.toNat, 0]
def k0_off29 (v95 : BitVec 32) : Fin 2 → Nat :=
  let c2_i32_54 : BitVec 32 := 2#32
  let v96 : BitVec 32 := Scalar.shrsi v95 c2_i32_54
  let c0_i32_56 : BitVec 32 := 0#32
  ![v96.toNat, 0]

def k0_chk4 (i : grid0.Coords) (v95 : BitVec 32) : Prop :=
  (∀ (k0_h3 : k0_cond3 i = 1#1), ∀ a, (k0_off29 v95) a + S1x8960.size a ≤ S1280x8960.size a)
theorem k0_off29_inb : ∀ (i : grid0.Coords) (v95 : BitVec 32) (k0_hw4 : k0_chk4 i v95), ∀ (k0_h3 : k0_cond3 i = 1#1), ∀ a, (k0_off29 v95) a + S1x8960.size a ≤ S1280x8960.size a := fun i v95 k0_hw4 k0_h3 => k0_hw4 k0_h3

@[reducible] def k0_t6_loop : Scf.Loop 32 :=
  let c0_i32_45 : BitVec 32 := 0#32
  let c35_i32 : BitVec 32 := 35#32
  let v86 : BitVec 32 := Scalar.addi c0_i32_45 c35_i32
  let c1_i32_46 : BitVec 32 := 1#32
  ⟨c0_i32_45, v86, c1_i32_46⟩
def k0_mult49 (k0_t6 : Fin k0_t6_loop.trips) : BitVec 32 :=
  let c0_i32_45 : BitVec 32 := 0#32
  let c1_i32_46 : BitVec 32 := 1#32
  let arg26 : BitVec 32 := Scf.iv c0_i32_45 c1_i32_46 k0_t6
  let c256_i32 : BitVec 32 := 256#32
  let v89 : BitVec 32 := Scalar.muli arg26 c256_i32
  v89
def k0_off30 (k0_t6 : Fin k0_t6_loop.trips) : Fin 2 → Nat :=
  let c0_52 : Index := 0#32
  let c0_i32_45 : BitVec 32 := 0#32
  let c1_i32_46 : BitVec 32 := 1#32
  let arg26 : BitVec 32 := Scf.iv c0_i32_45 c1_i32_46 k0_t6
  let c256_i32 : BitVec 32 := 256#32
  let v89 : BitVec 32 := Scalar.muli arg26 c256_i32
  let v90 : BitVec 32 := v89
  let v91 : Index := Scalar.indexCast v90
  ![0, v91.toNat]
def k0_mult50 (k0_t6 : Fin k0_t6_loop.trips) : BitVec 32 :=
  let c0_i32_45 : BitVec 32 := 0#32
  let c1_i32_46 : BitVec 32 := 1#32
  let arg26 : BitVec 32 := Scf.iv c0_i32_45 c1_i32_46 k0_t6
  let c2_i32 : BitVec 32 := 2#32
  let v130 : BitVec 32 := Scalar.muli arg26 c2_i32
  let c256_i32_60 : BitVec 32 := 256#32
  let v131 : BitVec 32 := Scalar.muli v130 c256_i32_60
  let c0_i32_61 : BitVec 32 := 0#32
  let v132 : BitVec 32 := Scalar.addi v131 c0_i32_61
  v132
def k0_off31 (k0_t6 : Fin k0_t6_loop.trips) (c0_i32_61 : BitVec 32) : Fin 3 → Nat :=
  let c0_62 : Index := 0#32
  let c0_63 : Index := 0#32
  let c0_i32_45 : BitVec 32 := 0#32
  let c1_i32_46 : BitVec 32 := 1#32
  let arg26 : BitVec 32 := Scf.iv c0_i32_45 c1_i32_46 k0_t6
  let c2_i32 : BitVec 32 := 2#32
  let v130 : BitVec 32 := Scalar.muli arg26 c2_i32
  let c256_i32_60 : BitVec 32 := 256#32
  let v131 : BitVec 32 := Scalar.muli v130 c256_i32_60
  let v132 : BitVec 32 := Scalar.addi v131 c0_i32_61
  let v133 : BitVec 32 := v132
  let v134 : Index := Scalar.indexCast v133
  ![0, 0, v134.toNat]
def k0_mult51 (k0_t6 : Fin k0_t6_loop.trips) : BitVec 32 :=
  let c0_i32_45 : BitVec 32 := 0#32
  let c1_i32_46 : BitVec 32 := 1#32
  let arg26 : BitVec 32 := Scf.iv c0_i32_45 c1_i32_46 k0_t6
  let c2_i32_69 : BitVec 32 := 2#32
  let v159 : BitVec 32 := Scalar.muli arg26 c2_i32_69
  let c256_i32_70 : BitVec 32 := 256#32
  let v160 : BitVec 32 := Scalar.muli v159 c256_i32_70
  let c128_i32_71 : BitVec 32 := 128#32
  let v161 : BitVec 32 := Scalar.addi v160 c128_i32_71
  v161
def k0_mult52 (k0_t6 : Fin k0_t6_loop.trips) : BitVec 32 :=
  let c0_i32_45 : BitVec 32 := 0#32
  let c1_i32_46 : BitVec 32 := 1#32
  let arg26 : BitVec 32 := Scf.iv c0_i32_45 c1_i32_46 k0_t6
  let c2_i32_80 : BitVec 32 := 2#32
  let v188 : BitVec 32 := Scalar.muli arg26 c2_i32_80
  let c256_i32_81 : BitVec 32 := 256#32
  let v189 : BitVec 32 := Scalar.muli v188 c256_i32_81
  let c256_i32_82 : BitVec 32 := 256#32
  let v190 : BitVec 32 := Scalar.addi v189 c256_i32_82
  v190
def k0_mult53 (k0_t6 : Fin k0_t6_loop.trips) : BitVec 32 :=
  let c0_i32_45 : BitVec 32 := 0#32
  let c1_i32_46 : BitVec 32 := 1#32
  let arg26 : BitVec 32 := Scf.iv c0_i32_45 c1_i32_46 k0_t6
  let c2_i32_91 : BitVec 32 := 2#32
  let v217 : BitVec 32 := Scalar.muli arg26 c2_i32_91
  let c256_i32_92 : BitVec 32 := 256#32
  let v218 : BitVec 32 := Scalar.muli v217 c256_i32_92
  let c384_i32 : BitVec 32 := 384#32
  let v219 : BitVec 32 := Scalar.addi v218 c384_i32
  v219
@[reducible] def k0_t7_loop : Scf.Loop 32 :=
  let c0_i32_48 : BitVec 32 := 0#32
  let c35_i32_49 : BitVec 32 := 35#32
  let v88 : BitVec 32 := Scalar.addi c0_i32_48 c35_i32_49
  let c1_i32_50 : BitVec 32 := 1#32
  ⟨c0_i32_48, v88, c1_i32_50⟩
def k0_mult54 (k0_t7 : Fin k0_t7_loop.trips) : BitVec 32 :=
  let c0_i32_48 : BitVec 32 := 0#32
  let c1_i32_50 : BitVec 32 := 1#32
  let arg26 : BitVec 32 := Scf.iv c0_i32_48 c1_i32_50 k0_t7
  let c256_i32 : BitVec 32 := 256#32
  let v89 : BitVec 32 := Scalar.muli arg26 c256_i32
  v89
def k0_off32 (k0_t7 : Fin k0_t7_loop.trips) : Fin 2 → Nat :=
  let c0_52 : Index := 0#32
  let c0_i32_48 : BitVec 32 := 0#32
  let c1_i32_50 : BitVec 32 := 1#32
  let arg26 : BitVec 32 := Scf.iv c0_i32_48 c1_i32_50 k0_t7
  let c256_i32 : BitVec 32 := 256#32
  let v89 : BitVec 32 := Scalar.muli arg26 c256_i32
  let v90 : BitVec 32 := v89
  let v91 : Index := Scalar.indexCast v90
  ![0, v91.toNat]
def k0_mult55 (k0_t7 : Fin k0_t7_loop.trips) : BitVec 32 :=
  let c0_i32_48 : BitVec 32 := 0#32
  let c1_i32_50 : BitVec 32 := 1#32
  let arg26 : BitVec 32 := Scf.iv c0_i32_48 c1_i32_50 k0_t7
  let c2_i32 : BitVec 32 := 2#32
  let v130 : BitVec 32 := Scalar.muli arg26 c2_i32
  let c256_i32_60 : BitVec 32 := 256#32
  let v131 : BitVec 32 := Scalar.muli v130 c256_i32_60
  let c0_i32_61 : BitVec 32 := 0#32
  let v132 : BitVec 32 := Scalar.addi v131 c0_i32_61
  v132
def k0_off33 (k0_t7 : Fin k0_t7_loop.trips) (c0_i32_61 : BitVec 32) : Fin 3 → Nat :=
  let c0_62 : Index := 0#32
  let c0_63 : Index := 0#32
  let c0_i32_48 : BitVec 32 := 0#32
  let c1_i32_50 : BitVec 32 := 1#32
  let arg26 : BitVec 32 := Scf.iv c0_i32_48 c1_i32_50 k0_t7
  let c2_i32 : BitVec 32 := 2#32
  let v130 : BitVec 32 := Scalar.muli arg26 c2_i32
  let c256_i32_60 : BitVec 32 := 256#32
  let v131 : BitVec 32 := Scalar.muli v130 c256_i32_60
  let v132 : BitVec 32 := Scalar.addi v131 c0_i32_61
  let v133 : BitVec 32 := v132
  let v134 : Index := Scalar.indexCast v133
  ![0, 0, v134.toNat]
def k0_mult56 (k0_t7 : Fin k0_t7_loop.trips) : BitVec 32 :=
  let c0_i32_48 : BitVec 32 := 0#32
  let c1_i32_50 : BitVec 32 := 1#32
  let arg26 : BitVec 32 := Scf.iv c0_i32_48 c1_i32_50 k0_t7
  let c2_i32_69 : BitVec 32 := 2#32
  let v159 : BitVec 32 := Scalar.muli arg26 c2_i32_69
  let c256_i32_70 : BitVec 32 := 256#32
  let v160 : BitVec 32 := Scalar.muli v159 c256_i32_70
  let c128_i32_71 : BitVec 32 := 128#32
  let v161 : BitVec 32 := Scalar.addi v160 c128_i32_71
  v161
def k0_mult57 (k0_t7 : Fin k0_t7_loop.trips) : BitVec 32 :=
  let c0_i32_48 : BitVec 32 := 0#32
  let c1_i32_50 : BitVec 32 := 1#32
  let arg26 : BitVec 32 := Scf.iv c0_i32_48 c1_i32_50 k0_t7
  let c2_i32_80 : BitVec 32 := 2#32
  let v188 : BitVec 32 := Scalar.muli arg26 c2_i32_80
  let c256_i32_81 : BitVec 32 := 256#32
  let v189 : BitVec 32 := Scalar.muli v188 c256_i32_81
  let c256_i32_82 : BitVec 32 := 256#32
  let v190 : BitVec 32 := Scalar.addi v189 c256_i32_82
  v190
def k0_mult58 (k0_t7 : Fin k0_t7_loop.trips) : BitVec 32 :=
  let c0_i32_48 : BitVec 32 := 0#32
  let c1_i32_50 : BitVec 32 := 1#32
  let arg26 : BitVec 32 := Scf.iv c0_i32_48 c1_i32_50 k0_t7
  let c2_i32_91 : BitVec 32 := 2#32
  let v217 : BitVec 32 := Scalar.muli arg26 c2_i32_91
  let c256_i32_92 : BitVec 32 := 256#32
  let v218 : BitVec 32 := Scalar.muli v217 c256_i32_92
  let c384_i32 : BitVec 32 := 384#32
  let v219 : BitVec 32 := Scalar.addi v218 c384_i32
  v219
def k0_cond4 (i : grid0.Coords) : BitVec 1 :=
  let arg1 : BitVec 32 := BitVec.ofNat 32 (i 1).val
  let c3_i32_8 : BitVec 32 := 3#32
  let v14 : BitVec 1 := Scalar.cmpi .eq arg1 c3_i32_8
  let v15 : BitVec 32 := Scalar.extui v14
  let c0_i32_9 : BitVec 32 := 0#32
  let v16 : BitVec 1 := Scalar.cmpi .ne v15 c0_i32_9
  v16

def k0_mult59 (i : grid0.Coords) : BitVec 32 :=
  let c0_i32_10 : BitVec 32 := 0#32
  let arg0 : BitVec 32 := BitVec.ofNat 32 (i 0).val
  let c256_i32 : BitVec 32 := 256#32
  let v17 : BitVec 32 := Scalar.muli arg0 c256_i32
  let v18 : BitVec 32 := Scalar.addi c0_i32_10 v17
  v18
def k0_off34 (i : grid0.Coords) (c0_i32_10 : BitVec 32) : Fin 3 → Nat :=
  let c0_13 : Index := 0#32
  let c0_14 : Index := 0#32
  let arg0 : BitVec 32 := BitVec.ofNat 32 (i 0).val
  let c256_i32 : BitVec 32 := 256#32
  let v17 : BitVec 32 := Scalar.muli arg0 c256_i32
  let v18 : BitVec 32 := Scalar.addi c0_i32_10 v17
  let v19 : BitVec 32 := v18
  let v22 : Index := Scalar.indexCast v19
  ![0, 0, v22.toNat]
def k0_mult60 (i : grid0.Coords) : BitVec 32 :=
  let c1792_i32 : BitVec 32 := 1792#32
  let arg0 : BitVec 32 := BitVec.ofNat 32 (i 0).val
  let c256_i32_21 : BitVec 32 := 256#32
  let v40 : BitVec 32 := Scalar.muli arg0 c256_i32_21
  let v41 : BitVec 32 := Scalar.addi c1792_i32 v40
  v41
def k0_mult61 (i : grid0.Coords) : BitVec 32 :=
  let c3584_i32 : BitVec 32 := 3584#32
  let arg0 : BitVec 32 := BitVec.ofNat 32 (i 0).val
  let c256_i32_32 : BitVec 32 := 256#32
  let v63 : BitVec 32 := Scalar.muli arg0 c256_i32_32
  let v64 : BitVec 32 := Scalar.addi c3584_i32 v63
  v64
def k0_mult62 (i : grid0.Coords) : BitVec 32 :=
  let c5376_i32 : BitVec 32 := 5376#32
  let arg0 : BitVec 32 := BitVec.ofNat 32 (i 0).val
  let c256_i32_44 : BitVec 32 := 256#32
  let v86 : BitVec 32 := Scalar.muli arg0 c256_i32_44
  let v87 : BitVec 32 := Scalar.addi c5376_i32 v86
  v87
def k0_mult63 (i : grid0.Coords) : BitVec 32 :=
  let c7168_i32 : BitVec 32 := 7168#32
  let arg0 : BitVec 32 := BitVec.ofNat 32 (i 0).val
  let c256_i32_57 : BitVec 32 := 256#32
  let v109 : BitVec 32 := Scalar.muli arg0 c256_i32_57
  let v110 : BitVec 32 := Scalar.addi c7168_i32 v109
  v110
def k0_mult64 (i : grid0.Coords) : BitVec 32 :=
  let c8960_i32 : BitVec 32 := 8960#32
  let arg0 : BitVec 32 := BitVec.ofNat 32 (i 0).val
  let c256_i32_70 : BitVec 32 := 256#32
  let v132 : BitVec 32 := Scalar.muli arg0 c256_i32_70
  let v133 : BitVec 32 := Scalar.addi c8960_i32 v132
  v133
def k0_mult65 (i : grid0.Coords) : BitVec 32 :=
  let c10752_i32 : BitVec 32 := 10752#32
  let arg0 : BitVec 32 := BitVec.ofNat 32 (i 0).val
  let c256_i32_82 : BitVec 32 := 256#32
  let v155 : BitVec 32 := Scalar.muli arg0 c256_i32_82
  let v156 : BitVec 32 := Scalar.addi c10752_i32 v155
  v156
def k0_mult66 (i : grid0.Coords) : BitVec 32 :=
  let c12544_i32 : BitVec 32 := 12544#32
  let arg0 : BitVec 32 := BitVec.ofNat 32 (i 0).val
  let c256_i32_95 : BitVec 32 := 256#32
  let v178 : BitVec 32 := Scalar.muli arg0 c256_i32_95
  let v179 : BitVec 32 := Scalar.addi c12544_i32 v178
  v179
def k0_mult67 (i : grid0.Coords) : BitVec 32 :=
  let c14336_i32 : BitVec 32 := 14336#32
  let arg0 : BitVec 32 := BitVec.ofNat 32 (i 0).val
  let c256_i32_108 : BitVec 32 := 256#32
  let v201 : BitVec 32 := Scalar.muli arg0 c256_i32_108
  let v202 : BitVec 32 := Scalar.addi c14336_i32 v201
  v202
def k0_mult68 (i : grid0.Coords) : BitVec 32 :=
  let c16128_i32 : BitVec 32 := 16128#32
  let arg0 : BitVec 32 := BitVec.ofNat 32 (i 0).val
  let c256_i32_121 : BitVec 32 := 256#32
  let v224 : BitVec 32 := Scalar.muli arg0 c256_i32_121
  let v225 : BitVec 32 := Scalar.addi c16128_i32 v224
  v225
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1280x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1280x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S40x17920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S40x17920 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S40x17920 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S40x17920 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5120 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x5120 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x1x17920 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x1x17920 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x1x17920 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== ReferenceIdeal.lean ====
abbrev S2x1x5120 : Shape := ⟨3, ![2, 1, 5120]⟩
abbrev S100 : Shape := ⟨1, ![100]⟩
abbrev S5120x1792 : Shape := ⟨2, ![5120, 1792]⟩
abbrev S40x17920 : Shape := ⟨2, ![40, 17920]⟩
abbrev S5120x8960 : Shape := ⟨2, ![5120, 8960]⟩
abbrev S5120 : Shape := ⟨1, ![5120]⟩
abbrev S_ : Shape := ⟨0, ![]⟩
abbrev S100x1 : Shape := ⟨2, ![100, 1]⟩
abbrev S100x8960 : Shape := ⟨2, ![100, 8960]⟩
abbrev S2x1x100 : Shape := ⟨3, ![2, 1, 100]⟩
abbrev S100x8960x1 : Shape := ⟨3, ![100, 8960, 1]⟩
abbrev S100x8960x2 : Shape := ⟨3, ![100, 8960, 2]⟩
abbrev S100x17920 : Shape := ⟨2, ![100, 17920]⟩
abbrev S2x1x17920 : Shape := ⟨3, ![2, 1, 17920]⟩
abbrev S10 : Shape := ⟨1, ![10]⟩
abbrev S1x10x1 : Shape := ⟨3, ![1, 10, 1]⟩
abbrev S5120x1x1792 : Shape := ⟨3, ![5120, 1, 1792]⟩
abbrev S5120x10x1792 : Shape := ⟨3, ![5120, 10, 1792]⟩
abbrev S40x128x17920 : Shape := ⟨3, ![40, 128, 17920]⟩
abbrev S40x1x17920 : Shape := ⟨3, ![40, 1, 17920]⟩
abbrev S5120x17920 : Shape := ⟨2, ![5120, 17920]⟩

abbrev nBuf : Space → Nat
  | .hbm => 193
  | .vmem => 0
  | .smem => 0
  | _ => 0

abbrev hbmTy0_0 (i : Nat) : BufTy := match i % 128 with
  | 0 => ⟨S2x1x5120, .bf16⟩
  | 1 => ⟨S100, .i32⟩
  | 2 => ⟨S5120x1792, .i32⟩
  | 3 => ⟨S40x17920, .bf16⟩
  | 4 => ⟨S40x17920, .i8⟩
  | 5 => ⟨S5120x8960, .i8⟩
  | 6 => ⟨S5120, .bf16⟩
  | 7 => ⟨S5120x1792, .i32⟩
  | 8 => ⟨S40x17920, .bf16⟩
  | 9 => ⟨S40x17920, .i8⟩
  | 10 => ⟨S5120x8960, .i8⟩
  | 11 => ⟨S5120, .bf16⟩
  | 12 => ⟨S_, .i32⟩
  | 13 => ⟨S100, .i32⟩
  | 14 => ⟨S100, .i1⟩
  | 15 => ⟨S_, .i32⟩
  | 16 => ⟨S100, .i32⟩
  | 17 => ⟨S100, .i32⟩
  | 18 => ⟨S100, .i32⟩
  | 19 => ⟨S100x1, .i32⟩
  | 20 => ⟨S100x8960, .i8⟩
  | 21 => ⟨S100x8960, .i32⟩
  | 22 => ⟨S_, .i32⟩
  | 23 => ⟨S100, .i32⟩
  | 24 => ⟨S100, .i1⟩
  | 25 => ⟨S_, .i32⟩
  | 26 => ⟨S100, .i32⟩
  | 27 => ⟨S100, .i32⟩
  | 28 => ⟨S100, .i32⟩
  | 29 => ⟨S100x1, .i32⟩
  | 30 => ⟨S100, .bf16⟩
  | 31 => ⟨S100x1, .bf16⟩
  | 32 => ⟨S_, .i32⟩
  | 33 => ⟨S100, .i32⟩
  | 34 => ⟨S100, .i1⟩
  | 35 => ⟨S_, .i32⟩
  | 36 => ⟨S100, .i32⟩
  | 37 => ⟨S100, .i32⟩
  | 38 => ⟨S100, .i32⟩
  | 39 => ⟨S100x1, .i32⟩
  | 40 => ⟨S2x1x100, .bf16⟩
  | 41 => ⟨S_, .i32⟩
  | 42 => ⟨S100x8960, .i32⟩
  | 43 => ⟨S100x8960, .i32⟩
  | 44 => ⟨S_, .i32⟩
  | 45 => ⟨S100x8960, .i32⟩
  | 46 => ⟨S100x8960, .i1⟩
  | 47 => ⟨S_, .i32⟩
  | 48 => ⟨S100x8960, .i32⟩
  | 49 => ⟨S100x8960, .i32⟩
  | 50 => ⟨S100x8960, .i32⟩
  | 51 => ⟨S100x8960, .bf16⟩
  | 52 => ⟨S100x8960, .bf16⟩
  | 53 => ⟨S100x8960, .bf16⟩
  | 54 => ⟨S_, .i32⟩
  | 55 => ⟨S100x8960, .i32⟩
  | 56 => ⟨S100x8960, .i32⟩
  | 57 => ⟨S_, .i32⟩
  | 58 => ⟨S100x8960, .i32⟩
  | 59 => ⟨S100x8960, .i1⟩
  | 60 => ⟨S_, .i32⟩
  | 61 => ⟨S100x8960, .i32⟩
  | 62 => ⟨S100x8960, .i32⟩
  | 63 => ⟨S100x8960, .i32⟩
  | 64 => ⟨S100x8960, .bf16⟩
  | 65 => ⟨S100x8960, .bf16⟩
  | 66 => ⟨S100x8960, .bf16⟩
  | 67 => ⟨S100x8960x1, .bf16⟩
  | 68 => ⟨S100x8960x1, .bf16⟩
  | 69 => ⟨S100x8960x2, .bf16⟩
  | 70 => ⟨S100x17920, .bf16⟩
  | 71 => ⟨S2x1x17920, .f32⟩
  | 72 => ⟨S10, .i32⟩
  | 73 => ⟨S_, .i32⟩
  | 74 => ⟨S10, .i32⟩
  | 75 => ⟨S10, .i32⟩
  | 76 => ⟨S1x10x1, .i32⟩
  | 77 => ⟨S5120x1x1792, .i32⟩
  | 78 => ⟨S5120x10x1792, .i32⟩
  | 79 => ⟨S5120x10x1792, .i32⟩
  | 80 => ⟨S5120x10x1792, .i32⟩
  | 81 => ⟨S_, .i32⟩
  | 82 => ⟨S5120x10x1792, .i32⟩
  | 83 => ⟨S5120x10x1792, .i32⟩
  | 84 => ⟨S5120x10x1792, .bf16⟩
  | 85 => ⟨S40x128x17920, .bf16⟩
  | 86 => ⟨S40x17920, .i32⟩
  | 87 => ⟨S40x17920, .bf16⟩
  | 88 => ⟨S40x1x17920, .bf16⟩
  | 89 => ⟨S40x128x17920, .bf16⟩
  | 90 => ⟨S40x128x17920, .bf16⟩
  | 91 => ⟨S40x1x17920, .bf16⟩
  | 92 => ⟨S40x128x17920, .bf16⟩
  | 93 => ⟨S40x128x17920, .bf16⟩
  | 94 => ⟨S5120x17920, .bf16⟩
  | 95 => ⟨S2x1x17920, .f32⟩
  | 96 => ⟨S2x1x17920, .f32⟩
  | 97 => ⟨S_, .i32⟩
  | 98 => ⟨S100, .i32⟩
  | 99 => ⟨S100, .i1⟩
  | 100 => ⟨S_, .i32⟩
  | 101 => ⟨S100, .i32⟩
  | 102 => ⟨S100, .i32⟩
  | 103 => ⟨S100, .i32⟩
  | 104 => ⟨S100x1, .i32⟩
  | 105 => ⟨S100x8960, .i8⟩
  | 106 => ⟨S100x8960, .i32⟩
  | 107 => ⟨S_, .i32⟩
  | 108 => ⟨S100, .i32⟩
  | 109 => ⟨S100, .i1⟩
  | 110 => ⟨S_, .i32⟩
  | 111 => ⟨S100, .i32⟩
  | 112 => ⟨S100, .i32⟩
  | 113 => ⟨S100, .i32⟩
  | 114 => ⟨S100x1, .i32⟩
  | 115 => ⟨S100, .bf16⟩
  | 116 => ⟨S100x1, .bf16⟩
  | 117 => ⟨S_, .i32⟩
  | 118 => ⟨S100, .i32⟩
  | 119 => ⟨S100, .i1⟩
  | 120 => ⟨S_, .i32⟩
  | 121 => ⟨S100, .i32⟩
  | 122 => ⟨S100, .i32⟩
  | 123 => ⟨S100, .i32⟩
  | 124 => ⟨S100x1, .i32⟩
  | 125 => ⟨S2x1x100, .bf16⟩
  | 126 => ⟨S_, .i32⟩
  | 127 => ⟨S100x8960, .i32⟩
  | _ => ⟨S2x1x5120, .bf16⟩

abbrev hbmTy0_1 (i : Nat) : BufTy := match i % 128 with
  | 0 => ⟨S100x8960, .i32⟩
  | 1 => ⟨S_, .i32⟩
  | 2 => ⟨S100x8960, .i32⟩
  | 3 => ⟨S100x8960, .i1⟩
  | 4 => ⟨S_, .i32⟩
  | 5 => ⟨S100x8960, .i32⟩
  | 6 => ⟨S100x8960, .i32⟩
  | 7 => ⟨S100x8960, .i32⟩
  | 8 => ⟨S100x8960, .bf16⟩
  | 9 => ⟨S100x8960, .bf16⟩
  | 10 => ⟨S100x8960, .bf16⟩
  | 11 => ⟨S_, .i32⟩
  | 12 => ⟨S100x8960, .i32⟩
  | 13 => ⟨S100x8960, .i32⟩
  | 14 => ⟨S_, .i32⟩
  | 15 => ⟨S100x8960, .i32⟩
  | 16 => ⟨S100x8960, .i1⟩
  | 17 => ⟨S_, .i32⟩
  | 18 => ⟨S100x8960, .i32⟩
  | 19 => ⟨S100x8960, .i32⟩
  | 20 => ⟨S100x8960, .i32⟩
  | 21 => ⟨S100x8960, .bf16⟩
  | 22 => ⟨S100x8960, .bf16⟩
  | 23 => ⟨S100x8960, .bf16⟩
  | 24 => ⟨S100x8960x1, .bf16⟩
  | 25 => ⟨S100x8960x1, .bf16⟩
  | 26 => ⟨S100x8960x2, .bf16⟩
  | 27 => ⟨S100x17920, .bf16⟩
  | 28 => ⟨S2x1x17920, .f32⟩
  | 29 => ⟨S10, .i32⟩
  | 30 => ⟨S_, .i32⟩
  | 31 => ⟨S10, .i32⟩
  | 32 => ⟨S10, .i32⟩
  | 33 => ⟨S1x10x1, .i32⟩
  | 34 => ⟨S5120x1x1792, .i32⟩
  | 35 => ⟨S5120x10x1792, .i32⟩
  | 36 => ⟨S5120x10x1792, .i32⟩
  | 37 => ⟨S5120x10x1792, .i32⟩
  | 38 => ⟨S_, .i32⟩
  | 39 => ⟨S5120x10x1792, .i32⟩
  | 40 => ⟨S5120x10x1792, .i32⟩
  | 41 => ⟨S5120x10x1792, .bf16⟩
  | 42 => ⟨S40x128x17920, .bf16⟩
  | 43 => ⟨S40x17920, .i32⟩
  | 44 => ⟨S40x17920, .bf16⟩
  | 45 => ⟨S40x1x17920, .bf16⟩
  | 46 => ⟨S40x128x17920, .bf16⟩
  | 47 => ⟨S40x128x17920, .bf16⟩
  | 48 => ⟨S40x1x17920, .bf16⟩
  | 49 => ⟨S40x128x17920, .bf16⟩
  | 50 => ⟨S40x128x17920, .bf16⟩
  | 51 => ⟨S5120x17920, .bf16⟩
  | 52 => ⟨S2x1x17920, .f32⟩
  | 53 => ⟨S2x1x17920, .f32⟩
  | 54 => ⟨S2x1x17920, .f32⟩
  | 55 => ⟨S2x1x17920, .f32⟩
  | 56 => ⟨S_, .f32⟩
  | 57 => ⟨S2x1x17920, .f32⟩
  | 58 => ⟨S2x1x17920, .f32⟩
  | 59 => ⟨S_, .f32⟩
  | 60 => ⟨S2x1x17920, .f32⟩
  | 61 => ⟨S2x1x17920, .f32⟩
  | 62 => ⟨S2x1x17920, .f32⟩
  | 63 => ⟨S2x1x17920, .f32⟩
  | 64 => ⟨S2x1x17920, .bf16⟩
  | _ => ⟨S2x1x5120, .bf16⟩

abbrev hbmTy (i : Nat) : BufTy := match i / 128 with
  | 0 => hbmTy0_0 i
  | 1 => hbmTy0_1 i
  | _ => ⟨S2x1x5120, .bf16⟩

abbrev bufTy : (tb : Table) → Fin (tcTables nBuf tb) → BufTy
  | .hbm, ⟨i, _⟩ => hbmTy i
  | _, _ => ⟨S2x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_c_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_13 : Ref sig .tc := ⟨.hbm, 97, rfl⟩
abbrev main_v71 : Ref sig .tc := ⟨.hbm, 98, rfl⟩
abbrev main_v72 : Ref sig .tc := ⟨.hbm, 99, rfl⟩
abbrev main_c_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_15 : Ref sig .tc := ⟨.hbm, 107, rfl⟩
abbrev main_v79 : Ref sig .tc := ⟨.hbm, 108, rfl⟩
abbrev main_v80 : Ref sig .tc := ⟨.hbm, 109, rfl⟩
abbrev main_c_16 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_17 : Ref sig .tc := ⟨.hbm, 117, rfl⟩
abbrev main_v87 : Ref sig .tc := ⟨.hbm, 118, rfl⟩
abbrev main_v88 : Ref sig .tc := ⟨.hbm, 119, rfl⟩
abbrev main_c_18 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_19 : Ref sig .tc := ⟨.hbm, 126, rfl⟩
abbrev main_v94 : Ref sig .tc := ⟨.hbm, 127, rfl⟩
abbrev main_v95 : Ref sig .tc := ⟨.hbm, 128, rfl⟩
abbrev main_c_20 : Ref sig .tc := ⟨.hbm, 129, rfl⟩
abbrev main_v96 : Ref sig .tc := ⟨.hbm, 130, rfl⟩
abbrev main_v97 : Ref sig .tc := ⟨.hbm, 131, rfl⟩
abbrev main_c_21 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_22 : Ref sig .tc := ⟨.hbm, 139, rfl⟩
abbrev main_v104 : Ref sig .tc := ⟨.hbm, 140, rfl⟩
abbrev main_v105 : Ref sig .tc := ⟨.hbm, 141, rfl⟩
abbrev main_c_23 : Ref sig .tc := ⟨.hbm, 142, rfl⟩
abbrev main_v106 : Ref sig .tc := ⟨.hbm, 143, rfl⟩
abbrev main_v107 : Ref sig .tc := ⟨.hbm, 144, rfl⟩
abbrev main_c_24 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_c_25 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_c_26 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_call4_v0 : Ref sig .tc := ⟨.hbm, 182, rfl⟩
abbrev main_call4_v1 : Ref sig .tc := ⟨.hbm, 183, rfl⟩
abbrev main_call4_cst : Ref sig .tc := ⟨.hbm, 184, rfl⟩
abbrev main_call4_v2 : Ref sig .tc := ⟨.hbm, 185, rfl⟩
abbrev main_call4_v3 : Ref sig .tc := ⟨.hbm, 186, rfl⟩
abbrev main_call4_cst_0 : Ref sig .tc := ⟨.hbm, 187, rfl⟩
abbrev main_call4_v4 : Ref sig .tc := ⟨.hbm, 188, rfl⟩
abbrev main_call4_v5 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩

abbrev nD : Nat := 1
abbrev τ : Topo := Topo.v7x

variable {F : FTy → Type} [FloatOps F]
-- ==== Proof.Dma.lean ====
module
public import proofs.«01_k».proof.Proof.Gen.Kernel.Skeleton
public import proofs.«01_k».proof.Proof.Gen.Kernel.Launch
public import proofs.«01_k».proof.Proof.Gen.Kernel.Loops
public import Idealize.ShloMosaic.Lib.Batch
public import Idealize.ShloMosaic.Lib.Ring
public import Idealize.ShloMosaic.Lib.Pipeline.FrameBody
public import Idealize.ShloMosaic.Lib.Tactic
public import Idealize.ShloMosaic.Lib.Tactic.Stretches
@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (Pipeline.UD sig nD τ) ℕ

/-! ## The rows -/

/-- The word of the index table that trip `k` reads. -/
def word (X : S100.Idx → BitVec 32) (k : Fin k0_t1_loop.trips) : BitVec 32 :=
  X (fun a => ⟨k.val, by rw [Subsingleton.elim a (0 : Fin 1)]; exact Nat.lt_of_lt_of_le k.isLt k0_t1_abs.2.1⟩)

theorem shrsi_two (v : BitVec 32) (hv : v.toNat < 5120) : (Scalar.shrsi v 2#32).toNat = v.toNat / 4 := by
  have hm : v.msb = false := by rw [BitVec.msb_eq_false_iff_two_mul_lt]; omega
  show (IntOp.shrsi .scalar v 2#32).toNat = _
  unfold IntOp.shrsi
  rw [if_pos (by decide), BitVec.sshiftRight', BitVec.sshiftRight_eq_of_msb_false hm, BitVec.toNat_ushiftRight]
  simp [Nat.shiftRight_eq_div_pow]

theorem row_inb (v : BitVec 32) (hv : v.toNat < 5120) : ∀ a, (k0_off3 v) a + S1x8960.size a ≤ S1280x8960.size a := by
  have h1 : (Scalar.shrsi v 2#32).toNat < 1280 := by rw [shrsi_two v hv]; omega
  intro a; fin_cases a
  · show (Scalar.shrsi v 2#32).toNat + 1 ≤ 1280; omega
  · show 0 + 8960 ≤ 8960; omega

theorem chk1_of (i : grid0.Coords) (v : BitVec 32) (hv : v.toNat < 5120) : k0_chk1 i v := fun _ => row_inb v hv
theorem chk3_of (i : grid0.Coords) (v : BitVec 32) (hv : v.toNat < 5120) : k0_chk3 i v := fun _ => row_inb v hv
theorem chk4_of (i : grid0.Coords) (v : BitVec 32) (hv : v.toNat < 5120) : k0_chk4 i v := fun _ => row_inb v hv
theorem chk2_of (i : grid0.Coords) (v : BitVec 32) (hv : v.toNat < 5120) : k0_chk2 i v := fun _ => row_inb v hv

theorem tab_inb (k : Fin k0_t1_loop.trips) : ∀ a, (k0_off1 k) a + S1.size a ≤ S100.size a := by
  have hk : k.val < 100 := Nat.lt_of_lt_of_le k.isLt k0_t1_abs.2.1
  rw [k0_off1_eq]; intro a; fin_cases a
  show k.val + 1 ≤ 100; omega
theorem tab_inb' (k : Fin k0_t1_loop.trips) : ∀ a, (k0_off4 k) a + S1.size a ≤ S100.size a := by
  have hk : k.val < 100 := Nat.lt_of_lt_of_le k.isLt k0_t1_abs.2.1
  rw [k0_off4_eq]; intro a; fin_cases a
  show k.val + 1 ≤ 100; omega
theorem numel1_S1' : 0 < S1.numel := by decide

theorem dst_inb (k : Fin k0_t1_loop.trips) : ∀ a, (k0_off2 k) a + S1x8960.size a ≤ S128x8960.size a := by
  have hk : k.val < 100 := Nat.lt_of_lt_of_le k.isLt k0_t1_abs.2.1
  rw [k0_off2_eq]; intro a; fin_cases a
  · show k.val + 1 ≤ 128; omega
  · show 0 + 8960 ≤ 8960; omega

theorem dst_inb' (k : Fin k0_t1_loop.trips) : ∀ a, (k0_off5 k) a + S1x8960.size a ≤ S128x8960.size a := by
  have hk : k.val < 100 := Nat.lt_of_lt_of_le k.isLt k0_t1_abs.2.1
  rw [k0_off5_eq]; intro a; fin_cases a
  · show k.val + 1 ≤ 128; omega
  · show 0 + 8960 ≤ 8960; omega

/-- Row `k` of the two row buffers. -/
def dG (k : Fin k0_t1_loop.trips) : Memref sig .tc .vmem S1x8960 .i32 :=
  (Memref.whole cc0_scratch4).slice (Rect.unit (s := S128x8960) (k0_off2 k) S1x8960.size (dst_inb k)) (fun _ => rfl)
def dU (k : Fin k0_t1_loop.trips) : Memref sig .tc .vmem S1x8960 .i32 :=
  (Memref.whole cc0_scratch5).slice (Rect.unit (s := S128x8960) (k0_off5 k) S1x8960.size (dst_inb' k)) (fun _ => rfl)
/-- The row of words that holds channel `v`. -/
def sG (v : BitVec 32) (hv : v.toNat < 5120) : Memref sig .tc .hbm S1x8960 .i32 :=
  (Memref.whole main_v25).slice (Rect.unit (s := S1280x8960) (k0_off3 v) S1x8960.size (row_inb v hv)) (fun _ => rfl)
def sU (v : BitVec 32) (hv : v.toNat < 5120) : Memref sig .tc .hbm S1x8960 .i32 :=
  (Memref.whole main_v44).slice (Rect.unit (s := S1280x8960) (k0_off6 v) S1x8960.size (row_inb v hv)) (fun _ => rfl)

section Issue

/-- The words that trip `k` reads from the table, as the loads read them. -/
def wG (X : S100.Idx → BitVec 32) (k : Fin k0_t1_loop.trips) : BitVec 32 :=
  View.readAt (Elt F) (Memref.whole main_arg1).view (Rect.unit (s := S100) (k0_off1 k) S1.size (tab_inb k)).toLoadRect X (Shape.Idx.first numel1_S1')
def wU (X : S100.Idx → BitVec 32) (k : Fin k0_t1_loop.trips) : BitVec 32 :=
  View.readAt (Elt F) (Memref.whole main_arg1).view (Rect.unit (s := S100) (k0_off4 k) S1.size (tab_inb' k)).toLoadRect X (Shape.Idx.first numel1_S1')
theorem wG_eq (X : S100.Idx → BitVec 32) (k : Fin k0_t1_loop.trips) : wG (F := F) X k = word X k := by
  refine congrArg X (funext fun a => Fin.ext ?_)
  fin_cases a
  exact congrFun (k0_off1_eq k) 0
theorem wU_eq (X : S100.Idx → BitVec 32) (k : Fin k0_t1_loop.trips) : wU (F := F) X k = word X k := by
  refine congrArg X (funext fun a => Fin.ext ?_)
  fin_cases a
  exact congrFun (k0_off4_eq k) 0
theorem hwG (X : S100.Idx → BitVec 32) (hX : ∀ y, (X y).toNat < 5120) (k : Fin k0_t1_loop.trips) : (wG (F := F) X k).toNat < 5120 := hX _
theorem hwU (X : S100.Idx → BitVec 32) (hX : ∀ y, (X y).toNat < 5120) (k : Fin k0_t1_loop.trips) : (wU (F := F) X k).toNat < 5120 := hX _

variable (c : Dev nD) (X : S100.Idx → BitVec 32) (hX : ∀ y, (X y).toNat < 5120) (WG WU : S1280x8960.Idx → Elt F .i32)

/-- The words of a matrix as the contents of one of its rows' buffers. -/
def asG (v : BitVec 32) (hv : v.toNat < 5120) (W : S1280x8960.Idx → Elt F .i32) : Buf (Elt F) ((sG v hv).view.loc (c : Thread nD τ)) := W
def asU (v : BitVec 32) (hv : v.toNat < 5120) (W : S1280x8960.Idx → Elt F .i32) : Buf (Elt F) ((sU v hv).view.loc (c : Thread nD τ)) := W

abbrev tokG (k : Fin k0_t1_loop.trips) : sProp 𝕄 :=
  (sG (wG (F := F) X k) (hwG X hX k)).view.loc (c : Thread nD τ) ↦[(sG (wG (F := F) X k) (hwG X hX k)).view.set]{Transfers.shareTokN fullShare k.val} asG c (wG (F := F) X k) (hwG X hX k) WG
abbrev tokU (k : Fin k0_t1_loop.trips) : sProp 𝕄 :=
  (sU (wU (F := F) X k) (hwU X hX k)).view.loc (c : Thread nD τ) ↦[(sU (wU (F := F) X k) (hwU X hX k)).view.set]{Transfers.shareTokN fullShare k.val} asU c (wU (F := F) X k) (hwU X hX k) WU

abbrev landG [∀ e, Nonempty (Elt F e)] (k : Fin k0_t1_loop.trips) : sProp 𝕄 :=
  (dG k).view.loc (c : Thread nD τ) ↦[(dG k).view.set]{fullShare}
    (dG k).view.writes (Elt F) (dG k).view.junk [⟨Rect.whole S1x8960, ReadAs.same.apply ((sG (wG (F := F) X k) (hwG X hX k)).view.read (Elt F) (asG c (wG (F := F) X k) (hwG X hX k) WG))⟩]
abbrev landU [∀ e, Nonempty (Elt F e)] (k : Fin k0_t1_loop.trips) : sProp 𝕄 :=
  (dU k).view.loc (c : Thread nD τ) ↦[(dU k).view.set]{fullShare}
    (dU k).view.writes (Elt F) (dU k).view.junk [⟨Rect.whole S1x8960, ReadAs.same.apply ((sU (wU (F := F) X k) (hwU X hX k)).view.read (Elt F) (asU c (wU (F := F) X k) (hwU X hX k) WU))⟩]

variable [∀ e, Nonempty (Elt F e)]

/-- What transfer `2 k` delivers: row `k` landed, and the read token of its source back; transfer `2 k + 1` the same of the other matrix. -/
abbrev delG (k : ℕ) : sProp 𝕄 := if h : k < k0_t1_loop.trips then iprop(landG (F := F) c X hX WG ⟨k, h⟩ ∗ tokG c X hX WG ⟨k, h⟩) else iprop(emp)
abbrev delU (k : ℕ) : sProp 𝕄 := if h : k < k0_t1_loop.trips then iprop(landU (F := F) c X hX WU ⟨k, h⟩ ∗ tokU c X hX WU ⟨k, h⟩) else iprop(emp)
abbrev dels : Fin (2 * k0_t1_loop.trips) → sProp 𝕄 := Ring.interleaved k0_t1_loop.trips (delG c X hX WG) (delU c X hX WU)

instance delG_storable (k : ℕ) : Storable (upEmb : UEmb _ 𝕄) (delG c X hX WG k) := by unfold delG; split <;> infer_instance
instance delU_storable (k : ℕ) : Storable (upEmb : UEmb _ 𝕄) (delU c X hX WU k) := by unfold delU; split <;> infer_instance

abbrev batch (j u : ℕ) : sProp 𝕄 :=
  Transfers.Batch (countersEmb (U := Pipeline.UD sig nD τ)) (c : Thread nD τ) (.dma cc0_scratch7.sem) () 1120 (dels c X hX WG WU) j u

/-- What trip `k` of the issue loop uses: its two rows at any contents and the read tokens of its sources. -/
abbrev blk (k : Fin k0_t1_loop.trips) : sProp 𝕄 :=
  iprop((∃ g, (dG k).view.loc (c : Thread nD τ) ↦[(dG k).view.set]{fullShare} g) ∗ (∃ g, (dU k).view.loc (c : Thread nD τ) ↦[(dU k).view.set]{fullShare} g)
    ∗ tokG c X hX WG k ∗ tokU c X hX WU k)

section Loops
variable (i : grid0.Coords) (q : PosShare TreeShare)
  (arg3 : Memref sig .tc .vmem S1x256 .i32) (harg3 : arg3.IsWhole) (arg4 : Memref sig .tc .vmem S2x5120 .bf16) (harg4 : arg4.IsWhole) (arg5 : Memref sig .tc .vmem S1280x256 .i32) (harg5 : arg5.IsWhole) (arg6 : Memref sig .tc .vmem S1280x256 .i32) (harg6 : arg6.IsWhole) (arg7 : Memref sig .tc .vmem S40x17920 .bf16) (harg7 : arg7.IsWhole) (arg8 : Memref sig .tc .vmem S40x17920 .bf16) (harg8 : arg8.IsWhole) (arg9 : Memref sig .tc .vmem S40x17920 .i8) (harg9 : arg9.IsWhole) (arg10 : Memref sig .tc .vmem S40x17920 .i8) (harg10 : arg10.IsWhole) (arg11 : Memref sig .tc .vmem S1x5120 .bf16) (harg11 : arg11.IsWhole) (arg12 : Memref sig .tc .vmem S1x5120 .bf16) (harg12 : arg12.IsWhole) (arg15 : Memref sig .tc .vmem S2x1x17920 .bf16) (harg15 : arg15.IsWhole) (arg16 : Memref sig .tc .vmem S2x1x17920 .f32) (harg16 : arg16.IsWhole) (arg17 : Memref sig .tc .vmem S2x1x17920 .f32) (harg17 : arg17.IsWhole) (arg18 : Memref sig .tc .vmem S16x20480 .bf16) (harg18 : arg18.IsWhole) (arg19 : Memref sig .tc .vmem S5x2x320x2x128 .f32) (harg19 : arg19.IsWhole) (arg20 : Memref sig .tc .vmem S5x2x320x2x128 .f32) (harg20 : arg20.IsWhole) (arg21 : Memref sig .tc .vmem S5x16x256 .f32) (harg21 : arg21.IsWhole) (arg24 : Memref sig .tc .vmem S128x128 .i32) (harg24 : arg24.IsWhole)

/-- Before trip `k` of the issue loop: `2 k` transfers on their way, the rows and tokens of the later trips in hand. -/
def issueAt (k : ℕ) (_ : Unit) : sProp 𝕄 :=
  iprop(((Memref.whole main_arg1).view.loc (c : Thread nD τ) ↦[(Memref.whole main_arg1).view.set]{q} X)
      ∗ batch c X hX WG WU (2 * k) 0 ∗ bigSep (Ring.rangeSet k0_t1_loop.trips k k0_t1_loop.trips) (blk c X hX WG WU))

/-- One trip of the issue loop. -/
theorem issue_step (h1 : k0_cond1 i = 1#1) (k : Fin k0_t1_loop.trips) (acc : Unit) :
    issueAt c X hX WG WU q k acc
    ⊢ wp frame (wpE (defs₀ (F := F)) Variants.none (c : Thread nD τ) none) Set.univ
        (k0_t1_body (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 h1 k acc)
      (issueAt c X hX WG WU q (k.val + 1)) := by
  have hk := k.isLt
  unfold issueAt
  rw [Ring.bigSep_rangeSet_head (Φ := blk c X hX WG WU) (by omega) (by omega),
    show 2 * (k.val + 1) = 2 * k.val + 1 + 1 by omega]
  unfold blk tokG tokU
  iintro ⟨HT, HB, ⟨⟨%gk, HK⟩, ⟨%gv, HV⟩, HG, HU⟩, Hs⟩
  unfold k0_t1_body
  sl_exec (disch := first | as_aux_lemma => exact chk1_of _ _ (hX _) | as_aux_lemma => exact chk2_of _ _ (hX _))
  sl_step
  isplitl [HT]; · iexact HT
  isplitl [HB]; · iexact HB
  iexact Hs

/-- Before trip `k` of the drain loop: the batch with `2 k` transfers' units consumed, or after the last trip the cell at
    zero and every delivery. -/
def drainInv (k : ℕ) (_ : Unit) : sProp 𝕄 :=
  iprop(⌜k ≤ k0_t1_loop.trips⌝ ∗ ((Memref.whole main_arg1).view.loc (c : Thread nD τ) ↦[(Memref.whole main_arg1).view.set]{q} X)
    ∗ (∃ W, owes (c : Thread nD τ) 0 W)
    ∗ (if k < k0_t1_loop.trips then batch c X hX WG WU (2 * k0_t1_loop.trips) (2 * k * 1120)
       else iprop(semVal ((c : Thread nD τ), SemLoc.dma cc0_scratch7.sem) 0 ∗ bigSep Finset.univ (dels c X hX WG WU))))

/-- One trip of the drain loop. -/
theorem drain_step (h3 : k0_cond3 i = 1#1) (k : Fin k0_t5_loop.trips) (acc : Unit) :
    drainInv c X hX WG WU q k acc
    ⊢ wp frame (wpE (defs₀ (F := F)) Variants.none (c : Thread nD τ) none) Set.univ
        (k0_t5_body (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 h3 0#32 1#32 k acc)
      (drainInv c X hX WG WU q (k.val + 1)) := by
  have hk : k.val < k0_t1_loop.trips := k.isLt
  unfold drainInv
  rw [if_pos hk]
  rcases Nat.lt_or_ge (k.val + 1) k0_t1_loop.trips with h1 | h1
  · rw [if_pos h1]
    iintro ⟨-, HT, ⟨%W, HO⟩, HB⟩
    unfold k0_t5_body
    sl_exec (disch := first | as_aux_lemma => exact chk3_of _ _ (hX _) | as_aux_lemma => exact chk4_of _ _ (hX _))
    sl_step
    isplitr; · ipureintro; omega
    isplitl [HT]; · iexact HT
    isplitl [HO]; · iexists _; iexact HO
    rw [show 2 * (k.val + 1) * 1120 = 2 * k.val * 1120 + 1120 + 1120 by omega]
    iexact HB
  · rw [if_neg (Nat.not_lt.mpr h1)]
    iintro ⟨-, HT, ⟨%W, HO⟩, HB⟩
    unfold k0_t5_body
    sl_exec (disch := first | as_aux_lemma => exact chk3_of _ _ (hX _) | as_aux_lemma => exact chk4_of _ _ (hX _))
    sl_step
    isplitr; · ipureintro; omega
    isplitl [HT]; · iexact HT
    isplitl [HO]; · iexists _; iexact HO
    isplitl [HB]; · iexact HB
    iexact HB_all
end Loops
end Issue
end Cert.Kernel.Hand
end
-- ==== Proof.Rows.lean ====
module
public import proofs.«01_k».proof.Proof.Dma
public import Idealize.ShloMosaic.Lib.ValueIdxCore
public import proofs.«01_k».proof.Proof.Gen.Kernel.Skeleton
public import proofs.«01_k».proof.Proof.Gen.Kernel.Launch
public import proofs.«01_k».proof.Proof.Gen.Kernel.Loops
public import Idealize.ShloMosaic.Lib.Batch
public import Idealize.ShloMosaic.Lib.Ring
public import Idealize.ShloMosaic.Lib.Pipeline.FrameBody
public import Idealize.ShloMosaic.Lib.Tactic
public import Idealize.ShloMosaic.Lib.Tactic.Stretches
@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (Pipeline.UD sig nD τ) ℕ

/-! ## Tokens and rows -/

section Generic
variable {ℓ : Loc nD τ sig} {T : ℕ}

/-- An array held whole is what is left after `T` read tokens, beside, of each token, its part on `S k` and its part outside. -/
theorem toks_parts (S : Fin T → Finset (Idx ℓ)) (f : Buf (Elt F) ℓ) :
    (ℓ ↦{fullShare} f : sProp 𝕄) ⊣⊢ iprop(((ℓ ↦{Transfers.shareDrop fullShare T} f) ∗ bigSep Finset.univ (fun k : Fin T => ℓ ↦[Finset.univ \ S k]{Transfers.shareTokN fullShare k.val} f))
      ∗ bigSep Finset.univ (fun k : Fin T => ℓ ↦[S k]{Transfers.shareTokN fullShare k.val} f)) := by
  have e : bigSep Finset.univ (fun i : Fin T => (ℓ ↦{Transfers.shareTokN fullShare i.val} f : sProp 𝕄))
      = iprop(bigSep Finset.univ (fun k : Fin T => ℓ ↦[S k]{Transfers.shareTokN fullShare k.val} f) ∗ bigSep Finset.univ (fun k : Fin T => ℓ ↦[Finset.univ \ S k]{Transfers.shareTokN fullShare k.val} f)) := by
    refine Eq.trans ?_ (BI.bigSep_sep Finset.univ (fun k : Fin T => (ℓ ↦[S k]{Transfers.shareTokN fullShare k.val} f : sProp 𝕄)) (fun k : Fin T => (ℓ ↦[Finset.univ \ S k]{Transfers.shareTokN fullShare k.val} f : sProp 𝕄)))
    refine BI.bigSep_congr fun k _ => ?_
    have h := pointsTo_split_subset (Ix := Unit) (Name := ℕ) (U := Pipeline.UD sig nD τ) (Lvl := ℕ) (ℓ := ℓ) (f := f) (q := Transfers.shareTokN fullShare k.val) (Finset.subset_univ (S k))
    exact BI.equiv_iff.mp ⟨h.1, h.2⟩
  have h : (ℓ ↦{fullShare} f : sProp 𝕄) ⊣⊢ iprop((ℓ ↦{Transfers.shareDrop fullShare T} f) ∗ bigSep Finset.univ (fun i : Fin T => ℓ ↦{Transfers.shareTokN fullShare i.val} f)) :=
    Transfers.pointsTo_toks fullShare T
  constructor
  · iintro H
    ihave H' := h.1 $$ H
    icases H' with ⟨H1, H2⟩
    ihave H2' := (show _ ⊢ _ from Entails.of_eq e) $$ H2
    icases H2' with ⟨H2, H3⟩
    isplitr [H2]
    · isplitl [H1] <;> iassumption
    · iassumption
  · iintro ⟨⟨H1, H3⟩, H2⟩
    iapply h.2
    isplitl [H1]; · iassumption
    iapply (show _ ⊢ _ from Entails.of_eq e.symm)
    isplitl [H2] <;> iassumption

/-- A buffer held whole is its rows, pairwise disjoint, beside the rest of it. -/
theorem rows_parts (I : Fin T → Finset (Idx ℓ)) (hd : ∀ b b', b ≠ b' → Disjoint (I b) (I b')) (f : Buf (Elt F) ℓ) :
    (ℓ ↦{fullShare} f : sProp 𝕄) ⊣⊢ iprop(bigSep Finset.univ (fun k : Fin T => ℓ ↦[I k]{fullShare} f)
      ∗ ℓ ↦[Finset.univ \ Finset.univ.biUnion I]{fullShare} f) := by
  rw [← pointsTo_biUnion Finset.univ I (fun b _ b' _ h => hd b b' h)]
  exact pointsTo_split_subset (Finset.subset_univ _)
end Generic

section Rows
open ValueIdx
theorem div_lt {v : BitVec 32} (h : v.toNat < 5120) : v.toNat / 4 < 1280 := by omega

/-- The rows gathered: row `k` of the buffer is the row of words that holds channel `word X k`; the rest as it was. -/
def rowsOf (X : S100.Idx → BitVec 32) (hX : ∀ y, (X y).toNat < 5120) (W : S1280x8960.Idx → Elt F .i32) (g : S128x8960.Idx → Elt F .i32) : S128x8960.Idx → Elt F .i32 :=
  fun y => if h : (y 0).val < k0_t1_loop.trips then W (ix2 ⟨(word X ⟨(y 0).val, h⟩).toNat / 4, div_lt (hX _)⟩ (y 1)) else g y

variable [∀ e, Nonempty (Elt F e)] (c : Dev nD) (X : S100.Idx → BitVec 32) (hX : ∀ y, (X y).toNat < 5120) (WG WU : S1280x8960.Idx → Elt F .i32)

/-- The elements of row `k`, by their own type. -/
def setG (k : Fin k0_t1_loop.trips) : Finset S128x8960.Idx := (dG k).view.set
theorem setG_eq (k : Fin k0_t1_loop.trips) : setG k = (Rect.unit (s := S128x8960) (k0_off2 k) S1x8960.size (dst_inb k)).set := by
  unfold setG dG; exact View.set_slice_whole _ _
theorem mem_dG (k : Fin k0_t1_loop.trips) (y : S128x8960.Idx) : y ∈ setG k ↔ (y 0).val = k.val := by
  rw [setG_eq, Rect.mem_set_unit]
  have h2 : (y 1).val < 8960 := (y 1).isLt
  have e := k0_off2_eq k
  constructor
  · intro H; have a0 := H 0; rw [e] at a0; have a0 : k.val ≤ (y 0).val ∧ (y 0).val < k.val + 1 := a0; omega
  · intro H a; rw [e]; fin_cases a
    · show k.val ≤ (y 0).val ∧ (y 0).val < k.val + 1; omega
    · show 0 ≤ (y 1).val ∧ (y 1).val < 0 + 8960; omega
theorem dG_disjoint (k k' : Fin k0_t1_loop.trips) (h : k ≠ k') : Disjoint (setG k) (setG k') := by
  rw [Finset.disjoint_left]; intro y hy hy'
  exact h (Fin.ext (((mem_dG k y).mp hy).symm.trans ((mem_dG k' y).mp hy')))
theorem dG_emb (k : Fin k0_t1_loop.trips) (y : S128x8960.Idx) (hy : y ∈ setG k) : (dG k).view.emb (ix2 (0 : Fin 1) (⟨(y 1).val, (y 1).isLt⟩ : Fin 8960)) = y := by
  have h0 := (mem_dG k y).mp hy
  funext a; refine Fin.ext ?_
  fin_cases a
  · show (k0_off2 k) 0 + 1 * 0 = (y 0).val; rw [k0_off2_eq, h0]; rfl
  · show (k0_off2 k) 1 + 1 * (y 1).val = (y 1).val; rw [k0_off2_eq]; show 0 + 1 * (y 1).val = _; omega
theorem landG_eq (g : S128x8960.Idx → Elt F .i32) (k : Fin k0_t1_loop.trips) :
    landG c X hX WG k = ((dG k).view.loc (c : Thread nD τ) ↦[(dG k).view.set]{fullShare} (rowsOf X hX WG g : S128x8960.Idx → Elt F .i32) : sProp 𝕄) := by
  refine pointsTo_congr fun y0 hy0 => ?_
  have y : S128x8960.Idx := y0
  revert hy0
  suffices H : ∀ y : S128x8960.Idx, y ∈ setG k → (dG k).view.writes (Elt F) (dG k).view.junk [⟨Rect.whole S1x8960, ReadAs.same.apply ((sG (wG (F := F) X k) (hwG X hX k)).view.read (Elt F) (asG c (wG (F := F) X k) (hwG X hX k) WG))⟩] y = rowsOf X hX WG g y from H y0
  clear y y0
  intro y hy
  have h0 := (mem_dG k y).mp hy
  have e := dG_emb k y hy
  have e2 : (dG k).view.writes (Elt F) (dG k).view.junk [⟨Rect.whole S1x8960, ReadAs.same.apply ((sG (wG (F := F) X k) (hwG X hX k)).view.read (Elt F) (asG c (wG (F := F) X k) (hwG X hX k) WG))⟩] ((dG k).view.emb (ix2 (0 : Fin 1) (⟨(y 1).val, (y 1).isLt⟩ : Fin 8960)))
      = WG ((sG (wG (F := F) X k) (hwG X hX k)).view.emb (ix2 (0 : Fin 1) (⟨(y 1).val, (y 1).isLt⟩ : Fin 8960))) := by
    have h := View.read_writes_cons_emb (Val := Elt F) (v := (dG k).view) (f := (dG k).view.junk) (Rect.whole S1x8960) (ReadAs.same.apply ((sG (wG (F := F) X k) (hwG X hX k)).view.read (Elt F) (asG c (wG (F := F) X k) (hwG X hX k) WG))) [] (ix2 (0 : Fin 1) (⟨(y 1).val, (y 1).isLt⟩ : Fin 8960))
    rw [Rect.emb_whole_apply] at h
    rw [View.read_apply] at h
    refine Eq.trans (eq_of_heq (cast_eq_iff_heq.mp h)) ?_
    rfl
  have e3 : rowsOf X hX WG g y = WG (ix2 ⟨(word X k).toNat / 4, div_lt (hX _)⟩ (y 1)) := by
    have hk : (y 0).val < k0_t1_loop.trips := by rw [h0]; exact k.isLt
    unfold rowsOf; rw [dif_pos hk]
    have : (⟨(y 0).val, hk⟩ : Fin k0_t1_loop.trips) = k := Fin.ext h0
    simp only [this]
  rw [e3]
  refine Eq.trans (congrArg _ e.symm) (e2.trans ?_)
  refine congrArg WG (funext fun a => Fin.ext ?_)
  fin_cases a
  · show (Scalar.shrsi (wG (F := F) X k) 2#32).toNat + 1 * 0 = (word X k).toNat / 4
    rw [wG_eq, shrsi_two (word X k) (hX _)]; rfl
  · show 0 + 1 * (y 1).val = (y 1).val; omega

/-- What of the words and of the row buffer stays aside while the transfers are on their way. -/
abbrev keepG : sProp 𝕄 :=
  iprop(((Memref.whole main_v25).view.loc (c : Thread nD τ) ↦{Transfers.shareDrop fullShare k0_t1_loop.trips} WG)
    ∗ bigSep Finset.univ (fun k : Fin k0_t1_loop.trips => (Memref.whole main_v25).view.loc (c : Thread nD τ) ↦[Finset.univ \ (sG (wG (F := F) X k) (hwG X hX k)).view.set]{Transfers.shareTokN fullShare k.val} WG))
abbrev spareG (g : S128x8960.Idx → Elt F .i32) : sProp 𝕄 :=
  (Memref.whole cc0_scratch4).view.loc (c : Thread nD τ) ↦[Finset.univ \ Finset.univ.biUnion setG]{fullShare} g
theorem words_G : ((Memref.whole main_v25).view.loc (c : Thread nD τ) ↦{fullShare} WG : sProp 𝕄)
    ⊣⊢ iprop(keepG c X hX WG ∗ bigSep Finset.univ (fun k => tokG c X hX WG k)) :=
  toks_parts (ℓ := (Memref.whole main_v25).view.loc (c : Thread nD τ)) (fun k => (sG (wG (F := F) X k) (hwG X hX k)).view.set) WG
theorem rows_G (g : S128x8960.Idx → Elt F .i32) : ((Memref.whole cc0_scratch4).view.loc (c : Thread nD τ) ↦{fullShare} g : sProp 𝕄)
    ⊣⊢ iprop(bigSep Finset.univ (fun k : Fin k0_t1_loop.trips => (dG k).view.loc (c : Thread nD τ) ↦[(dG k).view.set]{fullShare} (g : S128x8960.Idx → Elt F .i32)) ∗ spareG c g) :=
  rows_parts (ℓ := (Memref.whole cc0_scratch4).view.loc (c : Thread nD τ)) setG dG_disjoint g
theorem spareG_eq (g : S128x8960.Idx → Elt F .i32) : spareG c g = spareG c (rowsOf X hX WG g) := by
  refine pointsTo_congr fun y hy => ?_
  have hn : ¬ (y 0).val < k0_t1_loop.trips := fun h => by
    rw [Finset.mem_sdiff] at hy
    exact hy.2 (Finset.mem_biUnion.mpr ⟨⟨(y 0).val, h⟩, Finset.mem_univ _, (mem_dG _ y).mpr rfl⟩)
  unfold rowsOf; rw [dif_neg hn]

/-- The elements of row `k`, by their own type. -/
def setU (k : Fin k0_t1_loop.trips) : Finset S128x8960.Idx := (dU k).view.set
theorem setU_eq (k : Fin k0_t1_loop.trips) : setU k = (Rect.unit (s := S128x8960) (k0_off5 k) S1x8960.size (dst_inb' k)).set := by
  unfold setU dU; exact View.set_slice_whole _ _
theorem mem_dU (k : Fin k0_t1_loop.trips) (y : S128x8960.Idx) : y ∈ setU k ↔ (y 0).val = k.val := by
  rw [setU_eq, Rect.mem_set_unit]
  have h2 : (y 1).val < 8960 := (y 1).isLt
  have e := k0_off5_eq k
  constructor
  · intro H; have a0 := H 0; rw [e] at a0; have a0 : k.val ≤ (y 0).val ∧ (y 0).val < k.val + 1 := a0; omega
  · intro H a; rw [e]; fin_cases a
    · show k.val ≤ (y 0).val ∧ (y 0).val < k.val + 1; omega
    · show 0 ≤ (y 1).val ∧ (y 1).val < 0 + 8960; omega
theorem dU_disjoint (k k' : Fin k0_t1_loop.trips) (h : k ≠ k') : Disjoint (setU k) (setU k') := by
  rw [Finset.disjoint_left]; intro y hy hy'
  exact h (Fin.ext (((mem_dU k y).mp hy).symm.trans ((mem_dU k' y).mp hy')))
theorem dU_emb (k : Fin k0_t1_loop.trips) (y : S128x8960.Idx) (hy : y ∈ setU k) : (dU k).view.emb (ix2 (0 : Fin 1) (⟨(y 1).val, (y 1).isLt⟩ : Fin 8960)) = y := by
  have h0 := (mem_dU k y).mp hy
  funext a; refine Fin.ext ?_
  fin_cases a
  · show (k0_off5 k) 0 + 1 * 0 = (y 0).val; rw [k0_off5_eq, h0]; rfl
  · show (k0_off5 k) 1 + 1 * (y 1).val = (y 1).val; rw [k0_off5_eq]; show 0 + 1 * (y 1).val = _; omega
theorem landU_eq (g : S128x8960.Idx → Elt F .i32) (k : Fin k0_t1_loop.trips) :
    landU c X hX WU k = ((dU k).view.loc (c : Thread nD τ) ↦[(dU k).view.set]{fullShare} (rowsOf X hX WU g : S128x8960.Idx → Elt F .i32) : sProp 𝕄) := by
  refine pointsTo_congr fun y0 hy0 => ?_
  have y : S128x8960.Idx := y0
  revert hy0
  suffices H : ∀ y : S128x8960.Idx, y ∈ setU k → (dU k).view.writes (Elt F) (dU k).view.junk [⟨Rect.whole S1x8960, ReadAs.same.apply ((sU (wU (F := F) X k) (hwU X hX k)).view.read (Elt F) (asU c (wU (F := F) X k) (hwU X hX k) WU))⟩] y = rowsOf X hX WU g y from H y0
  clear y y0
  intro y hy
  have h0 := (mem_dU k y).mp hy
  have e := dU_emb k y hy
  have e2 : (dU k).view.writes (Elt F) (dU k).view.junk [⟨Rect.whole S1x8960, ReadAs.same.apply ((sU (wU (F := F) X k) (hwU X hX k)).view.read (Elt F) (asU c (wU (F := F) X k) (hwU X hX k) WU))⟩] ((dU k).view.emb (ix2 (0 : Fin 1) (⟨(y 1).val, (y 1).isLt⟩ : Fin 8960)))
      = WU ((sU (wU (F := F) X k) (hwU X hX k)).view.emb (ix2 (0 : Fin 1) (⟨(y 1).val, (y 1).isLt⟩ : Fin 8960))) := by
    have h := View.read_writes_cons_emb (Val := Elt F) (v := (dU k).view) (f := (dU k).view.junk) (Rect.whole S1x8960) (ReadAs.same.apply ((sU (wU (F := F) X k) (hwU X hX k)).view.read (Elt F) (asU c (wU (F := F) X k) (hwU X hX k) WU))) [] (ix2 (0 : Fin 1) (⟨(y 1).val, (y 1).isLt⟩ : Fin 8960))
    rw [Rect.emb_whole_apply] at h
    rw [View.read_apply] at h
    refine Eq.trans (eq_of_heq (cast_eq_iff_heq.mp h)) ?_
    rfl
  have e3 : rowsOf X hX WU g y = WU (ix2 ⟨(word X k).toNat / 4, div_lt (hX _)⟩ (y 1)) := by
    have hk : (y 0).val < k0_t1_loop.trips := by rw [h0]; exact k.isLt
    unfold rowsOf; rw [dif_pos hk]
    have : (⟨(y 0).val, hk⟩ : Fin k0_t1_loop.trips) = k := Fin.ext h0
    simp only [this]
  rw [e3]
  refine Eq.trans (congrArg _ e.symm) (e2.trans ?_)
  refine congrArg WU (funext fun a => Fin.ext ?_)
  fin_cases a
  · show (Scalar.shrsi (wU (F := F) X k) 2#32).toNat + 1 * 0 = (word X k).toNat / 4
    rw [wU_eq, shrsi_two (word X k) (hX _)]; rfl
  · show 0 + 1 * (y 1).val = (y 1).val; omega

/-- What of the words and of the row buffer stays aside while the transfers are on their way. -/
abbrev keepU : sProp 𝕄 :=
  iprop(((Memref.whole main_v44).view.loc (c : Thread nD τ) ↦{Transfers.shareDrop fullShare k0_t1_loop.trips} WU)
    ∗ bigSep Finset.univ (fun k : Fin k0_t1_loop.trips => (Memref.whole main_v44).view.loc (c : Thread nD τ) ↦[Finset.univ \ (sU (wU (F := F) X k) (hwU X hX k)).view.set]{Transfers.shareTokN fullShare k.val} WU))
abbrev spareU (g : S128x8960.Idx → Elt F .i32) : sProp 𝕄 :=
  (Memref.whole cc0_scratch5).view.loc (c : Thread nD τ) ↦[Finset.univ \ Finset.univ.biUnion setU]{fullShare} g
theorem words_U : ((Memref.whole main_v44).view.loc (c : Thread nD τ) ↦{fullShare} WU : sProp 𝕄)
    ⊣⊢ iprop(keepU c X hX WU ∗ bigSep Finset.univ (fun k => tokU c X hX WU k)) :=
  toks_parts (ℓ := (Memref.whole main_v44).view.loc (c : Thread nD τ)) (fun k => (sU (wU (F := F) X k) (hwU X hX k)).view.set) WU
theorem rows_U (g : S128x8960.Idx → Elt F .i32) : ((Memref.whole cc0_scratch5).view.loc (c : Thread nD τ) ↦{fullShare} g : sProp 𝕄)
    ⊣⊢ iprop(bigSep Finset.univ (fun k : Fin k0_t1_loop.trips => (dU k).view.loc (c : Thread nD τ) ↦[(dU k).view.set]{fullShare} (g : S128x8960.Idx → Elt F .i32)) ∗ spareU c g) :=
  rows_parts (ℓ := (Memref.whole cc0_scratch5).view.loc (c : Thread nD τ)) setU dU_disjoint g
theorem spareU_eq (g : S128x8960.Idx → Elt F .i32) : spareU c g = spareU c (rowsOf X hX WU g) := by
  refine pointsTo_congr fun y hy => ?_
  have hn : ¬ (y 0).val < k0_t1_loop.trips := fun h => by
    rw [Finset.mem_sdiff] at hy
    exact hy.2 (Finset.mem_biUnion.mpr ⟨⟨(y 0).val, h⟩, Finset.mem_univ _, (mem_dU _ y).mpr rfl⟩)
  unfold rowsOf; rw [dif_neg hn]

end Rows

/-! ## Everything the transfers take and bring back -/

section Flight
variable [∀ e, Nonempty (Elt F e)] (c : Dev nD) (X : S100.Idx → BitVec 32) (hX : ∀ y, (X y).toNat < 5120) (WG WU : S1280x8960.Idx → Elt F .i32)

theorem del_G : bigSep (Finset.range k0_t1_loop.trips) (delG c X hX WG)
    = (iprop(bigSep Finset.univ (fun k => landG (F := F) c X hX WG k) ∗ bigSep Finset.univ (fun k => tokG (F := F) c X hX WG k)) : sProp 𝕄) := by
  rw [← Ring.bigSep_fin_eq_range k0_t1_loop.trips (fun k => (iprop(landG (F := F) c X hX WG k ∗ tokG c X hX WG k) : sProp 𝕄)) (delG c X hX WG) (fun k h => dif_pos h)]
  exact BI.bigSep_sep _ _ _
theorem del_U : bigSep (Finset.range k0_t1_loop.trips) (delU c X hX WU)
    = (iprop(bigSep Finset.univ (fun k => landU (F := F) c X hX WU k) ∗ bigSep Finset.univ (fun k => tokU (F := F) c X hX WU k)) : sProp 𝕄) := by
  rw [← Ring.bigSep_fin_eq_range k0_t1_loop.trips (fun k => (iprop(landU (F := F) c X hX WU k ∗ tokU c X hX WU k) : sProp 𝕄)) (delU c X hX WU) (fun k h => dif_pos h)]
  exact BI.bigSep_sep _ _ _

/-- The words and the row buffers at rest. -/
abbrev atRest (g4 g5 : S128x8960.Idx → Elt F .i32) : sProp 𝕄 :=
  iprop(((Memref.whole main_v25).view.loc (c : Thread nD τ) ↦{fullShare} WG) ∗ ((Memref.whole main_v44).view.loc (c : Thread nD τ) ↦{fullShare} WU)
    ∗ ((Memref.whole cc0_scratch4).view.loc (c : Thread nD τ) ↦{fullShare} g4) ∗ ((Memref.whole cc0_scratch5).view.loc (c : Thread nD τ) ↦{fullShare} g5))
/-- What stays aside of them while the transfers are on their way. -/
def aside (g4 g5 : S128x8960.Idx → Elt F .i32) : sProp 𝕄 :=
  iprop(keepG c X hX WG ∗ keepU c X hX WU ∗ spareG c g4 ∗ spareU c g5)

omit [∀ e, Nonempty (Elt F e)] in
theorem zip4 {n : ℕ} (P Q R S : Fin n → sProp 𝕄) :
    iprop(bigSep Finset.univ P ∗ bigSep Finset.univ Q ∗ bigSep Finset.univ R ∗ bigSep Finset.univ S) ⊢ bigSep Finset.univ (fun k => iprop(P k ∗ Q k ∗ R k ∗ S k)) := by
  have e : bigSep Finset.univ (fun k => iprop(P k ∗ Q k ∗ R k ∗ S k)) = iprop(bigSep Finset.univ P ∗ bigSep Finset.univ Q ∗ bigSep Finset.univ R ∗ bigSep Finset.univ S) :=
    (BI.bigSep_sep _ _ _).trans (congrArg _ ((BI.bigSep_sep _ _ _).trans (congrArg _ (BI.bigSep_sep _ _ _))))
  exact Entails.of_eq e.symm

theorem someG (g : S128x8960.Idx → Elt F .i32) :
    bigSep Finset.univ (fun k : Fin k0_t1_loop.trips => (dG k).view.loc (c : Thread nD τ) ↦[(dG k).view.set]{fullShare} g)
      ⊢ (bigSep Finset.univ (fun k : Fin k0_t1_loop.trips => iprop(∃ g, (dG k).view.loc (c : Thread nD τ) ↦[(dG k).view.set]{fullShare} g)) : sProp 𝕄) := by
  apply BI.bigSep_mono
  intro k _
  exact BI.Laws.exists_intro_trans (Ψ := fun g => ((dG k).view.loc (c : Thread nD τ) ↦[(dG k).view.set]{fullShare} g : sProp 𝕄)) g (Entails.refl _)
theorem someU (g : S128x8960.Idx → Elt F .i32) :
    bigSep Finset.univ (fun k : Fin k0_t1_loop.trips => (dU k).view.loc (c : Thread nD τ) ↦[(dU k).view.set]{fullShare} g)
      ⊢ (bigSep Finset.univ (fun k : Fin k0_t1_loop.trips => iprop(∃ g, (dU k).view.loc (c : Thread nD τ) ↦[(dU k).view.set]{fullShare} g)) : sProp 𝕄) := by
  apply BI.bigSep_mono
  intro k _
  exact BI.Laws.exists_intro_trans (Ψ := fun g => ((dU k).view.loc (c : Thread nD τ) ↦[(dU k).view.set]{fullShare} g : sProp 𝕄)) g (Entails.refl _)
theorem depart (g4 g5 : S128x8960.Idx → Elt F .i32) :
    atRest c WG WU g4 g5 ⊢ iprop(bigSep (Ring.rangeSet k0_t1_loop.trips 0 k0_t1_loop.trips) (blk c X hX WG WU) ∗ aside c X hX WG WU g4 g5) := by
  iintro ⟨HG, HU, H4, H5⟩
  ihave HG := (words_G c X hX WG).1 $$ HG
  ihave HU := (words_U c X hX WU).1 $$ HU
  ihave H4 := (rows_G c g4).1 $$ H4
  ihave H5 := (rows_U c g5).1 $$ H5
  icases HG with ⟨HkG, HG⟩
  icases HU with ⟨HkU, HU⟩
  icases H4 with ⟨H4, Hs4⟩
  icases H5 with ⟨H5, Hs5⟩
  isplitl [HG HU H4 H5]
  · rw [Ring.rangeSet_univ]
    ihave H4 := (someG c g4) $$ H4
    ihave H5 := (someU c g5) $$ H5
    unfold blk
    iapply (zip4 _ _ _ _)
    isplitl [H4]; · iexact H4
    isplitl [H5]; · iexact H5
    isplitl [HG]; · iexact HG
    iexact HU
  · unfold aside
    isplitl [HkG]; · iexact HkG
    isplitl [HkU]; · iexact HkU
    isplitl [Hs4] <;> iassumption

theorem arrive (g4 g5 : S128x8960.Idx → Elt F .i32) :
    iprop(bigSep Finset.univ (dels c X hX WG WU) ∗ aside c X hX WG WU g4 g5) ⊢ (atRest c WG WU (rowsOf X hX WG g4) (rowsOf X hX WU g5) : sProp 𝕄) := by
  unfold dels aside
  rw [Ring.bigSep_interleaved, del_G, del_U, spareG_eq c X hX WG, spareU_eq c X hX WU]
  iintro ⟨⟨⟨H4, HG⟩, ⟨H5, HU⟩⟩, HkG, HkU, Hs4, Hs5⟩
  isplitl [HG HkG]
  · iapply (words_G c X hX WG).2; isplitl [HkG] <;> iassumption
  isplitl [HU HkU]
  · iapply (words_U c X hX WU).2; isplitl [HkU] <;> iassumption
  isplitl [H4 Hs4]
  · iapply (rows_G c (rowsOf X hX WG g4)).2
    isplitl [H4]
    · iapply (show bigSep Finset.univ (fun k => landG c X hX WG k) ⊢ _ from Entails.of_eq (BI.bigSep_congr fun k _ => landG_eq c X hX WG g4 k)); iexact H4
    · iexact Hs4
  · iapply (rows_U c (rowsOf X hX WU g5)).2
    isplitl [H5]
    · iapply (show bigSep Finset.univ (fun k => landU c X hX WU k) ⊢ _ from Entails.of_eq (BI.bigSep_congr fun k _ => landU_eq c X hX WU g5 k)); iexact H5
    · iexact Hs5
end Flight

end Cert.Kernel.Hand
end
-- ==== Proof.Trips.lean ====
module
public import proofs.«01_k».proof.Proof.Rows
public import proofs.«01_k».proof.Proof.Gen.Kernel.Skeleton
public import proofs.«01_k».proof.Proof.Gen.Kernel.Launch
public import proofs.«01_k».proof.Proof.Gen.Kernel.Loops
public import Idealize.ShloMosaic.Lib.Batch
public import Idealize.ShloMosaic.Lib.Ring
public import Idealize.ShloMosaic.Lib.Pipeline.FrameBody
public import Idealize.ShloMosaic.Lib.Tactic
public import Idealize.ShloMosaic.Lib.Tactic.Stretches
@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (Pipeline.UD sig nD τ) ℕ

/-! ## The contents a counted loop leaves -/

/-- The contents before trip `k` of a loop whose trip `j` takes contents `f` to `step j f`. -/
def cont {C : Type} (n : ℕ) (step : Fin n → C → C) (f : C) : ℕ → C
  | 0 => f
  | k + 1 => if h : k < n then step ⟨k, h⟩ (cont n step f k) else cont n step f k
theorem cont_succ {C : Type} {n : ℕ} (step : Fin n → C → C) (f : C) (k : Fin n) :
    cont n step f (k.val + 1) = step k (cont n step f k.val) := dif_pos k.isLt

section Trips
variable (c : Dev nD) (i : grid0.Coords)
  (arg3 : Memref sig .tc .vmem S1x256 .i32) (harg3 : arg3.IsWhole) (arg4 : Memref sig .tc .vmem S2x5120 .bf16) (harg4 : arg4.IsWhole) (arg5 : Memref sig .tc .vmem S1280x256 .i32) (harg5 : arg5.IsWhole) (arg6 : Memref sig .tc .vmem S1280x256 .i32) (harg6 : arg6.IsWhole) (arg7 : Memref sig .tc .vmem S40x17920 .bf16) (harg7 : arg7.IsWhole) (arg8 : Memref sig .tc .vmem S40x17920 .bf16) (harg8 : arg8.IsWhole) (arg9 : Memref sig .tc .vmem S40x17920 .i8) (harg9 : arg9.IsWhole) (arg10 : Memref sig .tc .vmem S40x17920 .i8) (harg10 : arg10.IsWhole) (arg11 : Memref sig .tc .vmem S1x5120 .bf16) (harg11 : arg11.IsWhole) (arg12 : Memref sig .tc .vmem S1x5120 .bf16) (harg12 : arg12.IsWhole) (arg15 : Memref sig .tc .vmem S2x1x17920 .bf16) (harg15 : arg15.IsWhole) (arg16 : Memref sig .tc .vmem S2x1x17920 .f32) (harg16 : arg16.IsWhole) (arg17 : Memref sig .tc .vmem S2x1x17920 .f32) (harg17 : arg17.IsWhole) (arg18 : Memref sig .tc .vmem S16x20480 .bf16) (harg18 : arg18.IsWhole) (arg19 : Memref sig .tc .vmem S5x2x320x2x128 .f32) (harg19 : arg19.IsWhole) (arg20 : Memref sig .tc .vmem S5x2x320x2x128 .f32) (harg20 : arg20.IsWhole) (arg21 : Memref sig .tc .vmem S5x16x256 .f32) (harg21 : arg21.IsWhole) (arg24 : Memref sig .tc .vmem S128x128 .i32) (harg24 : arg24.IsWhole)

/-- What one trip of loop 2 reads, and what it writes at contents `f`. -/
abbrev trip2R (X_arg4 : BufTy.Contents (Elt F) arg4.view.ty) (f : BufTy.Contents (Elt F) arg18.view.ty) : sProp 𝕄 :=
  iprop((arg4.view.loc (c : Thread nD τ) ↦[arg4.view.set]{fullShare} X_arg4) ∗ (arg18.view.loc (c : Thread nD τ) ↦[arg18.view.set]{fullShare} f))
/-- One trip of loop 2: the pieces it writes over the contents it finds. -/
@[irreducible] def trip2 (k0_h1 : k0_cond1 i = 1#1) (v18 : IVec S8x128 32) (X_arg4 : BufTy.Contents (Elt F) arg4.view.ty) (k : Fin k0_t2_loop.trips) :
    { L : BufTy.Contents (Elt F) arg18.view.ty → List (View.Piece (Elt F) S16x20480 .bf16) // ∀ f, trip2R c arg4 arg18 X_arg4 f
      ⊢ wp frame (wpE (defs₀ (F := F)) Variants.none (c : Thread nD τ) none) Set.univ (k0_t2_body (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 k0_h1 v18 k PUnit.unit)
          (fun _ => trip2R c arg4 arg18 X_arg4 (arg18.view.writes (Elt F) f (L f))) } := by
  have hk : k.val < 40 := Nat.lt_of_lt_of_le k.isLt k0_t2_abs.2.1
  refine ⟨?_, fun f => ?run⟩
  case run =>
    unfold k0_t2_body
    iintro ⟨HR_arg4, HW⟩
    sl_exec
    sl_step
    sl_close
/-- What trip `k` of loop 2 leaves of contents `f`. -/
def step2 (k0_h1 : k0_cond1 i = 1#1) (v18 : IVec S8x128 32) (X_arg4 : BufTy.Contents (Elt F) arg4.view.ty) (k : Fin k0_t2_loop.trips) (f : BufTy.Contents (Elt F) arg18.view.ty) : BufTy.Contents (Elt F) arg18.view.ty :=
  arg18.view.writes (Elt F) f ((trip2 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h1 v18 X_arg4 k).1 f)
/-- What loop 2 has made of contents `g` before trip `k`. -/
def cont2 (k0_h1 : k0_cond1 i = 1#1) (v18 : IVec S8x128 32) (X_arg4 : BufTy.Contents (Elt F) arg4.view.ty) (g : BufTy.Contents (Elt F) arg18.view.ty) (k : ℕ) : BufTy.Contents (Elt F) arg18.view.ty :=
  cont k0_t2_loop.trips (step2 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h1 v18 X_arg4) g k
set_option warn.classDefReducibility false in
/-- Loop 2 by its invariant. -/
@[sl_loop] def loop2 (k0_h1 : k0_cond1 i = 1#1) (v18 : IVec S8x128 32) (X_arg4 : BufTy.Contents (Elt F) arg4.view.ty) (g : BufTy.Contents (Elt F) arg18.view.ty) :
    Gen.LoopInvTy_k0_t2 (F := F) Unit ℕ (Pipeline.UD sig nD τ) ℕ Variants.none c none Set.univ i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 k0_h1 v18 where
  inv k _ := iprop((arg4.view.loc (c : Thread nD τ) ↦[arg4.view.set]{fullShare} X_arg4) ∗ (∃ f, (arg18.view.loc (c : Thread nD τ) ↦[arg18.view.set]{fullShare} f) ∗ ⌜f = cont2 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h1 v18 X_arg4 g k⌝))
  step k acc := by
    iintro ⟨HR_arg4, ⟨%f, HW, %h⟩⟩
    iapply (wp_wand_r Idealize.ShloMosaic.frame (wpE (defs₀ (F := F)) Variants.none (c : Thread nD τ) none) Set.univ)
    isplitl [HR_arg4 HW]
    · iapply ((trip2 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h1 v18 X_arg4 k).2 f)
      isplitl [HR_arg4]; · iexact HR_arg4
      iexact HW
    · iintro %_ ⟨HR_arg4, HW⟩
      isplitl [HR_arg4]; · iexact HR_arg4
      iexists _; isplitl [HW]; · iexact HW
      ipureintro
      rw [h]
      exact (cont_succ (step2 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h1 v18 X_arg4) g k).symm

/-- What one trip of loop 3 reads, and what it writes at contents `f`. -/
abbrev trip3R (X_arg5 : BufTy.Contents (Elt F) arg5.view.ty) (X_arg6 : BufTy.Contents (Elt F) arg6.view.ty) (X_arg18 : BufTy.Contents (Elt F) arg18.view.ty) (X_arg19 : BufTy.Contents (Elt F) arg19.view.ty) (X_arg20 : BufTy.Contents (Elt F) arg20.view.ty) (f : BufTy.Contents (Elt F) arg21.view.ty) : sProp 𝕄 :=
  iprop((arg5.view.loc (c : Thread nD τ) ↦[arg5.view.set]{fullShare} X_arg5) ∗ (arg6.view.loc (c : Thread nD τ) ↦[arg6.view.set]{fullShare} X_arg6) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} f))
/-- One trip of loop 3: the pieces it writes over the contents it finds. -/
@[irreducible] def trip3 (arg1 : BitVec 32) (X_arg5 : BufTy.Contents (Elt F) arg5.view.ty) (X_arg6 : BufTy.Contents (Elt F) arg6.view.ty) (X_arg18 : BufTy.Contents (Elt F) arg18.view.ty) (X_arg19 : BufTy.Contents (Elt F) arg19.view.ty) (X_arg20 : BufTy.Contents (Elt F) arg20.view.ty) (k : Fin k0_t3_loop.trips) :
    { L : BufTy.Contents (Elt F) arg21.view.ty → List (View.Piece (Elt F) S5x16x256 .f32) // ∀ f, trip3R c arg5 arg6 arg18 arg19 arg20 arg21 X_arg5 X_arg6 X_arg18 X_arg19 X_arg20 f
      ⊢ wp frame (wpE (defs₀ (F := F)) Variants.none (c : Thread nD τ) none) Set.univ (k0_t3_body (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 arg1 k PUnit.unit)
          (fun _ => trip3R c arg5 arg6 arg18 arg19 arg20 arg21 X_arg5 X_arg6 X_arg18 X_arg19 X_arg20 (arg21.view.writes (Elt F) f (L f))) } := by
  have hk : k.val < 10 := Nat.lt_of_lt_of_le k.isLt k0_t3_abs.2.1
  refine ⟨?_, fun f => ?run⟩
  case run =>
    unfold k0_t3_body
    iintro ⟨HR_arg5, HR_arg6, HR_arg18, HR_arg19, HR_arg20, HW⟩
    sl_exec
    sl_step
    sl_close
/-- What trip `k` of loop 3 leaves of contents `f`. -/
def step3 (arg1 : BitVec 32) (X_arg5 : BufTy.Contents (Elt F) arg5.view.ty) (X_arg6 : BufTy.Contents (Elt F) arg6.view.ty) (X_arg18 : BufTy.Contents (Elt F) arg18.view.ty) (X_arg19 : BufTy.Contents (Elt F) arg19.view.ty) (X_arg20 : BufTy.Contents (Elt F) arg20.view.ty) (k : Fin k0_t3_loop.trips) (f : BufTy.Contents (Elt F) arg21.view.ty) : BufTy.Contents (Elt F) arg21.view.ty :=
  arg21.view.writes (Elt F) f ((trip3 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 arg1 X_arg5 X_arg6 X_arg18 X_arg19 X_arg20 k).1 f)
/-- What loop 3 has made of contents `g` before trip `k`. -/
def cont3 (arg1 : BitVec 32) (X_arg5 : BufTy.Contents (Elt F) arg5.view.ty) (X_arg6 : BufTy.Contents (Elt F) arg6.view.ty) (X_arg18 : BufTy.Contents (Elt F) arg18.view.ty) (X_arg19 : BufTy.Contents (Elt F) arg19.view.ty) (X_arg20 : BufTy.Contents (Elt F) arg20.view.ty) (g : BufTy.Contents (Elt F) arg21.view.ty) (k : ℕ) : BufTy.Contents (Elt F) arg21.view.ty :=
  cont k0_t3_loop.trips (step3 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 arg1 X_arg5 X_arg6 X_arg18 X_arg19 X_arg20) g k
set_option warn.classDefReducibility false in
/-- Loop 3 by its invariant. -/
@[sl_loop] def loop3 (arg1 : BitVec 32) (X_arg5 : BufTy.Contents (Elt F) arg5.view.ty) (X_arg6 : BufTy.Contents (Elt F) arg6.view.ty) (X_arg18 : BufTy.Contents (Elt F) arg18.view.ty) (X_arg19 : BufTy.Contents (Elt F) arg19.view.ty) (X_arg20 : BufTy.Contents (Elt F) arg20.view.ty) (g : BufTy.Contents (Elt F) arg21.view.ty) :
    Gen.LoopInvTy_k0_t3 (F := F) Unit ℕ (Pipeline.UD sig nD τ) ℕ Variants.none c none Set.univ i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 arg1 where
  inv k _ := iprop((arg5.view.loc (c : Thread nD τ) ↦[arg5.view.set]{fullShare} X_arg5) ∗ (arg6.view.loc (c : Thread nD τ) ↦[arg6.view.set]{fullShare} X_arg6) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (∃ f, (arg21.view.loc (c : Thread nD τ) ↦[arg21.view.set]{fullShare} f) ∗ ⌜f = cont3 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 arg1 X_arg5 X_arg6 X_arg18 X_arg19 X_arg20 g k⌝))
  step k acc := by
    iintro ⟨HR_arg5, HR_arg6, HR_arg18, HR_arg19, HR_arg20, ⟨%f, HW, %h⟩⟩
    iapply (wp_wand_r Idealize.ShloMosaic.frame (wpE (defs₀ (F := F)) Variants.none (c : Thread nD τ) none) Set.univ)
    isplitl [HR_arg5 HR_arg6 HR_arg18 HR_arg19 HR_arg20 HW]
    · iapply ((trip3 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 arg1 X_arg5 X_arg6 X_arg18 X_arg19 X_arg20 k).2 f)
      isplitl [HR_arg5]; · iexact HR_arg5
      isplitl [HR_arg6]; · iexact HR_arg6
      isplitl [HR_arg18]; · iexact HR_arg18
      isplitl [HR_arg19]; · iexact HR_arg19
      isplitl [HR_arg20]; · iexact HR_arg20
      iexact HW
    · iintro %_ ⟨HR_arg5, HR_arg6, HR_arg18, HR_arg19, HR_arg20, HW⟩
      isplitl [HR_arg5]; · iexact HR_arg5
      isplitl [HR_arg6]; · iexact HR_arg6
      isplitl [HR_arg18]; · iexact HR_arg18
      isplitl [HR_arg19]; · iexact HR_arg19
      isplitl [HR_arg20]; · iexact HR_arg20
      iexists _; isplitl [HW]; · iexact HW
      ipureintro
      rw [h]
      exact (cont_succ (step3 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 arg1 X_arg5 X_arg6 X_arg18 X_arg19 X_arg20) g k).symm

/-- What one trip of loop 4 reads, and what it writes at contents `f`. -/
abbrev trip4R (q : PosShare TreeShare) (X_arg2 : BufTy.Contents (Elt F) (Memref.whole main_arg1).view.ty) (f : BufTy.Contents (Elt F) arg24.view.ty) : sProp 𝕄 :=
  iprop(((Memref.whole main_arg1).view.loc (c : Thread nD τ) ↦[(Memref.whole main_arg1).view.set]{q} X_arg2) ∗ (arg24.view.loc (c : Thread nD τ) ↦[arg24.view.set]{fullShare} f))
/-- One trip of loop 4: the pieces it writes over the contents it finds. -/
@[irreducible] def trip4 (q : PosShare TreeShare) (k0_h3 : k0_cond3 i = 1#1) (c0_i32_12 : BitVec 32) (c1_i32_13 : BitVec 32) (X_arg2 : BufTy.Contents (Elt F) (Memref.whole main_arg1).view.ty) (k : Fin k0_t4_loop.trips) :
    { L : BufTy.Contents (Elt F) arg24.view.ty → List (View.Piece (Elt F) S128x128 .i32) // ∀ f, trip4R c arg24 q X_arg2 f
      ⊢ wp frame (wpE (defs₀ (F := F)) Variants.none (c : Thread nD τ) none) Set.univ (k0_t4_body (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 k0_h3 c0_i32_12 c1_i32_13 k PUnit.unit)
          (fun _ => trip4R c arg24 q X_arg2 (arg24.view.writes (Elt F) f (L f))) } := by
  have hk : k.val < 100 := Nat.lt_of_lt_of_le k.isLt k0_t4_abs.2.1
  refine ⟨?_, fun f => ?run⟩
  case run =>
    unfold k0_t4_body
    iintro ⟨HR_arg2, HW⟩
    sl_exec
    sl_step
    sl_close
/-- What trip `k` of loop 4 leaves of contents `f`. -/
def step4 (q : PosShare TreeShare) (k0_h3 : k0_cond3 i = 1#1) (c0_i32_12 : BitVec 32) (c1_i32_13 : BitVec 32) (X_arg2 : BufTy.Contents (Elt F) (Memref.whole main_arg1).view.ty) (k : Fin k0_t4_loop.trips) (f : BufTy.Contents (Elt F) arg24.view.ty) : BufTy.Contents (Elt F) arg24.view.ty :=
  arg24.view.writes (Elt F) f ((trip4 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q k0_h3 c0_i32_12 c1_i32_13 X_arg2 k).1 f)
/-- What loop 4 has made of contents `g` before trip `k`. -/
def cont4 (q : PosShare TreeShare) (k0_h3 : k0_cond3 i = 1#1) (c0_i32_12 : BitVec 32) (c1_i32_13 : BitVec 32) (X_arg2 : BufTy.Contents (Elt F) (Memref.whole main_arg1).view.ty) (g : BufTy.Contents (Elt F) arg24.view.ty) (k : ℕ) : BufTy.Contents (Elt F) arg24.view.ty :=
  cont k0_t4_loop.trips (step4 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q k0_h3 c0_i32_12 c1_i32_13 X_arg2) g k
set_option warn.classDefReducibility false in
/-- Loop 4 by its invariant. -/
@[sl_loop] def loop4 (q : PosShare TreeShare) (k0_h3 : k0_cond3 i = 1#1) (c0_i32_12 : BitVec 32) (c1_i32_13 : BitVec 32) (X_arg2 : BufTy.Contents (Elt F) (Memref.whole main_arg1).view.ty) (g : BufTy.Contents (Elt F) arg24.view.ty) :
    Gen.LoopInvTy_k0_t4 (F := F) Unit ℕ (Pipeline.UD sig nD τ) ℕ Variants.none c none Set.univ i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 k0_h3 c0_i32_12 c1_i32_13 where
  inv k _ := iprop(((Memref.whole main_arg1).view.loc (c : Thread nD τ) ↦[(Memref.whole main_arg1).view.set]{q} X_arg2) ∗ (∃ f, (arg24.view.loc (c : Thread nD τ) ↦[arg24.view.set]{fullShare} f) ∗ ⌜f = cont4 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q k0_h3 c0_i32_12 c1_i32_13 X_arg2 g k⌝))
  step k acc := by
    iintro ⟨HR_arg2, ⟨%f, HW, %h⟩⟩
    iapply (wp_wand_r Idealize.ShloMosaic.frame (wpE (defs₀ (F := F)) Variants.none (c : Thread nD τ) none) Set.univ)
    isplitl [HR_arg2 HW]
    · iapply ((trip4 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q k0_h3 c0_i32_12 c1_i32_13 X_arg2 k).2 f)
      isplitl [HR_arg2]; · iexact HR_arg2
      iexact HW
    · iintro %_ ⟨HR_arg2, HW⟩
      isplitl [HR_arg2]; · iexact HR_arg2
      iexists _; isplitl [HW]; · iexact HW
      ipureintro
      rw [h]
      exact (cont_succ (step4 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q k0_h3 c0_i32_12 c1_i32_13 X_arg2) g k).symm

/-- What one trip of loop 6 reads, and what it writes at contents `f`. -/
abbrev trip6R (X_arg22 : BufTy.Contents (Elt F) (Memref.whole cc0_scratch4).view.ty) (f : BufTy.Contents (Elt F) arg16.view.ty) : sProp 𝕄 :=
  iprop(((Memref.whole cc0_scratch4).view.loc (c : Thread nD τ) ↦[(Memref.whole cc0_scratch4).view.set]{fullShare} X_arg22) ∗ (arg16.view.loc (c : Thread nD τ) ↦[arg16.view.set]{fullShare} f))
/-- One trip of loop 6: the pieces it writes over the contents it finds. -/
@[irreducible] def trip6 (k0_h3 : k0_cond3 i = 1#1) (v27 : IVec S128x256 32) (v67 : FVec F S16x256 .bf16) (v80 : FVec F S256x256 .bf16) (v85 : IVec S8x128 32) (c0_i32_45 : BitVec 32) (c1_i32_46 : BitVec 32) (X_arg22 : BufTy.Contents (Elt F) (Memref.whole cc0_scratch4).view.ty) (k : Fin k0_t6_loop.trips) :
    { L : BufTy.Contents (Elt F) arg16.view.ty → List (View.Piece (Elt F) S2x1x17920 .f32) // ∀ f, trip6R c arg16 X_arg22 f
      ⊢ wp frame (wpE (defs₀ (F := F)) Variants.none (c : Thread nD τ) none) Set.univ (k0_t6_body (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 k0_h3 v27 v67 v80 v85 c0_i32_45 c1_i32_46 k PUnit.unit)
          (fun _ => trip6R c arg16 X_arg22 (arg16.view.writes (Elt F) f (L f))) } := by
  have hk : k.val < 35 := Nat.lt_of_lt_of_le k.isLt k0_t6_abs.2.1
  refine ⟨?_, fun f => ?run⟩
  case run =>
    unfold k0_t6_body
    iintro ⟨HR_arg22, HW⟩
    sl_exec
    sl_step
    sl_close
/-- What trip `k` of loop 6 leaves of contents `f`. -/
def step6 (k0_h3 : k0_cond3 i = 1#1) (v27 : IVec S128x256 32) (v67 : FVec F S16x256 .bf16) (v80 : FVec F S256x256 .bf16) (v85 : IVec S8x128 32) (c0_i32_45 : BitVec 32) (c1_i32_46 : BitVec 32) (X_arg22 : BufTy.Contents (Elt F) (Memref.whole cc0_scratch4).view.ty) (k : Fin k0_t6_loop.trips) (f : BufTy.Contents (Elt F) arg16.view.ty) : BufTy.Contents (Elt F) arg16.view.ty :=
  arg16.view.writes (Elt F) f ((trip6 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v80 v85 c0_i32_45 c1_i32_46 X_arg22 k).1 f)
/-- What loop 6 has made of contents `g` before trip `k`. -/
def cont6 (k0_h3 : k0_cond3 i = 1#1) (v27 : IVec S128x256 32) (v67 : FVec F S16x256 .bf16) (v80 : FVec F S256x256 .bf16) (v85 : IVec S8x128 32) (c0_i32_45 : BitVec 32) (c1_i32_46 : BitVec 32) (X_arg22 : BufTy.Contents (Elt F) (Memref.whole cc0_scratch4).view.ty) (g : BufTy.Contents (Elt F) arg16.view.ty) (k : ℕ) : BufTy.Contents (Elt F) arg16.view.ty :=
  cont k0_t6_loop.trips (step6 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v80 v85 c0_i32_45 c1_i32_46 X_arg22) g k
set_option warn.classDefReducibility false in
/-- Loop 6 by its invariant. -/
@[sl_loop] def loop6 (k0_h3 : k0_cond3 i = 1#1) (v27 : IVec S128x256 32) (v67 : FVec F S16x256 .bf16) (v80 : FVec F S256x256 .bf16) (v85 : IVec S8x128 32) (c0_i32_45 : BitVec 32) (c1_i32_46 : BitVec 32) (X_arg22 : BufTy.Contents (Elt F) (Memref.whole cc0_scratch4).view.ty) (g : BufTy.Contents (Elt F) arg16.view.ty) :
    Gen.LoopInvTy_k0_t6 (F := F) Unit ℕ (Pipeline.UD sig nD τ) ℕ Variants.none c none Set.univ i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 k0_h3 v27 v67 v80 v85 c0_i32_45 c1_i32_46 where
  inv k _ := iprop(((Memref.whole cc0_scratch4).view.loc (c : Thread nD τ) ↦[(Memref.whole cc0_scratch4).view.set]{fullShare} X_arg22) ∗ (∃ f, (arg16.view.loc (c : Thread nD τ) ↦[arg16.view.set]{fullShare} f) ∗ ⌜f = cont6 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v80 v85 c0_i32_45 c1_i32_46 X_arg22 g k⌝))
  step k acc := by
    iintro ⟨HR_arg22, ⟨%f, HW, %h⟩⟩
    iapply (wp_wand_r Idealize.ShloMosaic.frame (wpE (defs₀ (F := F)) Variants.none (c : Thread nD τ) none) Set.univ)
    isplitl [HR_arg22 HW]
    · iapply ((trip6 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v80 v85 c0_i32_45 c1_i32_46 X_arg22 k).2 f)
      isplitl [HR_arg22]; · iexact HR_arg22
      iexact HW
    · iintro %_ ⟨HR_arg22, HW⟩
      isplitl [HR_arg22]; · iexact HR_arg22
      iexists _; isplitl [HW]; · iexact HW
      ipureintro
      rw [h]
      exact (cont_succ (step6 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v80 v85 c0_i32_45 c1_i32_46 X_arg22) g k).symm

/-- What one trip of loop 7 reads, and what it writes at contents `f`. -/
abbrev trip7R (X_arg23 : BufTy.Contents (Elt F) (Memref.whole cc0_scratch5).view.ty) (f : BufTy.Contents (Elt F) arg17.view.ty) : sProp 𝕄 :=
  iprop(((Memref.whole cc0_scratch5).view.loc (c : Thread nD τ) ↦[(Memref.whole cc0_scratch5).view.set]{fullShare} X_arg23) ∗ (arg17.view.loc (c : Thread nD τ) ↦[arg17.view.set]{fullShare} f))
/-- One trip of loop 7: the pieces it writes over the contents it finds. -/
@[irreducible] def trip7 (k0_h3 : k0_cond3 i = 1#1) (v27 : IVec S128x256 32) (v67 : FVec F S16x256 .bf16) (v84 : FVec F S256x256 .bf16) (v87 : IVec S8x128 32) (c0_i32_48 : BitVec 32) (c1_i32_50 : BitVec 32) (X_arg23 : BufTy.Contents (Elt F) (Memref.whole cc0_scratch5).view.ty) (k : Fin k0_t7_loop.trips) :
    { L : BufTy.Contents (Elt F) arg17.view.ty → List (View.Piece (Elt F) S2x1x17920 .f32) // ∀ f, trip7R c arg17 X_arg23 f
      ⊢ wp frame (wpE (defs₀ (F := F)) Variants.none (c : Thread nD τ) none) Set.univ (k0_t7_body (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 k0_h3 v27 v67 v84 v87 c0_i32_48 c1_i32_50 k PUnit.unit)
          (fun _ => trip7R c arg17 X_arg23 (arg17.view.writes (Elt F) f (L f))) } := by
  have hk : k.val < 35 := Nat.lt_of_lt_of_le k.isLt k0_t7_abs.2.1
  refine ⟨?_, fun f => ?run⟩
  case run =>
    unfold k0_t7_body
    iintro ⟨HR_arg23, HW⟩
    sl_exec
    sl_step
    sl_close
/-- What trip `k` of loop 7 leaves of contents `f`. -/
def step7 (k0_h3 : k0_cond3 i = 1#1) (v27 : IVec S128x256 32) (v67 : FVec F S16x256 .bf16) (v84 : FVec F S256x256 .bf16) (v87 : IVec S8x128 32) (c0_i32_48 : BitVec 32) (c1_i32_50 : BitVec 32) (X_arg23 : BufTy.Contents (Elt F) (Memref.whole cc0_scratch5).view.ty) (k : Fin k0_t7_loop.trips) (f : BufTy.Contents (Elt F) arg17.view.ty) : BufTy.Contents (Elt F) arg17.view.ty :=
  arg17.view.writes (Elt F) f ((trip7 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v84 v87 c0_i32_48 c1_i32_50 X_arg23 k).1 f)
/-- What loop 7 has made of contents `g` before trip `k`. -/
def cont7 (k0_h3 : k0_cond3 i = 1#1) (v27 : IVec S128x256 32) (v67 : FVec F S16x256 .bf16) (v84 : FVec F S256x256 .bf16) (v87 : IVec S8x128 32) (c0_i32_48 : BitVec 32) (c1_i32_50 : BitVec 32) (X_arg23 : BufTy.Contents (Elt F) (Memref.whole cc0_scratch5).view.ty) (g : BufTy.Contents (Elt F) arg17.view.ty) (k : ℕ) : BufTy.Contents (Elt F) arg17.view.ty :=
  cont k0_t7_loop.trips (step7 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v84 v87 c0_i32_48 c1_i32_50 X_arg23) g k
set_option warn.classDefReducibility false in
/-- Loop 7 by its invariant. -/
@[sl_loop] def loop7 (k0_h3 : k0_cond3 i = 1#1) (v27 : IVec S128x256 32) (v67 : FVec F S16x256 .bf16) (v84 : FVec F S256x256 .bf16) (v87 : IVec S8x128 32) (c0_i32_48 : BitVec 32) (c1_i32_50 : BitVec 32) (X_arg23 : BufTy.Contents (Elt F) (Memref.whole cc0_scratch5).view.ty) (g : BufTy.Contents (Elt F) arg17.view.ty) :
    Gen.LoopInvTy_k0_t7 (F := F) Unit ℕ (Pipeline.UD sig nD τ) ℕ Variants.none c none Set.univ i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 k0_h3 v27 v67 v84 v87 c0_i32_48 c1_i32_50 where
  inv k _ := iprop(((Memref.whole cc0_scratch5).view.loc (c : Thread nD τ) ↦[(Memref.whole cc0_scratch5).view.set]{fullShare} X_arg23) ∗ (∃ f, (arg17.view.loc (c : Thread nD τ) ↦[arg17.view.set]{fullShare} f) ∗ ⌜f = cont7 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v84 v87 c0_i32_48 c1_i32_50 X_arg23 g k⌝))
  step k acc := by
    iintro ⟨HR_arg23, ⟨%f, HW, %h⟩⟩
    iapply (wp_wand_r Idealize.ShloMosaic.frame (wpE (defs₀ (F := F)) Variants.none (c : Thread nD τ) none) Set.univ)
    isplitl [HR_arg23 HW]
    · iapply ((trip7 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v84 v87 c0_i32_48 c1_i32_50 X_arg23 k).2 f)
      isplitl [HR_arg23]; · iexact HR_arg23
      iexact HW
    · iintro %_ ⟨HR_arg23, HW⟩
      isplitl [HR_arg23]; · iexact HR_arg23
      iexists _; isplitl [HW]; · iexact HW
      ipureintro
      rw [h]
      exact (cont_succ (step7 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v84 v87 c0_i32_48 c1_i32_50 X_arg23) g k).symm

end Trips

end Cert.Kernel.Hand
end
-- ==== Proof.Chunks.lean ====
module
public import proofs.«01_k».proof.Proof.Trips
public import proofs.«01_k».proof.Proof.Gen.Kernel.Skeleton
public import proofs.«01_k».proof.Proof.Gen.Kernel.Launch
public import proofs.«01_k».proof.Proof.Gen.Kernel.Loops
public import Idealize.ShloMosaic.Lib.Batch
public import Idealize.ShloMosaic.Lib.Ring
public import Idealize.ShloMosaic.Lib.Pipeline.FrameBody
public import Idealize.ShloMosaic.Lib.Tactic
public import Idealize.ShloMosaic.Lib.Tactic.Stretches
@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (Pipeline.UD sig nD τ) ℕ

/-! ## The kernel in five stretches -/

set_option maxRecDepth 65536 in
cut_chain s := Gen.cc0_decdec_gated_skel at 2, 3, 4, 5

section Chunks
variable (c : Dev nD) (i : grid0.Coords)
  (arg3 : Memref sig .tc .vmem S1x256 .i32) (harg3 : arg3.IsWhole) (arg4 : Memref sig .tc .vmem S2x5120 .bf16) (harg4 : arg4.IsWhole) (arg5 : Memref sig .tc .vmem S1280x256 .i32) (harg5 : arg5.IsWhole) (arg6 : Memref sig .tc .vmem S1280x256 .i32) (harg6 : arg6.IsWhole) (arg7 : Memref sig .tc .vmem S40x17920 .bf16) (harg7 : arg7.IsWhole) (arg8 : Memref sig .tc .vmem S40x17920 .bf16) (harg8 : arg8.IsWhole) (arg9 : Memref sig .tc .vmem S40x17920 .i8) (harg9 : arg9.IsWhole) (arg10 : Memref sig .tc .vmem S40x17920 .i8) (harg10 : arg10.IsWhole) (arg11 : Memref sig .tc .vmem S1x5120 .bf16) (harg11 : arg11.IsWhole) (arg12 : Memref sig .tc .vmem S1x5120 .bf16) (harg12 : arg12.IsWhole) (arg15 : Memref sig .tc .vmem S2x1x17920 .bf16) (harg15 : arg15.IsWhole) (arg16 : Memref sig .tc .vmem S2x1x17920 .f32) (harg16 : arg16.IsWhole) (arg17 : Memref sig .tc .vmem S2x1x17920 .f32) (harg17 : arg17.IsWhole) (arg18 : Memref sig .tc .vmem S16x20480 .bf16) (harg18 : arg18.IsWhole) (arg19 : Memref sig .tc .vmem S5x2x320x2x128 .f32) (harg19 : arg19.IsWhole) (arg20 : Memref sig .tc .vmem S5x2x320x2x128 .f32) (harg20 : arg20.IsWhole) (arg21 : Memref sig .tc .vmem S5x16x256 .f32) (harg21 : arg21.IsWhole) (arg24 : Memref sig .tc .vmem S128x128 .i32) (harg24 : arg24.IsWhole)

set_option maxHeartbeats 4000000 in
/-- The pattern stretch of a column's first step: the pieces it writes. -/
@[irreducible] def pattern (h2 : k0_cond2 i = 1#1) (X7 : BufTy.Contents (Elt F) arg7.view.ty) (X8 : BufTy.Contents (Elt F) arg8.view.ty) (X9 : BufTy.Contents (Elt F) arg9.view.ty) (X10 : BufTy.Contents (Elt F) arg10.view.ty) :
    { L : List (View.Piece (Elt F) S5x2x320x2x128 .f32) × List (View.Piece (Elt F) S5x2x320x2x128 .f32) × List (View.Piece (Elt F) S5x16x256 .f32) //
      ∀ (f19 : BufTy.Contents (Elt F) arg19.view.ty) (f20 : BufTy.Contents (Elt F) arg20.view.ty) (f21 : BufTy.Contents (Elt F) arg21.view.ty) (κ : Prog (TpuEff nD τ sig (Elt F) Λ₀ .tc) PUnit) (Q : PUnit → sProp 𝕄),
        iprop((arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21))
        ⊢ iprop((iprop((arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg19.view.loc (c : Thread nD τ) ↦[arg19.view.set]{fullShare} (arg19.view.writes (Elt F) f19 L.1)) ∗ (arg20.view.loc (c : Thread nD τ) ↦[arg20.view.set]{fullShare} (arg20.view.writes (Elt F) f20 L.2.1)) ∗ (arg21.view.loc (c : Thread nD τ) ↦[arg21.view.set]{fullShare} (arg21.view.writes (Elt F) f21 L.2.2))) -∗ wp frame (wpE (defs₀ (F := F)) Variants.none (c : Thread nD τ) none) Set.univ κ Q) -∗ wp frame (wpE (defs₀ (F := F)) Variants.none (c : Thread nD τ) none) Set.univ (s2 (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 κ) Q) } := by
  refine ⟨⟨?_, ?_, ?_⟩, fun f19 f20 f21 κ Q => ?run⟩
  case run =>
    unfold s2
    rw [dif_pos h2]
    iintro ⟨H7, H8, H9, H10, H19, H20, H21⟩ Hκ
    sl_exec
    iapply Hκ
    sl_close

section Start
variable [∀ e, Nonempty (Elt F e)]
set_option maxHeartbeats 4000000 in
/-- The first stretch at the first step: every row's transfer issued, the left-hand sides stored. -/
theorem start (h1 : k0_cond1 i = 1#1) (q : PosShare TreeShare) (X : S100.Idx → BitVec 32) (hX : ∀ y, (X y).toNat < 5120) (WG WU : S1280x8960.Idx → Elt F .i32) (g4 g5 : S128x8960.Idx → Elt F .i32) (X4 : BufTy.Contents (Elt F) arg4.view.ty) (f18 : BufTy.Contents (Elt F) arg18.view.ty) (κ : Prog (TpuEff nD τ sig (Elt F) Λ₀ .tc) PUnit) (Q : PUnit → sProp 𝕄) :
    iprop(((Memref.whole main_arg1).view.loc (c : Thread nD τ) ↦[(Memref.whole main_arg1).view.set]{q} X) ∗ (arg4.view.loc (c : Thread nD τ) ↦[arg4.view.set]{fullShare} X4) ∗ (arg18.view.loc (c : Thread nD τ) ↦[arg18.view.set]{fullShare} f18) ∗ semVal ((c : Thread nD τ), SemLoc.dma cc0_scratch7.sem) 0 ∗ atRest c WG WU g4 g5)
      ⊢ iprop((iprop(((Memref.whole main_arg1).view.loc (c : Thread nD τ) ↦[(Memref.whole main_arg1).view.set]{q} X) ∗ (arg4.view.loc (c : Thread nD τ) ↦[arg4.view.set]{fullShare} X4) ∗ (arg18.view.loc (c : Thread nD τ) ↦[arg18.view.set]{fullShare} (cont2 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h1 (iota .tc S8x128 32 [1] iota_S8x128_d1_w32) X4 f18 k0_t2_loop.trips)) ∗ batch c X hX WG WU (2 * k0_t1_loop.trips) 0 ∗ aside c X hX WG WU g4 g5) -∗ wp frame (wpE (defs₀ (F := F)) Variants.none (c : Thread nD τ) none) Set.univ κ Q) -∗ wp frame (wpE (defs₀ (F := F)) Variants.none (c : Thread nD τ) none) Set.univ (s1 (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 κ) Q) := by
  unfold s1
  rw [dif_pos h1]
  iintro ⟨HT, H4, H18, Hc, HR⟩ Hκ
  ihave HR := (depart c X hX WG WU g4 g5) $$ HR
  icases HR with ⟨Hb, Ha⟩
  imod (Transfers.batch_alloc' (Lvl := ℕ) (countersEmb (U := Pipeline.UD sig nD τ)) (c : Thread nD τ) () 1120 (dels c X hX WG WU) (sm := .dma cc0_scratch7.sem) (E := Set.univ)) $$ Hc with HB
  sl_for (issueAt c X hX WG WU q) $$ [HT HB Hb]
  · intro k acc; exact issue_step c X hX WG WU i q arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h1 k acc
  · unfold issueAt
    isplitl [HT]; · iexact HT
    isplitl [HB]; · iexact HB
    iexact Hb
  iintro %acc HL
  unfold issueAt
  icases HL with ⟨HT, HB, _⟩
  sl_exec
  iapply Hκ
  isplitl [HT]; · iexact HT
  isplitl [H4]; · iexact H4
  isplitl [H18]; · iexact H18
  isplitl [HB]; · iexact HB
  iexact Ha
end Start

/-- The accumulation stretch: ten groups of rows. -/
theorem accumulate (X5 : BufTy.Contents (Elt F) arg5.view.ty) (X6 : BufTy.Contents (Elt F) arg6.view.ty) (X18 : BufTy.Contents (Elt F) arg18.view.ty) (X19 : BufTy.Contents (Elt F) arg19.view.ty) (X20 : BufTy.Contents (Elt F) arg20.view.ty) (f21 : BufTy.Contents (Elt F) arg21.view.ty) (κ : Prog (TpuEff nD τ sig (Elt F) Λ₀ .tc) PUnit) (Q : PUnit → sProp 𝕄) :
    iprop((arg5.view.loc (c : Thread nD τ) ↦[arg5.view.set]{fullShare} X5) ∗ (arg6.view.loc (c : Thread nD τ) ↦[arg6.view.set]{fullShare} X6) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} f21))
      ⊢ iprop((iprop((arg5.view.loc (c : Thread nD τ) ↦[arg5.view.set]{fullShare} X5) ∗ (arg6.view.loc (c : Thread nD τ) ↦[arg6.view.set]{fullShare} X6) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} (cont3 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 (BitVec.ofNat 32 (i 1).val) X5 X6 X18 X19 X20 f21 k0_t3_loop.trips))) -∗ wp frame (wpE (defs₀ (F := F)) Variants.none (c : Thread nD τ) none) Set.univ κ Q) -∗ wp frame (wpE (defs₀ (F := F)) Variants.none (c : Thread nD τ) none) Set.univ (s3 (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 κ) Q) := by
  unfold s3
  iintro ⟨H5, H6, H18, H19, H20, H21⟩ Hκ
  sl_exec
  iapply Hκ
  sl_close

set_option maxHeartbeats 4000000 in
/-- The last stretch of a column: the pieces of the gated result. -/
@[irreducible] def gate (h4 : k0_cond4 i = 1#1) (X21 : BufTy.Contents (Elt F) arg21.view.ty) (X16 : BufTy.Contents (Elt F) arg16.view.ty) (X17 : BufTy.Contents (Elt F) arg17.view.ty) :
    { L : List (View.Piece (Elt F) S2x1x17920 .bf16) // ∀ (f15 : BufTy.Contents (Elt F) arg15.view.ty) (κ : Prog (TpuEff nD τ sig (Elt F) Λ₀ .tc) PUnit) (Q : PUnit → sProp 𝕄),
      iprop((arg21.view.loc (c : Thread nD τ) ↦[arg21.view.set]{fullShare} X21) ∗ (arg16.view.loc (c : Thread nD τ) ↦[arg16.view.set]{fullShare} X16) ∗ (arg17.view.loc (c : Thread nD τ) ↦[arg17.view.set]{fullShare} X17) ∗ (arg15.view.loc (c : Thread nD τ) ↦[arg15.view.set]{fullShare} f15))
      ⊢ iprop((iprop((arg21.view.loc (c : Thread nD τ) ↦[arg21.view.set]{fullShare} X21) ∗ (arg16.view.loc (c : Thread nD τ) ↦[arg16.view.set]{fullShare} X16) ∗ (arg17.view.loc (c : Thread nD τ) ↦[arg17.view.set]{fullShare} X17) ∗ (arg15.view.loc (c : Thread nD τ) ↦[arg15.view.set]{fullShare} (arg15.view.writes (Elt F) f15 L))) -∗ wp frame (wpE (defs₀ (F := F)) Variants.none (c : Thread nD τ) none) Set.univ κ Q) -∗ wp frame (wpE (defs₀ (F := F)) Variants.none (c : Thread nD τ) none) Set.univ (s5 (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 κ) Q) } := by
  refine ⟨?_, fun f15 κ Q => ?run⟩
  case run =>
    unfold s5
    rw [dif_pos h4]
    iintro ⟨H21, H16, H17, H15⟩ Hκ
    sl_exec
    iapply Hκ
    sl_close

end Chunks

end Cert.Kernel.Hand
end
-- ==== Proof.Residual.lean ====
module
public import proofs.«01_k».proof.Proof.Chunks
public import proofs.«01_k».proof.Proof.Gen.Kernel.Skeleton
public import proofs.«01_k».proof.Proof.Gen.Kernel.Launch
public import proofs.«01_k».proof.Proof.Gen.Kernel.Loops
public import Idealize.ShloMosaic.Lib.Batch
public import Idealize.ShloMosaic.Lib.Ring
public import Idealize.ShloMosaic.Lib.Pipeline.FrameBody
public import Idealize.ShloMosaic.Lib.Tactic
public import Idealize.ShloMosaic.Lib.Tactic.Stretches
@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (Pipeline.UD sig nD τ) ℕ

section Chunks
variable (c : Dev nD) (i : grid0.Coords)
  (arg3 : Memref sig .tc .vmem S1x256 .i32) (harg3 : arg3.IsWhole) (arg4 : Memref sig .tc .vmem S2x5120 .bf16) (harg4 : arg4.IsWhole) (arg5 : Memref sig .tc .vmem S1280x256 .i32) (harg5 : arg5.IsWhole) (arg6 : Memref sig .tc .vmem S1280x256 .i32) (harg6 : arg6.IsWhole) (arg7 : Memref sig .tc .vmem S40x17920 .bf16) (harg7 : arg7.IsWhole) (arg8 : Memref sig .tc .vmem S40x17920 .bf16) (harg8 : arg8.IsWhole) (arg9 : Memref sig .tc .vmem S40x17920 .i8) (harg9 : arg9.IsWhole) (arg10 : Memref sig .tc .vmem S40x17920 .i8) (harg10 : arg10.IsWhole) (arg11 : Memref sig .tc .vmem S1x5120 .bf16) (harg11 : arg11.IsWhole) (arg12 : Memref sig .tc .vmem S1x5120 .bf16) (harg12 : arg12.IsWhole) (arg15 : Memref sig .tc .vmem S2x1x17920 .bf16) (harg15 : arg15.IsWhole) (arg16 : Memref sig .tc .vmem S2x1x17920 .f32) (harg16 : arg16.IsWhole) (arg17 : Memref sig .tc .vmem S2x1x17920 .f32) (harg17 : arg17.IsWhole) (arg18 : Memref sig .tc .vmem S16x20480 .bf16) (harg18 : arg18.IsWhole) (arg19 : Memref sig .tc .vmem S5x2x320x2x128 .f32) (harg19 : arg19.IsWhole) (arg20 : Memref sig .tc .vmem S5x2x320x2x128 .f32) (harg20 : arg20.IsWhole) (arg21 : Memref sig .tc .vmem S5x16x256 .f32) (harg21 : arg21.IsWhole) (arg24 : Memref sig .tc .vmem S128x128 .i32) (harg24 : arg24.IsWhole)

section Residual
variable [∀ e, Nonempty (Elt F e)]
/-- The row buffers, over every index and over the buffer's own set. -/
theorem setOf_G (g : S128x8960.Idx → Elt F .i32) : (((Memref.whole cc0_scratch4).view.loc (c : Thread nD τ) ↦{fullShare} g) : sProp 𝕄)
    = ((Memref.whole cc0_scratch4).view.loc (c : Thread nD τ) ↦[(Memref.whole cc0_scratch4).view.set]{fullShare} g) :=
  by rw [show (Memref.whole cc0_scratch4).view.set = Finset.univ from View.set_whole _]
theorem setOf_U (g : S128x8960.Idx → Elt F .i32) : (((Memref.whole cc0_scratch5).view.loc (c : Thread nD τ) ↦{fullShare} g) : sProp 𝕄)
    = ((Memref.whole cc0_scratch5).view.loc (c : Thread nD τ) ↦[(Memref.whole cc0_scratch5).view.set]{fullShare} g) :=
  by rw [show (Memref.whole cc0_scratch5).view.set = Finset.univ from View.set_whole _]
/-- The words and the row buffers at rest, over the buffers' own sets. -/
abbrev atRestS (WG WU : S1280x8960.Idx → Elt F .i32) (g4 g5 : S128x8960.Idx → Elt F .i32) : sProp 𝕄 :=
  iprop(((Memref.whole main_v25).view.loc (c : Thread nD τ) ↦{fullShare} WG) ∗ ((Memref.whole main_v44).view.loc (c : Thread nD τ) ↦{fullShare} WU)
    ∗ ((Memref.whole cc0_scratch4).view.loc (c : Thread nD τ) ↦[(Memref.whole cc0_scratch4).view.set]{fullShare} g4) ∗ ((Memref.whole cc0_scratch5).view.loc (c : Thread nD τ) ↦[(Memref.whole cc0_scratch5).view.set]{fullShare} g5))
set_option maxHeartbeats 4000000 in
/-- The residual stretch: the row transfers collected, both residual results stored. -/
@[irreducible] def residual (h3 : k0_cond3 i = 1#1) (q : PosShare TreeShare) (X : S100.Idx → BitVec 32) (hX : ∀ y, (X y).toNat < 5120) (WG WU : S1280x8960.Idx → Elt F .i32) (g4 g5 : S128x8960.Idx → Elt F .i32) (X3 : BufTy.Contents (Elt F) arg3.view.ty) (X4 : BufTy.Contents (Elt F) arg4.view.ty) (X11 : BufTy.Contents (Elt F) arg11.view.ty) (X12 : BufTy.Contents (Elt F) arg12.view.ty) (f24 : BufTy.Contents (Elt F) arg24.view.ty) (f16 : BufTy.Contents (Elt F) arg16.view.ty) (f17 : BufTy.Contents (Elt F) arg17.view.ty) :
    { G : BufTy.Contents (Elt F) (Memref.whole cc0_scratch4).view.ty × BufTy.Contents (Elt F) (Memref.whole cc0_scratch5).view.ty × BufTy.Contents (Elt F) arg24.view.ty × BufTy.Contents (Elt F) arg16.view.ty × BufTy.Contents (Elt F) arg17.view.ty // ∀ (κ : Prog (TpuEff nD τ sig (Elt F) Λ₀ .tc) PUnit) (Q : PUnit → sProp 𝕄),
      iprop(((Memref.whole main_arg1).view.loc (c : Thread nD τ) ↦[(Memref.whole main_arg1).view.set]{q} X) ∗ (arg3.view.loc (c : Thread nD τ) ↦[arg3.view.set]{fullShare} X3) ∗ (arg4.view.loc (c : Thread nD τ) ↦[arg4.view.set]{fullShare} X4) ∗ (arg11.view.loc (c : Thread nD τ) ↦[arg11.view.set]{fullShare} X11) ∗ (arg12.view.loc (c : Thread nD τ) ↦[arg12.view.set]{fullShare} X12) ∗ (arg24.view.loc (c : Thread nD τ) ↦[arg24.view.set]{fullShare} f24) ∗ (arg16.view.loc (c : Thread nD τ) ↦[arg16.view.set]{fullShare} f16) ∗ (arg17.view.loc (c : Thread nD τ) ↦[arg17.view.set]{fullShare} f17) ∗ (∃ W, owes (c : Thread nD τ) 0 W) ∗ batch c X hX WG WU (2 * k0_t1_loop.trips) 0 ∗ aside c X hX WG WU g4 g5)
      ⊢ iprop((iprop(((Memref.whole main_arg1).view.loc (c : Thread nD τ) ↦[(Memref.whole main_arg1).view.set]{q} X) ∗ (arg3.view.loc (c : Thread nD τ) ↦[arg3.view.set]{fullShare} X3) ∗ (arg4.view.loc (c : Thread nD τ) ↦[arg4.view.set]{fullShare} X4) ∗ (arg11.view.loc (c : Thread nD τ) ↦[arg11.view.set]{fullShare} X11) ∗ (arg12.view.loc (c : Thread nD τ) ↦[arg12.view.set]{fullShare} X12) ∗ (arg24.view.loc (c : Thread nD τ) ↦[arg24.view.set]{fullShare} G.2.2.1) ∗ (arg16.view.loc (c : Thread nD τ) ↦[arg16.view.set]{fullShare} G.2.2.2.1) ∗ (arg17.view.loc (c : Thread nD τ) ↦[arg17.view.set]{fullShare} G.2.2.2.2) ∗ (∃ W, owes (c : Thread nD τ) 0 W) ∗ semVal ((c : Thread nD τ), SemLoc.dma cc0_scratch7.sem) 0 ∗ ((Memref.whole main_v25).view.loc (c : Thread nD τ) ↦{fullShare} WG) ∗ ((Memref.whole main_v44).view.loc (c : Thread nD τ) ↦{fullShare} WU) ∗ ((Memref.whole cc0_scratch4).view.loc (c : Thread nD τ) ↦[(Memref.whole cc0_scratch4).view.set]{fullShare} G.1) ∗ ((Memref.whole cc0_scratch5).view.loc (c : Thread nD τ) ↦[(Memref.whole cc0_scratch5).view.set]{fullShare} G.2.1)) -∗ wp frame (wpE (defs₀ (F := F)) Variants.none (c : Thread nD τ) none) Set.univ κ Q) -∗ wp frame (wpE (defs₀ (F := F)) Variants.none (c : Thread nD τ) none) Set.univ (s4 (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 κ) Q) } := by
  refine ⟨⟨?_, ?_, ?_, ?_, ?_⟩, fun κ Q => ?run⟩
  case run =>
    unfold s4
    rw [dif_pos h3]
    simp only [Gen.k0_part50_eq_skeleton, Gen.k0_part51_eq_skeleton, Gen.k0_part52_eq_skeleton, Gen.k0_part53_eq_skeleton, Gen.k0_part54_eq_skeleton, Gen.k0_part55_eq_skeleton, Gen.k0_part56_eq_skeleton, Gen.k0_part57_eq_skeleton, Gen.k0_part58_eq_skeleton]
    iintro ⟨HT, H3, H4, H11, H12, H24, H16, H17, Ho, HB, Ha⟩ Hκ
    sl_exec
    sl_for (drainInv c X hX WG WU q) $$ [HT HB Ho]
    · intro k acc; exact drain_step c X hX WG WU i q arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h3 k acc
    · unfold drainInv
      rw [if_pos (by decide)]
      isplit; · ipureintro; omega
      isplitl [HT]; · iexact HT
      isplitl [Ho]; · iexact Ho
      iexact HB
    iintro %acc HL
    unfold drainInv
    rw [if_neg (by decide)]
    icases HL with ⟨_, HT, ⟨%W, Ho⟩, Hc, Hd⟩
    ihave HR := (show iprop(bigSep Finset.univ (dels c X hX WG WU) ∗ aside c X hX WG WU g4 g5) ⊢ (atRestS c WG WU (rowsOf X hX WG g4) (rowsOf X hX WU g5) : sProp 𝕄) from by unfold atRestS; rw [← setOf_G, ← setOf_U]; exact arrive c X hX WG WU g4 g5) $$ [Hd Ha]
    · isplitl [Hd] <;> iassumption
    icases HR with ⟨HG, HU, H22, H23⟩
    sl_exec
    iapply Hκ
    sl_close
end Residual

end Chunks

end Cert.Kernel.Hand
end
-- ==== Proof.Body.lean ====
module
public import proofs.«01_k».proof.Proof.Residual
public import proofs.«01_k».proof.Proof.Gen.Kernel.Skeleton
public import proofs.«01_k».proof.Proof.Gen.Kernel.Launch
public import proofs.«01_k».proof.Proof.Gen.Kernel.Loops
public import Idealize.ShloMosaic.Lib.Batch
public import Idealize.ShloMosaic.Lib.Ring
public import Idealize.ShloMosaic.Lib.Pipeline.FrameBody
public import Idealize.ShloMosaic.Lib.Tactic
public import Idealize.ShloMosaic.Lib.Tactic.Stretches
@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (Pipeline.UD sig nD τ) ℕ

/-! ## Every stretch at every grid point -/

section Chunks
variable (c : Dev nD) (i : grid0.Coords)
  (arg3 : Memref sig .tc .vmem S1x256 .i32) (harg3 : arg3.IsWhole) (arg4 : Memref sig .tc .vmem S2x5120 .bf16) (harg4 : arg4.IsWhole) (arg5 : Memref sig .tc .vmem S1280x256 .i32) (harg5 : arg5.IsWhole) (arg6 : Memref sig .tc .vmem S1280x256 .i32) (harg6 : arg6.IsWhole) (arg7 : Memref sig .tc .vmem S40x17920 .bf16) (harg7 : arg7.IsWhole) (arg8 : Memref sig .tc .vmem S40x17920 .bf16) (harg8 : arg8.IsWhole) (arg9 : Memref sig .tc .vmem S40x17920 .i8) (harg9 : arg9.IsWhole) (arg10 : Memref sig .tc .vmem S40x17920 .i8) (harg10 : arg10.IsWhole) (arg11 : Memref sig .tc .vmem S1x5120 .bf16) (harg11 : arg11.IsWhole) (arg12 : Memref sig .tc .vmem S1x5120 .bf16) (harg12 : arg12.IsWhole) (arg15 : Memref sig .tc .vmem S2x1x17920 .bf16) (harg15 : arg15.IsWhole) (arg16 : Memref sig .tc .vmem S2x1x17920 .f32) (harg16 : arg16.IsWhole) (arg17 : Memref sig .tc .vmem S2x1x17920 .f32) (harg17 : arg17.IsWhole) (arg18 : Memref sig .tc .vmem S16x20480 .bf16) (harg18 : arg18.IsWhole) (arg19 : Memref sig .tc .vmem S5x2x320x2x128 .f32) (harg19 : arg19.IsWhole) (arg20 : Memref sig .tc .vmem S5x2x320x2x128 .f32) (harg20 : arg20.IsWhole) (arg21 : Memref sig .tc .vmem S5x16x256 .f32) (harg21 : arg21.IsWhole) (arg24 : Memref sig .tc .vmem S128x128 .i32) (harg24 : arg24.IsWhole)

variable [∀ e, Nonempty (Elt F e)]

/-- The row transfers: all on their way, or none and the buffers at rest. -/
def flight (X : S100.Idx → BitVec 32) (hX : ∀ y, (X y).toNat < 5120) (WG WU : S1280x8960.Idx → Elt F .i32) (b : Bool) : sProp 𝕄 :=
  if b then iprop(batch c X hX WG WU (2 * k0_t1_loop.trips) 0 ∗ ∃ g4 g5, aside c X hX WG WU g4 g5)
  else iprop(semVal ((c : Thread nD τ), SemLoc.dma cc0_scratch7.sem) 0 ∗ ∃ g4 g5, atRestS c WG WU g4 g5)

/-- What the first stretch makes of the left-hand sides. -/
def Lhs (X4 : BufTy.Contents (Elt F) arg4.view.ty) (f18 : BufTy.Contents (Elt F) arg18.view.ty) (f18' : BufTy.Contents (Elt F) arg18.view.ty) : Prop :=
  (∀ h1 : k0_cond1 i = 1#1, f18' = cont2 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h1 (iota .tc S8x128 32 [1] iota_S8x128_d1_w32) X4 f18 k0_t2_loop.trips) ∧ (¬ k0_cond1 i = 1#1 → f18' = f18)

theorem stretch1 (q : PosShare TreeShare) (X : S100.Idx → BitVec 32) (hX : ∀ y, (X y).toNat < 5120) (WG WU : S1280x8960.Idx → Elt F .i32) (b b' : Bool) (ht : k0_cond1 i = 1#1 → b = false ∧ b' = true) (hf : ¬ k0_cond1 i = 1#1 → b' = b)
    (X4 : BufTy.Contents (Elt F) arg4.view.ty) (f18 : BufTy.Contents (Elt F) arg18.view.ty) (κ : Prog (TpuEff nD τ sig (Elt F) Λ₀ .tc) PUnit) (Q : PUnit → sProp 𝕄) :
    iprop(((Memref.whole main_arg1).view.loc (c : Thread nD τ) ↦[(Memref.whole main_arg1).view.set]{q} X) ∗ (arg4.view.loc (c : Thread nD τ) ↦[arg4.view.set]{fullShare} X4) ∗ (arg18.view.loc (c : Thread nD τ) ↦[arg18.view.set]{fullShare} f18) ∗ flight c X hX WG WU b)
      ⊢ iprop((∀ f18', iprop(⌜Lhs c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 X4 f18 f18'⌝ ∗ ((Memref.whole main_arg1).view.loc (c : Thread nD τ) ↦[(Memref.whole main_arg1).view.set]{q} X) ∗ (arg4.view.loc (c : Thread nD τ) ↦[arg4.view.set]{fullShare} X4) ∗ (arg18.view.loc (c : Thread nD τ) ↦[arg18.view.set]{fullShare} f18') ∗ flight c X hX WG WU b') -∗ wp frame (wpE (defs₀ (F := F)) Variants.none (c : Thread nD τ) none) Set.univ κ Q) -∗ wp frame (wpE (defs₀ (F := F)) Variants.none (c : Thread nD τ) none) Set.univ (s1 (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 κ) Q) := by
  by_cases h1 : k0_cond1 i = 1#1
  · obtain ⟨rfl, rfl⟩ := ht h1
    unfold flight
    rw [if_neg (by decide), if_pos rfl]
    iintro ⟨HT, H4, H18, Hf⟩ Hκ
    icases Hf with ⟨Hc, ⟨%g4, %g5, Hr⟩⟩
    iapply (start c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h1 q X hX WG WU g4 g5 X4 f18 κ Q) $$ [HT H4 H18 Hc Hr]
    · isplitl [HT]; · iexact HT
      isplitl [H4]; · iexact H4
      isplitl [H18]; · iexact H18
      isplitl [Hc]; · iexact Hc
      iapply (show atRestS c WG WU g4 g5 ⊢ (atRest c WG WU g4 g5 : sProp 𝕄) from by unfold atRestS; rw [← setOf_G, ← setOf_U])
      iexact Hr
    iintro ⟨HT, H4, H18, HB, Ha⟩
    iapply Hκ
    isplitr; swap
    · isplitl [HT]; · iexact HT
      isplitl [H4]; · iexact H4
      isplitl [H18]; · iexact H18
      isplitl [HB]; · iexact HB
      iexists _, _; iexact Ha
    ipureintro; exact ⟨fun _ => rfl, fun h => absurd h1 h⟩
  · rw [hf h1]
    unfold s1
    rw [dif_neg h1]
    iintro ⟨HT, H4, H18, Hf⟩ Hκ
    iapply Hκ
    isplitr; swap
    · isplitl [HT]; · iexact HT
      isplitl [H4]; · iexact H4
      isplitl [H18]; · iexact H18
      iexact Hf
    ipureintro; exact ⟨fun h => absurd h h1, fun _ => rfl⟩

/-- What the second stretch makes of the patterns and the accumulator. -/
def Pat (X7 : BufTy.Contents (Elt F) arg7.view.ty) (X8 : BufTy.Contents (Elt F) arg8.view.ty) (X9 : BufTy.Contents (Elt F) arg9.view.ty) (X10 : BufTy.Contents (Elt F) arg10.view.ty) (f19 : BufTy.Contents (Elt F) arg19.view.ty) (f20 : BufTy.Contents (Elt F) arg20.view.ty) (f21 : BufTy.Contents (Elt F) arg21.view.ty) (f19' : BufTy.Contents (Elt F) arg19.view.ty) (f20' : BufTy.Contents (Elt F) arg20.view.ty) (f21' : BufTy.Contents (Elt F) arg21.view.ty) : Prop :=
  (∀ h2 : k0_cond2 i = 1#1, f19' = arg19.view.writes (Elt F) f19 (pattern c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h2 X7 X8 X9 X10).1.1
      ∧ f20' = arg20.view.writes (Elt F) f20 (pattern c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h2 X7 X8 X9 X10).1.2.1
      ∧ f21' = arg21.view.writes (Elt F) f21 (pattern c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h2 X7 X8 X9 X10).1.2.2)
    ∧ (¬ k0_cond2 i = 1#1 → f19' = f19 ∧ f20' = f20 ∧ f21' = f21)

theorem stretch2 (X7 : BufTy.Contents (Elt F) arg7.view.ty) (X8 : BufTy.Contents (Elt F) arg8.view.ty) (X9 : BufTy.Contents (Elt F) arg9.view.ty) (X10 : BufTy.Contents (Elt F) arg10.view.ty) (f19 : BufTy.Contents (Elt F) arg19.view.ty) (f20 : BufTy.Contents (Elt F) arg20.view.ty) (f21 : BufTy.Contents (Elt F) arg21.view.ty) (κ : Prog (TpuEff nD τ sig (Elt F) Λ₀ .tc) PUnit) (Q : PUnit → sProp 𝕄) :
    iprop((arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21))
      ⊢ iprop((∀ f19' f20' f21', iprop(⌜Pat c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 X7 X8 X9 X10 f19 f20 f21 f19' f20' f21'⌝ ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg19.view.loc (c : Thread nD τ) ↦[arg19.view.set]{fullShare} f19') ∗ (arg20.view.loc (c : Thread nD τ) ↦[arg20.view.set]{fullShare} f20') ∗ (arg21.view.loc (c : Thread nD τ) ↦[arg21.view.set]{fullShare} f21')) -∗ wp frame (wpE (defs₀ (F := F)) Variants.none (c : Thread nD τ) none) Set.univ κ Q) -∗ wp frame (wpE (defs₀ (F := F)) Variants.none (c : Thread nD τ) none) Set.univ (s2 (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 κ) Q) := by
  by_cases h2 : k0_cond2 i = 1#1
  · iintro ⟨H7, H8, H9, H10, H19, H20, H21⟩ Hκ
    iapply ((pattern c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h2 X7 X8 X9 X10).2 f19 f20 f21 κ Q) $$ [H7 H8 H9 H10 H19 H20 H21]
    · isplitl [H7]; · iexact H7
      isplitl [H8]; · iexact H8
      isplitl [H9]; · iexact H9
      isplitl [H10]; · iexact H10
      isplitl [H19]; · iexact H19
      isplitl [H20]; · iexact H20
      iexact H21
    iintro ⟨H7, H8, H9, H10, H19, H20, H21⟩
    iapply Hκ
    isplitr; swap
    · isplitl [H7]; · iexact H7
      isplitl [H8]; · iexact H8
      isplitl [H9]; · iexact H9
      isplitl [H10]; · iexact H10
      isplitl [H19]; · iexact H19
      isplitl [H20]; · iexact H20
      iexact H21
    ipureintro; exact ⟨fun _ => ⟨rfl, rfl, rfl⟩, fun h => absurd h2 h⟩
  · unfold s2
    rw [dif_neg h2]
    iintro ⟨H7, H8, H9, H10, H19, H20, H21⟩ Hκ
    iapply Hκ
    isplitr; swap
    · isplitl [H7]; · iexact H7
      isplitl [H8]; · iexact H8
      isplitl [H9]; · iexact H9
      isplitl [H10]; · iexact H10
      isplitl [H19]; · iexact H19
      isplitl [H20]; · iexact H20
      iexact H21
    ipureintro; exact ⟨fun h => absurd h h2, fun _ => ⟨rfl, rfl, rfl⟩⟩

/-- What the fourth stretch makes of the residual results. -/
def Res (q : PosShare TreeShare) (X : S100.Idx → BitVec 32) (hX : ∀ y, (X y).toNat < 5120) (WG WU : S1280x8960.Idx → Elt F .i32) (X3 : BufTy.Contents (Elt F) arg3.view.ty) (X4 : BufTy.Contents (Elt F) arg4.view.ty) (X11 : BufTy.Contents (Elt F) arg11.view.ty) (X12 : BufTy.Contents (Elt F) arg12.view.ty) (f16 : BufTy.Contents (Elt F) arg16.view.ty) (f17 : BufTy.Contents (Elt F) arg17.view.ty) (f16' : BufTy.Contents (Elt F) arg16.view.ty) (f17' : BufTy.Contents (Elt F) arg17.view.ty) : Prop :=
  (∀ h3 : k0_cond3 i = 1#1, ∃ g4 g5 f24, f16' = (residual c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h3 q X hX WG WU g4 g5 X3 X4 X11 X12 f24 f16 f17).1.2.2.2.1
      ∧ f17' = (residual c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h3 q X hX WG WU g4 g5 X3 X4 X11 X12 f24 f16 f17).1.2.2.2.2)
    ∧ (¬ k0_cond3 i = 1#1 → f16' = f16 ∧ f17' = f17)

theorem stretch4 (q : PosShare TreeShare) (X : S100.Idx → BitVec 32) (hX : ∀ y, (X y).toNat < 5120) (WG WU : S1280x8960.Idx → Elt F .i32) (b b' : Bool) (ht : k0_cond3 i = 1#1 → b = true ∧ b' = false) (hf : ¬ k0_cond3 i = 1#1 → b' = b)
    (X3 : BufTy.Contents (Elt F) arg3.view.ty) (X4 : BufTy.Contents (Elt F) arg4.view.ty) (X11 : BufTy.Contents (Elt F) arg11.view.ty) (X12 : BufTy.Contents (Elt F) arg12.view.ty) (f24 : BufTy.Contents (Elt F) arg24.view.ty) (f16 : BufTy.Contents (Elt F) arg16.view.ty) (f17 : BufTy.Contents (Elt F) arg17.view.ty) (κ : Prog (TpuEff nD τ sig (Elt F) Λ₀ .tc) PUnit) (Q : PUnit → sProp 𝕄) :
    iprop(((Memref.whole main_arg1).view.loc (c : Thread nD τ) ↦[(Memref.whole main_arg1).view.set]{q} X) ∗ (arg3.view.loc (c : Thread nD τ) ↦[arg3.view.set]{fullShare} X3) ∗ (arg4.view.loc (c : Thread nD τ) ↦[arg4.view.set]{fullShare} X4) ∗ (arg11.view.loc (c : Thread nD τ) ↦[arg11.view.set]{fullShare} X11) ∗ (arg12.view.loc (c : Thread nD τ) ↦[arg12.view.set]{fullShare} X12) ∗ (arg24.view.loc (c : Thread nD τ) ↦[arg24.view.set]{fullShare} f24) ∗ (arg16.view.loc (c : Thread nD τ) ↦[arg16.view.set]{fullShare} f16) ∗ (arg17.view.loc (c : Thread nD τ) ↦[arg17.view.set]{fullShare} f17) ∗ (∃ W, owes (c : Thread nD τ) 0 W) ∗ flight c X hX WG WU b)
      ⊢ iprop((∀ f24' f16' f17', iprop(⌜Res c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q X hX WG WU X3 X4 X11 X12 f16 f17 f16' f17'⌝ ∗ ((Memref.whole main_arg1).view.loc (c : Thread nD τ) ↦[(Memref.whole main_arg1).view.set]{q} X) ∗ (arg3.view.loc (c : Thread nD τ) ↦[arg3.view.set]{fullShare} X3) ∗ (arg4.view.loc (c : Thread nD τ) ↦[arg4.view.set]{fullShare} X4) ∗ (arg11.view.loc (c : Thread nD τ) ↦[arg11.view.set]{fullShare} X11) ∗ (arg12.view.loc (c : Thread nD τ) ↦[arg12.view.set]{fullShare} X12) ∗ (arg24.view.loc (c : Thread nD τ) ↦[arg24.view.set]{fullShare} f24') ∗ (arg16.view.loc (c : Thread nD τ) ↦[arg16.view.set]{fullShare} f16') ∗ (arg17.view.loc (c : Thread nD τ) ↦[arg17.view.set]{fullShare} f17') ∗ (∃ W, owes (c : Thread nD τ) 0 W) ∗ flight c X hX WG WU b') -∗ wp frame (wpE (defs₀ (F := F)) Variants.none (c : Thread nD τ) none) Set.univ κ Q) -∗ wp frame (wpE (defs₀ (F := F)) Variants.none (c : Thread nD τ) none) Set.univ (s4 (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 κ) Q) := by
  by_cases h3 : k0_cond3 i = 1#1
  · obtain ⟨rfl, rfl⟩ := ht h3
    unfold flight
    rw [if_pos rfl, if_neg (by decide)]
    iintro ⟨HT, H3, H4, H11, H12, H24, H16, H17, Ho, Hf⟩ Hκ
    icases Hf with ⟨HB, ⟨%g4, %g5, Ha⟩⟩
    iapply ((residual c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h3 q X hX WG WU g4 g5 X3 X4 X11 X12 f24 f16 f17).2 κ Q) $$ [HT H3 H4 H11 H12 H24 H16 H17 Ho HB Ha]
    · isplitl [HT]; · iexact HT
      isplitl [H3]; · iexact H3
      isplitl [H4]; · iexact H4
      isplitl [H11]; · iexact H11
      isplitl [H12]; · iexact H12
      isplitl [H24]; · iexact H24
      isplitl [H16]; · iexact H16
      isplitl [H17]; · iexact H17
      isplitl [Ho]; · iexact Ho
      isplitl [HB]; · iexact HB
      iexact Ha
    iintro ⟨HT, H3, H4, H11, H12, H24, H16, H17, Ho, Hc, Hr⟩
    iapply Hκ
    isplitr; swap
    · isplitl [HT]; · iexact HT
      isplitl [H3]; · iexact H3
      isplitl [H4]; · iexact H4
      isplitl [H11]; · iexact H11
      isplitl [H12]; · iexact H12
      isplitl [H24]; · iexact H24
      isplitl [H16]; · iexact H16
      isplitl [H17]; · iexact H17
      isplitl [Ho]; · iexact Ho
      isplitl [Hc]; · iexact Hc
      iexists _, _; iexact Hr
    ipureintro; exact ⟨fun _ => ⟨g4, g5, f24, rfl, rfl⟩, fun h => absurd h3 h⟩
  · rw [hf h3]
    unfold s4
    rw [dif_neg h3]
    iintro ⟨HT, H3, H4, H11, H12, H24, H16, H17, Ho, Hf⟩ Hκ
    iapply Hκ
    isplitr; swap
    · isplitl [HT]; · iexact HT
      isplitl [H3]; · iexact H3
      isplitl [H4]; · iexact H4
      isplitl [H11]; · iexact H11
      isplitl [H12]; · iexact H12
      isplitl [H24]; · iexact H24
      isplitl [H16]; · iexact H16
      isplitl [H17]; · iexact H17
      isplitl [Ho]; · iexact Ho
      iexact Hf
    ipureintro; exact ⟨fun h => absurd h h3, fun _ => ⟨rfl, rfl⟩⟩

/-- What the last stretch makes of the gated result. -/
def Out (X21 : BufTy.Contents (Elt F) arg21.view.ty) (X16 : BufTy.Contents (Elt F) arg16.view.ty) (X17 : BufTy.Contents (Elt F) arg17.view.ty) (f15 : BufTy.Contents (Elt F) arg15.view.ty) (f15' : BufTy.Contents (Elt F) arg15.view.ty) : Prop :=
  (∀ h4 : k0_cond4 i = 1#1, f15' = arg15.view.writes (Elt F) f15 (gate c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h4 X21 X16 X17).1) ∧ (¬ k0_cond4 i = 1#1 → f15' = f15)

theorem stretch5 (X21 : BufTy.Contents (Elt F) arg21.view.ty) (X16 : BufTy.Contents (Elt F) arg16.view.ty) (X17 : BufTy.Contents (Elt F) arg17.view.ty) (f15 : BufTy.Contents (Elt F) arg15.view.ty) (κ : Prog (TpuEff nD τ sig (Elt F) Λ₀ .tc) PUnit) (Q : PUnit → sProp 𝕄) :
    iprop((arg21.view.loc (c : Thread nD τ) ↦[arg21.view.set]{fullShare} X21) ∗ (arg16.view.loc (c : Thread nD τ) ↦[arg16.view.set]{fullShare} X16) ∗ (arg17.view.loc (c : Thread nD τ) ↦[arg17.view.set]{fullShare} X17) ∗ (arg15.view.loc (c : Thread nD τ) ↦[arg15.view.set]{fullShare} f15))
      ⊢ iprop((∀ f15', iprop(⌜Out c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 X21 X16 X17 f15 f15'⌝ ∗ (arg21.view.loc (c : Thread nD τ) ↦[arg21.view.set]{fullShare} X21) ∗ (arg16.view.loc (c : Thread nD τ) ↦[arg16.view.set]{fullShare} X16) ∗ (arg17.view.loc (c : Thread nD τ) ↦[arg17.view.set]{fullShare} X17) ∗ (arg15.view.loc (c : Thread nD τ) ↦[arg15.view.set]{fullShare} f15')) -∗ wp frame (wpE (defs₀ (F := F)) Variants.none (c : Thread nD τ) none) Set.univ κ Q) -∗ wp frame (wpE (defs₀ (F := F)) Variants.none (c : Thread nD τ) none) Set.univ (s5 (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 κ) Q) := by
  by_cases h4 : k0_cond4 i = 1#1
  · iintro ⟨H21, H16, H17, H15⟩ Hκ
    iapply ((gate c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h4 X21 X16 X17).2 f15 κ Q) $$ [H21 H16 H17 H15]
    · isplitl [H21]; · iexact H21
      isplitl [H16]; · iexact H16
      isplitl [H17]; · iexact H17
      iexact H15
    iintro ⟨H21, H16, H17, H15⟩
    iapply Hκ
    isplitr; swap
    · isplitl [H21]; · iexact H21
      isplitl [H16]; · iexact H16
      isplitl [H17]; · iexact H17
      iexact H15
    ipureintro; exact ⟨fun _ => rfl, fun h => absurd h4 h⟩
  · unfold s5
    rw [dif_neg h4]
    iintro ⟨H21, H16, H17, H15⟩ Hκ
    iapply Hκ
    isplitr; swap
    · isplitl [H21]; · iexact H21
      isplitl [H16]; · iexact H16
      isplitl [H17]; · iexact H17
      iexact H15
    ipureintro; exact ⟨fun h => absurd h h4, fun _ => rfl⟩

/-- One grid point: what the body makes of the buffers it keeps and of its results. -/
def Point (q : PosShare TreeShare) (X : S100.Idx → BitVec 32) (hX : ∀ y, (X y).toNat < 5120) (WG WU : S1280x8960.Idx → Elt F .i32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f15' : BufTy.Contents (Elt F) arg15.view.ty) (f16' : BufTy.Contents (Elt F) arg16.view.ty) (f17' : BufTy.Contents (Elt F) arg17.view.ty) (f18' : BufTy.Contents (Elt F) arg18.view.ty) (f19' : BufTy.Contents (Elt F) arg19.view.ty) (f20' : BufTy.Contents (Elt F) arg20.view.ty) (f21' : BufTy.Contents (Elt F) arg21.view.ty) : Prop :=
  ∃ g21, Lhs c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 X4 f18 f18' ∧ Pat c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 X7 X8 X9 X10 f19 f20 f21 f19' f20' g21
    ∧ f21' = cont3 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 (BitVec.ofNat 32 (i 1).val) X5 X6 f18' f19' f20' g21 k0_t3_loop.trips
    ∧ Res c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q X hX WG WU X3 X4 X11 X12 f16 f17 f16' f17' ∧ Out c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 f21' f16' f17' f15 f15'

set_option maxHeartbeats 2000000 in
theorem body_run (q : PosShare TreeShare) (X : S100.Idx → BitVec 32) (hX : ∀ y, (X y).toNat < 5120) (WG WU : S1280x8960.Idx → Elt F .i32) (b b1 b' : Bool) (ht1 : k0_cond1 i = 1#1 → b = false ∧ b1 = true) (hf1 : ¬ k0_cond1 i = 1#1 → b1 = b)
    (ht3 : k0_cond3 i = 1#1 → b1 = true ∧ b' = false) (hf3 : ¬ k0_cond3 i = 1#1 → b' = b1)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f24 : BufTy.Contents (Elt F) arg24.view.ty) (Q : PUnit → sProp 𝕄) :
    iprop(((Memref.whole main_arg1).view.loc (c : Thread nD τ) ↦[(Memref.whole main_arg1).view.set]{q} X) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg24.view.loc (c : Thread nD τ) ↦[arg24.view.set]{fullShare} f24) ∗ (∃ W, owes (c : Thread nD τ) 0 W) ∗ flight c X hX WG WU b)
      ⊢ iprop((∀ f15' f16' f17' f18' f19' f20' f21' f24', iprop(⌜Point c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q X hX WG WU X3 X4 X5 X6 X7 X8 X9 X10 X11 X12 f15 f16 f17 f18 f19 f20 f21 f15' f16' f17' f18' f19' f20' f21'⌝ ∗ ((Memref.whole main_arg1).view.loc (c : Thread nD τ) ↦[(Memref.whole main_arg1).view.set]{q} X) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg15.view.loc (c : Thread nD τ) ↦[arg15.view.set]{fullShare} f15') ∗ (arg16.view.loc (c : Thread nD τ) ↦[arg16.view.set]{fullShare} f16') ∗ (arg17.view.loc (c : Thread nD τ) ↦[arg17.view.set]{fullShare} f17') ∗ (arg18.view.loc (c : Thread nD τ) ↦[arg18.view.set]{fullShare} f18') ∗ (arg19.view.loc (c : Thread nD τ) ↦[arg19.view.set]{fullShare} f19') ∗ (arg20.view.loc (c : Thread nD τ) ↦[arg20.view.set]{fullShare} f20') ∗ (arg21.view.loc (c : Thread nD τ) ↦[arg21.view.set]{fullShare} f21') ∗ (arg24.view.loc (c : Thread nD τ) ↦[arg24.view.set]{fullShare} f24') ∗ (∃ W, owes (c : Thread nD τ) 0 W) ∗ flight c X hX WG WU b') -∗ Q PUnit.unit)
        -∗ wp frame (wpE (defs₀ (F := F)) Variants.none (c : Thread nD τ) none) Set.univ (Gen.cc0_decdec_gated_skel (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7) Q) := by
  iintro ⟨HT, H3, H4, H5, H6, H7, H8, H9, H10, H11, H12, H15, H16, H17, H18, H19, H20, H21, H24, Ho, Hf⟩ Hκ
  rw [s1.eq]
  iapply (stretch1 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q X hX WG WU b b1 ht1 hf1 X4 f18 _ Q) $$ [HT H4 H18 Hf]
  · isplitl [HT]; · iexact HT
    isplitl [H4]; · iexact H4
    isplitl [H18]; · iexact H18
    iexact Hf
  iintro %f18' ⟨%e1, HT, H4, H18, Hf⟩
  rw [s2.eq]
  iapply (stretch2 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 X7 X8 X9 X10 f19 f20 f21 _ Q) $$ [H7 H8 H9 H10 H19 H20 H21]
  · isplitl [H7]; · iexact H7
    isplitl [H8]; · iexact H8
    isplitl [H9]; · iexact H9
    isplitl [H10]; · iexact H10
    isplitl [H19]; · iexact H19
    isplitl [H20]; · iexact H20
    iexact H21
  iintro %f19' %f20' %g21 ⟨%e2, H7, H8, H9, H10, H19, H20, H21⟩
  rw [s3.eq]
  iapply (accumulate c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 X5 X6 f18' f19' f20' g21 _ Q) $$ [H5 H6 H18 H19 H20 H21]
  · isplitl [H5]; · iexact H5
    isplitl [H6]; · iexact H6
    isplitl [H18]; · iexact H18
    isplitl [H19]; · iexact H19
    isplitl [H20]; · iexact H20
    iexact H21
  iintro ⟨H5, H6, H18, H19, H20, H21⟩
  rw [s4.eq]
  iapply (stretch4 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q X hX WG WU b1 b' ht3 hf3 X3 X4 X11 X12 f24 f16 f17 _ Q) $$ [HT H3 H4 H11 H12 H24 H16 H17 Ho Hf]
  · isplitl [HT]; · iexact HT
    isplitl [H3]; · iexact H3
    isplitl [H4]; · iexact H4
    isplitl [H11]; · iexact H11
    isplitl [H12]; · iexact H12
    isplitl [H24]; · iexact H24
    isplitl [H16]; · iexact H16
    isplitl [H17]; · iexact H17
    isplitl [Ho]; · iexact Ho
    iexact Hf
  iintro %f24' %f16' %f17' ⟨%e4, HT, H3, H4, H11, H12, H24, H16, H17, Ho, Hf⟩
  rw [s5.eq]
  iapply (stretch5 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 _ f16' f17' f15 _ Q) $$ [H21 H16 H17 H15]
  · isplitl [H21]; · iexact H21
    isplitl [H16]; · iexact H16
    isplitl [H17]; · iexact H17
    iexact H15
  iintro %f15' ⟨%e5, H21, H16, H17, H15⟩
  unfold s5.tail
  sl_step
  iapply Hκ
  isplitr; swap
  · isplitl [HT]; · iexact HT
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H24]; · iexact H24
    isplitl [Ho]; · iexact Ho
    iexact Hf
  ipureintro; exact ⟨g21, e1, e2, rfl, e4, e5⟩
end Chunks

end Cert.Kernel.Hand
end
-- ==== Proof.Frame.lean ====
module
public import proofs.«01_k».proof.Proof.Body
public import Idealize.ShloMosaic.Lib.StableHlo.RunRead
public import Idealize.ShloMosaic.Lib.Pipeline.Frame
public import proofs.«01_k».proof.Proof.Gen.Kernel.Skeleton
public import proofs.«01_k».proof.Proof.Gen.Kernel.Launch
public import proofs.«01_k».proof.Proof.Gen.Kernel.Loops
public import Idealize.ShloMosaic.Lib.Batch
public import Idealize.ShloMosaic.Lib.Ring
public import Idealize.ShloMosaic.Lib.Pipeline.FrameBody
public import Idealize.ShloMosaic.Lib.Tactic
public import Idealize.ShloMosaic.Lib.Tactic.Stretches
@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (Pipeline.UD sig nD τ) ℕ

variable [∀ e, Nonempty (Elt F e)] (m : (ℓ : Loc nD τ sig) → Buf (Elt F) ℓ)

/-! ## The arrays after the host's lines -/

/-- The buffers as the region finds them. -/
def V (c : Dev nD) (b : Ref sig .tc) : Buf (Elt F) ((c : Thread nD τ).loc b) := StableHlo.after hostOps0 (fun b => m (c, b)) b

/-- The buffers the host's lines write. -/
def written : List (Ref sig .tc) := [main_v0, main_v1, main_c, main_v2, main_v3, main_v4, main_v5, main_v6, main_v7, main_v8, main_v9, main_v10, main_v11, main_v12, main_c_0, main_v13, main_v14, main_v15, main_v16, main_v17, main_c_1, main_v18, main_v19, main_v20, main_v21, main_v22, main_c_2, main_v23, main_v24, main_v25, main_v26, main_v27, main_v28, main_v29, main_v30, main_v31, main_c_3, main_v32, main_v33, main_v34, main_v35, main_v36, main_c_4, main_v37, main_v38, main_v39, main_v40, main_v41, main_c_5, main_v42, main_v43, main_v44]

theorem V_unwritten (c : Dev nD) (b : Ref sig .tc) (hb : b ∉ written) : V m c b = m ((c : Thread nD τ).loc b) :=
  StableHlo.after_unwritten written rfl hb _

theorem hmain : Pipeline.HMainP (Ix := Unit) (Name := ℕ) (U := Pipeline.UD sig nD τ) (Lvl := ℕ) (pcfgs (F := F)) 0 defs₀ Variants.none m (main (F := F)) (V m) :=
  Pipeline.hmainP_prefix (pcfgs (F := F)) 0 defs₀ Variants.none m main hostOps0 hostOps0_sub
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ main_chain

/-- The table's contents, the one table of the pipeline. -/
def tabAt (p : Fin 1) : ((pcfgs (F := F)) p).Adm := ⟨fun k => V m 0 (pre0.ref k), trivial⟩

theorem tab_eq (c : Dev nD) (k : Fin pre0.K) : V m c (pre0.ref k) = (tabAt m 0).1 k := by
  have : c = 0 := Subsingleton.elim _ _
  subst this; rfl

abbrev cfgA : Pipeline.Cfg sig Λ₀ := cfg0 (tabAt m 0)

/-! ## The kernel's own semaphore and the words it moves -/

abbrev osem0 : Fin 1 → SemLoc sig := fun j => (![SemLoc.dma cc0_scratch7.sem] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch7.sem) 0 := by
  rw [Pipeline.ownSems0_eq_of_list c osem0 [0] (by decide) (by decide)]; rfl
def H0 : Finset (Ref sig .tc) := {main_v25, main_v44}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop(((Memref.whole main_v25).view.loc (c : Thread nD τ) ↦{fullShare} V m c main_v25) ∗ ((Memref.whole main_v44).view.loc (c : Thread nD τ) ↦{fullShare} V m c main_v44)) := by
  rw [BI.bigSep_eq_bigSepL_of_eq [main_v25, main_v44] (by decide) (by decide)]; rfl
theorem table_eq (c : Dev nD) :
    (Pipeline.ΦT (U := Pipeline.UD sig nD τ) pre0 (tabAt m 0).1 c : sProp 𝕄)
      = ((Memref.whole main_arg1).view.loc (c : Thread nD τ) ↦[(Memref.whole main_arg1).view.set]{fullShare.right} V m c main_arg1) := by
  have : c = 0 := Subsingleton.elim _ _
  subst this
  unfold Pipeline.ΦT Pipeline.prefHeld
  rw [bigSep_univ_eq_bigSepL [(0 : Fin 1)] (by decide) (by decide)]
  show (((0 : Dev nD) : Thread nD τ).loc main_arg1 ↦{fullShare.right} V m 0 main_arg1 : sProp 𝕄) = _
  rw [show (Memref.whole main_arg1).view.set = Finset.univ from View.set_whole _]

/-! ## The buffers the body is called with -/

abbrev mw0 (t : Fin (cfgA m).N) : Memref sig .tc .vmem S1x256 .i32 := spec0_0.stage ((cfgA m).slots t 0)
abbrev hw0 (t : Fin (cfgA m).N) : (mw0 m t).IsWhole := hstage0_0 (((cfgA m).slots t 0).cast nbuf0_0)
abbrev mw1 (t : Fin (cfgA m).N) : Memref sig .tc .vmem S2x5120 .bf16 := spec0_1.stage ((cfgA m).slots t 1)
abbrev hw1 (t : Fin (cfgA m).N) : (mw1 m t).IsWhole := hstage0_1 (((cfgA m).slots t 1).cast nbuf0_1)
abbrev mw2 (t : Fin (cfgA m).N) : Memref sig .tc .vmem S1280x256 .i32 := spec0_2.stage ((cfgA m).slots t 2)
abbrev hw2 (t : Fin (cfgA m).N) : (mw2 m t).IsWhole := hstage0_2 (((cfgA m).slots t 2).cast nbuf0_2)
abbrev mw3 (t : Fin (cfgA m).N) : Memref sig .tc .vmem S1280x256 .i32 := spec0_3.stage ((cfgA m).slots t 3)
abbrev hw3 (t : Fin (cfgA m).N) : (mw3 m t).IsWhole := hstage0_3 (((cfgA m).slots t 3).cast nbuf0_3)
abbrev mw4 (t : Fin (cfgA m).N) : Memref sig .tc .vmem S40x17920 .bf16 := spec0_4.stage ((cfgA m).slots t 4)
abbrev hw4 (t : Fin (cfgA m).N) : (mw4 m t).IsWhole := hstage0_4 (((cfgA m).slots t 4).cast nbuf0_4)
abbrev mw5 (t : Fin (cfgA m).N) : Memref sig .tc .vmem S40x17920 .bf16 := spec0_5.stage ((cfgA m).slots t 5)
abbrev hw5 (t : Fin (cfgA m).N) : (mw5 m t).IsWhole := hstage0_5 (((cfgA m).slots t 5).cast nbuf0_5)
abbrev mw6 (t : Fin (cfgA m).N) : Memref sig .tc .vmem S40x17920 .i8 := spec0_6.stage ((cfgA m).slots t 6)
abbrev hw6 (t : Fin (cfgA m).N) : (mw6 m t).IsWhole := hstage0_6 (((cfgA m).slots t 6).cast nbuf0_6)
abbrev mw7 (t : Fin (cfgA m).N) : Memref sig .tc .vmem S40x17920 .i8 := spec0_7.stage ((cfgA m).slots t 7)
abbrev hw7 (t : Fin (cfgA m).N) : (mw7 m t).IsWhole := hstage0_7 (((cfgA m).slots t 7).cast nbuf0_7)
abbrev mw8 (t : Fin (cfgA m).N) : Memref sig .tc .vmem S1x5120 .bf16 := spec0_8.stage ((cfgA m).slots t 8)
abbrev hw8 (t : Fin (cfgA m).N) : (mw8 m t).IsWhole := hstage0_8 (((cfgA m).slots t 8).cast nbuf0_8)
abbrev mw9 (t : Fin (cfgA m).N) : Memref sig .tc .vmem S1x5120 .bf16 := spec0_9.stage ((cfgA m).slots t 9)
abbrev hw9 (t : Fin (cfgA m).N) : (mw9 m t).IsWhole := hstage0_9 (((cfgA m).slots t 9).cast nbuf0_9)
abbrev mw10 (t : Fin (cfgA m).N) : Memref sig .tc .vmem S2x1x17920 .bf16 := spec0_10.stage ((cfgA m).slots t 10)
abbrev hw10 (t : Fin (cfgA m).N) : (mw10 m t).IsWhole := hstage0_10 (((cfgA m).slots t 10).cast nbuf0_10)
abbrev mw11 (t : Fin (cfgA m).N) : Memref sig .tc .vmem S2x1x17920 .f32 := spec0_11.stage ((cfgA m).slots t 11)
abbrev hw11 (t : Fin (cfgA m).N) : (mw11 m t).IsWhole := hstage0_11 (((cfgA m).slots t 11).cast nbuf0_11)
abbrev mw12 (t : Fin (cfgA m).N) : Memref sig .tc .vmem S2x1x17920 .f32 := spec0_12.stage ((cfgA m).slots t 12)
abbrev hw12 (t : Fin (cfgA m).N) : (mw12 m t).IsWhole := hstage0_12 (((cfgA m).slots t 12).cast nbuf0_12)

/-- What is said of a run: the buffers it keeps before each point (`inv`), and what each point leaves in a window's buffer (`aft`). -/
structure Say where
  inv : ℕ → (S16x20480.Idx → Elt F .bf16) → (S5x2x320x2x128.Idx → Elt F .f32) → (S5x2x320x2x128.Idx → Elt F .f32) → (S5x16x256.Idx → Elt F .f32) → Prop
  aft : (w : Fin 13) → Fin 28 → (Y X : (spec0 w).block.Idx → Elt F (spec0 w).elt) → Prop

/-- Whether the row transfers are on their way before point `t`. -/
def away (t : ℕ) : Bool := decide (1 ≤ t ∧ t ≤ 3)

variable (hX : ∀ (c : Dev nD) y, BitVec.toNat (V m c main_arg1 y) < 5120) (S : Say (F := F))

abbrev hereS (c : Dev nD) {b : Ref sig .tc} (f : Buf (Elt F) ((Memref.whole b).view.loc (c : Thread nD τ))) : sProp 𝕄 :=
  ((Memref.whole b).view.loc (c : Thread nD τ) ↦[(Memref.whole b).view.set]{fullShare} f)
omit [FloatOps F] [∀ e, Nonempty (Elt F e)] in
theorem hereS_eq (c : Dev nD) (b : Ref sig .tc) (f : Buf (Elt F) ((c : Thread nD τ).loc b)) :
    (((c : Thread nD τ).loc b ↦{fullShare} f) : sProp 𝕄) = hereS c f := by
  unfold hereS
  rw [show (Memref.whole b).view.set = Finset.univ from View.set_whole _]
omit [FloatOps F] [∀ e, Nonempty (Elt F e)] in
theorem to_set (c : Dev nD) (b : Ref sig .tc) (f : Buf (Elt F) ((c : Thread nD τ).loc b)) :
    (((c : Thread nD τ).loc b ↦{fullShare} f) : sProp 𝕄) ⊢ hereS c f := by rw [hereS_eq]
omit [FloatOps F] [∀ e, Nonempty (Elt F e)] in
theorem of_set (c : Dev nD) (b : Ref sig .tc) (f : Buf (Elt F) ((c : Thread nD τ).loc b)) :
    hereS c f ⊢ (((c : Thread nD τ).loc b ↦{fullShare} f) : sProp 𝕄) := by rw [hereS_eq]

/-- The state between points. -/
def Phi (c : Dev nD) (n : ℕ) : sProp 𝕄 :=
  iprop((∃ f18 f19 f20 f21, iprop(⌜S.inv n f18 f19 f20 f21⌝ ∗ ((Memref.whole cc0_scratch0).view.loc (c : Thread nD τ) ↦[(Memref.whole cc0_scratch0).view.set]{fullShare} f18) ∗ ((Memref.whole cc0_scratch1).view.loc (c : Thread nD τ) ↦[(Memref.whole cc0_scratch1).view.set]{fullShare} f19) ∗ ((Memref.whole cc0_scratch2).view.loc (c : Thread nD τ) ↦[(Memref.whole cc0_scratch2).view.set]{fullShare} f20) ∗ ((Memref.whole cc0_scratch3).view.loc (c : Thread nD τ) ↦[(Memref.whole cc0_scratch3).view.set]{fullShare} f21))) ∗ (∃ f24, ((Memref.whole cc0_scratch6).view.loc (c : Thread nD τ) ↦[(Memref.whole cc0_scratch6).view.set]{fullShare} f24)) ∗ (∃ r, prngReg c r)
    ∗ ((Memref.whole main_arg1).view.loc (c : Thread nD τ) ↦[(Memref.whole main_arg1).view.set]{fullShare.right} V m c main_arg1)
    ∗ flight c (V m c main_arg1) (hX c) (V m c main_v25) (V m c main_v44) (away n))

/-- The proof data on core `c`. -/
def rdat (c : Dev nD) : Pipeline.RDat τ (Elt F) Unit ℕ (Pipeline.UD sig nD τ) ℕ (cfgA m) c where
  A w := V m c (Pipeline.arrRef spec0 w)
  after w t Y X := S.aft w (t.cast N_0) Y X
  Φ t := Phi m hX S c t.val
  q _ := fullShare
  owed _ := 0

/-- What must be shown of a saying: it holds at the start, and a point keeps it. -/
structure Holds : Prop where
  init : ∀ (f18 : (S16x20480.Idx → Elt F .bf16)) (f19 : (S5x2x320x2x128.Idx → Elt F .f32)) (f20 : (S5x2x320x2x128.Idx → Elt F .f32)) (f21 : (S5x16x256.Idx → Elt F .f32)), S.inv 0 f18 f19 f20 f21
  step : ∀ (c : Dev nD) (t : Fin (cfgA m).N) (X3 : BufTy.Contents (Elt F) (mw0 m t).view.ty) (X4 : BufTy.Contents (Elt F) (mw1 m t).view.ty) (X5 : BufTy.Contents (Elt F) (mw2 m t).view.ty) (X6 : BufTy.Contents (Elt F) (mw3 m t).view.ty) (X7 : BufTy.Contents (Elt F) (mw4 m t).view.ty) (X8 : BufTy.Contents (Elt F) (mw5 m t).view.ty) (X9 : BufTy.Contents (Elt F) (mw6 m t).view.ty) (X10 : BufTy.Contents (Elt F) (mw7 m t).view.ty) (X11 : BufTy.Contents (Elt F) (mw8 m t).view.ty) (X12 : BufTy.Contents (Elt F) (mw9 m t).view.ty) (f15 : BufTy.Contents (Elt F) (mw10 m t).view.ty) (f16 : BufTy.Contents (Elt F) (mw11 m t).view.ty) (f17 : BufTy.Contents (Elt F) (mw12 m t).view.ty) (f18 : BufTy.Contents (Elt F) (Memref.whole cc0_scratch0).view.ty) (f19 : BufTy.Contents (Elt F) (Memref.whole cc0_scratch1).view.ty) (f20 : BufTy.Contents (Elt F) (Memref.whole cc0_scratch2).view.ty) (f21 : BufTy.Contents (Elt F) (Memref.whole cc0_scratch3).view.ty) (f15' : BufTy.Contents (Elt F) (mw10 m t).view.ty) (f16' : BufTy.Contents (Elt F) (mw11 m t).view.ty) (f17' : BufTy.Contents (Elt F) (mw12 m t).view.ty) (f18' : BufTy.Contents (Elt F) (Memref.whole cc0_scratch0).view.ty) (f19' : BufTy.Contents (Elt F) (Memref.whole cc0_scratch1).view.ty) (f20' : BufTy.Contents (Elt F) (Memref.whole cc0_scratch2).view.ty) (f21' : BufTy.Contents (Elt F) (Memref.whole cc0_scratch3).view.ty),
    (rdat m hX S c).Finds 0 t ((mw0 m t).view.read (Elt F) X3) → (rdat m hX S c).Finds 1 t ((mw1 m t).view.read (Elt F) X4) → (rdat m hX S c).Finds 2 t ((mw2 m t).view.read (Elt F) X5) → (rdat m hX S c).Finds 3 t ((mw3 m t).view.read (Elt F) X6) → (rdat m hX S c).Finds 4 t ((mw4 m t).view.read (Elt F) X7) → (rdat m hX S c).Finds 5 t ((mw5 m t).view.read (Elt F) X8) → (rdat m hX S c).Finds 6 t ((mw6 m t).view.read (Elt F) X9) → (rdat m hX S c).Finds 7 t ((mw7 m t).view.read (Elt F) X10) → (rdat m hX S c).Finds 8 t ((mw8 m t).view.read (Elt F) X11) → (rdat m hX S c).Finds 9 t ((mw9 m t).view.read (Elt F) X12) → (rdat m hX S c).Finds 10 t ((mw10 m t).view.read (Elt F) f15) → (rdat m hX S c).Finds 11 t ((mw11 m t).view.read (Elt F) f16) → (rdat m hX S c).Finds 12 t ((mw12 m t).view.read (Elt F) f17) →
    S.inv t.val f18 f19 f20 f21 →
    Point c (grid0.coords t) (mw0 m t) (hw0 m t) (mw1 m t) (hw1 m t) (mw2 m t) (hw2 m t) (mw3 m t) (hw3 m t) (mw4 m t) (hw4 m t) (mw5 m t) (hw5 m t) (mw6 m t) (hw6 m t) (mw7 m t) (hw7 m t) (mw8 m t) (hw8 m t) (mw9 m t) (hw9 m t) (mw10 m t) (hw10 m t) (mw11 m t) (hw11 m t) (mw12 m t) (hw12 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch6) (Memref.isWhole_whole _) fullShare.right (V m c main_arg1) (hX c) (V m c main_v25) (V m c main_v44) X3 X4 X5 X6 X7 X8 X9 X10 X11 X12 f15 f16 f17 f18 f19 f20 f21 f15' f16' f17' f18' f19' f20' f21' →
    S.inv (t.val + 1) f18' f19' f20' f21' ∧ S.aft 0 (t.cast N_0) ((mw0 m t).view.read (Elt F) X3) ((mw0 m t).view.read (Elt F) X3) ∧ S.aft 1 (t.cast N_0) ((mw1 m t).view.read (Elt F) X4) ((mw1 m t).view.read (Elt F) X4) ∧ S.aft 2 (t.cast N_0) ((mw2 m t).view.read (Elt F) X5) ((mw2 m t).view.read (Elt F) X5) ∧ S.aft 3 (t.cast N_0) ((mw3 m t).view.read (Elt F) X6) ((mw3 m t).view.read (Elt F) X6) ∧ S.aft 4 (t.cast N_0) ((mw4 m t).view.read (Elt F) X7) ((mw4 m t).view.read (Elt F) X7) ∧ S.aft 5 (t.cast N_0) ((mw5 m t).view.read (Elt F) X8) ((mw5 m t).view.read (Elt F) X8) ∧ S.aft 6 (t.cast N_0) ((mw6 m t).view.read (Elt F) X9) ((mw6 m t).view.read (Elt F) X9) ∧ S.aft 7 (t.cast N_0) ((mw7 m t).view.read (Elt F) X10) ((mw7 m t).view.read (Elt F) X10) ∧ S.aft 8 (t.cast N_0) ((mw8 m t).view.read (Elt F) X11) ((mw8 m t).view.read (Elt F) X11) ∧ S.aft 9 (t.cast N_0) ((mw9 m t).view.read (Elt F) X12) ((mw9 m t).view.read (Elt F) X12) ∧ S.aft 10 (t.cast N_0) ((mw10 m t).view.read (Elt F) f15) ((mw10 m t).view.read (Elt F) f15') ∧ S.aft 11 (t.cast N_0) ((mw11 m t).view.read (Elt F) f16) ((mw11 m t).view.read (Elt F) f16') ∧ S.aft 12 (t.cast N_0) ((mw12 m t).view.read (Elt F) f17) ((mw12 m t).view.read (Elt F) f17')

theorem cond1_iff : ∀ t : Fin grid0.N, k0_cond1 (grid0.coords t) = 1#1 ↔ t.val = 0 := by decide
theorem cond2_iff : ∀ t : Fin grid0.N, k0_cond2 (grid0.coords t) = 1#1 ↔ t.val % 4 = 0 := by decide
theorem cond3_iff : ∀ t : Fin grid0.N, k0_cond3 (grid0.coords t) = 1#1 ↔ t.val = 3 := by decide
theorem cond4_iff : ∀ t : Fin grid0.N, k0_cond4 (grid0.coords t) = 1#1 ↔ t.val % 4 = 3 := by decide

/-- The body's call at the point. -/
abbrev bodyA (t : Fin (cfgA m).N) : Prog (TpuEff nD τ sig (Elt F) Λ₀ .tc) PUnit :=
  cc0_decdec_gated (grid0.coords t) (Memref.whole main_arg1) (Memref.isWhole_whole _) (mw0 m t) (hw0 m t) (mw1 m t) (hw1 m t) (mw2 m t) (hw2 m t) (mw3 m t) (hw3 m t) (mw4 m t) (hw4 m t) (mw5 m t) (hw5 m t) (mw6 m t) (hw6 m t) (mw7 m t) (hw7 m t) (mw8 m t) (hw8 m t) (mw9 m t) (hw9 m t) (Memref.whole main_v25) (Memref.isWhole_whole _) (Memref.whole main_v44) (Memref.isWhole_whole _) (mw10 m t) (hw10 m t) (mw11 m t) (hw11 m t) (mw12 m t) (hw12 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7
theorem defs₀_row (t : Fin (cfgA m).N) : defs₀ (F := F) .tc (cfgA m).body ((cfgA m).bodyArgs t ((cfgA m).slots t)) = bodyA m t := by
  unfold defs₀; rw [Defs.onTc_tc]

variable {m} {hX} {S} in
set_option maxHeartbeats 2000000 in
theorem body_obligation (hS : Holds m hX S) (c : Dev nD) : (rdat m hX S c).BodyObligation (defs₀ (F := F)) Variants.none () Set.univ := by
  intro t Y hY
  have ht1 : k0_cond1 (grid0.coords t) = 1#1 → away t.val = false ∧ decide (t.val ≤ 3) = true := fun h => by
    rw [cond1_iff] at h; rw [h]; decide
  have hf1 : ¬ k0_cond1 (grid0.coords t) = 1#1 → decide (t.val ≤ 3) = away t.val := fun h => by
    rw [cond1_iff] at h; unfold away; exact decide_eq_decide.mpr ⟨fun h' => ⟨by omega, h'⟩, fun h' => h'.2⟩
  have ht3 : k0_cond3 (grid0.coords t) = 1#1 → decide (t.val ≤ 3) = true ∧ away (t.val + 1) = false := fun h => by
    rw [cond3_iff] at h; rw [h]; decide
  have hf3 : ¬ k0_cond3 (grid0.coords t) = 1#1 → away (t.val + 1) = decide (t.val ≤ 3) := fun h => by
    rw [cond3_iff] at h; unfold away; exact decide_eq_decide.mpr ⟨fun h' => by omega, fun h' => ⟨by omega, by omega⟩⟩
  rw [bigSep_W0, bigSep_W0, defs₀_row]
  show iprop(Phi m hX S c t.val ∗ _ ∗ _) ⊢ wp _ _ _ _ fun _ => iprop(Phi m hX S c (t.val + 1) ∗ _ ∗ _)
  unfold bodyA Phi
  rw [cc0_decdec_gated_eq_skeleton]
  unfold Pipeline.RDat.owesAt Pipeline.owesWithin owns
  rw [show (rdat m hX S c).owed t.castSucc = 0 from rfl, show (rdat m hX S c).owed t.succ = 0 from rfl]
  iintro ⟨⟨⟨%f18, %f19, %f20, %f21, ⟨%hI, H18, H19, H20, H21⟩⟩, ⟨%f24, H24⟩, Hg, HT, Hf⟩, ⟨%W, -, Ho⟩, ⟨%X3, %e0, H3⟩, ⟨%X4, %e1, H4⟩, ⟨%X5, %e2, H5⟩, ⟨%X6, %e3, H6⟩, ⟨%X7, %e4, H7⟩, ⟨%X8, %e5, H8⟩, ⟨%X9, %e6, H9⟩, ⟨%X10, %e7, H10⟩, ⟨%X11, %e8, H11⟩, ⟨%X12, %e9, H12⟩, ⟨%f15, %e10, H15⟩, ⟨%f16, %e11, H16⟩, ⟨%f17, %e12, H17⟩⟩
  iapply (body_run c (grid0.coords t) (mw0 m t) (hw0 m t) (mw1 m t) (hw1 m t) (mw2 m t) (hw2 m t) (mw3 m t) (hw3 m t) (mw4 m t) (hw4 m t) (mw5 m t) (hw5 m t) (mw6 m t) (hw6 m t) (mw7 m t) (hw7 m t) (mw8 m t) (hw8 m t) (mw9 m t) (hw9 m t) (mw10 m t) (hw10 m t) (mw11 m t) (hw11 m t) (mw12 m t) (hw12 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch6) (Memref.isWhole_whole _) fullShare.right (V m c main_arg1) (hX c) (V m c main_v25) (V m c main_v44) _ _ _ ht1 hf1 ht3 hf3 X3 X4 X5 X6 X7 X8 X9 X10 X11 X12 f15 f16 f17 f18 f19 f20 f21 f24 _) $$ [HT H3 H4 H5 H6 H7 H8 H9 H10 H11 H12 H15 H16 H17 H18 H19 H20 H21 H24 Ho Hf]
  · isplitl [HT]; · iexact HT
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H24]; · iexact H24
    isplitl [Ho]; · iexists W; iexact Ho
    iexact Hf
  iintro %f15' %f16' %f17' %f18' %f19' %f20' %f21' %f24' ⟨%hP, HT, H3, H4, H5, H6, H7, H8, H9, H10, H11, H12, H15, H16, H17, H18, H19, H20, H21, H24, ⟨%W', Ho⟩, Hf⟩
  have hN := hS.step c t X3 X4 X5 X6 X7 X8 X9 X10 X11 X12 f15 f16 f17 f18 f19 f20 f21 f15' f16' f17' f18' f19' f20' f21' (e0 ▸ hY 0) (e1 ▸ hY 1) (e2 ▸ hY 2) (e3 ▸ hY 3) (e4 ▸ hY 4) (e5 ▸ hY 5) (e6 ▸ hY 6) (e7 ▸ hY 7) (e8 ▸ hY 8) (e9 ▸ hY 9) (e10 ▸ hY 10) (e11 ▸ hY 11) (e12 ▸ hY 12) hI hP
  obtain ⟨hI', a0, a1, a2, a3, a4, a5, a6, a7, a8, a9, a10, a11, a12⟩ := hN
  isplitl [H18 H19 H20 H21 H24 Hg HT Hf]
  · isplitl [H18 H19 H20 H21]
    · iexists _, _, _, _
      isplitr; swap
      · isplitl [H18]; · iexact H18
        isplitl [H19]; · iexact H19
        isplitl [H20]; · iexact H20
        iexact H21
      ipureintro; exact hI'
    isplitl [H24]; · iexists _; iexact H24
    isplitl [Hg]; · iexact Hg
    isplitl [HT]; · iexact HT
    iexact Hf
  isplitl [Ho]
  · iexists W'; isplitr; · ipureintro; exact fun _ _ => Or.inl trivial
    iexact Ho
  isplitl [H3]
  · iexists ((mw0 m t).view.read (Elt F) X3); isplitr; · ipureintro; exact e0 ▸ a0
    iexists _; isplitr; swap; · iexact H3
    ipureintro; rfl
  isplitl [H4]
  · iexists ((mw1 m t).view.read (Elt F) X4); isplitr; · ipureintro; exact e1 ▸ a1
    iexists _; isplitr; swap; · iexact H4
    ipureintro; rfl
  isplitl [H5]
  · iexists ((mw2 m t).view.read (Elt F) X5); isplitr; · ipureintro; exact e2 ▸ a2
    iexists _; isplitr; swap; · iexact H5
    ipureintro; rfl
  isplitl [H6]
  · iexists ((mw3 m t).view.read (Elt F) X6); isplitr; · ipureintro; exact e3 ▸ a3
    iexists _; isplitr; swap; · iexact H6
    ipureintro; rfl
  isplitl [H7]
  · iexists ((mw4 m t).view.read (Elt F) X7); isplitr; · ipureintro; exact e4 ▸ a4
    iexists _; isplitr; swap; · iexact H7
    ipureintro; rfl
  isplitl [H8]
  · iexists ((mw5 m t).view.read (Elt F) X8); isplitr; · ipureintro; exact e5 ▸ a5
    iexists _; isplitr; swap; · iexact H8
    ipureintro; rfl
  isplitl [H9]
  · iexists ((mw6 m t).view.read (Elt F) X9); isplitr; · ipureintro; exact e6 ▸ a6
    iexists _; isplitr; swap; · iexact H9
    ipureintro; rfl
  isplitl [H10]
  · iexists ((mw7 m t).view.read (Elt F) X10); isplitr; · ipureintro; exact e7 ▸ a7
    iexists _; isplitr; swap; · iexact H10
    ipureintro; rfl
  isplitl [H11]
  · iexists ((mw8 m t).view.read (Elt F) X11); isplitr; · ipureintro; exact e8 ▸ a8
    iexists _; isplitr; swap; · iexact H11
    ipureintro; rfl
  isplitl [H12]
  · iexists ((mw9 m t).view.read (Elt F) X12); isplitr; · ipureintro; exact e9 ▸ a9
    iexists _; isplitr; swap; · iexact H12
    ipureintro; rfl
  isplitl [H15]
  · iexists ((mw10 m t).view.read (Elt F) f15'); isplitr; · ipureintro; exact e10 ▸ a10
    iexists _; isplitr; swap; · iexact H15
    ipureintro; rfl
  isplitl [H16]
  · iexists ((mw11 m t).view.read (Elt F) f16'); isplitr; · ipureintro; exact e11 ▸ a11
    iexists _; isplitr; swap; · iexact H16
    ipureintro; rfl
  iexists ((mw12 m t).view.read (Elt F) f17'); isplitr; · ipureintro; exact e12 ▸ a12
  iexists _; isplitr; swap; · iexact H17
  ipureintro; rfl

/-! ## The launch -/

theorem start_state (hS : Holds m hX S) (c : Dev nD) : iprop(Pipeline.ΦD osem0 spec0 H0 (V m) c ∗ Pipeline.ΦT pre0 (tabAt m 0).1 c) ⊢ (rdat m hX S c).Φ 0 := by
  show _ ⊢ Phi m hX S c 0
  rw [Pipeline.ΦD_eq, scopedRest0_eq, ownSems00_eq, hbmPts0_eq, table_eq]
  unfold Phi flight
  rw [if_neg (by decide)]
  iintro ⟨⟨⟨⟨%f0, H0⟩, ⟨%f1, H1⟩, ⟨%f2, H2⟩, ⟨%f3, H3⟩, ⟨%f4, H4⟩, ⟨%f5, H5⟩, ⟨%f6, H6⟩⟩, Hg, Hs, HG, HU⟩, HT⟩
  isplitl [H0 H1 H2 H3]
  · iexists f0, f1, f2, f3
    isplitr; · ipureintro; exact hS.init _ _ _ _
    isplitl [H0]; · iapply (to_set c cc0_scratch0 f0); iexact H0
    isplitl [H1]; · iapply (to_set c cc0_scratch1 f1); iexact H1
    isplitl [H2]; · iapply (to_set c cc0_scratch2 f2); iexact H2
    iapply (to_set c cc0_scratch3 f3); iexact H3
  isplitl [H6]; · iexists f6; iapply (to_set c cc0_scratch6 f6); iexact H6
  isplitl [Hg]; · iexact Hg
  isplitl [HT]; · iexact HT
  isplitl [Hs]; · iexact Hs
  iexists f4, f5
  isplitl [HG]; · iexact HG
  isplitl [HU]; · iexact HU
  isplitl [H4]; · iapply (to_set c cc0_scratch4 f4); iexact H4
  iapply (to_set c cc0_scratch5 f5); iexact H5

theorem end_state (c : Dev nD) : (rdat m hX S c).Φ (Fin.last (cfgA m).N) ⊢ Pipeline.ΦD osem0 spec0 H0 (V m) c := by
  show Phi m hX S c (cfgA m).N ⊢ _
  rw [Pipeline.ΦD_eq, scopedRest0_eq, ownSems00_eq, hbmPts0_eq, show (cfgA m).N = 28 from N_0]
  unfold Phi flight
  rw [if_neg (by decide)]
  iintro ⟨⟨%f0, %f1, %f2, %f3, ⟨-, H0, H1, H2, H3⟩⟩, ⟨%f6, H6⟩, Hg, -, Hs, ⟨%f4, %f5, HG, HU, H4, H5⟩⟩
  isplitl [H0 H1 H2 H3 H4 H5 H6]
  · isplitl [H0]; · iexists f0; iapply (of_set c cc0_scratch0 f0); iexact H0
    isplitl [H1]; · iexists f1; iapply (of_set c cc0_scratch1 f1); iexact H1
    isplitl [H2]; · iexists f2; iapply (of_set c cc0_scratch2 f2); iexact H2
    isplitl [H3]; · iexists f3; iapply (of_set c cc0_scratch3 f3); iexact H3
    isplitl [H4]; · iexists f4; iapply (of_set c cc0_scratch4 f4); iexact H4
    isplitl [H5]; · iexists f5; iapply (of_set c cc0_scratch5 f5); iexact H5
    iexists f6; iapply (of_set c cc0_scratch6 f6); iexact H6
  isplitl [Hg]; · iexact Hg
  isplitl [Hs]; · iexact Hs
  isplitl [HG]; · iexact HG
  iexact HU

variable (g : Dev nD → PrngReg)

set_option backward.isDefEq.respectTransparency.types false in
/-- Every weakly fair run ends, with the arrays at contents the saying allows. -/
theorem run_main (hS : Holds m hX S) :
    θ_run defs (onTc (τ := τ) (main (F := F))) (s₀ m g)
      (fun r => Pipeline.RDat.FramePost (cfgA m) (rdat m hX S) (V m) r ∧ r.2.sem = fun _ => 0) :=
  Pipeline.RDat.θ_run_frameP_dma (Q' := _) (pcfgs (F := F)) (tabAt m) (0 : Fin 1) launch0 osem0 defs₀ Variants.none (rdat m hX S) ownSemFacts0 H0 H0_sub m g main
    (hbody := fun c => body_obligation hS c) (hshare := fun c w => by unfold Pipeline.RDat.share; split <;> rfl)
    (howed := fun _ _ => rfl) (V := V m) (hmain := hmain m) (hA := fun _ _ => rfl) (hpf := fun c k => tab_eq m c k)
    (hin := fun c => start_state m hX S hS c) (hout := fun c => end_state m hX S c)

/-- Nothing said. -/
def nothing : Say (F := F) := ⟨fun _ _ _ _ _ => True, fun _ _ _ _ => True⟩
theorem nothing_holds : Holds m hX (nothing (F := F)) :=
  ⟨fun _ _ _ _ => trivial, by intros; exact ⟨trivial, trivial, trivial, trivial, trivial, trivial, trivial, trivial, trivial, trivial, trivial, trivial, trivial, trivial⟩⟩

/-- After a run the arguments hold what they held at launch. -/
theorem args_kept {r : PUnit × MemSt nD τ sig (Elt F)} (h : Pipeline.RDat.FramePost (cfgA m) (rdat m hX S) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) := by
  have hin : ∀ (w : Fin 13), (spec0 w).isOut = false → r.2.mem (((cfgA m).spec w).arr.view.loc (c : Thread nD τ)) = V m c (Pipeline.arrRef spec0 w) := fun w hw => by
    exact (congrFun (Pipeline.RDat.ArrAt_in (rdat m hX S c) w hw _) _).mp ((h c).1 w)
  refine ⟨?_, ?_, ?_, ?_, ?_, ?_, ?_, ?_, ?_, ?_, ?_, ?_⟩
  · exact ((h c).2 main_arg0 (Pipeline.mem_restRefs_of main_arg0 (by decide) (show ∀ w : Fin 13, (spec0 w).arr.view.ref ≠ main_arg0 from by decide))).trans (V_unwritten m c main_arg0 (by decide))
  · exact ((h c).2 main_arg1 (Pipeline.mem_restRefs_of main_arg1 (by decide) (show ∀ w : Fin 13, (spec0 w).arr.view.ref ≠ main_arg1 from by decide))).trans (V_unwritten m c main_arg1 (by decide))
  · exact (hin 2 rfl).trans (V_unwritten m c main_arg2 (by decide))
  · exact (hin 4 rfl).trans (V_unwritten m c main_arg3 (by decide))
  · exact (hin 6 rfl).trans (V_unwritten m c main_arg4 (by decide))
  · exact ((h c).2 main_arg5 (Pipeline.mem_restRefs_of main_arg5 (by decide) (show ∀ w : Fin 13, (spec0 w).arr.view.ref ≠ main_arg5 from by decide))).trans (V_unwritten m c main_arg5 (by decide))
  · exact ((h c).2 main_arg6 (Pipeline.mem_restRefs_of main_arg6 (by decide) (show ∀ w : Fin 13, (spec0 w).arr.view.ref ≠ main_arg6 from by decide))).trans (V_unwritten m c main_arg6 (by decide))
  · exact (hin 3 rfl).trans (V_unwritten m c main_arg7 (by decide))
  · exact (hin 5 rfl).trans (V_unwritten m c main_arg8 (by decide))
  · exact (hin 7 rfl).trans (V_unwritten m c main_arg9 (by decide))
  · exact ((h c).2 main_arg10 (Pipeline.mem_restRefs_of main_arg10 (by decide) (show ∀ w : Fin 13, (spec0 w).arr.view.ref ≠ main_arg10 from by decide))).trans (V_unwritten m c main_arg10 (by decide))
  · exact ((h c).2 main_arg11 (Pipeline.mem_restRefs_of main_arg11 (by decide) (show ∀ w : Fin 13, (spec0 w).arr.view.ref ≠ main_arg11 from by decide))).trans (V_unwritten m c main_arg11 (by decide))

end Cert.Kernel.Hand
end
-- ==== Proof.Ideal.Dma.lean ====
module
public import proofs.«01_k».proof.Proof.Gen.KernelIdeal.Skeleton
public import proofs.«01_k».proof.Proof.Gen.KernelIdeal.Launch
public import proofs.«01_k».proof.Proof.Gen.KernelIdeal.Loops
public import Idealize.ShloMosaic.Lib.Batch
public import Idealize.ShloMosaic.Lib.Ring
public import Idealize.ShloMosaic.Lib.Pipeline.FrameBody
public import Idealize.ShloMosaic.Lib.Tactic
public import Idealize.ShloMosaic.Lib.Tactic.Stretches
@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (Pipeline.UD sig nD τ) ℕ

/-! ## The rows -/

/-- The word of the index table that trip `k` reads. -/
def word (X : S100.Idx → BitVec 32) (k : Fin k0_t1_loop.trips) : BitVec 32 :=
  X (fun a => ⟨k.val, by rw [Subsingleton.elim a (0 : Fin 1)]; exact Nat.lt_of_lt_of_le k.isLt k0_t1_abs.2.1⟩)

theorem shrsi_two (v : BitVec 32) (hv : v.toNat < 5120) : (Scalar.shrsi v 2#32).toNat = v.toNat / 4 := by
  have hm : v.msb = false := by rw [BitVec.msb_eq_false_iff_two_mul_lt]; omega
  show (IntOp.shrsi .scalar v 2#32).toNat = _
  unfold IntOp.shrsi
  rw [if_pos (by decide), BitVec.sshiftRight', BitVec.sshiftRight_eq_of_msb_false hm, BitVec.toNat_ushiftRight]
  simp [Nat.shiftRight_eq_div_pow]

theorem row_inb (v : BitVec 32) (hv : v.toNat < 5120) : ∀ a, (k0_off3 v) a + S1x8960.size a ≤ S1280x8960.size a := by
  have h1 : (Scalar.shrsi v 2#32).toNat < 1280 := by rw [shrsi_two v hv]; omega
  intro a; fin_cases a
  · show (Scalar.shrsi v 2#32).toNat + 1 ≤ 1280; omega
  · show 0 + 8960 ≤ 8960; omega

theorem chk1_of (i : grid0.Coords) (v : BitVec 32) (hv : v.toNat < 5120) : k0_chk1 i v := fun _ => row_inb v hv
theorem chk3_of (i : grid0.Coords) (v : BitVec 32) (hv : v.toNat < 5120) : k0_chk3 i v := fun _ => row_inb v hv
theorem chk4_of (i : grid0.Coords) (v : BitVec 32) (hv : v.toNat < 5120) : k0_chk4 i v := fun _ => row_inb v hv
theorem chk2_of (i : grid0.Coords) (v : BitVec 32) (hv : v.toNat < 5120) : k0_chk2 i v := fun _ => row_inb v hv

theorem tab_inb (k : Fin k0_t1_loop.trips) : ∀ a, (k0_off1 k) a + S1.size a ≤ S100.size a := by
  have hk : k.val < 100 := Nat.lt_of_lt_of_le k.isLt k0_t1_abs.2.1
  rw [k0_off1_eq]; intro a; fin_cases a
  show k.val + 1 ≤ 100; omega
theorem tab_inb' (k : Fin k0_t1_loop.trips) : ∀ a, (k0_off4 k) a + S1.size a ≤ S100.size a := by
  have hk : k.val < 100 := Nat.lt_of_lt_of_le k.isLt k0_t1_abs.2.1
  rw [k0_off4_eq]; intro a; fin_cases a
  show k.val + 1 ≤ 100; omega
theorem numel1_S1' : 0 < S1.numel := by decide

theorem dst_inb (k : Fin k0_t1_loop.trips) : ∀ a, (k0_off2 k) a + S1x8960.size a ≤ S128x8960.size a := by
  have hk : k.val < 100 := Nat.lt_of_lt_of_le k.isLt k0_t1_abs.2.1
  rw [k0_off2_eq]; intro a; fin_cases a
  · show k.val + 1 ≤ 128; omega
  · show 0 + 8960 ≤ 8960; omega

theorem dst_inb' (k : Fin k0_t1_loop.trips) : ∀ a, (k0_off5 k) a + S1x8960.size a ≤ S128x8960.size a := by
  have hk : k.val < 100 := Nat.lt_of_lt_of_le k.isLt k0_t1_abs.2.1
  rw [k0_off5_eq]; intro a; fin_cases a
  · show k.val + 1 ≤ 128; omega
  · show 0 + 8960 ≤ 8960; omega

/-- Row `k` of the two row buffers. -/
def dG (k : Fin k0_t1_loop.trips) : Memref sig .tc .vmem S1x8960 .i32 :=
  (Memref.whole cc0_scratch4).slice (Rect.unit (s := S128x8960) (k0_off2 k) S1x8960.size (dst_inb k)) (fun _ => rfl)
def dU (k : Fin k0_t1_loop.trips) : Memref sig .tc .vmem S1x8960 .i32 :=
  (Memref.whole cc0_scratch5).slice (Rect.unit (s := S128x8960) (k0_off5 k) S1x8960.size (dst_inb' k)) (fun _ => rfl)
/-- The row of words that holds channel `v`. -/
def sG (v : BitVec 32) (hv : v.toNat < 5120) : Memref sig .tc .hbm S1x8960 .i32 :=
  (Memref.whole main_v25).slice (Rect.unit (s := S1280x8960) (k0_off3 v) S1x8960.size (row_inb v hv)) (fun _ => rfl)
def sU (v : BitVec 32) (hv : v.toNat < 5120) : Memref sig .tc .hbm S1x8960 .i32 :=
  (Memref.whole main_v44).slice (Rect.unit (s := S1280x8960) (k0_off6 v) S1x8960.size (row_inb v hv)) (fun _ => rfl)

section Issue

/-- The words that trip `k` reads from the table, as the loads read them. -/
def wG (X : S100.Idx → BitVec 32) (k : Fin k0_t1_loop.trips) : BitVec 32 :=
  View.readAt (Elt F) (Memref.whole main_arg1).view (Rect.unit (s := S100) (k0_off1 k) S1.size (tab_inb k)).toLoadRect X (Shape.Idx.first numel1_S1')
def wU (X : S100.Idx → BitVec 32) (k : Fin k0_t1_loop.trips) : BitVec 32 :=
  View.readAt (Elt F) (Memref.whole main_arg1).view (Rect.unit (s := S100) (k0_off4 k) S1.size (tab_inb' k)).toLoadRect X (Shape.Idx.first numel1_S1')
theorem wG_eq (X : S100.Idx → BitVec 32) (k : Fin k0_t1_loop.trips) : wG (F := F) X k = word X k := by
  refine congrArg X (funext fun a => Fin.ext ?_)
  fin_cases a
  exact congrFun (k0_off1_eq k) 0
theorem wU_eq (X : S100.Idx → BitVec 32) (k : Fin k0_t1_loop.trips) : wU (F := F) X k = word X k := by
  refine congrArg X (funext fun a => Fin.ext ?_)
  fin_cases a
  exact congrFun (k0_off4_eq k) 0
theorem hwG (X : S100.Idx → BitVec 32) (hX : ∀ y, (X y).toNat < 5120) (k : Fin k0_t1_loop.trips) : (wG (F := F) X k).toNat < 5120 := hX _
theorem hwU (X : S100.Idx → BitVec 32) (hX : ∀ y, (X y).toNat < 5120) (k : Fin k0_t1_loop.trips) : (wU (F := F) X k).toNat < 5120 := hX _

variable (c : Dev nD) (X : S100.Idx → BitVec 32) (hX : ∀ y, (X y).toNat < 5120) (WG WU : S1280x8960.Idx → Elt F .i32)

/-- The words of a matrix as the contents of one of its rows' buffers. -/
def asG (v : BitVec 32) (hv : v.toNat < 5120) (W : S1280x8960.Idx → Elt F .i32) : Buf (Elt F) ((sG v hv).view.loc (c : Thread nD τ)) := W
def asU (v : BitVec 32) (hv : v.toNat < 5120) (W : S1280x8960.Idx → Elt F .i32) : Buf (Elt F) ((sU v hv).view.loc (c : Thread nD τ)) := W

abbrev tokG (k : Fin k0_t1_loop.trips) : sProp 𝕄 :=
  (sG (wG (F := F) X k) (hwG X hX k)).view.loc (c : Thread nD τ) ↦[(sG (wG (F := F) X k) (hwG X hX k)).view.set]{Transfers.shareTokN fullShare k.val} asG c (wG (F := F) X k) (hwG X hX k) WG
abbrev tokU (k : Fin k0_t1_loop.trips) : sProp 𝕄 :=
  (sU (wU (F := F) X k) (hwU X hX k)).view.loc (c : Thread nD τ) ↦[(sU (wU (F := F) X k) (hwU X hX k)).view.set]{Transfers.shareTokN fullShare k.val} asU c (wU (F := F) X k) (hwU X hX k) WU

abbrev landG [∀ e, Nonempty (Elt F e)] (k : Fin k0_t1_loop.trips) : sProp 𝕄 :=
  (dG k).view.loc (c : Thread nD τ) ↦[(dG k).view.set]{fullShare}
    (dG k).view.writes (Elt F) (dG k).view.junk [⟨Rect.whole S1x8960, ReadAs.same.apply ((sG (wG (F := F) X k) (hwG X hX k)).view.read (Elt F) (asG c (wG (F := F) X k) (hwG X hX k) WG))⟩]
abbrev landU [∀ e, Nonempty (Elt F e)] (k : Fin k0_t1_loop.trips) : sProp 𝕄 :=
  (dU k).view.loc (c : Thread nD τ) ↦[(dU k).view.set]{fullShare}
    (dU k).view.writes (Elt F) (dU k).view.junk [⟨Rect.whole S1x8960, ReadAs.same.apply ((sU (wU (F := F) X k) (hwU X hX k)).view.read (Elt F) (asU c (wU (F := F) X k) (hwU X hX k) WU))⟩]

variable [∀ e, Nonempty (Elt F e)]

/-- What transfer `2 k` delivers: row `k` landed, and the read token of its source back; transfer `2 k + 1` the same of the other matrix. -/
abbrev delG (k : ℕ) : sProp 𝕄 := if h : k < k0_t1_loop.trips then iprop(landG (F := F) c X hX WG ⟨k, h⟩ ∗ tokG c X hX WG ⟨k, h⟩) else iprop(emp)
abbrev delU (k : ℕ) : sProp 𝕄 := if h : k < k0_t1_loop.trips then iprop(landU (F := F) c X hX WU ⟨k, h⟩ ∗ tokU c X hX WU ⟨k, h⟩) else iprop(emp)
abbrev dels : Fin (2 * k0_t1_loop.trips) → sProp 𝕄 := Ring.interleaved k0_t1_loop.trips (delG c X hX WG) (delU c X hX WU)

instance delG_storable (k : ℕ) : Storable (upEmb : UEmb _ 𝕄) (delG c X hX WG k) := by unfold delG; split <;> infer_instance
instance delU_storable (k : ℕ) : Storable (upEmb : UEmb _ 𝕄) (delU c X hX WU k) := by unfold delU; split <;> infer_instance

abbrev batch (j u : ℕ) : sProp 𝕄 :=
  Transfers.Batch (countersEmb (U := Pipeline.UD sig nD τ)) (c : Thread nD τ) (.dma cc0_scratch7.sem) () 1120 (dels c X hX WG WU) j u

/-- What trip `k` of the issue loop uses: its two rows at any contents and the read tokens of its sources. -/
abbrev blk (k : Fin k0_t1_loop.trips) : sProp 𝕄 :=
  iprop((∃ g, (dG k).view.loc (c : Thread nD τ) ↦[(dG k).view.set]{fullShare} g) ∗ (∃ g, (dU k).view.loc (c : Thread nD τ) ↦[(dU k).view.set]{fullShare} g)
    ∗ tokG c X hX WG k ∗ tokU c X hX WU k)

section Loops
variable (i : grid0.Coords) (q : PosShare TreeShare)
  (arg3 : Memref sig .tc .vmem S1x256 .i32) (harg3 : arg3.IsWhole) (arg4 : Memref sig .tc .vmem S2x5120 .bf16) (harg4 : arg4.IsWhole) (arg5 : Memref sig .tc .vmem S1280x256 .i32) (harg5 : arg5.IsWhole) (arg6 : Memref sig .tc .vmem S1280x256 .i32) (harg6 : arg6.IsWhole) (arg7 : Memref sig .tc .vmem S40x17920 .bf16) (harg7 : arg7.IsWhole) (arg8 : Memref sig .tc .vmem S40x17920 .bf16) (harg8 : arg8.IsWhole) (arg9 : Memref sig .tc .vmem S40x17920 .i8) (harg9 : arg9.IsWhole) (arg10 : Memref sig .tc .vmem S40x17920 .i8) (harg10 : arg10.IsWhole) (arg11 : Memref sig .tc .vmem S1x5120 .bf16) (harg11 : arg11.IsWhole) (arg12 : Memref sig .tc .vmem S1x5120 .bf16) (harg12 : arg12.IsWhole) (arg15 : Memref sig .tc .vmem S2x1x17920 .bf16) (harg15 : arg15.IsWhole) (arg16 : Memref sig .tc .vmem S2x1x17920 .f32) (harg16 : arg16.IsWhole) (arg17 : Memref sig .tc .vmem S2x1x17920 .f32) (harg17 : arg17.IsWhole) (arg18 : Memref sig .tc .vmem S16x20480 .bf16) (harg18 : arg18.IsWhole) (arg19 : Memref sig .tc .vmem S5x2x320x2x128 .f32) (harg19 : arg19.IsWhole) (arg20 : Memref sig .tc .vmem S5x2x320x2x128 .f32) (harg20 : arg20.IsWhole) (arg21 : Memref sig .tc .vmem S5x16x256 .f32) (harg21 : arg21.IsWhole) (arg24 : Memref sig .tc .vmem S128x128 .i32) (harg24 : arg24.IsWhole)

/-- Before trip `k` of the issue loop: `2 k` transfers on their way, the rows and tokens of the later trips in hand. -/
def issueAt (k : ℕ) (_ : Unit) : sProp 𝕄 :=
  iprop(((Memref.whole main_arg1).view.loc (c : Thread nD τ) ↦[(Memref.whole main_arg1).view.set]{q} X)
      ∗ batch c X hX WG WU (2 * k) 0 ∗ bigSep (Ring.rangeSet k0_t1_loop.trips k k0_t1_loop.trips) (blk c X hX WG WU))

/-- One trip of the issue loop. -/
theorem issue_step (h1 : k0_cond1 i = 1#1) (k : Fin k0_t1_loop.trips) (acc : Unit) :
    issueAt c X hX WG WU q k acc
    ⊢ wp frame (wpE (defs₀ (F := F)) Variants.none (c : Thread nD τ) none) Set.univ
        (k0_t1_body (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 h1 k acc)
      (issueAt c X hX WG WU q (k.val + 1)) := by
  have hk := k.isLt
  unfold issueAt
  rw [Ring.bigSep_rangeSet_head (Φ := blk c X hX WG WU) (by omega) (by omega),
    show 2 * (k.val + 1) = 2 * k.val + 1 + 1 by omega]
  unfold blk tokG tokU
  iintro ⟨HT, HB, ⟨⟨%gk, HK⟩, ⟨%gv, HV⟩, HG, HU⟩, Hs⟩
  unfold k0_t1_body
  sl_exec (disch := first | as_aux_lemma => exact chk1_of _ _ (hX _) | as_aux_lemma => exact chk2_of _ _ (hX _))
  sl_step
  isplitl [HT]; · iexact HT
  isplitl [HB]; · iexact HB
  iexact Hs

/-- Before trip `k` of the drain loop: the batch with `2 k` transfers' units consumed, or after the last trip the cell at
    zero and every delivery. -/
def drainInv (k : ℕ) (_ : Unit) : sProp 𝕄 :=
  iprop(⌜k ≤ k0_t1_loop.trips⌝ ∗ ((Memref.whole main_arg1).view.loc (c : Thread nD τ) ↦[(Memref.whole main_arg1).view.set]{q} X)
    ∗ (∃ W, owes (c : Thread nD τ) 0 W)
    ∗ (if k < k0_t1_loop.trips then batch c X hX WG WU (2 * k0_t1_loop.trips) (2 * k * 1120)
       else iprop(semVal ((c : Thread nD τ), SemLoc.dma cc0_scratch7.sem) 0 ∗ bigSep Finset.univ (dels c X hX WG WU))))

/-- One trip of the drain loop. -/
theorem drain_step (h3 : k0_cond3 i = 1#1) (k : Fin k0_t5_loop.trips) (acc : Unit) :
    drainInv c X hX WG WU q k acc
    ⊢ wp frame (wpE (defs₀ (F := F)) Variants.none (c : Thread nD τ) none) Set.univ
        (k0_t5_body (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 h3 0#32 1#32 k acc)
      (drainInv c X hX WG WU q (k.val + 1)) := by
  have hk : k.val < k0_t1_loop.trips := k.isLt
  unfold drainInv
  rw [if_pos hk]
  rcases Nat.lt_or_ge (k.val + 1) k0_t1_loop.trips with h1 | h1
  · rw [if_pos h1]
    iintro ⟨-, HT, ⟨%W, HO⟩, HB⟩
    unfold k0_t5_body
    sl_exec (disch := first | as_aux_lemma => exact chk3_of _ _ (hX _) | as_aux_lemma => exact chk4_of _ _ (hX _))
    sl_step
    isplitr; · ipureintro; omega
    isplitl [HT]; · iexact HT
    isplitl [HO]; · iexists _; iexact HO
    rw [show 2 * (k.val + 1) * 1120 = 2 * k.val * 1120 + 1120 + 1120 by omega]
    iexact HB
  · rw [if_neg (Nat.not_lt.mpr h1)]
    iintro ⟨-, HT, ⟨%W, HO⟩, HB⟩
    unfold k0_t5_body
    sl_exec (disch := first | as_aux_lemma => exact chk3_of _ _ (hX _) | as_aux_lemma => exact chk4_of _ _ (hX _))
    sl_step
    isplitr; · ipureintro; omega
    isplitl [HT]; · iexact HT
    isplitl [HO]; · iexists _; iexact HO
    isplitl [HB]; · iexact HB
    iexact HB_all
end Loops
end Issue
end Cert.KernelIdeal.Hand
end
-- ==== Proof.Ideal.Rows.lean ====
module
public import proofs.«01_k».proof.Proof.Ideal.Dma
public import Idealize.ShloMosaic.Lib.ValueIdxCore
public import proofs.«01_k».proof.Proof.Gen.KernelIdeal.Skeleton
public import proofs.«01_k».proof.Proof.Gen.KernelIdeal.Launch
public import proofs.«01_k».proof.Proof.Gen.KernelIdeal.Loops
public import Idealize.ShloMosaic.Lib.Batch
public import Idealize.ShloMosaic.Lib.Ring
public import Idealize.ShloMosaic.Lib.Pipeline.FrameBody
public import Idealize.ShloMosaic.Lib.Tactic
public import Idealize.ShloMosaic.Lib.Tactic.Stretches
@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (Pipeline.UD sig nD τ) ℕ

/-! ## Tokens and rows -/

section Generic
variable {ℓ : Loc nD τ sig} {T : ℕ}

/-- An array held whole is what is left after `T` read tokens, beside, of each token, its part on `S k` and its part outside. -/
theorem toks_parts (S : Fin T → Finset (Idx ℓ)) (f : Buf (Elt F) ℓ) :
    (ℓ ↦{fullShare} f : sProp 𝕄) ⊣⊢ iprop(((ℓ ↦{Transfers.shareDrop fullShare T} f) ∗ bigSep Finset.univ (fun k : Fin T => ℓ ↦[Finset.univ \ S k]{Transfers.shareTokN fullShare k.val} f))
      ∗ bigSep Finset.univ (fun k : Fin T => ℓ ↦[S k]{Transfers.shareTokN fullShare k.val} f)) := by
  have e : bigSep Finset.univ (fun i : Fin T => (ℓ ↦{Transfers.shareTokN fullShare i.val} f : sProp 𝕄))
      = iprop(bigSep Finset.univ (fun k : Fin T => ℓ ↦[S k]{Transfers.shareTokN fullShare k.val} f) ∗ bigSep Finset.univ (fun k : Fin T => ℓ ↦[Finset.univ \ S k]{Transfers.shareTokN fullShare k.val} f)) := by
    refine Eq.trans ?_ (BI.bigSep_sep Finset.univ (fun k : Fin T => (ℓ ↦[S k]{Transfers.shareTokN fullShare k.val} f : sProp 𝕄)) (fun k : Fin T => (ℓ ↦[Finset.univ \ S k]{Transfers.shareTokN fullShare k.val} f : sProp 𝕄)))
    refine BI.bigSep_congr fun k _ => ?_
    have h := pointsTo_split_subset (Ix := Unit) (Name := ℕ) (U := Pipeline.UD sig nD τ) (Lvl := ℕ) (ℓ := ℓ) (f := f) (q := Transfers.shareTokN fullShare k.val) (Finset.subset_univ (S k))
    exact BI.equiv_iff.mp ⟨h.1, h.2⟩
  have h : (ℓ ↦{fullShare} f : sProp 𝕄) ⊣⊢ iprop((ℓ ↦{Transfers.shareDrop fullShare T} f) ∗ bigSep Finset.univ (fun i : Fin T => ℓ ↦{Transfers.shareTokN fullShare i.val} f)) :=
    Transfers.pointsTo_toks fullShare T
  constructor
  · iintro H
    ihave H' := h.1 $$ H
    icases H' with ⟨H1, H2⟩
    ihave H2' := (show _ ⊢ _ from Entails.of_eq e) $$ H2
    icases H2' with ⟨H2, H3⟩
    isplitr [H2]
    · isplitl [H1] <;> iassumption
    · iassumption
  · iintro ⟨⟨H1, H3⟩, H2⟩
    iapply h.2
    isplitl [H1]; · iassumption
    iapply (show _ ⊢ _ from Entails.of_eq e.symm)
    isplitl [H2] <;> iassumption

/-- A buffer held whole is its rows, pairwise disjoint, beside the rest of it. -/
theorem rows_parts (I : Fin T → Finset (Idx ℓ)) (hd : ∀ b b', b ≠ b' → Disjoint (I b) (I b')) (f : Buf (Elt F) ℓ) :
    (ℓ ↦{fullShare} f : sProp 𝕄) ⊣⊢ iprop(bigSep Finset.univ (fun k : Fin T => ℓ ↦[I k]{fullShare} f)
      ∗ ℓ ↦[Finset.univ \ Finset.univ.biUnion I]{fullShare} f) := by
  rw [← pointsTo_biUnion Finset.univ I (fun b _ b' _ h => hd b b' h)]
  exact pointsTo_split_subset (Finset.subset_univ _)
end Generic

section Rows
open ValueIdx
theorem div_lt {v : BitVec 32} (h : v.toNat < 5120) : v.toNat / 4 < 1280 := by omega

/-- The rows gathered: row `k` of the buffer is the row of words that holds channel `word X k`; the rest as it was. -/
def rowsOf (X : S100.Idx → BitVec 32) (hX : ∀ y, (X y).toNat < 5120) (W : S1280x8960.Idx → Elt F .i32) (g : S128x8960.Idx → Elt F .i32) : S128x8960.Idx → Elt F .i32 :=
  fun y => if h : (y 0).val < k0_t1_loop.trips then W (ix2 ⟨(word X ⟨(y 0).val, h⟩).toNat / 4, div_lt (hX _)⟩ (y 1)) else g y

variable [∀ e, Nonempty (Elt F e)] (c : Dev nD) (X : S100.Idx → BitVec 32) (hX : ∀ y, (X y).toNat < 5120) (WG WU : S1280x8960.Idx → Elt F .i32)

/-- The elements of row `k`, by their own type. -/
def setG (k : Fin k0_t1_loop.trips) : Finset S128x8960.Idx := (dG k).view.set
theorem setG_eq (k : Fin k0_t1_loop.trips) : setG k = (Rect.unit (s := S128x8960) (k0_off2 k) S1x8960.size (dst_inb k)).set := by
  unfold setG dG; exact View.set_slice_whole _ _
theorem mem_dG (k : Fin k0_t1_loop.trips) (y : S128x8960.Idx) : y ∈ setG k ↔ (y 0).val = k.val := by
  rw [setG_eq, Rect.mem_set_unit]
  have h2 : (y 1).val < 8960 := (y 1).isLt
  have e := k0_off2_eq k
  constructor
  · intro H; have a0 := H 0; rw [e] at a0; have a0 : k.val ≤ (y 0).val ∧ (y 0).val < k.val + 1 := a0; omega
  · intro H a; rw [e]; fin_cases a
    · show k.val ≤ (y 0).val ∧ (y 0).val < k.val + 1; omega
    · show 0 ≤ (y 1).val ∧ (y 1).val < 0 + 8960; omega
theorem dG_disjoint (k k' : Fin k0_t1_loop.trips) (h : k ≠ k') : Disjoint (setG k) (setG k') := by
  rw [Finset.disjoint_left]; intro y hy hy'
  exact h (Fin.ext (((mem_dG k y).mp hy).symm.trans ((mem_dG k' y).mp hy')))
theorem dG_emb (k : Fin k0_t1_loop.trips) (y : S128x8960.Idx) (hy : y ∈ setG k) : (dG k).view.emb (ix2 (0 : Fin 1) (⟨(y 1).val, (y 1).isLt⟩ : Fin 8960)) = y := by
  have h0 := (mem_dG k y).mp hy
  funext a; refine Fin.ext ?_
  fin_cases a
  · show (k0_off2 k) 0 + 1 * 0 = (y 0).val; rw [k0_off2_eq, h0]; rfl
  · show (k0_off2 k) 1 + 1 * (y 1).val = (y 1).val; rw [k0_off2_eq]; show 0 + 1 * (y 1).val = _; omega
theorem landG_eq (g : S128x8960.Idx → Elt F .i32) (k : Fin k0_t1_loop.trips) :
    landG c X hX WG k = ((dG k).view.loc (c : Thread nD τ) ↦[(dG k).view.set]{fullShare} (rowsOf X hX WG g : S128x8960.Idx → Elt F .i32) : sProp 𝕄) := by
  refine pointsTo_congr fun y0 hy0 => ?_
  have y : S128x8960.Idx := y0
  revert hy0
  suffices H : ∀ y : S128x8960.Idx, y ∈ setG k → (dG k).view.writes (Elt F) (dG k).view.junk [⟨Rect.whole S1x8960, ReadAs.same.apply ((sG (wG (F := F) X k) (hwG X hX k)).view.read (Elt F) (asG c (wG (F := F) X k) (hwG X hX k) WG))⟩] y = rowsOf X hX WG g y from H y0
  clear y y0
  intro y hy
  have h0 := (mem_dG k y).mp hy
  have e := dG_emb k y hy
  have e2 : (dG k).view.writes (Elt F) (dG k).view.junk [⟨Rect.whole S1x8960, ReadAs.same.apply ((sG (wG (F := F) X k) (hwG X hX k)).view.read (Elt F) (asG c (wG (F := F) X k) (hwG X hX k) WG))⟩] ((dG k).view.emb (ix2 (0 : Fin 1) (⟨(y 1).val, (y 1).isLt⟩ : Fin 8960)))
      = WG ((sG (wG (F := F) X k) (hwG X hX k)).view.emb (ix2 (0 : Fin 1) (⟨(y 1).val, (y 1).isLt⟩ : Fin 8960))) := by
    have h := View.read_writes_cons_emb (Val := Elt F) (v := (dG k).view) (f := (dG k).view.junk) (Rect.whole S1x8960) (ReadAs.same.apply ((sG (wG (F := F) X k) (hwG X hX k)).view.read (Elt F) (asG c (wG (F := F) X k) (hwG X hX k) WG))) [] (ix2 (0 : Fin 1) (⟨(y 1).val, (y 1).isLt⟩ : Fin 8960))
    rw [Rect.emb_whole_apply] at h
    rw [View.read_apply] at h
    refine Eq.trans (eq_of_heq (cast_eq_iff_heq.mp h)) ?_
    rfl
  have e3 : rowsOf X hX WG g y = WG (ix2 ⟨(word X k).toNat / 4, div_lt (hX _)⟩ (y 1)) := by
    have hk : (y 0).val < k0_t1_loop.trips := by rw [h0]; exact k.isLt
    unfold rowsOf; rw [dif_pos hk]
    have : (⟨(y 0).val, hk⟩ : Fin k0_t1_loop.trips) = k := Fin.ext h0
    simp only [this]
  rw [e3]
  refine Eq.trans (congrArg _ e.symm) (e2.trans ?_)
  refine congrArg WG (funext fun a => Fin.ext ?_)
  fin_cases a
  · show (Scalar.shrsi (wG (F := F) X k) 2#32).toNat + 1 * 0 = (word X k).toNat / 4
    rw [wG_eq, shrsi_two (word X k) (hX _)]; rfl
  · show 0 + 1 * (y 1).val = (y 1).val; omega

/-- What of the words and of the row buffer stays aside while the transfers are on their way. -/
abbrev keepG : sProp 𝕄 :=
  iprop(((Memref.whole main_v25).view.loc (c : Thread nD τ) ↦{Transfers.shareDrop fullShare k0_t1_loop.trips} WG)
    ∗ bigSep Finset.univ (fun k : Fin k0_t1_loop.trips => (Memref.whole main_v25).view.loc (c : Thread nD τ) ↦[Finset.univ \ (sG (wG (F := F) X k) (hwG X hX k)).view.set]{Transfers.shareTokN fullShare k.val} WG))
abbrev spareG (g : S128x8960.Idx → Elt F .i32) : sProp 𝕄 :=
  (Memref.whole cc0_scratch4).view.loc (c : Thread nD τ) ↦[Finset.univ \ Finset.univ.biUnion setG]{fullShare} g
theorem words_G : ((Memref.whole main_v25).view.loc (c : Thread nD τ) ↦{fullShare} WG : sProp 𝕄)
    ⊣⊢ iprop(keepG c X hX WG ∗ bigSep Finset.univ (fun k => tokG c X hX WG k)) :=
  toks_parts (ℓ := (Memref.whole main_v25).view.loc (c : Thread nD τ)) (fun k => (sG (wG (F := F) X k) (hwG X hX k)).view.set) WG
theorem rows_G (g : S128x8960.Idx → Elt F .i32) : ((Memref.whole cc0_scratch4).view.loc (c : Thread nD τ) ↦{fullShare} g : sProp 𝕄)
    ⊣⊢ iprop(bigSep Finset.univ (fun k : Fin k0_t1_loop.trips => (dG k).view.loc (c : Thread nD τ) ↦[(dG k).view.set]{fullShare} (g : S128x8960.Idx → Elt F .i32)) ∗ spareG c g) :=
  rows_parts (ℓ := (Memref.whole cc0_scratch4).view.loc (c : Thread nD τ)) setG dG_disjoint g
theorem spareG_eq (g : S128x8960.Idx → Elt F .i32) : spareG c g = spareG c (rowsOf X hX WG g) := by
  refine pointsTo_congr fun y hy => ?_
  have hn : ¬ (y 0).val < k0_t1_loop.trips := fun h => by
    rw [Finset.mem_sdiff] at hy
    exact hy.2 (Finset.mem_biUnion.mpr ⟨⟨(y 0).val, h⟩, Finset.mem_univ _, (mem_dG _ y).mpr rfl⟩)
  unfold rowsOf; rw [dif_neg hn]

/-- The elements of row `k`, by their own type. -/
def setU (k : Fin k0_t1_loop.trips) : Finset S128x8960.Idx := (dU k).view.set
theorem setU_eq (k : Fin k0_t1_loop.trips) : setU k = (Rect.unit (s := S128x8960) (k0_off5 k) S1x8960.size (dst_inb' k)).set := by
  unfold setU dU; exact View.set_slice_whole _ _
theorem mem_dU (k : Fin k0_t1_loop.trips) (y : S128x8960.Idx) : y ∈ setU k ↔ (y 0).val = k.val := by
  rw [setU_eq, Rect.mem_set_unit]
  have h2 : (y 1).val < 8960 := (y 1).isLt
  have e := k0_off5_eq k
  constructor
  · intro H; have a0 := H 0; rw [e] at a0; have a0 : k.val ≤ (y 0).val ∧ (y 0).val < k.val + 1 := a0; omega
  · intro H a; rw [e]; fin_cases a
    · show k.val ≤ (y 0).val ∧ (y 0).val < k.val + 1; omega
    · show 0 ≤ (y 1).val ∧ (y 1).val < 0 + 8960; omega
theorem dU_disjoint (k k' : Fin k0_t1_loop.trips) (h : k ≠ k') : Disjoint (setU k) (setU k') := by
  rw [Finset.disjoint_left]; intro y hy hy'
  exact h (Fin.ext (((mem_dU k y).mp hy).symm.trans ((mem_dU k' y).mp hy')))
theorem dU_emb (k : Fin k0_t1_loop.trips) (y : S128x8960.Idx) (hy : y ∈ setU k) : (dU k).view.emb (ix2 (0 : Fin 1) (⟨(y 1).val, (y 1).isLt⟩ : Fin 8960)) = y := by
  have h0 := (mem_dU k y).mp hy
  funext a; refine Fin.ext ?_
  fin_cases a
  · show (k0_off5 k) 0 + 1 * 0 = (y 0).val; rw [k0_off5_eq, h0]; rfl
  · show (k0_off5 k) 1 + 1 * (y 1).val = (y 1).val; rw [k0_off5_eq]; show 0 + 1 * (y 1).val = _; omega
theorem landU_eq (g : S128x8960.Idx → Elt F .i32) (k : Fin k0_t1_loop.trips) :
    landU c X hX WU k = ((dU k).view.loc (c : Thread nD τ) ↦[(dU k).view.set]{fullShare} (rowsOf X hX WU g : S128x8960.Idx → Elt F .i32) : sProp 𝕄) := by
  refine pointsTo_congr fun y0 hy0 => ?_
  have y : S128x8960.Idx := y0
  revert hy0
  suffices H : ∀ y : S128x8960.Idx, y ∈ setU k → (dU k).view.writes (Elt F) (dU k).view.junk [⟨Rect.whole S1x8960, ReadAs.same.apply ((sU (wU (F := F) X k) (hwU X hX k)).view.read (Elt F) (asU c (wU (F := F) X k) (hwU X hX k) WU))⟩] y = rowsOf X hX WU g y from H y0
  clear y y0
  intro y hy
  have h0 := (mem_dU k y).mp hy
  have e := dU_emb k y hy
  have e2 : (dU k).view.writes (Elt F) (dU k).view.junk [⟨Rect.whole S1x8960, ReadAs.same.apply ((sU (wU (F := F) X k) (hwU X hX k)).view.read (Elt F) (asU c (wU (F := F) X k) (hwU X hX k) WU))⟩] ((dU k).view.emb (ix2 (0 : Fin 1) (⟨(y 1).val, (y 1).isLt⟩ : Fin 8960)))
      = WU ((sU (wU (F := F) X k) (hwU X hX k)).view.emb (ix2 (0 : Fin 1) (⟨(y 1).val, (y 1).isLt⟩ : Fin 8960))) := by
    have h := View.read_writes_cons_emb (Val := Elt F) (v := (dU k).view) (f := (dU k).view.junk) (Rect.whole S1x8960) (ReadAs.same.apply ((sU (wU (F := F) X k) (hwU X hX k)).view.read (Elt F) (asU c (wU (F := F) X k) (hwU X hX k) WU))) [] (ix2 (0 : Fin 1) (⟨(y 1).val, (y 1).isLt⟩ : Fin 8960))
    rw [Rect.emb_whole_apply] at h
    rw [View.read_apply] at h
    refine Eq.trans (eq_of_heq (cast_eq_iff_heq.mp h)) ?_
    rfl
  have e3 : rowsOf X hX WU g y = WU (ix2 ⟨(word X k).toNat / 4, div_lt (hX _)⟩ (y 1)) := by
    have hk : (y 0).val < k0_t1_loop.trips := by rw [h0]; exact k.isLt
    unfold rowsOf; rw [dif_pos hk]
    have : (⟨(y 0).val, hk⟩ : Fin k0_t1_loop.trips) = k := Fin.ext h0
    simp only [this]
  rw [e3]
  refine Eq.trans (congrArg _ e.symm) (e2.trans ?_)
  refine congrArg WU (funext fun a => Fin.ext ?_)
  fin_cases a
  · show (Scalar.shrsi (wU (F := F) X k) 2#32).toNat + 1 * 0 = (word X k).toNat / 4
    rw [wU_eq, shrsi_two (word X k) (hX _)]; rfl
  · show 0 + 1 * (y 1).val = (y 1).val; omega

/-- What of the words and of the row buffer stays aside while the transfers are on their way. -/
abbrev keepU : sProp 𝕄 :=
  iprop(((Memref.whole main_v44).view.loc (c : Thread nD τ) ↦{Transfers.shareDrop fullShare k0_t1_loop.trips} WU)
    ∗ bigSep Finset.univ (fun k : Fin k0_t1_loop.trips => (Memref.whole main_v44).view.loc (c : Thread nD τ) ↦[Finset.univ \ (sU (wU (F := F) X k) (hwU X hX k)).view.set]{Transfers.shareTokN fullShare k.val} WU))
abbrev spareU (g : S128x8960.Idx → Elt F .i32) : sProp 𝕄 :=
  (Memref.whole cc0_scratch5).view.loc (c : Thread nD τ) ↦[Finset.univ \ Finset.univ.biUnion setU]{fullShare} g
theorem words_U : ((Memref.whole main_v44).view.loc (c : Thread nD τ) ↦{fullShare} WU : sProp 𝕄)
    ⊣⊢ iprop(keepU c X hX WU ∗ bigSep Finset.univ (fun k => tokU c X hX WU k)) :=
  toks_parts (ℓ := (Memref.whole main_v44).view.loc (c : Thread nD τ)) (fun k => (sU (wU (F := F) X k) (hwU X hX k)).view.set) WU
theorem rows_U (g : S128x8960.Idx → Elt F .i32) : ((Memref.whole cc0_scratch5).view.loc (c : Thread nD τ) ↦{fullShare} g : sProp 𝕄)
    ⊣⊢ iprop(bigSep Finset.univ (fun k : Fin k0_t1_loop.trips => (dU k).view.loc (c : Thread nD τ) ↦[(dU k).view.set]{fullShare} (g : S128x8960.Idx → Elt F .i32)) ∗ spareU c g) :=
  rows_parts (ℓ := (Memref.whole cc0_scratch5).view.loc (c : Thread nD τ)) setU dU_disjoint g
theorem spareU_eq (g : S128x8960.Idx → Elt F .i32) : spareU c g = spareU c (rowsOf X hX WU g) := by
  refine pointsTo_congr fun y hy => ?_
  have hn : ¬ (y 0).val < k0_t1_loop.trips := fun h => by
    rw [Finset.mem_sdiff] at hy
    exact hy.2 (Finset.mem_biUnion.mpr ⟨⟨(y 0).val, h⟩, Finset.mem_univ _, (mem_dU _ y).mpr rfl⟩)
  unfold rowsOf; rw [dif_neg hn]

end Rows

/-! ## Everything the transfers take and bring back -/

section Flight
variable [∀ e, Nonempty (Elt F e)] (c : Dev nD) (X : S100.Idx → BitVec 32) (hX : ∀ y, (X y).toNat < 5120) (WG WU : S1280x8960.Idx → Elt F .i32)

theorem del_G : bigSep (Finset.range k0_t1_loop.trips) (delG c X hX WG)
    = (iprop(bigSep Finset.univ (fun k => landG (F := F) c X hX WG k) ∗ bigSep Finset.univ (fun k => tokG (F := F) c X hX WG k)) : sProp 𝕄) := by
  rw [← Ring.bigSep_fin_eq_range k0_t1_loop.trips (fun k => (iprop(landG (F := F) c X hX WG k ∗ tokG c X hX WG k) : sProp 𝕄)) (delG c X hX WG) (fun k h => dif_pos h)]
  exact BI.bigSep_sep _ _ _
theorem del_U : bigSep (Finset.range k0_t1_loop.trips) (delU c X hX WU)
    = (iprop(bigSep Finset.univ (fun k => landU (F := F) c X hX WU k) ∗ bigSep Finset.univ (fun k => tokU (F := F) c X hX WU k)) : sProp 𝕄) := by
  rw [← Ring.bigSep_fin_eq_range k0_t1_loop.trips (fun k => (iprop(landU (F := F) c X hX WU k ∗ tokU c X hX WU k) : sProp 𝕄)) (delU c X hX WU) (fun k h => dif_pos h)]
  exact BI.bigSep_sep _ _ _

/-- The words and the row buffers at rest. -/
abbrev atRest (g4 g5 : S128x8960.Idx → Elt F .i32) : sProp 𝕄 :=
  iprop(((Memref.whole main_v25).view.loc (c : Thread nD τ) ↦{fullShare} WG) ∗ ((Memref.whole main_v44).view.loc (c : Thread nD τ) ↦{fullShare} WU)
    ∗ ((Memref.whole cc0_scratch4).view.loc (c : Thread nD τ) ↦{fullShare} g4) ∗ ((Memref.whole cc0_scratch5).view.loc (c : Thread nD τ) ↦{fullShare} g5))
/-- What stays aside of them while the transfers are on their way. -/
def aside (g4 g5 : S128x8960.Idx → Elt F .i32) : sProp 𝕄 :=
  iprop(keepG c X hX WG ∗ keepU c X hX WU ∗ spareG c g4 ∗ spareU c g5)

omit [∀ e, Nonempty (Elt F e)] in
theorem zip4 {n : ℕ} (P Q R S : Fin n → sProp 𝕄) :
    iprop(bigSep Finset.univ P ∗ bigSep Finset.univ Q ∗ bigSep Finset.univ R ∗ bigSep Finset.univ S) ⊢ bigSep Finset.univ (fun k => iprop(P k ∗ Q k ∗ R k ∗ S k)) := by
  have e : bigSep Finset.univ (fun k => iprop(P k ∗ Q k ∗ R k ∗ S k)) = iprop(bigSep Finset.univ P ∗ bigSep Finset.univ Q ∗ bigSep Finset.univ R ∗ bigSep Finset.univ S) :=
    (BI.bigSep_sep _ _ _).trans (congrArg _ ((BI.bigSep_sep _ _ _).trans (congrArg _ (BI.bigSep_sep _ _ _))))
  exact Entails.of_eq e.symm

theorem someG (g : S128x8960.Idx → Elt F .i32) :
    bigSep Finset.univ (fun k : Fin k0_t1_loop.trips => (dG k).view.loc (c : Thread nD τ) ↦[(dG k).view.set]{fullShare} g)
      ⊢ (bigSep Finset.univ (fun k : Fin k0_t1_loop.trips => iprop(∃ g, (dG k).view.loc (c : Thread nD τ) ↦[(dG k).view.set]{fullShare} g)) : sProp 𝕄) := by
  apply BI.bigSep_mono
  intro k _
  exact BI.Laws.exists_intro_trans (Ψ := fun g => ((dG k).view.loc (c : Thread nD τ) ↦[(dG k).view.set]{fullShare} g : sProp 𝕄)) g (Entails.refl _)
theorem someU (g : S128x8960.Idx → Elt F .i32) :
    bigSep Finset.univ (fun k : Fin k0_t1_loop.trips => (dU k).view.loc (c : Thread nD τ) ↦[(dU k).view.set]{fullShare} g)
      ⊢ (bigSep Finset.univ (fun k : Fin k0_t1_loop.trips => iprop(∃ g, (dU k).view.loc (c : Thread nD τ) ↦[(dU k).view.set]{fullShare} g)) : sProp 𝕄) := by
  apply BI.bigSep_mono
  intro k _
  exact BI.Laws.exists_intro_trans (Ψ := fun g => ((dU k).view.loc (c : Thread nD τ) ↦[(dU k).view.set]{fullShare} g : sProp 𝕄)) g (Entails.refl _)
theorem depart (g4 g5 : S128x8960.Idx → Elt F .i32) :
    atRest c WG WU g4 g5 ⊢ iprop(bigSep (Ring.rangeSet k0_t1_loop.trips 0 k0_t1_loop.trips) (blk c X hX WG WU) ∗ aside c X hX WG WU g4 g5) := by
  iintro ⟨HG, HU, H4, H5⟩
  ihave HG := (words_G c X hX WG).1 $$ HG
  ihave HU := (words_U c X hX WU).1 $$ HU
  ihave H4 := (rows_G c g4).1 $$ H4
  ihave H5 := (rows_U c g5).1 $$ H5
  icases HG with ⟨HkG, HG⟩
  icases HU with ⟨HkU, HU⟩
  icases H4 with ⟨H4, Hs4⟩
  icases H5 with ⟨H5, Hs5⟩
  isplitl [HG HU H4 H5]
  · rw [Ring.rangeSet_univ]
    ihave H4 := (someG c g4) $$ H4
    ihave H5 := (someU c g5) $$ H5
    unfold blk
    iapply (zip4 _ _ _ _)
    isplitl [H4]; · iexact H4
    isplitl [H5]; · iexact H5
    isplitl [HG]; · iexact HG
    iexact HU
  · unfold aside
    isplitl [HkG]; · iexact HkG
    isplitl [HkU]; · iexact HkU
    isplitl [Hs4] <;> iassumption

theorem arrive (g4 g5 : S128x8960.Idx → Elt F .i32) :
    iprop(bigSep Finset.univ (dels c X hX WG WU) ∗ aside c X hX WG WU g4 g5) ⊢ (atRest c WG WU (rowsOf X hX WG g4) (rowsOf X hX WU g5) : sProp 𝕄) := by
  unfold dels aside
  rw [Ring.bigSep_interleaved, del_G, del_U, spareG_eq c X hX WG, spareU_eq c X hX WU]
  iintro ⟨⟨⟨H4, HG⟩, ⟨H5, HU⟩⟩, HkG, HkU, Hs4, Hs5⟩
  isplitl [HG HkG]
  · iapply (words_G c X hX WG).2; isplitl [HkG] <;> iassumption
  isplitl [HU HkU]
  · iapply (words_U c X hX WU).2; isplitl [HkU] <;> iassumption
  isplitl [H4 Hs4]
  · iapply (rows_G c (rowsOf X hX WG g4)).2
    isplitl [H4]
    · iapply (show bigSep Finset.univ (fun k => landG c X hX WG k) ⊢ _ from Entails.of_eq (BI.bigSep_congr fun k _ => landG_eq c X hX WG g4 k)); iexact H4
    · iexact Hs4
  · iapply (rows_U c (rowsOf X hX WU g5)).2
    isplitl [H5]
    · iapply (show bigSep Finset.univ (fun k => landU c X hX WU k) ⊢ _ from Entails.of_eq (BI.bigSep_congr fun k _ => landU_eq c X hX WU g5 k)); iexact H5
    · iexact Hs5
end Flight

end Cert.KernelIdeal.Hand
end
-- ==== Proof.Ideal.Trips.lean ====
module
public import proofs.«01_k».proof.Proof.Ideal.Rows
public import proofs.«01_k».proof.Proof.Gen.KernelIdeal.Skeleton
public import proofs.«01_k».proof.Proof.Gen.KernelIdeal.Launch
public import proofs.«01_k».proof.Proof.Gen.KernelIdeal.Loops
public import Idealize.ShloMosaic.Lib.Batch
public import Idealize.ShloMosaic.Lib.Ring
public import Idealize.ShloMosaic.Lib.Pipeline.FrameBody
public import Idealize.ShloMosaic.Lib.Tactic
public import Idealize.ShloMosaic.Lib.Tactic.Stretches
@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (Pipeline.UD sig nD τ) ℕ

/-! ## The contents a counted loop leaves -/

/-- The contents before trip `k` of a loop whose trip `j` takes contents `f` to `step j f`. -/
def cont {C : Type} (n : ℕ) (step : Fin n → C → C) (f : C) : ℕ → C
  | 0 => f
  | k + 1 => if h : k < n then step ⟨k, h⟩ (cont n step f k) else cont n step f k
theorem cont_succ {C : Type} {n : ℕ} (step : Fin n → C → C) (f : C) (k : Fin n) :
    cont n step f (k.val + 1) = step k (cont n step f k.val) := dif_pos k.isLt

section Trips
variable (c : Dev nD) (i : grid0.Coords)
  (arg3 : Memref sig .tc .vmem S1x256 .i32) (harg3 : arg3.IsWhole) (arg4 : Memref sig .tc .vmem S2x5120 .bf16) (harg4 : arg4.IsWhole) (arg5 : Memref sig .tc .vmem S1280x256 .i32) (harg5 : arg5.IsWhole) (arg6 : Memref sig .tc .vmem S1280x256 .i32) (harg6 : arg6.IsWhole) (arg7 : Memref sig .tc .vmem S40x17920 .bf16) (harg7 : arg7.IsWhole) (arg8 : Memref sig .tc .vmem S40x17920 .bf16) (harg8 : arg8.IsWhole) (arg9 : Memref sig .tc .vmem S40x17920 .i8) (harg9 : arg9.IsWhole) (arg10 : Memref sig .tc .vmem S40x17920 .i8) (harg10 : arg10.IsWhole) (arg11 : Memref sig .tc .vmem S1x5120 .bf16) (harg11 : arg11.IsWhole) (arg12 : Memref sig .tc .vmem S1x5120 .bf16) (harg12 : arg12.IsWhole) (arg15 : Memref sig .tc .vmem S2x1x17920 .bf16) (harg15 : arg15.IsWhole) (arg16 : Memref sig .tc .vmem S2x1x17920 .f32) (harg16 : arg16.IsWhole) (arg17 : Memref sig .tc .vmem S2x1x17920 .f32) (harg17 : arg17.IsWhole) (arg18 : Memref sig .tc .vmem S16x20480 .bf16) (harg18 : arg18.IsWhole) (arg19 : Memref sig .tc .vmem S5x2x320x2x128 .f32) (harg19 : arg19.IsWhole) (arg20 : Memref sig .tc .vmem S5x2x320x2x128 .f32) (harg20 : arg20.IsWhole) (arg21 : Memref sig .tc .vmem S5x16x256 .f32) (harg21 : arg21.IsWhole) (arg24 : Memref sig .tc .vmem S128x128 .i32) (harg24 : arg24.IsWhole)

/-- What one trip of loop 2 reads, and what it writes at contents `f`. -/
abbrev trip2R (X_arg4 : BufTy.Contents (Elt F) arg4.view.ty) (f : BufTy.Contents (Elt F) arg18.view.ty) : sProp 𝕄 :=
  iprop((arg4.view.loc (c : Thread nD τ) ↦[arg4.view.set]{fullShare} X_arg4) ∗ (arg18.view.loc (c : Thread nD τ) ↦[arg18.view.set]{fullShare} f))
/-- One trip of loop 2: the pieces it writes over the contents it finds. -/
@[irreducible] def trip2 (k0_h1 : k0_cond1 i = 1#1) (v18 : IVec S8x128 32) (X_arg4 : BufTy.Contents (Elt F) arg4.view.ty) (k : Fin k0_t2_loop.trips) :
    { L : BufTy.Contents (Elt F) arg18.view.ty → List (View.Piece (Elt F) S16x20480 .bf16) // ∀ f, trip2R c arg4 arg18 X_arg4 f
      ⊢ wp frame (wpE (defs₀ (F := F)) Variants.none (c : Thread nD τ) none) Set.univ (k0_t2_body (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 k0_h1 v18 k PUnit.unit)
          (fun _ => trip2R c arg4 arg18 X_arg4 (arg18.view.writes (Elt F) f (L f))) } := by
  have hk : k.val < 40 := Nat.lt_of_lt_of_le k.isLt k0_t2_abs.2.1
  refine ⟨?_, fun f => ?run⟩
  case run =>
    unfold k0_t2_body
    iintro ⟨HR_arg4, HW⟩
    sl_exec
    sl_step
    sl_close
/-- What trip `k` of loop 2 leaves of contents `f`. -/
def step2 (k0_h1 : k0_cond1 i = 1#1) (v18 : IVec S8x128 32) (X_arg4 : BufTy.Contents (Elt F) arg4.view.ty) (k : Fin k0_t2_loop.trips) (f : BufTy.Contents (Elt F) arg18.view.ty) : BufTy.Contents (Elt F) arg18.view.ty :=
  arg18.view.writes (Elt F) f ((trip2 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h1 v18 X_arg4 k).1 f)
/-- What loop 2 has made of contents `g` before trip `k`. -/
def cont2 (k0_h1 : k0_cond1 i = 1#1) (v18 : IVec S8x128 32) (X_arg4 : BufTy.Contents (Elt F) arg4.view.ty) (g : BufTy.Contents (Elt F) arg18.view.ty) (k : ℕ) : BufTy.Contents (Elt F) arg18.view.ty :=
  cont k0_t2_loop.trips (step2 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h1 v18 X_arg4) g k
set_option warn.classDefReducibility false in
/-- Loop 2 by its invariant. -/
@[sl_loop] def loop2 (k0_h1 : k0_cond1 i = 1#1) (v18 : IVec S8x128 32) (X_arg4 : BufTy.Contents (Elt F) arg4.view.ty) (g : BufTy.Contents (Elt F) arg18.view.ty) :
    Gen.LoopInvTy_k0_t2 (F := F) Unit ℕ (Pipeline.UD sig nD τ) ℕ Variants.none c none Set.univ i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 k0_h1 v18 where
  inv k _ := iprop((arg4.view.loc (c : Thread nD τ) ↦[arg4.view.set]{fullShare} X_arg4) ∗ (∃ f, (arg18.view.loc (c : Thread nD τ) ↦[arg18.view.set]{fullShare} f) ∗ ⌜f = cont2 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h1 v18 X_arg4 g k⌝))
  step k acc := by
    iintro ⟨HR_arg4, ⟨%f, HW, %h⟩⟩
    iapply (wp_wand_r Idealize.ShloMosaic.frame (wpE (defs₀ (F := F)) Variants.none (c : Thread nD τ) none) Set.univ)
    isplitl [HR_arg4 HW]
    · iapply ((trip2 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h1 v18 X_arg4 k).2 f)
      isplitl [HR_arg4]; · iexact HR_arg4
      iexact HW
    · iintro %_ ⟨HR_arg4, HW⟩
      isplitl [HR_arg4]; · iexact HR_arg4
      iexists _; isplitl [HW]; · iexact HW
      ipureintro
      rw [h]
      exact (cont_succ (step2 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h1 v18 X_arg4) g k).symm

/-- What one trip of loop 3 reads, and what it writes at contents `f`. -/
abbrev trip3R (X_arg5 : BufTy.Contents (Elt F) arg5.view.ty) (X_arg6 : BufTy.Contents (Elt F) arg6.view.ty) (X_arg18 : BufTy.Contents (Elt F) arg18.view.ty) (X_arg19 : BufTy.Contents (Elt F) arg19.view.ty) (X_arg20 : BufTy.Contents (Elt F) arg20.view.ty) (f : BufTy.Contents (Elt F) arg21.view.ty) : sProp 𝕄 :=
  iprop((arg5.view.loc (c : Thread nD τ) ↦[arg5.view.set]{fullShare} X_arg5) ∗ (arg6.view.loc (c : Thread nD τ) ↦[arg6.view.set]{fullShare} X_arg6) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} f))
/-- One trip of loop 3: the pieces it writes over the contents it finds. -/
@[irreducible] def trip3 (arg1 : BitVec 32) (X_arg5 : BufTy.Contents (Elt F) arg5.view.ty) (X_arg6 : BufTy.Contents (Elt F) arg6.view.ty) (X_arg18 : BufTy.Contents (Elt F) arg18.view.ty) (X_arg19 : BufTy.Contents (Elt F) arg19.view.ty) (X_arg20 : BufTy.Contents (Elt F) arg20.view.ty) (k : Fin k0_t3_loop.trips) :
    { L : BufTy.Contents (Elt F) arg21.view.ty → List (View.Piece (Elt F) S5x16x256 .f32) // ∀ f, trip3R c arg5 arg6 arg18 arg19 arg20 arg21 X_arg5 X_arg6 X_arg18 X_arg19 X_arg20 f
      ⊢ wp frame (wpE (defs₀ (F := F)) Variants.none (c : Thread nD τ) none) Set.univ (k0_t3_body (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 arg1 k PUnit.unit)
          (fun _ => trip3R c arg5 arg6 arg18 arg19 arg20 arg21 X_arg5 X_arg6 X_arg18 X_arg19 X_arg20 (arg21.view.writes (Elt F) f (L f))) } := by
  have hk : k.val < 10 := Nat.lt_of_lt_of_le k.isLt k0_t3_abs.2.1
  refine ⟨?_, fun f => ?run⟩
  case run =>
    unfold k0_t3_body
    iintro ⟨HR_arg5, HR_arg6, HR_arg18, HR_arg19, HR_arg20, HW⟩
    sl_exec
    sl_step
    sl_close
/-- What trip `k` of loop 3 leaves of contents `f`. -/
def step3 (arg1 : BitVec 32) (X_arg5 : BufTy.Contents (Elt F) arg5.view.ty) (X_arg6 : BufTy.Contents (Elt F) arg6.view.ty) (X_arg18 : BufTy.Contents (Elt F) arg18.view.ty) (X_arg19 : BufTy.Contents (Elt F) arg19.view.ty) (X_arg20 : BufTy.Contents (Elt F) arg20.view.ty) (k : Fin k0_t3_loop.trips) (f : BufTy.Contents (Elt F) arg21.view.ty) : BufTy.Contents (Elt F) arg21.view.ty :=
  arg21.view.writes (Elt F) f ((trip3 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 arg1 X_arg5 X_arg6 X_arg18 X_arg19 X_arg20 k).1 f)
/-- What loop 3 has made of contents `g` before trip `k`. -/
def cont3 (arg1 : BitVec 32) (X_arg5 : BufTy.Contents (Elt F) arg5.view.ty) (X_arg6 : BufTy.Contents (Elt F) arg6.view.ty) (X_arg18 : BufTy.Contents (Elt F) arg18.view.ty) (X_arg19 : BufTy.Contents (Elt F) arg19.view.ty) (X_arg20 : BufTy.Contents (Elt F) arg20.view.ty) (g : BufTy.Contents (Elt F) arg21.view.ty) (k : ℕ) : BufTy.Contents (Elt F) arg21.view.ty :=
  cont k0_t3_loop.trips (step3 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 arg1 X_arg5 X_arg6 X_arg18 X_arg19 X_arg20) g k
set_option warn.classDefReducibility false in
/-- Loop 3 by its invariant. -/
@[sl_loop] def loop3 (arg1 : BitVec 32) (X_arg5 : BufTy.Contents (Elt F) arg5.view.ty) (X_arg6 : BufTy.Contents (Elt F) arg6.view.ty) (X_arg18 : BufTy.Contents (Elt F) arg18.view.ty) (X_arg19 : BufTy.Contents (Elt F) arg19.view.ty) (X_arg20 : BufTy.Contents (Elt F) arg20.view.ty) (g : BufTy.Contents (Elt F) arg21.view.ty) :
    Gen.LoopInvTy_k0_t3 (F := F) Unit ℕ (Pipeline.UD sig nD τ) ℕ Variants.none c none Set.univ i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 arg1 where
  inv k _ := iprop((arg5.view.loc (c : Thread nD τ) ↦[arg5.view.set]{fullShare} X_arg5) ∗ (arg6.view.loc (c : Thread nD τ) ↦[arg6.view.set]{fullShare} X_arg6) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (∃ f, (arg21.view.loc (c : Thread nD τ) ↦[arg21.view.set]{fullShare} f) ∗ ⌜f = cont3 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 arg1 X_arg5 X_arg6 X_arg18 X_arg19 X_arg20 g k⌝))
  step k acc := by
    iintro ⟨HR_arg5, HR_arg6, HR_arg18, HR_arg19, HR_arg20, ⟨%f, HW, %h⟩⟩
    iapply (wp_wand_r Idealize.ShloMosaic.frame (wpE (defs₀ (F := F)) Variants.none (c : Thread nD τ) none) Set.univ)
    isplitl [HR_arg5 HR_arg6 HR_arg18 HR_arg19 HR_arg20 HW]
    · iapply ((trip3 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 arg1 X_arg5 X_arg6 X_arg18 X_arg19 X_arg20 k).2 f)
      isplitl [HR_arg5]; · iexact HR_arg5
      isplitl [HR_arg6]; · iexact HR_arg6
      isplitl [HR_arg18]; · iexact HR_arg18
      isplitl [HR_arg19]; · iexact HR_arg19
      isplitl [HR_arg20]; · iexact HR_arg20
      iexact HW
    · iintro %_ ⟨HR_arg5, HR_arg6, HR_arg18, HR_arg19, HR_arg20, HW⟩
      isplitl [HR_arg5]; · iexact HR_arg5
      isplitl [HR_arg6]; · iexact HR_arg6
      isplitl [HR_arg18]; · iexact HR_arg18
      isplitl [HR_arg19]; · iexact HR_arg19
      isplitl [HR_arg20]; · iexact HR_arg20
      iexists _; isplitl [HW]; · iexact HW
      ipureintro
      rw [h]
      exact (cont_succ (step3 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 arg1 X_arg5 X_arg6 X_arg18 X_arg19 X_arg20) g k).symm

/-- What one trip of loop 4 reads, and what it writes at contents `f`. -/
abbrev trip4R (q : PosShare TreeShare) (X_arg2 : BufTy.Contents (Elt F) (Memref.whole main_arg1).view.ty) (f : BufTy.Contents (Elt F) arg24.view.ty) : sProp 𝕄 :=
  iprop(((Memref.whole main_arg1).view.loc (c : Thread nD τ) ↦[(Memref.whole main_arg1).view.set]{q} X_arg2) ∗ (arg24.view.loc (c : Thread nD τ) ↦[arg24.view.set]{fullShare} f))
/-- One trip of loop 4: the pieces it writes over the contents it finds. -/
@[irreducible] def trip4 (q : PosShare TreeShare) (k0_h3 : k0_cond3 i = 1#1) (c0_i32_12 : BitVec 32) (c1_i32_13 : BitVec 32) (X_arg2 : BufTy.Contents (Elt F) (Memref.whole main_arg1).view.ty) (k : Fin k0_t4_loop.trips) :
    { L : BufTy.Contents (Elt F) arg24.view.ty → List (View.Piece (Elt F) S128x128 .i32) // ∀ f, trip4R c arg24 q X_arg2 f
      ⊢ wp frame (wpE (defs₀ (F := F)) Variants.none (c : Thread nD τ) none) Set.univ (k0_t4_body (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 k0_h3 c0_i32_12 c1_i32_13 k PUnit.unit)
          (fun _ => trip4R c arg24 q X_arg2 (arg24.view.writes (Elt F) f (L f))) } := by
  have hk : k.val < 100 := Nat.lt_of_lt_of_le k.isLt k0_t4_abs.2.1
  refine ⟨?_, fun f => ?run⟩
  case run =>
    unfold k0_t4_body
    iintro ⟨HR_arg2, HW⟩
    sl_exec
    sl_step
    sl_close
/-- What trip `k` of loop 4 leaves of contents `f`. -/
def step4 (q : PosShare TreeShare) (k0_h3 : k0_cond3 i = 1#1) (c0_i32_12 : BitVec 32) (c1_i32_13 : BitVec 32) (X_arg2 : BufTy.Contents (Elt F) (Memref.whole main_arg1).view.ty) (k : Fin k0_t4_loop.trips) (f : BufTy.Contents (Elt F) arg24.view.ty) : BufTy.Contents (Elt F) arg24.view.ty :=
  arg24.view.writes (Elt F) f ((trip4 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q k0_h3 c0_i32_12 c1_i32_13 X_arg2 k).1 f)
/-- What loop 4 has made of contents `g` before trip `k`. -/
def cont4 (q : PosShare TreeShare) (k0_h3 : k0_cond3 i = 1#1) (c0_i32_12 : BitVec 32) (c1_i32_13 : BitVec 32) (X_arg2 : BufTy.Contents (Elt F) (Memref.whole main_arg1).view.ty) (g : BufTy.Contents (Elt F) arg24.view.ty) (k : ℕ) : BufTy.Contents (Elt F) arg24.view.ty :=
  cont k0_t4_loop.trips (step4 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q k0_h3 c0_i32_12 c1_i32_13 X_arg2) g k
set_option warn.classDefReducibility false in
/-- Loop 4 by its invariant. -/
@[sl_loop] def loop4 (q : PosShare TreeShare) (k0_h3 : k0_cond3 i = 1#1) (c0_i32_12 : BitVec 32) (c1_i32_13 : BitVec 32) (X_arg2 : BufTy.Contents (Elt F) (Memref.whole main_arg1).view.ty) (g : BufTy.Contents (Elt F) arg24.view.ty) :
    Gen.LoopInvTy_k0_t4 (F := F) Unit ℕ (Pipeline.UD sig nD τ) ℕ Variants.none c none Set.univ i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 k0_h3 c0_i32_12 c1_i32_13 where
  inv k _ := iprop(((Memref.whole main_arg1).view.loc (c : Thread nD τ) ↦[(Memref.whole main_arg1).view.set]{q} X_arg2) ∗ (∃ f, (arg24.view.loc (c : Thread nD τ) ↦[arg24.view.set]{fullShare} f) ∗ ⌜f = cont4 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q k0_h3 c0_i32_12 c1_i32_13 X_arg2 g k⌝))
  step k acc := by
    iintro ⟨HR_arg2, ⟨%f, HW, %h⟩⟩
    iapply (wp_wand_r Idealize.ShloMosaic.frame (wpE (defs₀ (F := F)) Variants.none (c : Thread nD τ) none) Set.univ)
    isplitl [HR_arg2 HW]
    · iapply ((trip4 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q k0_h3 c0_i32_12 c1_i32_13 X_arg2 k).2 f)
      isplitl [HR_arg2]; · iexact HR_arg2
      iexact HW
    · iintro %_ ⟨HR_arg2, HW⟩
      isplitl [HR_arg2]; · iexact HR_arg2
      iexists _; isplitl [HW]; · iexact HW
      ipureintro
      rw [h]
      exact (cont_succ (step4 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q k0_h3 c0_i32_12 c1_i32_13 X_arg2) g k).symm

/-- What one trip of loop 6 reads, and what it writes at contents `f`. -/
abbrev trip6R (X_arg22 : BufTy.Contents (Elt F) (Memref.whole cc0_scratch4).view.ty) (f : BufTy.Contents (Elt F) arg16.view.ty) : sProp 𝕄 :=
  iprop(((Memref.whole cc0_scratch4).view.loc (c : Thread nD τ) ↦[(Memref.whole cc0_scratch4).view.set]{fullShare} X_arg22) ∗ (arg16.view.loc (c : Thread nD τ) ↦[arg16.view.set]{fullShare} f))
/-- One trip of loop 6: the pieces it writes over the contents it finds. -/
@[irreducible] def trip6 (k0_h3 : k0_cond3 i = 1#1) (v27 : IVec S128x256 32) (v67 : FVec F S16x256 .bf16) (v80 : FVec F S256x256 .bf16) (v85 : IVec S8x128 32) (c0_i32_45 : BitVec 32) (c1_i32_46 : BitVec 32) (X_arg22 : BufTy.Contents (Elt F) (Memref.whole cc0_scratch4).view.ty) (k : Fin k0_t6_loop.trips) :
    { L : BufTy.Contents (Elt F) arg16.view.ty → List (View.Piece (Elt F) S2x1x17920 .f32) // ∀ f, trip6R c arg16 X_arg22 f
      ⊢ wp frame (wpE (defs₀ (F := F)) Variants.none (c : Thread nD τ) none) Set.univ (k0_t6_body (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 k0_h3 v27 v67 v80 v85 c0_i32_45 c1_i32_46 k PUnit.unit)
          (fun _ => trip6R c arg16 X_arg22 (arg16.view.writes (Elt F) f (L f))) } := by
  have hk : k.val < 35 := Nat.lt_of_lt_of_le k.isLt k0_t6_abs.2.1
  refine ⟨?_, fun f => ?run⟩
  case run =>
    unfold k0_t6_body
    iintro ⟨HR_arg22, HW⟩
    sl_exec
    sl_step
    sl_close
/-- What trip `k` of loop 6 leaves of contents `f`. -/
def step6 (k0_h3 : k0_cond3 i = 1#1) (v27 : IVec S128x256 32) (v67 : FVec F S16x256 .bf16) (v80 : FVec F S256x256 .bf16) (v85 : IVec S8x128 32) (c0_i32_45 : BitVec 32) (c1_i32_46 : BitVec 32) (X_arg22 : BufTy.Contents (Elt F) (Memref.whole cc0_scratch4).view.ty) (k : Fin k0_t6_loop.trips) (f : BufTy.Contents (Elt F) arg16.view.ty) : BufTy.Contents (Elt F) arg16.view.ty :=
  arg16.view.writes (Elt F) f ((trip6 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v80 v85 c0_i32_45 c1_i32_46 X_arg22 k).1 f)
/-- What loop 6 has made of contents `g` before trip `k`. -/
def cont6 (k0_h3 : k0_cond3 i = 1#1) (v27 : IVec S128x256 32) (v67 : FVec F S16x256 .bf16) (v80 : FVec F S256x256 .bf16) (v85 : IVec S8x128 32) (c0_i32_45 : BitVec 32) (c1_i32_46 : BitVec 32) (X_arg22 : BufTy.Contents (Elt F) (Memref.whole cc0_scratch4).view.ty) (g : BufTy.Contents (Elt F) arg16.view.ty) (k : ℕ) : BufTy.Contents (Elt F) arg16.view.ty :=
  cont k0_t6_loop.trips (step6 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v80 v85 c0_i32_45 c1_i32_46 X_arg22) g k
set_option warn.classDefReducibility false in
/-- Loop 6 by its invariant. -/
@[sl_loop] def loop6 (k0_h3 : k0_cond3 i = 1#1) (v27 : IVec S128x256 32) (v67 : FVec F S16x256 .bf16) (v80 : FVec F S256x256 .bf16) (v85 : IVec S8x128 32) (c0_i32_45 : BitVec 32) (c1_i32_46 : BitVec 32) (X_arg22 : BufTy.Contents (Elt F) (Memref.whole cc0_scratch4).view.ty) (g : BufTy.Contents (Elt F) arg16.view.ty) :
    Gen.LoopInvTy_k0_t6 (F := F) Unit ℕ (Pipeline.UD sig nD τ) ℕ Variants.none c none Set.univ i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 k0_h3 v27 v67 v80 v85 c0_i32_45 c1_i32_46 where
  inv k _ := iprop(((Memref.whole cc0_scratch4).view.loc (c : Thread nD τ) ↦[(Memref.whole cc0_scratch4).view.set]{fullShare} X_arg22) ∗ (∃ f, (arg16.view.loc (c : Thread nD τ) ↦[arg16.view.set]{fullShare} f) ∗ ⌜f = cont6 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v80 v85 c0_i32_45 c1_i32_46 X_arg22 g k⌝))
  step k acc := by
    iintro ⟨HR_arg22, ⟨%f, HW, %h⟩⟩
    iapply (wp_wand_r Idealize.ShloMosaic.frame (wpE (defs₀ (F := F)) Variants.none (c : Thread nD τ) none) Set.univ)
    isplitl [HR_arg22 HW]
    · iapply ((trip6 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v80 v85 c0_i32_45 c1_i32_46 X_arg22 k).2 f)
      isplitl [HR_arg22]; · iexact HR_arg22
      iexact HW
    · iintro %_ ⟨HR_arg22, HW⟩
      isplitl [HR_arg22]; · iexact HR_arg22
      iexists _; isplitl [HW]; · iexact HW
      ipureintro
      rw [h]
      exact (cont_succ (step6 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v80 v85 c0_i32_45 c1_i32_46 X_arg22) g k).symm

/-- What one trip of loop 7 reads, and what it writes at contents `f`. -/
abbrev trip7R (X_arg23 : BufTy.Contents (Elt F) (Memref.whole cc0_scratch5).view.ty) (f : BufTy.Contents (Elt F) arg17.view.ty) : sProp 𝕄 :=
  iprop(((Memref.whole cc0_scratch5).view.loc (c : Thread nD τ) ↦[(Memref.whole cc0_scratch5).view.set]{fullShare} X_arg23) ∗ (arg17.view.loc (c : Thread nD τ) ↦[arg17.view.set]{fullShare} f))
/-- One trip of loop 7: the pieces it writes over the contents it finds. -/
@[irreducible] def trip7 (k0_h3 : k0_cond3 i = 1#1) (v27 : IVec S128x256 32) (v67 : FVec F S16x256 .bf16) (v84 : FVec F S256x256 .bf16) (v87 : IVec S8x128 32) (c0_i32_48 : BitVec 32) (c1_i32_50 : BitVec 32) (X_arg23 : BufTy.Contents (Elt F) (Memref.whole cc0_scratch5).view.ty) (k : Fin k0_t7_loop.trips) :
    { L : BufTy.Contents (Elt F) arg17.view.ty → List (View.Piece (Elt F) S2x1x17920 .f32) // ∀ f, trip7R c arg17 X_arg23 f
      ⊢ wp frame (wpE (defs₀ (F := F)) Variants.none (c : Thread nD τ) none) Set.univ (k0_t7_body (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 k0_h3 v27 v67 v84 v87 c0_i32_48 c1_i32_50 k PUnit.unit)
          (fun _ => trip7R c arg17 X_arg23 (arg17.view.writes (Elt F) f (L f))) } := by
  have hk : k.val < 35 := Nat.lt_of_lt_of_le k.isLt k0_t7_abs.2.1
  refine ⟨?_, fun f => ?run⟩
  case run =>
    unfold k0_t7_body
    iintro ⟨HR_arg23, HW⟩
    sl_exec
    sl_step
    sl_close
/-- What trip `k` of loop 7 leaves of contents `f`. -/
def step7 (k0_h3 : k0_cond3 i = 1#1) (v27 : IVec S128x256 32) (v67 : FVec F S16x256 .bf16) (v84 : FVec F S256x256 .bf16) (v87 : IVec S8x128 32) (c0_i32_48 : BitVec 32) (c1_i32_50 : BitVec 32) (X_arg23 : BufTy.Contents (Elt F) (Memref.whole cc0_scratch5).view.ty) (k : Fin k0_t7_loop.trips) (f : BufTy.Contents (Elt F) arg17.view.ty) : BufTy.Contents (Elt F) arg17.view.ty :=
  arg17.view.writes (Elt F) f ((trip7 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v84 v87 c0_i32_48 c1_i32_50 X_arg23 k).1 f)
/-- What loop 7 has made of contents `g` before trip `k`. -/
def cont7 (k0_h3 : k0_cond3 i = 1#1) (v27 : IVec S128x256 32) (v67 : FVec F S16x256 .bf16) (v84 : FVec F S256x256 .bf16) (v87 : IVec S8x128 32) (c0_i32_48 : BitVec 32) (c1_i32_50 : BitVec 32) (X_arg23 : BufTy.Contents (Elt F) (Memref.whole cc0_scratch5).view.ty) (g : BufTy.Contents (Elt F) arg17.view.ty) (k : ℕ) : BufTy.Contents (Elt F) arg17.view.ty :=
  cont k0_t7_loop.trips (step7 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v84 v87 c0_i32_48 c1_i32_50 X_arg23) g k
set_option warn.classDefReducibility false in
/-- Loop 7 by its invariant. -/
@[sl_loop] def loop7 (k0_h3 : k0_cond3 i = 1#1) (v27 : IVec S128x256 32) (v67 : FVec F S16x256 .bf16) (v84 : FVec F S256x256 .bf16) (v87 : IVec S8x128 32) (c0_i32_48 : BitVec 32) (c1_i32_50 : BitVec 32) (X_arg23 : BufTy.Contents (Elt F) (Memref.whole cc0_scratch5).view.ty) (g : BufTy.Contents (Elt F) arg17.view.ty) :
    Gen.LoopInvTy_k0_t7 (F := F) Unit ℕ (Pipeline.UD sig nD τ) ℕ Variants.none c none Set.univ i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 k0_h3 v27 v67 v84 v87 c0_i32_48 c1_i32_50 where
  inv k _ := iprop(((Memref.whole cc0_scratch5).view.loc (c : Thread nD τ) ↦[(Memref.whole cc0_scratch5).view.set]{fullShare} X_arg23) ∗ (∃ f, (arg17.view.loc (c : Thread nD τ) ↦[arg17.view.set]{fullShare} f) ∗ ⌜f = cont7 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v84 v87 c0_i32_48 c1_i32_50 X_arg23 g k⌝))
  step k acc := by
    iintro ⟨HR_arg23, ⟨%f, HW, %h⟩⟩
    iapply (wp_wand_r Idealize.ShloMosaic.frame (wpE (defs₀ (F := F)) Variants.none (c : Thread nD τ) none) Set.univ)
    isplitl [HR_arg23 HW]
    · iapply ((trip7 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v84 v87 c0_i32_48 c1_i32_50 X_arg23 k).2 f)
      isplitl [HR_arg23]; · iexact HR_arg23
      iexact HW
    · iintro %_ ⟨HR_arg23, HW⟩
      isplitl [HR_arg23]; · iexact HR_arg23
      iexists _; isplitl [HW]; · iexact HW
      ipureintro
      rw [h]
      exact (cont_succ (step7 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 k0_h3 v27 v67 v84 v87 c0_i32_48 c1_i32_50 X_arg23) g k).symm

end Trips

end Cert.KernelIdeal.Hand
end
-- ==== Proof.Ideal.Chunks.lean ====
module
public import proofs.«01_k».proof.Proof.Ideal.Trips
public import proofs.«01_k».proof.Proof.Gen.KernelIdeal.Skeleton
public import proofs.«01_k».proof.Proof.Gen.KernelIdeal.Launch
public import proofs.«01_k».proof.Proof.Gen.KernelIdeal.Loops
public import Idealize.ShloMosaic.Lib.Batch
public import Idealize.ShloMosaic.Lib.Ring
public import Idealize.ShloMosaic.Lib.Pipeline.FrameBody
public import Idealize.ShloMosaic.Lib.Tactic
public import Idealize.ShloMosaic.Lib.Tactic.Stretches
@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (Pipeline.UD sig nD τ) ℕ

/-! ## The kernel in five stretches -/

set_option maxRecDepth 65536 in
cut_chain s := Gen.cc0_decdec_gated_skel at 2, 3, 4, 5

section Chunks
variable (c : Dev nD) (i : grid0.Coords)
  (arg3 : Memref sig .tc .vmem S1x256 .i32) (harg3 : arg3.IsWhole) (arg4 : Memref sig .tc .vmem S2x5120 .bf16) (harg4 : arg4.IsWhole) (arg5 : Memref sig .tc .vmem S1280x256 .i32) (harg5 : arg5.IsWhole) (arg6 : Memref sig .tc .vmem S1280x256 .i32) (harg6 : arg6.IsWhole) (arg7 : Memref sig .tc .vmem S40x17920 .bf16) (harg7 : arg7.IsWhole) (arg8 : Memref sig .tc .vmem S40x17920 .bf16) (harg8 : arg8.IsWhole) (arg9 : Memref sig .tc .vmem S40x17920 .i8) (harg9 : arg9.IsWhole) (arg10 : Memref sig .tc .vmem S40x17920 .i8) (harg10 : arg10.IsWhole) (arg11 : Memref sig .tc .vmem S1x5120 .bf16) (harg11 : arg11.IsWhole) (arg12 : Memref sig .tc .vmem S1x5120 .bf16) (harg12 : arg12.IsWhole) (arg15 : Memref sig .tc .vmem S2x1x17920 .bf16) (harg15 : arg15.IsWhole) (arg16 : Memref sig .tc .vmem S2x1x17920 .f32) (harg16 : arg16.IsWhole) (arg17 : Memref sig .tc .vmem S2x1x17920 .f32) (harg17 : arg17.IsWhole) (arg18 : Memref sig .tc .vmem S16x20480 .bf16) (harg18 : arg18.IsWhole) (arg19 : Memref sig .tc .vmem S5x2x320x2x128 .f32) (harg19 : arg19.IsWhole) (arg20 : Memref sig .tc .vmem S5x2x320x2x128 .f32) (harg20 : arg20.IsWhole) (arg21 : Memref sig .tc .vmem S5x16x256 .f32) (harg21 : arg21.IsWhole) (arg24 : Memref sig .tc .vmem S128x128 .i32) (harg24 : arg24.IsWhole)

set_option maxHeartbeats 4000000 in
/-- The pattern stretch of a column's first step: the pieces it writes. -/
@[irreducible] def pattern (h2 : k0_cond2 i = 1#1) (X7 : BufTy.Contents (Elt F) arg7.view.ty) (X8 : BufTy.Contents (Elt F) arg8.view.ty) (X9 : BufTy.Contents (Elt F) arg9.view.ty) (X10 : BufTy.Contents (Elt F) arg10.view.ty) :
    { L : List (View.Piece (Elt F) S5x2x320x2x128 .f32) × List (View.Piece (Elt F) S5x2x320x2x128 .f32) × List (View.Piece (Elt F) S5x16x256 .f32) //
      ∀ (f19 : BufTy.Contents (Elt F) arg19.view.ty) (f20 : BufTy.Contents (Elt F) arg20.view.ty) (f21 : BufTy.Contents (Elt F) arg21.view.ty) (κ : Prog (TpuEff nD τ sig (Elt F) Λ₀ .tc) PUnit) (Q : PUnit → sProp 𝕄),
        iprop((arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21))
        ⊢ iprop((iprop((arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg19.view.loc (c : Thread nD τ) ↦[arg19.view.set]{fullShare} (arg19.view.writes (Elt F) f19 L.1)) ∗ (arg20.view.loc (c : Thread nD τ) ↦[arg20.view.set]{fullShare} (arg20.view.writes (Elt F) f20 L.2.1)) ∗ (arg21.view.loc (c : Thread nD τ) ↦[arg21.view.set]{fullShare} (arg21.view.writes (Elt F) f21 L.2.2))) -∗ wp frame (wpE (defs₀ (F := F)) Variants.none (c : Thread nD τ) none) Set.univ κ Q) -∗ wp frame (wpE (defs₀ (F := F)) Variants.none (c : Thread nD τ) none) Set.univ (s2 (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 κ) Q) } := by
  refine ⟨⟨?_, ?_, ?_⟩, fun f19 f20 f21 κ Q => ?run⟩
  case run =>
    unfold s2
    rw [dif_pos h2]
    iintro ⟨H7, H8, H9, H10, H19, H20, H21⟩ Hκ
    sl_exec
    iapply Hκ
    sl_close

section Start
variable [∀ e, Nonempty (Elt F e)]
set_option maxHeartbeats 4000000 in
/-- The first stretch at the first step: every row's transfer issued, the left-hand sides stored. -/
theorem start (h1 : k0_cond1 i = 1#1) (q : PosShare TreeShare) (X : S100.Idx → BitVec 32) (hX : ∀ y, (X y).toNat < 5120) (WG WU : S1280x8960.Idx → Elt F .i32) (g4 g5 : S128x8960.Idx → Elt F .i32) (X4 : BufTy.Contents (Elt F) arg4.view.ty) (f18 : BufTy.Contents (Elt F) arg18.view.ty) (κ : Prog (TpuEff nD τ sig (Elt F) Λ₀ .tc) PUnit) (Q : PUnit → sProp 𝕄) :
    iprop(((Memref.whole main_arg1).view.loc (c : Thread nD τ) ↦[(Memref.whole main_arg1).view.set]{q} X) ∗ (arg4.view.loc (c : Thread nD τ) ↦[arg4.view.set]{fullShare} X4) ∗ (arg18.view.loc (c : Thread nD τ) ↦[arg18.view.set]{fullShare} f18) ∗ semVal ((c : Thread nD τ), SemLoc.dma cc0_scratch7.sem) 0 ∗ atRest c WG WU g4 g5)
      ⊢ iprop((iprop(((Memref.whole main_arg1).view.loc (c : Thread nD τ) ↦[(Memref.whole main_arg1).view.set]{q} X) ∗ (arg4.view.loc (c : Thread nD τ) ↦[arg4.view.set]{fullShare} X4) ∗ (arg18.view.loc (c : Thread nD τ) ↦[arg18.view.set]{fullShare} (cont2 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h1 (iota .tc S8x128 32 [1] iota_S8x128_d1_w32) X4 f18 k0_t2_loop.trips)) ∗ batch c X hX WG WU (2 * k0_t1_loop.trips) 0 ∗ aside c X hX WG WU g4 g5) -∗ wp frame (wpE (defs₀ (F := F)) Variants.none (c : Thread nD τ) none) Set.univ κ Q) -∗ wp frame (wpE (defs₀ (F := F)) Variants.none (c : Thread nD τ) none) Set.univ (s1 (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 κ) Q) := by
  unfold s1
  rw [dif_pos h1]
  iintro ⟨HT, H4, H18, Hc, HR⟩ Hκ
  ihave HR := (depart c X hX WG WU g4 g5) $$ HR
  icases HR with ⟨Hb, Ha⟩
  imod (Transfers.batch_alloc' (Lvl := ℕ) (countersEmb (U := Pipeline.UD sig nD τ)) (c : Thread nD τ) () 1120 (dels c X hX WG WU) (sm := .dma cc0_scratch7.sem) (E := Set.univ)) $$ Hc with HB
  sl_for (issueAt c X hX WG WU q) $$ [HT HB Hb]
  · intro k acc; exact issue_step c X hX WG WU i q arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h1 k acc
  · unfold issueAt
    isplitl [HT]; · iexact HT
    isplitl [HB]; · iexact HB
    iexact Hb
  iintro %acc HL
  unfold issueAt
  icases HL with ⟨HT, HB, _⟩
  sl_exec
  iapply Hκ
  isplitl [HT]; · iexact HT
  isplitl [H4]; · iexact H4
  isplitl [H18]; · iexact H18
  isplitl [HB]; · iexact HB
  iexact Ha
end Start

/-- The accumulation stretch: ten groups of rows. -/
theorem accumulate (X5 : BufTy.Contents (Elt F) arg5.view.ty) (X6 : BufTy.Contents (Elt F) arg6.view.ty) (X18 : BufTy.Contents (Elt F) arg18.view.ty) (X19 : BufTy.Contents (Elt F) arg19.view.ty) (X20 : BufTy.Contents (Elt F) arg20.view.ty) (f21 : BufTy.Contents (Elt F) arg21.view.ty) (κ : Prog (TpuEff nD τ sig (Elt F) Λ₀ .tc) PUnit) (Q : PUnit → sProp 𝕄) :
    iprop((arg5.view.loc (c : Thread nD τ) ↦[arg5.view.set]{fullShare} X5) ∗ (arg6.view.loc (c : Thread nD τ) ↦[arg6.view.set]{fullShare} X6) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} f21))
      ⊢ iprop((iprop((arg5.view.loc (c : Thread nD τ) ↦[arg5.view.set]{fullShare} X5) ∗ (arg6.view.loc (c : Thread nD τ) ↦[arg6.view.set]{fullShare} X6) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} (cont3 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 (BitVec.ofNat 32 (i 1).val) X5 X6 X18 X19 X20 f21 k0_t3_loop.trips))) -∗ wp frame (wpE (defs₀ (F := F)) Variants.none (c : Thread nD τ) none) Set.univ κ Q) -∗ wp frame (wpE (defs₀ (F := F)) Variants.none (c : Thread nD τ) none) Set.univ (s3 (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 κ) Q) := by
  unfold s3
  iintro ⟨H5, H6, H18, H19, H20, H21⟩ Hκ
  sl_exec
  iapply Hκ
  sl_close

set_option maxHeartbeats 4000000 in
/-- The last stretch of a column: the pieces of the gated result. -/
@[irreducible] def gate (h4 : k0_cond4 i = 1#1) (X21 : BufTy.Contents (Elt F) arg21.view.ty) (X16 : BufTy.Contents (Elt F) arg16.view.ty) (X17 : BufTy.Contents (Elt F) arg17.view.ty) :
    { L : List (View.Piece (Elt F) S2x1x17920 .bf16) // ∀ (f15 : BufTy.Contents (Elt F) arg15.view.ty) (κ : Prog (TpuEff nD τ sig (Elt F) Λ₀ .tc) PUnit) (Q : PUnit → sProp 𝕄),
      iprop((arg21.view.loc (c : Thread nD τ) ↦[arg21.view.set]{fullShare} X21) ∗ (arg16.view.loc (c : Thread nD τ) ↦[arg16.view.set]{fullShare} X16) ∗ (arg17.view.loc (c : Thread nD τ) ↦[arg17.view.set]{fullShare} X17) ∗ (arg15.view.loc (c : Thread nD τ) ↦[arg15.view.set]{fullShare} f15))
      ⊢ iprop((iprop((arg21.view.loc (c : Thread nD τ) ↦[arg21.view.set]{fullShare} X21) ∗ (arg16.view.loc (c : Thread nD τ) ↦[arg16.view.set]{fullShare} X16) ∗ (arg17.view.loc (c : Thread nD τ) ↦[arg17.view.set]{fullShare} X17) ∗ (arg15.view.loc (c : Thread nD τ) ↦[arg15.view.set]{fullShare} (arg15.view.writes (Elt F) f15 L))) -∗ wp frame (wpE (defs₀ (F := F)) Variants.none (c : Thread nD τ) none) Set.univ κ Q) -∗ wp frame (wpE (defs₀ (F := F)) Variants.none (c : Thread nD τ) none) Set.univ (s5 (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 κ) Q) } := by
  refine ⟨?_, fun f15 κ Q => ?run⟩
  case run =>
    unfold s5
    rw [dif_pos h4]
    iintro ⟨H21, H16, H17, H15⟩ Hκ
    sl_exec
    iapply Hκ
    sl_close

end Chunks

end Cert.KernelIdeal.Hand
end
-- ==== Proof.Ideal.Residual.lean ====
module
public import proofs.«01_k».proof.Proof.Ideal.Chunks
public import proofs.«01_k».proof.Proof.Gen.KernelIdeal.Skeleton
public import proofs.«01_k».proof.Proof.Gen.KernelIdeal.Launch
public import proofs.«01_k».proof.Proof.Gen.KernelIdeal.Loops
public import Idealize.ShloMosaic.Lib.Batch
public import Idealize.ShloMosaic.Lib.Ring
public import Idealize.ShloMosaic.Lib.Pipeline.FrameBody
public import Idealize.ShloMosaic.Lib.Tactic
public import Idealize.ShloMosaic.Lib.Tactic.Stretches
@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (Pipeline.UD sig nD τ) ℕ

section Chunks
variable (c : Dev nD) (i : grid0.Coords)
  (arg3 : Memref sig .tc .vmem S1x256 .i32) (harg3 : arg3.IsWhole) (arg4 : Memref sig .tc .vmem S2x5120 .bf16) (harg4 : arg4.IsWhole) (arg5 : Memref sig .tc .vmem S1280x256 .i32) (harg5 : arg5.IsWhole) (arg6 : Memref sig .tc .vmem S1280x256 .i32) (harg6 : arg6.IsWhole) (arg7 : Memref sig .tc .vmem S40x17920 .bf16) (harg7 : arg7.IsWhole) (arg8 : Memref sig .tc .vmem S40x17920 .bf16) (harg8 : arg8.IsWhole) (arg9 : Memref sig .tc .vmem S40x17920 .i8) (harg9 : arg9.IsWhole) (arg10 : Memref sig .tc .vmem S40x17920 .i8) (harg10 : arg10.IsWhole) (arg11 : Memref sig .tc .vmem S1x5120 .bf16) (harg11 : arg11.IsWhole) (arg12 : Memref sig .tc .vmem S1x5120 .bf16) (harg12 : arg12.IsWhole) (arg15 : Memref sig .tc .vmem S2x1x17920 .bf16) (harg15 : arg15.IsWhole) (arg16 : Memref sig .tc .vmem S2x1x17920 .f32) (harg16 : arg16.IsWhole) (arg17 : Memref sig .tc .vmem S2x1x17920 .f32) (harg17 : arg17.IsWhole) (arg18 : Memref sig .tc .vmem S16x20480 .bf16) (harg18 : arg18.IsWhole) (arg19 : Memref sig .tc .vmem S5x2x320x2x128 .f32) (harg19 : arg19.IsWhole) (arg20 : Memref sig .tc .vmem S5x2x320x2x128 .f32) (harg20 : arg20.IsWhole) (arg21 : Memref sig .tc .vmem S5x16x256 .f32) (harg21 : arg21.IsWhole) (arg24 : Memref sig .tc .vmem S128x128 .i32) (harg24 : arg24.IsWhole)

section Residual
variable [∀ e, Nonempty (Elt F e)]
/-- The row buffers, over every index and over the buffer's own set. -/
theorem setOf_G (g : S128x8960.Idx → Elt F .i32) : (((Memref.whole cc0_scratch4).view.loc (c : Thread nD τ) ↦{fullShare} g) : sProp 𝕄)
    = ((Memref.whole cc0_scratch4).view.loc (c : Thread nD τ) ↦[(Memref.whole cc0_scratch4).view.set]{fullShare} g) :=
  by rw [show (Memref.whole cc0_scratch4).view.set = Finset.univ from View.set_whole _]
theorem setOf_U (g : S128x8960.Idx → Elt F .i32) : (((Memref.whole cc0_scratch5).view.loc (c : Thread nD τ) ↦{fullShare} g) : sProp 𝕄)
    = ((Memref.whole cc0_scratch5).view.loc (c : Thread nD τ) ↦[(Memref.whole cc0_scratch5).view.set]{fullShare} g) :=
  by rw [show (Memref.whole cc0_scratch5).view.set = Finset.univ from View.set_whole _]
/-- The words and the row buffers at rest, over the buffers' own sets. -/
abbrev atRestS (WG WU : S1280x8960.Idx → Elt F .i32) (g4 g5 : S128x8960.Idx → Elt F .i32) : sProp 𝕄 :=
  iprop(((Memref.whole main_v25).view.loc (c : Thread nD τ) ↦{fullShare} WG) ∗ ((Memref.whole main_v44).view.loc (c : Thread nD τ) ↦{fullShare} WU)
    ∗ ((Memref.whole cc0_scratch4).view.loc (c : Thread nD τ) ↦[(Memref.whole cc0_scratch4).view.set]{fullShare} g4) ∗ ((Memref.whole cc0_scratch5).view.loc (c : Thread nD τ) ↦[(Memref.whole cc0_scratch5).view.set]{fullShare} g5))
set_option maxHeartbeats 4000000 in
/-- The residual stretch: the row transfers collected, both residual results stored. -/
@[irreducible] def residual (h3 : k0_cond3 i = 1#1) (q : PosShare TreeShare) (X : S100.Idx → BitVec 32) (hX : ∀ y, (X y).toNat < 5120) (WG WU : S1280x8960.Idx → Elt F .i32) (g4 g5 : S128x8960.Idx → Elt F .i32) (X3 : BufTy.Contents (Elt F) arg3.view.ty) (X4 : BufTy.Contents (Elt F) arg4.view.ty) (X11 : BufTy.Contents (Elt F) arg11.view.ty) (X12 : BufTy.Contents (Elt F) arg12.view.ty) (f24 : BufTy.Contents (Elt F) arg24.view.ty) (f16 : BufTy.Contents (Elt F) arg16.view.ty) (f17 : BufTy.Contents (Elt F) arg17.view.ty) :
    { G : BufTy.Contents (Elt F) (Memref.whole cc0_scratch4).view.ty × BufTy.Contents (Elt F) (Memref.whole cc0_scratch5).view.ty × BufTy.Contents (Elt F) arg24.view.ty × BufTy.Contents (Elt F) arg16.view.ty × BufTy.Contents (Elt F) arg17.view.ty // ∀ (κ : Prog (TpuEff nD τ sig (Elt F) Λ₀ .tc) PUnit) (Q : PUnit → sProp 𝕄),
      iprop(((Memref.whole main_arg1).view.loc (c : Thread nD τ) ↦[(Memref.whole main_arg1).view.set]{q} X) ∗ (arg3.view.loc (c : Thread nD τ) ↦[arg3.view.set]{fullShare} X3) ∗ (arg4.view.loc (c : Thread nD τ) ↦[arg4.view.set]{fullShare} X4) ∗ (arg11.view.loc (c : Thread nD τ) ↦[arg11.view.set]{fullShare} X11) ∗ (arg12.view.loc (c : Thread nD τ) ↦[arg12.view.set]{fullShare} X12) ∗ (arg24.view.loc (c : Thread nD τ) ↦[arg24.view.set]{fullShare} f24) ∗ (arg16.view.loc (c : Thread nD τ) ↦[arg16.view.set]{fullShare} f16) ∗ (arg17.view.loc (c : Thread nD τ) ↦[arg17.view.set]{fullShare} f17) ∗ (∃ W, owes (c : Thread nD τ) 0 W) ∗ batch c X hX WG WU (2 * k0_t1_loop.trips) 0 ∗ aside c X hX WG WU g4 g5)
      ⊢ iprop((iprop(((Memref.whole main_arg1).view.loc (c : Thread nD τ) ↦[(Memref.whole main_arg1).view.set]{q} X) ∗ (arg3.view.loc (c : Thread nD τ) ↦[arg3.view.set]{fullShare} X3) ∗ (arg4.view.loc (c : Thread nD τ) ↦[arg4.view.set]{fullShare} X4) ∗ (arg11.view.loc (c : Thread nD τ) ↦[arg11.view.set]{fullShare} X11) ∗ (arg12.view.loc (c : Thread nD τ) ↦[arg12.view.set]{fullShare} X12) ∗ (arg24.view.loc (c : Thread nD τ) ↦[arg24.view.set]{fullShare} G.2.2.1) ∗ (arg16.view.loc (c : Thread nD τ) ↦[arg16.view.set]{fullShare} G.2.2.2.1) ∗ (arg17.view.loc (c : Thread nD τ) ↦[arg17.view.set]{fullShare} G.2.2.2.2) ∗ (∃ W, owes (c : Thread nD τ) 0 W) ∗ semVal ((c : Thread nD τ), SemLoc.dma cc0_scratch7.sem) 0 ∗ ((Memref.whole main_v25).view.loc (c : Thread nD τ) ↦{fullShare} WG) ∗ ((Memref.whole main_v44).view.loc (c : Thread nD τ) ↦{fullShare} WU) ∗ ((Memref.whole cc0_scratch4).view.loc (c : Thread nD τ) ↦[(Memref.whole cc0_scratch4).view.set]{fullShare} G.1) ∗ ((Memref.whole cc0_scratch5).view.loc (c : Thread nD τ) ↦[(Memref.whole cc0_scratch5).view.set]{fullShare} G.2.1)) -∗ wp frame (wpE (defs₀ (F := F)) Variants.none (c : Thread nD τ) none) Set.univ κ Q) -∗ wp frame (wpE (defs₀ (F := F)) Variants.none (c : Thread nD τ) none) Set.univ (s4 (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 κ) Q) } := by
  refine ⟨⟨?_, ?_, ?_, ?_, ?_⟩, fun κ Q => ?run⟩
  case run =>
    unfold s4
    rw [dif_pos h3]
    simp only [Gen.k0_part50_eq_skeleton, Gen.k0_part51_eq_skeleton, Gen.k0_part52_eq_skeleton, Gen.k0_part53_eq_skeleton, Gen.k0_part54_eq_skeleton, Gen.k0_part55_eq_skeleton, Gen.k0_part56_eq_skeleton, Gen.k0_part57_eq_skeleton, Gen.k0_part58_eq_skeleton]
    iintro ⟨HT, H3, H4, H11, H12, H24, H16, H17, Ho, HB, Ha⟩ Hκ
    sl_exec
    sl_for (drainInv c X hX WG WU q) $$ [HT HB Ho]
    · intro k acc; exact drain_step c X hX WG WU i q arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h3 k acc
    · unfold drainInv
      rw [if_pos (by decide)]
      isplit; · ipureintro; omega
      isplitl [HT]; · iexact HT
      isplitl [Ho]; · iexact Ho
      iexact HB
    iintro %acc HL
    unfold drainInv
    rw [if_neg (by decide)]
    icases HL with ⟨_, HT, ⟨%W, Ho⟩, Hc, Hd⟩
    ihave HR := (show iprop(bigSep Finset.univ (dels c X hX WG WU) ∗ aside c X hX WG WU g4 g5) ⊢ (atRestS c WG WU (rowsOf X hX WG g4) (rowsOf X hX WU g5) : sProp 𝕄) from by unfold atRestS; rw [← setOf_G, ← setOf_U]; exact arrive c X hX WG WU g4 g5) $$ [Hd Ha]
    · isplitl [Hd] <;> iassumption
    icases HR with ⟨HG, HU, H22, H23⟩
    sl_exec
    iapply Hκ
    sl_close
end Residual

end Chunks

end Cert.KernelIdeal.Hand
end
-- ==== Proof.Ideal.Body.lean ====
module
public import proofs.«01_k».proof.Proof.Ideal.Residual
public import proofs.«01_k».proof.Proof.Gen.KernelIdeal.Skeleton
public import proofs.«01_k».proof.Proof.Gen.KernelIdeal.Launch
public import proofs.«01_k».proof.Proof.Gen.KernelIdeal.Loops
public import Idealize.ShloMosaic.Lib.Batch
public import Idealize.ShloMosaic.Lib.Ring
public import Idealize.ShloMosaic.Lib.Pipeline.FrameBody
public import Idealize.ShloMosaic.Lib.Tactic
public import Idealize.ShloMosaic.Lib.Tactic.Stretches
@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (Pipeline.UD sig nD τ) ℕ

/-! ## Every stretch at every grid point -/

section Chunks
variable (c : Dev nD) (i : grid0.Coords)
  (arg3 : Memref sig .tc .vmem S1x256 .i32) (harg3 : arg3.IsWhole) (arg4 : Memref sig .tc .vmem S2x5120 .bf16) (harg4 : arg4.IsWhole) (arg5 : Memref sig .tc .vmem S1280x256 .i32) (harg5 : arg5.IsWhole) (arg6 : Memref sig .tc .vmem S1280x256 .i32) (harg6 : arg6.IsWhole) (arg7 : Memref sig .tc .vmem S40x17920 .bf16) (harg7 : arg7.IsWhole) (arg8 : Memref sig .tc .vmem S40x17920 .bf16) (harg8 : arg8.IsWhole) (arg9 : Memref sig .tc .vmem S40x17920 .i8) (harg9 : arg9.IsWhole) (arg10 : Memref sig .tc .vmem S40x17920 .i8) (harg10 : arg10.IsWhole) (arg11 : Memref sig .tc .vmem S1x5120 .bf16) (harg11 : arg11.IsWhole) (arg12 : Memref sig .tc .vmem S1x5120 .bf16) (harg12 : arg12.IsWhole) (arg15 : Memref sig .tc .vmem S2x1x17920 .bf16) (harg15 : arg15.IsWhole) (arg16 : Memref sig .tc .vmem S2x1x17920 .f32) (harg16 : arg16.IsWhole) (arg17 : Memref sig .tc .vmem S2x1x17920 .f32) (harg17 : arg17.IsWhole) (arg18 : Memref sig .tc .vmem S16x20480 .bf16) (harg18 : arg18.IsWhole) (arg19 : Memref sig .tc .vmem S5x2x320x2x128 .f32) (harg19 : arg19.IsWhole) (arg20 : Memref sig .tc .vmem S5x2x320x2x128 .f32) (harg20 : arg20.IsWhole) (arg21 : Memref sig .tc .vmem S5x16x256 .f32) (harg21 : arg21.IsWhole) (arg24 : Memref sig .tc .vmem S128x128 .i32) (harg24 : arg24.IsWhole)

variable [∀ e, Nonempty (Elt F e)]

/-- The row transfers: all on their way, or none and the buffers at rest. -/
def flight (X : S100.Idx → BitVec 32) (hX : ∀ y, (X y).toNat < 5120) (WG WU : S1280x8960.Idx → Elt F .i32) (b : Bool) : sProp 𝕄 :=
  if b then iprop(batch c X hX WG WU (2 * k0_t1_loop.trips) 0 ∗ ∃ g4 g5, aside c X hX WG WU g4 g5)
  else iprop(semVal ((c : Thread nD τ), SemLoc.dma cc0_scratch7.sem) 0 ∗ ∃ g4 g5, atRestS c WG WU g4 g5)

/-- What the first stretch makes of the left-hand sides. -/
def Lhs (X4 : BufTy.Contents (Elt F) arg4.view.ty) (f18 : BufTy.Contents (Elt F) arg18.view.ty) (f18' : BufTy.Contents (Elt F) arg18.view.ty) : Prop :=
  (∀ h1 : k0_cond1 i = 1#1, f18' = cont2 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h1 (iota .tc S8x128 32 [1] iota_S8x128_d1_w32) X4 f18 k0_t2_loop.trips) ∧ (¬ k0_cond1 i = 1#1 → f18' = f18)

theorem stretch1 (q : PosShare TreeShare) (X : S100.Idx → BitVec 32) (hX : ∀ y, (X y).toNat < 5120) (WG WU : S1280x8960.Idx → Elt F .i32) (b b' : Bool) (ht : k0_cond1 i = 1#1 → b = false ∧ b' = true) (hf : ¬ k0_cond1 i = 1#1 → b' = b)
    (X4 : BufTy.Contents (Elt F) arg4.view.ty) (f18 : BufTy.Contents (Elt F) arg18.view.ty) (κ : Prog (TpuEff nD τ sig (Elt F) Λ₀ .tc) PUnit) (Q : PUnit → sProp 𝕄) :
    iprop(((Memref.whole main_arg1).view.loc (c : Thread nD τ) ↦[(Memref.whole main_arg1).view.set]{q} X) ∗ (arg4.view.loc (c : Thread nD τ) ↦[arg4.view.set]{fullShare} X4) ∗ (arg18.view.loc (c : Thread nD τ) ↦[arg18.view.set]{fullShare} f18) ∗ flight c X hX WG WU b)
      ⊢ iprop((∀ f18', iprop(⌜Lhs c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 X4 f18 f18'⌝ ∗ ((Memref.whole main_arg1).view.loc (c : Thread nD τ) ↦[(Memref.whole main_arg1).view.set]{q} X) ∗ (arg4.view.loc (c : Thread nD τ) ↦[arg4.view.set]{fullShare} X4) ∗ (arg18.view.loc (c : Thread nD τ) ↦[arg18.view.set]{fullShare} f18') ∗ flight c X hX WG WU b') -∗ wp frame (wpE (defs₀ (F := F)) Variants.none (c : Thread nD τ) none) Set.univ κ Q) -∗ wp frame (wpE (defs₀ (F := F)) Variants.none (c : Thread nD τ) none) Set.univ (s1 (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 κ) Q) := by
  by_cases h1 : k0_cond1 i = 1#1
  · obtain ⟨rfl, rfl⟩ := ht h1
    unfold flight
    rw [if_neg (by decide), if_pos rfl]
    iintro ⟨HT, H4, H18, Hf⟩ Hκ
    icases Hf with ⟨Hc, ⟨%g4, %g5, Hr⟩⟩
    iapply (start c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h1 q X hX WG WU g4 g5 X4 f18 κ Q) $$ [HT H4 H18 Hc Hr]
    · isplitl [HT]; · iexact HT
      isplitl [H4]; · iexact H4
      isplitl [H18]; · iexact H18
      isplitl [Hc]; · iexact Hc
      iapply (show atRestS c WG WU g4 g5 ⊢ (atRest c WG WU g4 g5 : sProp 𝕄) from by unfold atRestS; rw [← setOf_G, ← setOf_U])
      iexact Hr
    iintro ⟨HT, H4, H18, HB, Ha⟩
    iapply Hκ
    isplitr; swap
    · isplitl [HT]; · iexact HT
      isplitl [H4]; · iexact H4
      isplitl [H18]; · iexact H18
      isplitl [HB]; · iexact HB
      iexists _, _; iexact Ha
    ipureintro; exact ⟨fun _ => rfl, fun h => absurd h1 h⟩
  · rw [hf h1]
    unfold s1
    rw [dif_neg h1]
    iintro ⟨HT, H4, H18, Hf⟩ Hκ
    iapply Hκ
    isplitr; swap
    · isplitl [HT]; · iexact HT
      isplitl [H4]; · iexact H4
      isplitl [H18]; · iexact H18
      iexact Hf
    ipureintro; exact ⟨fun h => absurd h h1, fun _ => rfl⟩

/-- What the second stretch makes of the patterns and the accumulator. -/
def Pat (X7 : BufTy.Contents (Elt F) arg7.view.ty) (X8 : BufTy.Contents (Elt F) arg8.view.ty) (X9 : BufTy.Contents (Elt F) arg9.view.ty) (X10 : BufTy.Contents (Elt F) arg10.view.ty) (f19 : BufTy.Contents (Elt F) arg19.view.ty) (f20 : BufTy.Contents (Elt F) arg20.view.ty) (f21 : BufTy.Contents (Elt F) arg21.view.ty) (f19' : BufTy.Contents (Elt F) arg19.view.ty) (f20' : BufTy.Contents (Elt F) arg20.view.ty) (f21' : BufTy.Contents (Elt F) arg21.view.ty) : Prop :=
  (∀ h2 : k0_cond2 i = 1#1, f19' = arg19.view.writes (Elt F) f19 (pattern c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h2 X7 X8 X9 X10).1.1
      ∧ f20' = arg20.view.writes (Elt F) f20 (pattern c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h2 X7 X8 X9 X10).1.2.1
      ∧ f21' = arg21.view.writes (Elt F) f21 (pattern c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h2 X7 X8 X9 X10).1.2.2)
    ∧ (¬ k0_cond2 i = 1#1 → f19' = f19 ∧ f20' = f20 ∧ f21' = f21)

theorem stretch2 (X7 : BufTy.Contents (Elt F) arg7.view.ty) (X8 : BufTy.Contents (Elt F) arg8.view.ty) (X9 : BufTy.Contents (Elt F) arg9.view.ty) (X10 : BufTy.Contents (Elt F) arg10.view.ty) (f19 : BufTy.Contents (Elt F) arg19.view.ty) (f20 : BufTy.Contents (Elt F) arg20.view.ty) (f21 : BufTy.Contents (Elt F) arg21.view.ty) (κ : Prog (TpuEff nD τ sig (Elt F) Λ₀ .tc) PUnit) (Q : PUnit → sProp 𝕄) :
    iprop((arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21))
      ⊢ iprop((∀ f19' f20' f21', iprop(⌜Pat c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 X7 X8 X9 X10 f19 f20 f21 f19' f20' f21'⌝ ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg19.view.loc (c : Thread nD τ) ↦[arg19.view.set]{fullShare} f19') ∗ (arg20.view.loc (c : Thread nD τ) ↦[arg20.view.set]{fullShare} f20') ∗ (arg21.view.loc (c : Thread nD τ) ↦[arg21.view.set]{fullShare} f21')) -∗ wp frame (wpE (defs₀ (F := F)) Variants.none (c : Thread nD τ) none) Set.univ κ Q) -∗ wp frame (wpE (defs₀ (F := F)) Variants.none (c : Thread nD τ) none) Set.univ (s2 (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 κ) Q) := by
  by_cases h2 : k0_cond2 i = 1#1
  · iintro ⟨H7, H8, H9, H10, H19, H20, H21⟩ Hκ
    iapply ((pattern c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h2 X7 X8 X9 X10).2 f19 f20 f21 κ Q) $$ [H7 H8 H9 H10 H19 H20 H21]
    · isplitl [H7]; · iexact H7
      isplitl [H8]; · iexact H8
      isplitl [H9]; · iexact H9
      isplitl [H10]; · iexact H10
      isplitl [H19]; · iexact H19
      isplitl [H20]; · iexact H20
      iexact H21
    iintro ⟨H7, H8, H9, H10, H19, H20, H21⟩
    iapply Hκ
    isplitr; swap
    · isplitl [H7]; · iexact H7
      isplitl [H8]; · iexact H8
      isplitl [H9]; · iexact H9
      isplitl [H10]; · iexact H10
      isplitl [H19]; · iexact H19
      isplitl [H20]; · iexact H20
      iexact H21
    ipureintro; exact ⟨fun _ => ⟨rfl, rfl, rfl⟩, fun h => absurd h2 h⟩
  · unfold s2
    rw [dif_neg h2]
    iintro ⟨H7, H8, H9, H10, H19, H20, H21⟩ Hκ
    iapply Hκ
    isplitr; swap
    · isplitl [H7]; · iexact H7
      isplitl [H8]; · iexact H8
      isplitl [H9]; · iexact H9
      isplitl [H10]; · iexact H10
      isplitl [H19]; · iexact H19
      isplitl [H20]; · iexact H20
      iexact H21
    ipureintro; exact ⟨fun h => absurd h h2, fun _ => ⟨rfl, rfl, rfl⟩⟩

/-- What the fourth stretch makes of the residual results. -/
def Res (q : PosShare TreeShare) (X : S100.Idx → BitVec 32) (hX : ∀ y, (X y).toNat < 5120) (WG WU : S1280x8960.Idx → Elt F .i32) (X3 : BufTy.Contents (Elt F) arg3.view.ty) (X4 : BufTy.Contents (Elt F) arg4.view.ty) (X11 : BufTy.Contents (Elt F) arg11.view.ty) (X12 : BufTy.Contents (Elt F) arg12.view.ty) (f16 : BufTy.Contents (Elt F) arg16.view.ty) (f17 : BufTy.Contents (Elt F) arg17.view.ty) (f16' : BufTy.Contents (Elt F) arg16.view.ty) (f17' : BufTy.Contents (Elt F) arg17.view.ty) : Prop :=
  (∀ h3 : k0_cond3 i = 1#1, ∃ g4 g5 f24, f16' = (residual c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h3 q X hX WG WU g4 g5 X3 X4 X11 X12 f24 f16 f17).1.2.2.2.1
      ∧ f17' = (residual c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h3 q X hX WG WU g4 g5 X3 X4 X11 X12 f24 f16 f17).1.2.2.2.2)
    ∧ (¬ k0_cond3 i = 1#1 → f16' = f16 ∧ f17' = f17)

theorem stretch4 (q : PosShare TreeShare) (X : S100.Idx → BitVec 32) (hX : ∀ y, (X y).toNat < 5120) (WG WU : S1280x8960.Idx → Elt F .i32) (b b' : Bool) (ht : k0_cond3 i = 1#1 → b = true ∧ b' = false) (hf : ¬ k0_cond3 i = 1#1 → b' = b)
    (X3 : BufTy.Contents (Elt F) arg3.view.ty) (X4 : BufTy.Contents (Elt F) arg4.view.ty) (X11 : BufTy.Contents (Elt F) arg11.view.ty) (X12 : BufTy.Contents (Elt F) arg12.view.ty) (f24 : BufTy.Contents (Elt F) arg24.view.ty) (f16 : BufTy.Contents (Elt F) arg16.view.ty) (f17 : BufTy.Contents (Elt F) arg17.view.ty) (κ : Prog (TpuEff nD τ sig (Elt F) Λ₀ .tc) PUnit) (Q : PUnit → sProp 𝕄) :
    iprop(((Memref.whole main_arg1).view.loc (c : Thread nD τ) ↦[(Memref.whole main_arg1).view.set]{q} X) ∗ (arg3.view.loc (c : Thread nD τ) ↦[arg3.view.set]{fullShare} X3) ∗ (arg4.view.loc (c : Thread nD τ) ↦[arg4.view.set]{fullShare} X4) ∗ (arg11.view.loc (c : Thread nD τ) ↦[arg11.view.set]{fullShare} X11) ∗ (arg12.view.loc (c : Thread nD τ) ↦[arg12.view.set]{fullShare} X12) ∗ (arg24.view.loc (c : Thread nD τ) ↦[arg24.view.set]{fullShare} f24) ∗ (arg16.view.loc (c : Thread nD τ) ↦[arg16.view.set]{fullShare} f16) ∗ (arg17.view.loc (c : Thread nD τ) ↦[arg17.view.set]{fullShare} f17) ∗ (∃ W, owes (c : Thread nD τ) 0 W) ∗ flight c X hX WG WU b)
      ⊢ iprop((∀ f24' f16' f17', iprop(⌜Res c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q X hX WG WU X3 X4 X11 X12 f16 f17 f16' f17'⌝ ∗ ((Memref.whole main_arg1).view.loc (c : Thread nD τ) ↦[(Memref.whole main_arg1).view.set]{q} X) ∗ (arg3.view.loc (c : Thread nD τ) ↦[arg3.view.set]{fullShare} X3) ∗ (arg4.view.loc (c : Thread nD τ) ↦[arg4.view.set]{fullShare} X4) ∗ (arg11.view.loc (c : Thread nD τ) ↦[arg11.view.set]{fullShare} X11) ∗ (arg12.view.loc (c : Thread nD τ) ↦[arg12.view.set]{fullShare} X12) ∗ (arg24.view.loc (c : Thread nD τ) ↦[arg24.view.set]{fullShare} f24') ∗ (arg16.view.loc (c : Thread nD τ) ↦[arg16.view.set]{fullShare} f16') ∗ (arg17.view.loc (c : Thread nD τ) ↦[arg17.view.set]{fullShare} f17') ∗ (∃ W, owes (c : Thread nD τ) 0 W) ∗ flight c X hX WG WU b') -∗ wp frame (wpE (defs₀ (F := F)) Variants.none (c : Thread nD τ) none) Set.univ κ Q) -∗ wp frame (wpE (defs₀ (F := F)) Variants.none (c : Thread nD τ) none) Set.univ (s4 (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 κ) Q) := by
  by_cases h3 : k0_cond3 i = 1#1
  · obtain ⟨rfl, rfl⟩ := ht h3
    unfold flight
    rw [if_pos rfl, if_neg (by decide)]
    iintro ⟨HT, H3, H4, H11, H12, H24, H16, H17, Ho, Hf⟩ Hκ
    icases Hf with ⟨HB, ⟨%g4, %g5, Ha⟩⟩
    iapply ((residual c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h3 q X hX WG WU g4 g5 X3 X4 X11 X12 f24 f16 f17).2 κ Q) $$ [HT H3 H4 H11 H12 H24 H16 H17 Ho HB Ha]
    · isplitl [HT]; · iexact HT
      isplitl [H3]; · iexact H3
      isplitl [H4]; · iexact H4
      isplitl [H11]; · iexact H11
      isplitl [H12]; · iexact H12
      isplitl [H24]; · iexact H24
      isplitl [H16]; · iexact H16
      isplitl [H17]; · iexact H17
      isplitl [Ho]; · iexact Ho
      isplitl [HB]; · iexact HB
      iexact Ha
    iintro ⟨HT, H3, H4, H11, H12, H24, H16, H17, Ho, Hc, Hr⟩
    iapply Hκ
    isplitr; swap
    · isplitl [HT]; · iexact HT
      isplitl [H3]; · iexact H3
      isplitl [H4]; · iexact H4
      isplitl [H11]; · iexact H11
      isplitl [H12]; · iexact H12
      isplitl [H24]; · iexact H24
      isplitl [H16]; · iexact H16
      isplitl [H17]; · iexact H17
      isplitl [Ho]; · iexact Ho
      isplitl [Hc]; · iexact Hc
      iexists _, _; iexact Hr
    ipureintro; exact ⟨fun _ => ⟨g4, g5, f24, rfl, rfl⟩, fun h => absurd h3 h⟩
  · rw [hf h3]
    unfold s4
    rw [dif_neg h3]
    iintro ⟨HT, H3, H4, H11, H12, H24, H16, H17, Ho, Hf⟩ Hκ
    iapply Hκ
    isplitr; swap
    · isplitl [HT]; · iexact HT
      isplitl [H3]; · iexact H3
      isplitl [H4]; · iexact H4
      isplitl [H11]; · iexact H11
      isplitl [H12]; · iexact H12
      isplitl [H24]; · iexact H24
      isplitl [H16]; · iexact H16
      isplitl [H17]; · iexact H17
      isplitl [Ho]; · iexact Ho
      iexact Hf
    ipureintro; exact ⟨fun h => absurd h h3, fun _ => ⟨rfl, rfl⟩⟩

/-- What the last stretch makes of the gated result. -/
def Out (X21 : BufTy.Contents (Elt F) arg21.view.ty) (X16 : BufTy.Contents (Elt F) arg16.view.ty) (X17 : BufTy.Contents (Elt F) arg17.view.ty) (f15 : BufTy.Contents (Elt F) arg15.view.ty) (f15' : BufTy.Contents (Elt F) arg15.view.ty) : Prop :=
  (∀ h4 : k0_cond4 i = 1#1, f15' = arg15.view.writes (Elt F) f15 (gate c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h4 X21 X16 X17).1) ∧ (¬ k0_cond4 i = 1#1 → f15' = f15)

theorem stretch5 (X21 : BufTy.Contents (Elt F) arg21.view.ty) (X16 : BufTy.Contents (Elt F) arg16.view.ty) (X17 : BufTy.Contents (Elt F) arg17.view.ty) (f15 : BufTy.Contents (Elt F) arg15.view.ty) (κ : Prog (TpuEff nD τ sig (Elt F) Λ₀ .tc) PUnit) (Q : PUnit → sProp 𝕄) :
    iprop((arg21.view.loc (c : Thread nD τ) ↦[arg21.view.set]{fullShare} X21) ∗ (arg16.view.loc (c : Thread nD τ) ↦[arg16.view.set]{fullShare} X16) ∗ (arg17.view.loc (c : Thread nD τ) ↦[arg17.view.set]{fullShare} X17) ∗ (arg15.view.loc (c : Thread nD τ) ↦[arg15.view.set]{fullShare} f15))
      ⊢ iprop((∀ f15', iprop(⌜Out c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 X21 X16 X17 f15 f15'⌝ ∗ (arg21.view.loc (c : Thread nD τ) ↦[arg21.view.set]{fullShare} X21) ∗ (arg16.view.loc (c : Thread nD τ) ↦[arg16.view.set]{fullShare} X16) ∗ (arg17.view.loc (c : Thread nD τ) ↦[arg17.view.set]{fullShare} X17) ∗ (arg15.view.loc (c : Thread nD τ) ↦[arg15.view.set]{fullShare} f15')) -∗ wp frame (wpE (defs₀ (F := F)) Variants.none (c : Thread nD τ) none) Set.univ κ Q) -∗ wp frame (wpE (defs₀ (F := F)) Variants.none (c : Thread nD τ) none) Set.univ (s5 (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7 κ) Q) := by
  by_cases h4 : k0_cond4 i = 1#1
  · iintro ⟨H21, H16, H17, H15⟩ Hκ
    iapply ((gate c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h4 X21 X16 X17).2 f15 κ Q) $$ [H21 H16 H17 H15]
    · isplitl [H21]; · iexact H21
      isplitl [H16]; · iexact H16
      isplitl [H17]; · iexact H17
      iexact H15
    iintro ⟨H21, H16, H17, H15⟩
    iapply Hκ
    isplitr; swap
    · isplitl [H21]; · iexact H21
      isplitl [H16]; · iexact H16
      isplitl [H17]; · iexact H17
      iexact H15
    ipureintro; exact ⟨fun _ => rfl, fun h => absurd h4 h⟩
  · unfold s5
    rw [dif_neg h4]
    iintro ⟨H21, H16, H17, H15⟩ Hκ
    iapply Hκ
    isplitr; swap
    · isplitl [H21]; · iexact H21
      isplitl [H16]; · iexact H16
      isplitl [H17]; · iexact H17
      iexact H15
    ipureintro; exact ⟨fun h => absurd h h4, fun _ => rfl⟩

/-- One grid point: what the body makes of the buffers it keeps and of its results. -/
def Point (q : PosShare TreeShare) (X : S100.Idx → BitVec 32) (hX : ∀ y, (X y).toNat < 5120) (WG WU : S1280x8960.Idx → Elt F .i32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f15' : BufTy.Contents (Elt F) arg15.view.ty) (f16' : BufTy.Contents (Elt F) arg16.view.ty) (f17' : BufTy.Contents (Elt F) arg17.view.ty) (f18' : BufTy.Contents (Elt F) arg18.view.ty) (f19' : BufTy.Contents (Elt F) arg19.view.ty) (f20' : BufTy.Contents (Elt F) arg20.view.ty) (f21' : BufTy.Contents (Elt F) arg21.view.ty) : Prop :=
  ∃ g21, Lhs c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 X4 f18 f18' ∧ Pat c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 X7 X8 X9 X10 f19 f20 f21 f19' f20' g21
    ∧ f21' = cont3 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 (BitVec.ofNat 32 (i 1).val) X5 X6 f18' f19' f20' g21 k0_t3_loop.trips
    ∧ Res c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q X hX WG WU X3 X4 X11 X12 f16 f17 f16' f17' ∧ Out c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 f21' f16' f17' f15 f15'

set_option maxHeartbeats 2000000 in
theorem body_run (q : PosShare TreeShare) (X : S100.Idx → BitVec 32) (hX : ∀ y, (X y).toNat < 5120) (WG WU : S1280x8960.Idx → Elt F .i32) (b b1 b' : Bool) (ht1 : k0_cond1 i = 1#1 → b = false ∧ b1 = true) (hf1 : ¬ k0_cond1 i = 1#1 → b1 = b)
    (ht3 : k0_cond3 i = 1#1 → b1 = true ∧ b' = false) (hf3 : ¬ k0_cond3 i = 1#1 → b' = b1)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f24 : BufTy.Contents (Elt F) arg24.view.ty) (Q : PUnit → sProp 𝕄) :
    iprop(((Memref.whole main_arg1).view.loc (c : Thread nD τ) ↦[(Memref.whole main_arg1).view.set]{q} X) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg24.view.loc (c : Thread nD τ) ↦[arg24.view.set]{fullShare} f24) ∗ (∃ W, owes (c : Thread nD τ) 0 W) ∗ flight c X hX WG WU b)
      ⊢ iprop((∀ f15' f16' f17' f18' f19' f20' f21' f24', iprop(⌜Point c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q X hX WG WU X3 X4 X5 X6 X7 X8 X9 X10 X11 X12 f15 f16 f17 f18 f19 f20 f21 f15' f16' f17' f18' f19' f20' f21'⌝ ∗ ((Memref.whole main_arg1).view.loc (c : Thread nD τ) ↦[(Memref.whole main_arg1).view.set]{q} X) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg15.view.loc (c : Thread nD τ) ↦[arg15.view.set]{fullShare} f15') ∗ (arg16.view.loc (c : Thread nD τ) ↦[arg16.view.set]{fullShare} f16') ∗ (arg17.view.loc (c : Thread nD τ) ↦[arg17.view.set]{fullShare} f17') ∗ (arg18.view.loc (c : Thread nD τ) ↦[arg18.view.set]{fullShare} f18') ∗ (arg19.view.loc (c : Thread nD τ) ↦[arg19.view.set]{fullShare} f19') ∗ (arg20.view.loc (c : Thread nD τ) ↦[arg20.view.set]{fullShare} f20') ∗ (arg21.view.loc (c : Thread nD τ) ↦[arg21.view.set]{fullShare} f21') ∗ (arg24.view.loc (c : Thread nD τ) ↦[arg24.view.set]{fullShare} f24') ∗ (∃ W, owes (c : Thread nD τ) 0 W) ∗ flight c X hX WG WU b') -∗ Q PUnit.unit)
        -∗ wp frame (wpE (defs₀ (F := F)) Variants.none (c : Thread nD τ) none) Set.univ (Gen.cc0_decdec_gated_skel (F := F) i (Memref.whole main_arg1) (Memref.isWhole_whole _) arg3 harg3 arg4 harg4 arg5 harg5 arg6 harg6 arg7 harg7 arg8 harg8 arg9 harg9 arg10 harg10 arg11 harg11 arg12 harg12 (Memref.whole main_v25) (Memref.isWhole_whole _) (Memref.whole main_v44) (Memref.isWhole_whole _) arg15 harg15 arg16 harg16 arg17 harg17 arg18 harg18 arg19 harg19 arg20 harg20 arg21 harg21 (Memref.whole cc0_scratch4) (Memref.isWhole_whole _) (Memref.whole cc0_scratch5) (Memref.isWhole_whole _) arg24 harg24 cc0_scratch7) Q) := by
  iintro ⟨HT, H3, H4, H5, H6, H7, H8, H9, H10, H11, H12, H15, H16, H17, H18, H19, H20, H21, H24, Ho, Hf⟩ Hκ
  rw [s1.eq]
  iapply (stretch1 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q X hX WG WU b b1 ht1 hf1 X4 f18 _ Q) $$ [HT H4 H18 Hf]
  · isplitl [HT]; · iexact HT
    isplitl [H4]; · iexact H4
    isplitl [H18]; · iexact H18
    iexact Hf
  iintro %f18' ⟨%e1, HT, H4, H18, Hf⟩
  rw [s2.eq]
  iapply (stretch2 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 X7 X8 X9 X10 f19 f20 f21 _ Q) $$ [H7 H8 H9 H10 H19 H20 H21]
  · isplitl [H7]; · iexact H7
    isplitl [H8]; · iexact H8
    isplitl [H9]; · iexact H9
    isplitl [H10]; · iexact H10
    isplitl [H19]; · iexact H19
    isplitl [H20]; · iexact H20
    iexact H21
  iintro %f19' %f20' %g21 ⟨%e2, H7, H8, H9, H10, H19, H20, H21⟩
  rw [s3.eq]
  iapply (accumulate c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 X5 X6 f18' f19' f20' g21 _ Q) $$ [H5 H6 H18 H19 H20 H21]
  · isplitl [H5]; · iexact H5
    isplitl [H6]; · iexact H6
    isplitl [H18]; · iexact H18
    isplitl [H19]; · iexact H19
    isplitl [H20]; · iexact H20
    iexact H21
  iintro ⟨H5, H6, H18, H19, H20, H21⟩
  rw [s4.eq]
  iapply (stretch4 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q X hX WG WU b1 b' ht3 hf3 X3 X4 X11 X12 f24 f16 f17 _ Q) $$ [HT H3 H4 H11 H12 H24 H16 H17 Ho Hf]
  · isplitl [HT]; · iexact HT
    isplitl [H3]; · iexact H3
    isplitl [H4]; · iexact H4
    isplitl [H11]; · iexact H11
    isplitl [H12]; · iexact H12
    isplitl [H24]; · iexact H24
    isplitl [H16]; · iexact H16
    isplitl [H17]; · iexact H17
    isplitl [Ho]; · iexact Ho
    iexact Hf
  iintro %f24' %f16' %f17' ⟨%e4, HT, H3, H4, H11, H12, H24, H16, H17, Ho, Hf⟩
  rw [s5.eq]
  iapply (stretch5 c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 _ f16' f17' f15 _ Q) $$ [H21 H16 H17 H15]
  · isplitl [H21]; · iexact H21
    isplitl [H16]; · iexact H16
    isplitl [H17]; · iexact H17
    iexact H15
  iintro %f15' ⟨%e5, H21, H16, H17, H15⟩
  unfold s5.tail
  sl_step
  iapply Hκ
  isplitr; swap
  · isplitl [HT]; · iexact HT
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H24]; · iexact H24
    isplitl [Ho]; · iexact Ho
    iexact Hf
  ipureintro; exact ⟨g21, e1, e2, rfl, e4, e5⟩
end Chunks

end Cert.KernelIdeal.Hand
end
-- ==== Proof.Ideal.Frame.lean ====
module
public import proofs.«01_k».proof.Proof.Ideal.Body
public import Idealize.ShloMosaic.Lib.StableHlo.RunRead
public import Idealize.ShloMosaic.Lib.Pipeline.Frame
public import proofs.«01_k».proof.Proof.Gen.KernelIdeal.Skeleton
public import proofs.«01_k».proof.Proof.Gen.KernelIdeal.Launch
public import proofs.«01_k».proof.Proof.Gen.KernelIdeal.Loops
public import Idealize.ShloMosaic.Lib.Batch
public import Idealize.ShloMosaic.Lib.Ring
public import Idealize.ShloMosaic.Lib.Pipeline.FrameBody
public import Idealize.ShloMosaic.Lib.Tactic
public import Idealize.ShloMosaic.Lib.Tactic.Stretches
@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (Pipeline.UD sig nD τ) ℕ

variable [∀ e, Nonempty (Elt F e)] (m : (ℓ : Loc nD τ sig) → Buf (Elt F) ℓ)

/-! ## The arrays after the host's lines -/

/-- The buffers as the region finds them. -/
def V (c : Dev nD) (b : Ref sig .tc) : Buf (Elt F) ((c : Thread nD τ).loc b) := StableHlo.after hostOps0 (fun b => m (c, b)) b

/-- The buffers the host's lines write. -/
def written : List (Ref sig .tc) := [main_v0, main_v1, main_c, main_v2, main_v3, main_v4, main_v5, main_v6, main_v7, main_v8, main_v9, main_v10, main_v11, main_v12, main_c_0, main_v13, main_v14, main_v15, main_v16, main_v17, main_c_1, main_v18, main_v19, main_v20, main_v21, main_v22, main_c_2, main_v23, main_v24, main_v25, main_v26, main_v27, main_v28, main_v29, main_v30, main_v31, main_c_3, main_v32, main_v33, main_v34, main_v35, main_v36, main_c_4, main_v37, main_v38, main_v39, main_v40, main_v41, main_c_5, main_v42, main_v43, main_v44]

theorem V_unwritten (c : Dev nD) (b : Ref sig .tc) (hb : b ∉ written) : V m c b = m ((c : Thread nD τ).loc b) :=
  StableHlo.after_unwritten written rfl hb _

theorem hmain : Pipeline.HMainP (Ix := Unit) (Name := ℕ) (U := Pipeline.UD sig nD τ) (Lvl := ℕ) (pcfgs (F := F)) 0 defs₀ Variants.none m (main (F := F)) (V m) :=
  Pipeline.hmainP_prefix (pcfgs (F := F)) 0 defs₀ Variants.none m main hostOps0 hostOps0_sub
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ main_chain

/-- The table's contents, the one table of the pipeline. -/
def tabAt (p : Fin 1) : ((pcfgs (F := F)) p).Adm := ⟨fun k => V m 0 (pre0.ref k), trivial⟩

theorem tab_eq (c : Dev nD) (k : Fin pre0.K) : V m c (pre0.ref k) = (tabAt m 0).1 k := by
  have : c = 0 := Subsingleton.elim _ _
  subst this; rfl

abbrev cfgA : Pipeline.Cfg sig Λ₀ := cfg0 (tabAt m 0)

/-! ## The kernel's own semaphore and the words it moves -/

abbrev osem0 : Fin 1 → SemLoc sig := fun j => (![SemLoc.dma cc0_scratch7.sem] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch7.sem) 0 := by
  rw [Pipeline.ownSems0_eq_of_list c osem0 [0] (by decide) (by decide)]; rfl
def H0 : Finset (Ref sig .tc) := {main_v25, main_v44}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop(((Memref.whole main_v25).view.loc (c : Thread nD τ) ↦{fullShare} V m c main_v25) ∗ ((Memref.whole main_v44).view.loc (c : Thread nD τ) ↦{fullShare} V m c main_v44)) := by
  rw [BI.bigSep_eq_bigSepL_of_eq [main_v25, main_v44] (by decide) (by decide)]; rfl
theorem table_eq (c : Dev nD) :
    (Pipeline.ΦT (U := Pipeline.UD sig nD τ) pre0 (tabAt m 0).1 c : sProp 𝕄)
      = ((Memref.whole main_arg1).view.loc (c : Thread nD τ) ↦[(Memref.whole main_arg1).view.set]{fullShare.right} V m c main_arg1) := by
  have : c = 0 := Subsingleton.elim _ _
  subst this
  unfold Pipeline.ΦT Pipeline.prefHeld
  rw [bigSep_univ_eq_bigSepL [(0 : Fin 1)] (by decide) (by decide)]
  show (((0 : Dev nD) : Thread nD τ).loc main_arg1 ↦{fullShare.right} V m 0 main_arg1 : sProp 𝕄) = _
  rw [show (Memref.whole main_arg1).view.set = Finset.univ from View.set_whole _]

/-! ## The buffers the body is called with -/

abbrev mw0 (t : Fin (cfgA m).N) : Memref sig .tc .vmem S1x256 .i32 := spec0_0.stage ((cfgA m).slots t 0)
abbrev hw0 (t : Fin (cfgA m).N) : (mw0 m t).IsWhole := hstage0_0 (((cfgA m).slots t 0).cast nbuf0_0)
abbrev mw1 (t : Fin (cfgA m).N) : Memref sig .tc .vmem S2x5120 .bf16 := spec0_1.stage ((cfgA m).slots t 1)
abbrev hw1 (t : Fin (cfgA m).N) : (mw1 m t).IsWhole := hstage0_1 (((cfgA m).slots t 1).cast nbuf0_1)
abbrev mw2 (t : Fin (cfgA m).N) : Memref sig .tc .vmem S1280x256 .i32 := spec0_2.stage ((cfgA m).slots t 2)
abbrev hw2 (t : Fin (cfgA m).N) : (mw2 m t).IsWhole := hstage0_2 (((cfgA m).slots t 2).cast nbuf0_2)
abbrev mw3 (t : Fin (cfgA m).N) : Memref sig .tc .vmem S1280x256 .i32 := spec0_3.stage ((cfgA m).slots t 3)
abbrev hw3 (t : Fin (cfgA m).N) : (mw3 m t).IsWhole := hstage0_3 (((cfgA m).slots t 3).cast nbuf0_3)
abbrev mw4 (t : Fin (cfgA m).N) : Memref sig .tc .vmem S40x17920 .bf16 := spec0_4.stage ((cfgA m).slots t 4)
abbrev hw4 (t : Fin (cfgA m).N) : (mw4 m t).IsWhole := hstage0_4 (((cfgA m).slots t 4).cast nbuf0_4)
abbrev mw5 (t : Fin (cfgA m).N) : Memref sig .tc .vmem S40x17920 .bf16 := spec0_5.stage ((cfgA m).slots t 5)
abbrev hw5 (t : Fin (cfgA m).N) : (mw5 m t).IsWhole := hstage0_5 (((cfgA m).slots t 5).cast nbuf0_5)
abbrev mw6 (t : Fin (cfgA m).N) : Memref sig .tc .vmem S40x17920 .i8 := spec0_6.stage ((cfgA m).slots t 6)
abbrev hw6 (t : Fin (cfgA m).N) : (mw6 m t).IsWhole := hstage0_6 (((cfgA m).slots t 6).cast nbuf0_6)
abbrev mw7 (t : Fin (cfgA m).N) : Memref sig .tc .vmem S40x17920 .i8 := spec0_7.stage ((cfgA m).slots t 7)
abbrev hw7 (t : Fin (cfgA m).N) : (mw7 m t).IsWhole := hstage0_7 (((cfgA m).slots t 7).cast nbuf0_7)
abbrev mw8 (t : Fin (cfgA m).N) : Memref sig .tc .vmem S1x5120 .bf16 := spec0_8.stage ((cfgA m).slots t 8)
abbrev hw8 (t : Fin (cfgA m).N) : (mw8 m t).IsWhole := hstage0_8 (((cfgA m).slots t 8).cast nbuf0_8)
abbrev mw9 (t : Fin (cfgA m).N) : Memref sig .tc .vmem S1x5120 .bf16 := spec0_9.stage ((cfgA m).slots t 9)
abbrev hw9 (t : Fin (cfgA m).N) : (mw9 m t).IsWhole := hstage0_9 (((cfgA m).slots t 9).cast nbuf0_9)
abbrev mw10 (t : Fin (cfgA m).N) : Memref sig .tc .vmem S2x1x17920 .bf16 := spec0_10.stage ((cfgA m).slots t 10)
abbrev hw10 (t : Fin (cfgA m).N) : (mw10 m t).IsWhole := hstage0_10 (((cfgA m).slots t 10).cast nbuf0_10)
abbrev mw11 (t : Fin (cfgA m).N) : Memref sig .tc .vmem S2x1x17920 .f32 := spec0_11.stage ((cfgA m).slots t 11)
abbrev hw11 (t : Fin (cfgA m).N) : (mw11 m t).IsWhole := hstage0_11 (((cfgA m).slots t 11).cast nbuf0_11)
abbrev mw12 (t : Fin (cfgA m).N) : Memref sig .tc .vmem S2x1x17920 .f32 := spec0_12.stage ((cfgA m).slots t 12)
abbrev hw12 (t : Fin (cfgA m).N) : (mw12 m t).IsWhole := hstage0_12 (((cfgA m).slots t 12).cast nbuf0_12)

/-- What is said of a run: the buffers it keeps before each point (`inv`), and what each point leaves in a window's buffer (`aft`). -/
structure Say where
  inv : ℕ → (S16x20480.Idx → Elt F .bf16) → (S5x2x320x2x128.Idx → Elt F .f32) → (S5x2x320x2x128.Idx → Elt F .f32) → (S5x16x256.Idx → Elt F .f32) → Prop
  aft : (w : Fin 13) → Fin 28 → (Y X : (spec0 w).block.Idx → Elt F (spec0 w).elt) → Prop

/-- Whether the row transfers are on their way before point `t`. -/
def away (t : ℕ) : Bool := decide (1 ≤ t ∧ t ≤ 3)

variable (hX : ∀ (c : Dev nD) y, BitVec.toNat (V m c main_arg1 y) < 5120) (S : Say (F := F))

abbrev hereS (c : Dev nD) {b : Ref sig .tc} (f : Buf (Elt F) ((Memref.whole b).view.loc (c : Thread nD τ))) : sProp 𝕄 :=
  ((Memref.whole b).view.loc (c : Thread nD τ) ↦[(Memref.whole b).view.set]{fullShare} f)
omit [FloatOps F] [∀ e, Nonempty (Elt F e)] in
theorem hereS_eq (c : Dev nD) (b : Ref sig .tc) (f : Buf (Elt F) ((c : Thread nD τ).loc b)) :
    (((c : Thread nD τ).loc b ↦{fullShare} f) : sProp 𝕄) = hereS c f := by
  unfold hereS
  rw [show (Memref.whole b).view.set = Finset.univ from View.set_whole _]
omit [FloatOps F] [∀ e, Nonempty (Elt F e)] in
theorem to_set (c : Dev nD) (b : Ref sig .tc) (f : Buf (Elt F) ((c : Thread nD τ).loc b)) :
    (((c : Thread nD τ).loc b ↦{fullShare} f) : sProp 𝕄) ⊢ hereS c f := by rw [hereS_eq]
omit [FloatOps F] [∀ e, Nonempty (Elt F e)] in
theorem of_set (c : Dev nD) (b : Ref sig .tc) (f : Buf (Elt F) ((c : Thread nD τ).loc b)) :
    hereS c f ⊢ (((c : Thread nD τ).loc b ↦{fullShare} f) : sProp 𝕄) := by rw [hereS_eq]

/-- The state between points. -/
def Phi (c : Dev nD) (n : ℕ) : sProp 𝕄 :=
  iprop((∃ f18 f19 f20 f21, iprop(⌜S.inv n f18 f19 f20 f21⌝ ∗ ((Memref.whole cc0_scratch0).view.loc (c : Thread nD τ) ↦[(Memref.whole cc0_scratch0).view.set]{fullShare} f18) ∗ ((Memref.whole cc0_scratch1).view.loc (c : Thread nD τ) ↦[(Memref.whole cc0_scratch1).view.set]{fullShare} f19) ∗ ((Memref.whole cc0_scratch2).view.loc (c : Thread nD τ) ↦[(Memref.whole cc0_scratch2).view.set]{fullShare} f20) ∗ ((Memref.whole cc0_scratch3).view.loc (c : Thread nD τ) ↦[(Memref.whole cc0_scratch3).view.set]{fullShare} f21))) ∗ (∃ f24, ((Memref.whole cc0_scratch6).view.loc (c : Thread nD τ) ↦[(Memref.whole cc0_scratch6).view.set]{fullShare} f24)) ∗ (∃ r, prngReg c r)
    ∗ ((Memref.whole main_arg1).view.loc (c : Thread nD τ) ↦[(Memref.whole main_arg1).view.set]{fullShare.right} V m c main_arg1)
    ∗ flight c (V m c main_arg1) (hX c) (V m c main_v25) (V m c main_v44) (away n))

/-- The proof data on core `c`. -/
def rdat (c : Dev nD) : Pipeline.RDat τ (Elt F) Unit ℕ (Pipeline.UD sig nD τ) ℕ (cfgA m) c where
  A w := V m c (Pipeline.arrRef spec0 w)
  after w t Y X := S.aft w (t.cast N_0) Y X
  Φ t := Phi m hX S c t.val
  q _ := fullShare
  owed _ := 0

/-- What must be shown of a saying: it holds at the start, and a point keeps it. -/
structure Holds : Prop where
  init : ∀ (f18 : (S16x20480.Idx → Elt F .bf16)) (f19 : (S5x2x320x2x128.Idx → Elt F .f32)) (f20 : (S5x2x320x2x128.Idx → Elt F .f32)) (f21 : (S5x16x256.Idx → Elt F .f32)), S.inv 0 f18 f19 f20 f21
  step : ∀ (c : Dev nD) (t : Fin (cfgA m).N) (X3 : BufTy.Contents (Elt F) (mw0 m t).view.ty) (X4 : BufTy.Contents (Elt F) (mw1 m t).view.ty) (X5 : BufTy.Contents (Elt F) (mw2 m t).view.ty) (X6 : BufTy.Contents (Elt F) (mw3 m t).view.ty) (X7 : BufTy.Contents (Elt F) (mw4 m t).view.ty) (X8 : BufTy.Contents (Elt F) (mw5 m t).view.ty) (X9 : BufTy.Contents (Elt F) (mw6 m t).view.ty) (X10 : BufTy.Contents (Elt F) (mw7 m t).view.ty) (X11 : BufTy.Contents (Elt F) (mw8 m t).view.ty) (X12 : BufTy.Contents (Elt F) (mw9 m t).view.ty) (f15 : BufTy.Contents (Elt F) (mw10 m t).view.ty) (f16 : BufTy.Contents (Elt F) (mw11 m t).view.ty) (f17 : BufTy.Contents (Elt F) (mw12 m t).view.ty) (f18 : BufTy.Contents (Elt F) (Memref.whole cc0_scratch0).view.ty) (f19 : BufTy.Contents (Elt F) (Memref.whole cc0_scratch1).view.ty) (f20 : BufTy.Contents (Elt F) (Memref.whole cc0_scratch2).view.ty) (f21 : BufTy.Contents (Elt F) (Memref.whole cc0_scratch3).view.ty) (f15' : BufTy.Contents (Elt F) (mw10 m t).view.ty) (f16' : BufTy.Contents (Elt F) (mw11 m t).view.ty) (f17' : BufTy.Contents (Elt F) (mw12 m t).view.ty) (f18' : BufTy.Contents (Elt F) (Memref.whole cc0_scratch0).view.ty) (f19' : BufTy.Contents (Elt F) (Memref.whole cc0_scratch1).view.ty) (f20' : BufTy.Contents (Elt F) (Memref.whole cc0_scratch2).view.ty) (f21' : BufTy.Contents (Elt F) (Memref.whole cc0_scratch3).view.ty),
    (rdat m hX S c).Finds 0 t ((mw0 m t).view.read (Elt F) X3) → (rdat m hX S c).Finds 1 t ((mw1 m t).view.read (Elt F) X4) → (rdat m hX S c).Finds 2 t ((mw2 m t).view.read (Elt F) X5) → (rdat m hX S c).Finds 3 t ((mw3 m t).view.read (Elt F) X6) → (rdat m hX S c).Finds 4 t ((mw4 m t).view.read (Elt F) X7) → (rdat m hX S c).Finds 5 t ((mw5 m t).view.read (Elt F) X8) → (rdat m hX S c).Finds 6 t ((mw6 m t).view.read (Elt F) X9) → (rdat m hX S c).Finds 7 t ((mw7 m t).view.read (Elt F) X10) → (rdat m hX S c).Finds 8 t ((mw8 m t).view.read (Elt F) X11) → (rdat m hX S c).Finds 9 t ((mw9 m t).view.read (Elt F) X12) → (rdat m hX S c).Finds 10 t ((mw10 m t).view.read (Elt F) f15) → (rdat m hX S c).Finds 11 t ((mw11 m t).view.read (Elt F) f16) → (rdat m hX S c).Finds 12 t ((mw12 m t).view.read (Elt F) f17) →
    S.inv t.val f18 f19 f20 f21 →
    Point c (grid0.coords t) (mw0 m t) (hw0 m t) (mw1 m t) (hw1 m t) (mw2 m t) (hw2 m t) (mw3 m t) (hw3 m t) (mw4 m t) (hw4 m t) (mw5 m t) (hw5 m t) (mw6 m t) (hw6 m t) (mw7 m t) (hw7 m t) (mw8 m t) (hw8 m t) (mw9 m t) (hw9 m t) (mw10 m t) (hw10 m t) (mw11 m t) (hw11 m t) (mw12 m t) (hw12 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch6) (Memref.isWhole_whole _) fullShare.right (V m c main_arg1) (hX c) (V m c main_v25) (V m c main_v44) X3 X4 X5 X6 X7 X8 X9 X10 X11 X12 f15 f16 f17 f18 f19 f20 f21 f15' f16' f17' f18' f19' f20' f21' →
    S.inv (t.val + 1) f18' f19' f20' f21' ∧ S.aft 0 (t.cast N_0) ((mw0 m t).view.read (Elt F) X3) ((mw0 m t).view.read (Elt F) X3) ∧ S.aft 1 (t.cast N_0) ((mw1 m t).view.read (Elt F) X4) ((mw1 m t).view.read (Elt F) X4) ∧ S.aft 2 (t.cast N_0) ((mw2 m t).view.read (Elt F) X5) ((mw2 m t).view.read (Elt F) X5) ∧ S.aft 3 (t.cast N_0) ((mw3 m t).view.read (Elt F) X6) ((mw3 m t).view.read (Elt F) X6) ∧ S.aft 4 (t.cast N_0) ((mw4 m t).view.read (Elt F) X7) ((mw4 m t).view.read (Elt F) X7) ∧ S.aft 5 (t.cast N_0) ((mw5 m t).view.read (Elt F) X8) ((mw5 m t).view.read (Elt F) X8) ∧ S.aft 6 (t.cast N_0) ((mw6 m t).view.read (Elt F) X9) ((mw6 m t).view.read (Elt F) X9) ∧ S.aft 7 (t.cast N_0) ((mw7 m t).view.read (Elt F) X10) ((mw7 m t).view.read (Elt F) X10) ∧ S.aft 8 (t.cast N_0) ((mw8 m t).view.read (Elt F) X11) ((mw8 m t).view.read (Elt F) X11) ∧ S.aft 9 (t.cast N_0) ((mw9 m t).view.read (Elt F) X12) ((mw9 m t).view.read (Elt F) X12) ∧ S.aft 10 (t.cast N_0) ((mw10 m t).view.read (Elt F) f15) ((mw10 m t).view.read (Elt F) f15') ∧ S.aft 11 (t.cast N_0) ((mw11 m t).view.read (Elt F) f16) ((mw11 m t).view.read (Elt F) f16') ∧ S.aft 12 (t.cast N_0) ((mw12 m t).view.read (Elt F) f17) ((mw12 m t).view.read (Elt F) f17')

theorem cond1_iff : ∀ t : Fin grid0.N, k0_cond1 (grid0.coords t) = 1#1 ↔ t.val = 0 := by decide
theorem cond2_iff : ∀ t : Fin grid0.N, k0_cond2 (grid0.coords t) = 1#1 ↔ t.val % 4 = 0 := by decide
theorem cond3_iff : ∀ t : Fin grid0.N, k0_cond3 (grid0.coords t) = 1#1 ↔ t.val = 3 := by decide
theorem cond4_iff : ∀ t : Fin grid0.N, k0_cond4 (grid0.coords t) = 1#1 ↔ t.val % 4 = 3 := by decide

/-- The body's call at the point. -/
abbrev bodyA (t : Fin (cfgA m).N) : Prog (TpuEff nD τ sig (Elt F) Λ₀ .tc) PUnit :=
  cc0_decdec_gated (grid0.coords t) (Memref.whole main_arg1) (Memref.isWhole_whole _) (mw0 m t) (hw0 m t) (mw1 m t) (hw1 m t) (mw2 m t) (hw2 m t) (mw3 m t) (hw3 m t) (mw4 m t) (hw4 m t) (mw5 m t) (hw5 m t) (mw6 m t) (hw6 m t) (mw7 m t) (hw7 m t) (mw8 m t) (hw8 m t) (mw9 m t) (hw9 m t) (Memref.whole main_v25) (Memref.isWhole_whole _) (Memref.whole main_v44) (Memref.isWhole_whole _) (mw10 m t) (hw10 m t) (mw11 m t) (hw11 m t) (mw12 m t) (hw12 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7
theorem defs₀_row (t : Fin (cfgA m).N) : defs₀ (F := F) .tc (cfgA m).body ((cfgA m).bodyArgs t ((cfgA m).slots t)) = bodyA m t := by
  unfold defs₀; rw [Defs.onTc_tc]

variable {m} {hX} {S} in
set_option maxHeartbeats 2000000 in
theorem body_obligation (hS : Holds m hX S) (c : Dev nD) : (rdat m hX S c).BodyObligation (defs₀ (F := F)) Variants.none () Set.univ := by
  intro t Y hY
  have ht1 : k0_cond1 (grid0.coords t) = 1#1 → away t.val = false ∧ decide (t.val ≤ 3) = true := fun h => by
    rw [cond1_iff] at h; rw [h]; decide
  have hf1 : ¬ k0_cond1 (grid0.coords t) = 1#1 → decide (t.val ≤ 3) = away t.val := fun h => by
    rw [cond1_iff] at h; unfold away; exact decide_eq_decide.mpr ⟨fun h' => ⟨by omega, h'⟩, fun h' => h'.2⟩
  have ht3 : k0_cond3 (grid0.coords t) = 1#1 → decide (t.val ≤ 3) = true ∧ away (t.val + 1) = false := fun h => by
    rw [cond3_iff] at h; rw [h]; decide
  have hf3 : ¬ k0_cond3 (grid0.coords t) = 1#1 → away (t.val + 1) = decide (t.val ≤ 3) := fun h => by
    rw [cond3_iff] at h; unfold away; exact decide_eq_decide.mpr ⟨fun h' => by omega, fun h' => ⟨by omega, by omega⟩⟩
  rw [bigSep_W0, bigSep_W0, defs₀_row]
  show iprop(Phi m hX S c t.val ∗ _ ∗ _) ⊢ wp _ _ _ _ fun _ => iprop(Phi m hX S c (t.val + 1) ∗ _ ∗ _)
  unfold bodyA Phi
  rw [cc0_decdec_gated_eq_skeleton]
  unfold Pipeline.RDat.owesAt Pipeline.owesWithin owns
  rw [show (rdat m hX S c).owed t.castSucc = 0 from rfl, show (rdat m hX S c).owed t.succ = 0 from rfl]
  iintro ⟨⟨⟨%f18, %f19, %f20, %f21, ⟨%hI, H18, H19, H20, H21⟩⟩, ⟨%f24, H24⟩, Hg, HT, Hf⟩, ⟨%W, -, Ho⟩, ⟨%X3, %e0, H3⟩, ⟨%X4, %e1, H4⟩, ⟨%X5, %e2, H5⟩, ⟨%X6, %e3, H6⟩, ⟨%X7, %e4, H7⟩, ⟨%X8, %e5, H8⟩, ⟨%X9, %e6, H9⟩, ⟨%X10, %e7, H10⟩, ⟨%X11, %e8, H11⟩, ⟨%X12, %e9, H12⟩, ⟨%f15, %e10, H15⟩, ⟨%f16, %e11, H16⟩, ⟨%f17, %e12, H17⟩⟩
  iapply (body_run c (grid0.coords t) (mw0 m t) (hw0 m t) (mw1 m t) (hw1 m t) (mw2 m t) (hw2 m t) (mw3 m t) (hw3 m t) (mw4 m t) (hw4 m t) (mw5 m t) (hw5 m t) (mw6 m t) (hw6 m t) (mw7 m t) (hw7 m t) (mw8 m t) (hw8 m t) (mw9 m t) (hw9 m t) (mw10 m t) (hw10 m t) (mw11 m t) (hw11 m t) (mw12 m t) (hw12 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch6) (Memref.isWhole_whole _) fullShare.right (V m c main_arg1) (hX c) (V m c main_v25) (V m c main_v44) _ _ _ ht1 hf1 ht3 hf3 X3 X4 X5 X6 X7 X8 X9 X10 X11 X12 f15 f16 f17 f18 f19 f20 f21 f24 _) $$ [HT H3 H4 H5 H6 H7 H8 H9 H10 H11 H12 H15 H16 H17 H18 H19 H20 H21 H24 Ho Hf]
  · isplitl [HT]; · iexact HT
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H24]; · iexact H24
    isplitl [Ho]; · iexists W; iexact Ho
    iexact Hf
  iintro %f15' %f16' %f17' %f18' %f19' %f20' %f21' %f24' ⟨%hP, HT, H3, H4, H5, H6, H7, H8, H9, H10, H11, H12, H15, H16, H17, H18, H19, H20, H21, H24, ⟨%W', Ho⟩, Hf⟩
  have hN := hS.step c t X3 X4 X5 X6 X7 X8 X9 X10 X11 X12 f15 f16 f17 f18 f19 f20 f21 f15' f16' f17' f18' f19' f20' f21' (e0 ▸ hY 0) (e1 ▸ hY 1) (e2 ▸ hY 2) (e3 ▸ hY 3) (e4 ▸ hY 4) (e5 ▸ hY 5) (e6 ▸ hY 6) (e7 ▸ hY 7) (e8 ▸ hY 8) (e9 ▸ hY 9) (e10 ▸ hY 10) (e11 ▸ hY 11) (e12 ▸ hY 12) hI hP
  obtain ⟨hI', a0, a1, a2, a3, a4, a5, a6, a7, a8, a9, a10, a11, a12⟩ := hN
  isplitl [H18 H19 H20 H21 H24 Hg HT Hf]
  · isplitl [H18 H19 H20 H21]
    · iexists _, _, _, _
      isplitr; swap
      · isplitl [H18]; · iexact H18
        isplitl [H19]; · iexact H19
        isplitl [H20]; · iexact H20
        iexact H21
      ipureintro; exact hI'
    isplitl [H24]; · iexists _; iexact H24
    isplitl [Hg]; · iexact Hg
    isplitl [HT]; · iexact HT
    iexact Hf
  isplitl [Ho]
  · iexists W'; isplitr; · ipureintro; exact fun _ _ => Or.inl trivial
    iexact Ho
  isplitl [H3]
  · iexists ((mw0 m t).view.read (Elt F) X3); isplitr; · ipureintro; exact e0 ▸ a0
    iexists _; isplitr; swap; · iexact H3
    ipureintro; rfl
  isplitl [H4]
  · iexists ((mw1 m t).view.read (Elt F) X4); isplitr; · ipureintro; exact e1 ▸ a1
    iexists _; isplitr; swap; · iexact H4
    ipureintro; rfl
  isplitl [H5]
  · iexists ((mw2 m t).view.read (Elt F) X5); isplitr; · ipureintro; exact e2 ▸ a2
    iexists _; isplitr; swap; · iexact H5
    ipureintro; rfl
  isplitl [H6]
  · iexists ((mw3 m t).view.read (Elt F) X6); isplitr; · ipureintro; exact e3 ▸ a3
    iexists _; isplitr; swap; · iexact H6
    ipureintro; rfl
  isplitl [H7]
  · iexists ((mw4 m t).view.read (Elt F) X7); isplitr; · ipureintro; exact e4 ▸ a4
    iexists _; isplitr; swap; · iexact H7
    ipureintro; rfl
  isplitl [H8]
  · iexists ((mw5 m t).view.read (Elt F) X8); isplitr; · ipureintro; exact e5 ▸ a5
    iexists _; isplitr; swap; · iexact H8
    ipureintro; rfl
  isplitl [H9]
  · iexists ((mw6 m t).view.read (Elt F) X9); isplitr; · ipureintro; exact e6 ▸ a6
    iexists _; isplitr; swap; · iexact H9
    ipureintro; rfl
  isplitl [H10]
  · iexists ((mw7 m t).view.read (Elt F) X10); isplitr; · ipureintro; exact e7 ▸ a7
    iexists _; isplitr; swap; · iexact H10
    ipureintro; rfl
  isplitl [H11]
  · iexists ((mw8 m t).view.read (Elt F) X11); isplitr; · ipureintro; exact e8 ▸ a8
    iexists _; isplitr; swap; · iexact H11
    ipureintro; rfl
  isplitl [H12]
  · iexists ((mw9 m t).view.read (Elt F) X12); isplitr; · ipureintro; exact e9 ▸ a9
    iexists _; isplitr; swap; · iexact H12
    ipureintro; rfl
  isplitl [H15]
  · iexists ((mw10 m t).view.read (Elt F) f15'); isplitr; · ipureintro; exact e10 ▸ a10
    iexists _; isplitr; swap; · iexact H15
    ipureintro; rfl
  isplitl [H16]
  · iexists ((mw11 m t).view.read (Elt F) f16'); isplitr; · ipureintro; exact e11 ▸ a11
    iexists _; isplitr; swap; · iexact H16
    ipureintro; rfl
  iexists ((mw12 m t).view.read (Elt F) f17'); isplitr; · ipureintro; exact e12 ▸ a12
  iexists _; isplitr; swap; · iexact H17
  ipureintro; rfl

/-! ## The launch -/

theorem start_state (hS : Holds m hX S) (c : Dev nD) : iprop(Pipeline.ΦD osem0 spec0 H0 (V m) c ∗ Pipeline.ΦT pre0 (tabAt m 0).1 c) ⊢ (rdat m hX S c).Φ 0 := by
  show _ ⊢ Phi m hX S c 0
  rw [Pipeline.ΦD_eq, scopedRest0_eq, ownSems00_eq, hbmPts0_eq, table_eq]
  unfold Phi flight
  rw [if_neg (by decide)]
  iintro ⟨⟨⟨⟨%f0, H0⟩, ⟨%f1, H1⟩, ⟨%f2, H2⟩, ⟨%f3, H3⟩, ⟨%f4, H4⟩, ⟨%f5, H5⟩, ⟨%f6, H6⟩⟩, Hg, Hs, HG, HU⟩, HT⟩
  isplitl [H0 H1 H2 H3]
  · iexists f0, f1, f2, f3
    isplitr; · ipureintro; exact hS.init _ _ _ _
    isplitl [H0]; · iapply (to_set c cc0_scratch0 f0); iexact H0
    isplitl [H1]; · iapply (to_set c cc0_scratch1 f1); iexact H1
    isplitl [H2]; · iapply (to_set c cc0_scratch2 f2); iexact H2
    iapply (to_set c cc0_scratch3 f3); iexact H3
  isplitl [H6]; · iexists f6; iapply (to_set c cc0_scratch6 f6); iexact H6
  isplitl [Hg]; · iexact Hg
  isplitl [HT]; · iexact HT
  isplitl [Hs]; · iexact Hs
  iexists f4, f5
  isplitl [HG]; · iexact HG
  isplitl [HU]; · iexact HU
  isplitl [H4]; · iapply (to_set c cc0_scratch4 f4); iexact H4
  iapply (to_set c cc0_scratch5 f5); iexact H5

theorem end_state (c : Dev nD) : (rdat m hX S c).Φ (Fin.last (cfgA m).N) ⊢ Pipeline.ΦD osem0 spec0 H0 (V m) c := by
  show Phi m hX S c (cfgA m).N ⊢ _
  rw [Pipeline.ΦD_eq, scopedRest0_eq, ownSems00_eq, hbmPts0_eq, show (cfgA m).N = 28 from N_0]
  unfold Phi flight
  rw [if_neg (by decide)]
  iintro ⟨⟨%f0, %f1, %f2, %f3, ⟨-, H0, H1, H2, H3⟩⟩, ⟨%f6, H6⟩, Hg, -, Hs, ⟨%f4, %f5, HG, HU, H4, H5⟩⟩
  isplitl [H0 H1 H2 H3 H4 H5 H6]
  · isplitl [H0]; · iexists f0; iapply (of_set c cc0_scratch0 f0); iexact H0
    isplitl [H1]; · iexists f1; iapply (of_set c cc0_scratch1 f1); iexact H1
    isplitl [H2]; · iexists f2; iapply (of_set c cc0_scratch2 f2); iexact H2
    isplitl [H3]; · iexists f3; iapply (of_set c cc0_scratch3 f3); iexact H3
    isplitl [H4]; · iexists f4; iapply (of_set c cc0_scratch4 f4); iexact H4
    isplitl [H5]; · iexists f5; iapply (of_set c cc0_scratch5 f5); iexact H5
    iexists f6; iapply (of_set c cc0_scratch6 f6); iexact H6
  isplitl [Hg]; · iexact Hg
  isplitl [Hs]; · iexact Hs
  isplitl [HG]; · iexact HG
  iexact HU

variable (g : Dev nD → PrngReg)

set_option backward.isDefEq.respectTransparency.types false in
/-- Every weakly fair run ends, with the arrays at contents the saying allows. -/
theorem run_main (hS : Holds m hX S) :
    θ_run defs (onTc (τ := τ) (main (F := F))) (s₀ m g)
      (fun r => Pipeline.RDat.FramePost (cfgA m) (rdat m hX S) (V m) r ∧ r.2.sem = fun _ => 0) :=
  Pipeline.RDat.θ_run_frameP_dma (Q' := _) (pcfgs (F := F)) (tabAt m) (0 : Fin 1) launch0 osem0 defs₀ Variants.none (rdat m hX S) ownSemFacts0 H0 H0_sub m g main
    (hbody := fun c => body_obligation hS c) (hshare := fun c w => by unfold Pipeline.RDat.share; split <;> rfl)
    (howed := fun _ _ => rfl) (V := V m) (hmain := hmain m) (hA := fun _ _ => rfl) (hpf := fun c k => tab_eq m c k)
    (hin := fun c => start_state m hX S hS c) (hout := fun c => end_state m hX S c)

/-- Nothing said. -/
def nothing : Say (F := F) := ⟨fun _ _ _ _ _ => True, fun _ _ _ _ => True⟩
theorem nothing_holds : Holds m hX (nothing (F := F)) :=
  ⟨fun _ _ _ _ => trivial, by intros; exact ⟨trivial, trivial, trivial, trivial, trivial, trivial, trivial, trivial, trivial, trivial, trivial, trivial, trivial, trivial⟩⟩

/-- After a run the arguments hold what they held at launch. -/
theorem args_kept {r : PUnit × MemSt nD τ sig (Elt F)} (h : Pipeline.RDat.FramePost (cfgA m) (rdat m hX S) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) := by
  have hin : ∀ (w : Fin 13), (spec0 w).isOut = false → r.2.mem (((cfgA m).spec w).arr.view.loc (c : Thread nD τ)) = V m c (Pipeline.arrRef spec0 w) := fun w hw => by
    exact (congrFun (Pipeline.RDat.ArrAt_in (rdat m hX S c) w hw _) _).mp ((h c).1 w)
  refine ⟨?_, ?_, ?_, ?_, ?_, ?_, ?_, ?_, ?_, ?_, ?_, ?_⟩
  · exact ((h c).2 main_arg0 (Pipeline.mem_restRefs_of main_arg0 (by decide) (show ∀ w : Fin 13, (spec0 w).arr.view.ref ≠ main_arg0 from by decide))).trans (V_unwritten m c main_arg0 (by decide))
  · exact ((h c).2 main_arg1 (Pipeline.mem_restRefs_of main_arg1 (by decide) (show ∀ w : Fin 13, (spec0 w).arr.view.ref ≠ main_arg1 from by decide))).trans (V_unwritten m c main_arg1 (by decide))
  · exact (hin 2 rfl).trans (V_unwritten m c main_arg2 (by decide))
  · exact (hin 4 rfl).trans (V_unwritten m c main_arg3 (by decide))
  · exact (hin 6 rfl).trans (V_unwritten m c main_arg4 (by decide))
  · exact ((h c).2 main_arg5 (Pipeline.mem_restRefs_of main_arg5 (by decide) (show ∀ w : Fin 13, (spec0 w).arr.view.ref ≠ main_arg5 from by decide))).trans (V_unwritten m c main_arg5 (by decide))
  · exact ((h c).2 main_arg6 (Pipeline.mem_restRefs_of main_arg6 (by decide) (show ∀ w : Fin 13, (spec0 w).arr.view.ref ≠ main_arg6 from by decide))).trans (V_unwritten m c main_arg6 (by decide))
  · exact (hin 3 rfl).trans (V_unwritten m c main_arg7 (by decide))
  · exact (hin 5 rfl).trans (V_unwritten m c main_arg8 (by decide))
  · exact (hin 7 rfl).trans (V_unwritten m c main_arg9 (by decide))
  · exact ((h c).2 main_arg10 (Pipeline.mem_restRefs_of main_arg10 (by decide) (show ∀ w : Fin 13, (spec0 w).arr.view.ref ≠ main_arg10 from by decide))).trans (V_unwritten m c main_arg10 (by decide))
  · exact ((h c).2 main_arg11 (Pipeline.mem_restRefs_of main_arg11 (by decide) (show ∀ w : Fin 13, (spec0 w).arr.view.ref ≠ main_arg11 from by decide))).trans (V_unwritten m c main_arg11 (by decide))

end Cert.KernelIdeal.Hand
end
-- ==== Proof.Ideal.ValWord.lean ====
module
public import Idealize.ShloMosaic.Lib.Pointwise
public import Idealize.ShloMosaic.Lib.BitcastPair
public import Idealize.ShloMosaic.Lib.IdealHost
@[expose] public section

noncomputable section

namespace Cert.KernelIdeal.Hand

open Idealize.ShloMosaic

/-! ## Words, nibbles and sums -/

/-- Byte `j` of a word. -/
def byteOf (w : BitVec 32) (j : ℕ) : BitVec 8 := w.extractLsb' (8 * j) 8

/-- Nibble `h` of a byte: the low one at `0`, the high one otherwise. -/
def nibOf (b : BitVec 8) (h : ℕ) : Fin 16 :=
  if h = 0 then ⟨b.toNat % 16, by omega⟩ else ⟨b.toNat / 16, by have := b.isLt; omega⟩

/-- A nibble read as a two's complement number. -/
def sgnOf (n : Fin 16) : ℤ := if 8 ≤ n.val then (n.val : ℤ) - 16 else n.val

/-- The signed value of nibble `h` of a byte. -/
def snib (b : BitVec 8) (h : ℕ) : EReal := (((sgnOf (nibOf b h) : ℤ) : ℝ) : EReal)

/-- A pattern `0x43vv` of a code `0 … 127` is the real `128` plus the code. -/
theorem ofBits_code (n : Fin 128) : Ideal.ofBits .bf16 (BitVec.ofNat 16 (0x4300 + n.val)) = (((128 + n.val : ℝ)) : EReal) := by
  have h1 : ((BitVec.ofNat 16 (0x4300 + n.val)).extractLsb' (8 + 7) 1 == 1#1) = false := by
    revert n; decide
  have h2 : ((BitVec.ofNat 16 (0x4300 + n.val)).extractLsb' 7 8).toNat = 134 := by
    revert n; decide
  have h3 : ((BitVec.ofNat 16 (0x4300 + n.val)).extractLsb' 0 7).toNat = n.val := by
    revert n; decide
  show Ideal.ieee 8 7 _ = _
  unfold Ideal.ieee
  simp only [h1, h2, h3]
  norm_num

theorem xor_code (n : Fin 16) : BitVec.ofNat 16 n.val ^^^ 0x4308#16 = BitVec.ofNat 16 (0x4300 + (if 8 ≤ n.val then n.val - 8 else n.val + 8)) := by
  revert n; decide

/-- A nibble under its exponent, less the offset, is the signed nibble. -/
theorem code_value (n : Fin 16) : (Ideal.ofBits .bf16 (BitVec.ofNat 16 n.val ^^^ 0x4308#16) - Ideal.ofBits .bf16 17160#16 : EReal) = (((sgnOf n : ℤ) : ℝ) : EReal) := by
  rw [xor_code]
  have e0 : (17160#16) = BitVec.ofNat 16 (0x4300 + (⟨8, by omega⟩ : Fin 128).val) := by decide
  rw [e0, ofBits_code]
  have := ofBits_code ⟨if 8 ≤ n.val then n.val - 8 else n.val + 8, by split <;> omega⟩
  rw [show (if 8 ≤ n.val then n.val - 8 else n.val + 8) = (⟨if 8 ≤ n.val then n.val - 8 else n.val + 8, by split <;> omega⟩ : Fin 128).val from rfl, this]
  rw [← EReal.coe_sub]
  congr 1
  unfold sgnOf
  split
  · rename_i h; push_cast [h]; ring
  · simp

/-- The half word the kernel makes of a shifted word. -/
theorem half_code (w id : BitVec 32) (h : ℕ) (hh : h < 2) :
    BitVec.extractLsb' (16 * h) 16 (IntOp.xori (IntOp.ori (IntOp.andi (IntOp.shrsi .vector w (IntOp.shli .vector (IntOp.andi id 3#32) 3#32)) 15#32) (IntOp.shli .vector (IntOp.andi (IntOp.shrsi .vector w (IntOp.shli .vector (IntOp.andi id 3#32) 3#32)) 240#32) 12#32)) 1124614920#32)
      = BitVec.ofNat 16 (nibOf (byteOf w (id.toNat % 4)) h).val ^^^ 0x4308#16 := by
  have hs : IntOp.shrsi .vector w (IntOp.shli .vector (IntOp.andi id 3#32) 3#32) = w.sshiftRight (8 * (id.toNat % 4)) := by
    have e : (IntOp.shli .vector (IntOp.andi id 3#32) 3#32).toNat = 8 * (id.toNat % 4) := by
      have h3 : (id &&& 3#32).toNat = id.toNat % 4 := by
        rw [BitVec.toNat_and]; exact Nat.and_two_pow_sub_one_eq_mod id.toNat 2
      simp only [IntOp.shli, IntOp.andi]
      rw [if_pos (by decide), BitVec.shiftLeft_eq', BitVec.toNat_shiftLeft, h3, show (3#32).toNat = 3 from rfl, Nat.shiftLeft_eq]
      omega
    unfold IntOp.shrsi
    rw [if_pos (by omega), BitVec.sshiftRight', e]
  rw [hs]
  have hj : id.toNat % 4 < 4 := by omega
  generalize id.toNat % 4 = j at hj ⊢
  have hn : BitVec.ofNat 16 (nibOf (byteOf w j) h).val = if h = 0 then (byteOf w j).setWidth 16 &&& 15#16 else (byteOf w j).setWidth 16 >>> 4 := by
    generalize byteOf w j = b
    unfold nibOf
    split <;> (revert b; decide)
  rw [hn]
  unfold byteOf
  simp only [IntOp.xori, IntOp.ori, IntOp.andi, IntOp.shli]
  rw [if_pos (by decide)]
  apply BitVec.eq_of_getLsbD_eq
  intro i hi
  interval_cases h <;> interval_cases j <;> interval_cases i <;> simp [BitVec.getLsbD_sshiftRight, BitVec.getElem_sshiftRight]

theorem sum_pairs (f : ℕ → EReal) (n : ℕ) : ∑ i ∈ Finset.range (2 * n), f i = ∑ i ∈ Finset.range n, (f (2 * i) + f (2 * i + 1)) := by
  induction n with
  | zero => simp
  | succ n ih => rw [Finset.sum_range_succ, ← ih, show 2 * (n + 1) = 2 * n + 1 + 1 by ring, Finset.sum_range_succ, Finset.sum_range_succ, add_assoc]

/-- A sum over 256 columns of which only the columns `2 k + h`, `k < 100`, count. -/
theorem sum_lanes (f : Fin 256 → EReal) (g : Fin 100 → EReal) (h : ℕ) (hh : h < 2)
    (hz : ∀ k : Fin 256, (k.val % 2 ≠ h ∨ 200 ≤ k.val) → f k = 0)
    (hg : ∀ k : Fin 100, f ⟨2 * k.val + h, by omega⟩ = g k) : ∑ k, f k = ∑ k, g k := by
  have e1 : ∑ k, f k = ∑ i ∈ Finset.range (2 * 128), (if hi : i < 256 then f ⟨i, hi⟩ else 0) := by
    rw [Finset.sum_range]; refine Finset.sum_congr rfl fun k _ => ?_
    simp [k.isLt]
  have e2 : ∑ k, g k = ∑ i ∈ Finset.range 100, (if hi : i < 100 then g ⟨i, hi⟩ else 0) := by
    rw [Finset.sum_range]; refine Finset.sum_congr rfl fun k _ => ?_
    simp [k.isLt]
  rw [e1, e2, sum_pairs]
  symm
  rw [← Finset.sum_subset (s₁ := Finset.range 100) (s₂ := Finset.range 128) (by intro x hx; simp at hx ⊢; omega)]
  · refine Finset.sum_congr rfl fun i hi => ?_
    have hi' : i < 100 := by simpa using hi
    rw [dif_pos hi', dif_pos (by omega), dif_pos (by omega), ← hg ⟨i, hi'⟩]
    interval_cases h
    · have h0 : f ⟨2 * i + 1, by omega⟩ = 0 := hz _ (Or.inl (by simp))
      rw [h0]; exact (add_zero _).symm
    · have h0 : f ⟨2 * i, by omega⟩ = 0 := hz _ (Or.inl (by simp))
      rw [h0]; exact (zero_add _).symm
  · intro i hi hn
    have h1 : i < 128 := by simpa using hi
    have h2 : ¬ i < 100 := by simpa using hn
    rw [dif_pos (by omega), dif_pos (by omega), hz _ (Or.inr (by simp; omega)), hz _ (Or.inr (by simp; omega)), add_zero]

/-- A sum that selects one index. -/
theorem sum_pick {n : ℕ} (hn : n ≤ 2 ^ 32) (f : Fin n → EReal) (v : BitVec 32) :
    (∑ d : Fin n, Scalar.select (IntOp.cmpi .eq (BitVec.ofNat 32 d.val) v) (f d) 0) = if hv : v.toNat < n then f ⟨v.toNat, hv⟩ else 0 := by
  have hne : ∀ b : Fin n, b.val ≠ v.toNat → Scalar.select (IntOp.cmpi .eq (BitVec.ofNat 32 b.val) v) (f b) 0 = 0 := by
    intro b hb
    have : BitVec.ofNat 32 b.val ≠ v := by
      intro e; apply hb; rw [← e, BitVec.toNat_ofNat, Nat.mod_eq_of_lt (by omega)]
    have hf : (BitVec.ofNat 32 b.val == v) = false := by simpa using this
    simp [IntOp.cmpi, Scalar.select, hf]
  split
  · rename_i hv
    rw [Finset.sum_eq_single (⟨v.toNat, hv⟩ : Fin n)]
    · simp [IntOp.cmpi, Scalar.select]
    · intro b _ hb
      exact hne b fun e => hb (Fin.ext e)
    · intro h; exact absurd (Finset.mem_univ _) h
  · rename_i hv
    exact Finset.sum_eq_zero fun b _ => hne b (by omega)

end Cert.KernelIdeal.Hand
end
-- ==== Proof.Ideal.ValSpec.lean ====
module
public import proofs.«01_k».proof.Proof.Ideal.ValWord
@[expose] public section
noncomputable section
namespace Cert.KernelIdeal.Hand
open Idealize.ShloMosaic Idealize.ShloMosaic.TcCoe

/-! ## The problem's mathematics, entry by entry -/

/-- The residual product: the inputs at the named rows times those rows' signed four-bit codes, each row scaled. -/
def resSpec (x : Fin 2 → Fin 5120 → EReal) (ids : Fin 100 → Fin 5120) (rs : Fin 5120 → EReal) (rp : Fin 5120 → Fin 8960 → BitVec 8) (r : Fin 2) (n : Fin 17920) : EReal :=
  ∑ k : Fin 100, x r (ids k) * (snib (rp (ids k) ⟨n.val / 2, by omega⟩) (n.val % 2) * rs (ids k))

/-- The three-bit code in field `f` of a word. -/
def code3 (w : BitVec 32) (f : ℕ) : EReal := (((w.toNat / 2 ^ (3 * f) % 8 : ℕ) : ℝ) : EReal)

/-- A zero point, an unsigned byte. -/
def zval (b : BitVec 8) : EReal := (((b.toNat : ℕ) : ℝ) : EReal)

/-- The base product: the inputs times the dequantized three-bit codes, one scale and one zero point for each 128 rows. -/
def baseSpec (x : Fin 2 → Fin 5120 → EReal) (w : Fin 5120 → Fin 1792 → BitVec 32) (s : Fin 40 → Fin 17920 → EReal) (z : Fin 40 → Fin 17920 → BitVec 8) (r : Fin 2) (n : Fin 17920) : EReal :=
  ∑ k : Fin 5120, x r k * ((code3 (w k ⟨n.val % 1792, by omega⟩) (n.val / 1792) - zval (z ⟨k.val / 128, by omega⟩ n)) * s ⟨k.val / 128, by omega⟩ n)

end Cert.KernelIdeal.Hand
end
-- ==== Proof.Ideal.ValRef.lean ====
module
public import proofs.«01_k».proof.Proof.Gen.ReferenceIdeal.Run
public import proofs.«01_k».proof.Proof.Ideal.ValSpec
public import Idealize.ShloMosaic.Lib.Pointwise
public import Idealize.ShloMosaic.Lib.ValueIdx
public import Idealize.ShloMosaic.Lib.Routing.OpsSet
public import Idealize.ShloMosaic.Lib.Tactic.CleanTypes
@[expose] public section
noncomputable section
namespace Cert.ReferenceIdeal.Hand
open Idealize.ShloMosaic Idealize.ShloMosaic.TcCoe Idealize.ShloMosaic.Tactic
open Cert.ReferenceIdeal Cert.ReferenceIdeal.Value
set_option maxRecDepth 16384

/-- The take over the last axis of the input reads the input at the index named. -/
theorem gather_x {α : Type} (x : S2x1x5120.Idx → α) (idx : IVec S100x1 32) (r : Fin 2) (k : Fin 100) (b : Fin 5120) (hb : idx (ix2 k 0) = BitVec.ofNat 32 b.val) :
    Host.gather gather_S2x1x5120_S100x1_S2x1x100_01_2_n_n_2_1_211 x idx (ix3 r 0 k) = x (ix3 r 0 b) := by
  unfold Host.gather
  refine congrArg x (funext fun a => Fin.ext ?_)
  have hbN : ∀ a', a' ∉ (gather_S2x1x5120_S100x1_S2x1x100_01_2_n_n_2_1_211).operandBatchingDims := fun a' => List.not_mem_nil
  have hbl := b.isLt
  match a with
  | ⟨0, _⟩ =>
    show GatherDims.start gather_S2x1x5120_S100x1_S2x1x100_01_2_n_n_2_1_211 (ix3 r 0 k) idx 0 + GatherDims.batchCoord gather_S2x1x5120_S100x1_S2x1x100_01_2_n_n_2_1_211 (ix3 r 0 k) 0 + GatherDims.offCoord gather_S2x1x5120_S100x1_S2x1x100_01_2_n_n_2_1_211 (ix3 r 0 k) 0 = r.val
    rw [GatherDims.batchCoord_eq_zero _ _ _ (hbN 0)]
    unfold GatherDims.start
    rw [dif_neg (by decide)]
    simp only [Nat.zero_add]
    rfl
  | ⟨1, _⟩ =>
    show GatherDims.start gather_S2x1x5120_S100x1_S2x1x100_01_2_n_n_2_1_211 (ix3 r 0 k) idx 1 + GatherDims.batchCoord gather_S2x1x5120_S100x1_S2x1x100_01_2_n_n_2_1_211 (ix3 r 0 k) 1 + GatherDims.offCoord gather_S2x1x5120_S100x1_S2x1x100_01_2_n_n_2_1_211 (ix3 r 0 k) 1 = 0
    rw [GatherDims.batchCoord_eq_zero _ _ _ (hbN 1)]
    unfold GatherDims.start
    rw [dif_neg (by decide)]
    simp only [Nat.zero_add]
    rfl
  | ⟨2, _⟩ =>
    show GatherDims.start gather_S2x1x5120_S100x1_S2x1x100_01_2_n_n_2_1_211 (ix3 r 0 k) idx 2 + GatherDims.batchCoord gather_S2x1x5120_S100x1_S2x1x100_01_2_n_n_2_1_211 (ix3 r 0 k) 2 + GatherDims.offCoord gather_S2x1x5120_S100x1_S2x1x100_01_2_n_n_2_1_211 (ix3 r 0 k) 2 = b.val
    rw [GatherDims.batchCoord_eq_zero _ _ _ (hbN 2), GatherDims.offCoord_eq_zero _ _ _ (by decide)]
    simp only [Nat.add_zero]
    unfold GatherDims.start
    rw [dif_pos (by decide)]
    have hsi : GatherDims.siIdx gather_S2x1x5120_S100x1_S2x1x100_01_2_n_n_2_1_211 (ix3 r 0 k) ⟨List.idxOf (2 : Fin 3) (gather_S2x1x5120_S100x1_S2x1x100_01_2_n_n_2_1_211).startIndexMap,
        List.idxOf_lt_length_iff.2 (by decide)⟩ = ix2 k 0 := by
      funext a
      refine Fin.ext ?_
      match a with
      | ⟨0, _⟩ => rfl
      | ⟨1, _⟩ => rfl
    rw [hsi, hb, StableHlo.Predicate.toInt_ofNat_small _ (by omega)]
    show min ((b.val : Int)).toNat (5120 - 1) = b.val
    omega

theorem gather_v {α : Type} (x : S5120.Idx → α) (idx : IVec S100x1 32) (k : Fin 100) (b : Fin 5120) (hb : idx (ix2 k 0) = BitVec.ofNat 32 b.val) :
    Host.gather gather_S5120_S100x1_S100_n_0_n_n_0_1_1 x idx (ix1 k) = x (ix1 b) :=
  Routing.gather_take1 gather_S5120_S100x1_S100_n_0_n_n_0_1_1 rfl rfl rfl rfl x idx k b hb (by decide)

theorem gather_r {α : Type} (x : S5120x8960.Idx → α) (idx : IVec S100x1 32) (k : Fin 100) (j : Fin 8960) (b : Fin 5120) (hb : idx (ix2 k 0) = BitVec.ofNat 32 b.val) :
    Host.gather gather_S5120x8960_S100x1_S100x8960_1_0_n_n_0_1_18960 x idx (ix2 k j) = x (ix2 b j) :=
  Routing.gather_row gather_S5120x8960_S100x1_S100x8960_1_0_n_n_0_1_18960 rfl rfl rfl rfl rfl x idx k j b hb (by decide)

open Cert.KernelIdeal.Hand (snib nibOf sgnOf resSpec baseSpec code3 zval)

/-- The low code read as a signed number. -/
theorem low_nib (b : BitVec 8) :
    FloatOps.sitofp (F := Ideal) FTy.bf16 (Scalar.select (IntOp.cmpi .sge (IntOp.andi (BitVec.setWidth 32 b) 15#32) 8#32) (IntOp.subi (IntOp.andi (BitVec.setWidth 32 b) 15#32) 16#32) (IntOp.andi (BitVec.setWidth 32 b) 15#32)) = snib b 0 := by
  have e : (Scalar.select (IntOp.cmpi .sge (IntOp.andi (BitVec.setWidth 32 b) 15#32) 8#32) (IntOp.subi (IntOp.andi (BitVec.setWidth 32 b) 15#32) 16#32) (IntOp.andi (BitVec.setWidth 32 b) 15#32)).toInt = sgnOf (nibOf b 0) := by
    revert b; decide +kernel
  show (((BitVec.toInt _ : ℤ) : ℝ) : EReal) = _
  rw [e]; rfl
/-- The high code read as a signed number. -/
theorem high_nib (b : BitVec 8) :
    FloatOps.sitofp (F := Ideal) FTy.bf16 (Scalar.select (IntOp.cmpi .sge (IntOp.shrsi .host (BitVec.setWidth 32 b) 4#32) 8#32) (IntOp.subi (IntOp.shrsi .host (BitVec.setWidth 32 b) 4#32) 16#32) (IntOp.shrsi .host (BitVec.setWidth 32 b) 4#32)) = snib b 1 := by
  have e : (Scalar.select (IntOp.cmpi .sge (IntOp.shrsi .host (BitVec.setWidth 32 b) 4#32) 8#32) (IntOp.subi (IntOp.shrsi .host (BitVec.setWidth 32 b) 4#32) 16#32) (IntOp.shrsi .host (BitVec.setWidth 32 b) 4#32)).toInt = sgnOf (nibOf b 1) := by
    revert b; decide +kernel
  show (((BitVec.toInt _ : ℤ) : ℝ) : EReal) = _
  rw [e]; rfl

variable (V0 : Valuation τ sig (Elt Ideal)) (hid : ∀ k : Fin 100, ((V0 (Proc.devRef .tc main_arg1) : S100.Idx → BitVec 32) (ix1 k)).toNat < 5120)

/-- The input. -/
def xOf (r : Fin 2) (k : Fin 5120) : EReal := (V0 (Proc.devRef .tc main_arg0) : S2x1x5120.Idx → EReal) (ix3 r 0 k)
/-- The rows named. -/
def rowOf (k : Fin 100) : Fin 5120 := ⟨((V0 (Proc.devRef .tc main_arg1) : S100.Idx → BitVec 32) (ix1 k)).toNat, hid k⟩

/-- An index in range is left as it is by the sign test. -/
theorem keep_index (v : BitVec 32) (h : v.toNat < 5120) : Scalar.select (IntOp.cmpi .slt v 0#32) (IntOp.addi v 5120#32) v = BitVec.ofNat 32 v.toNat := by
  have e : IntOp.cmpi .slt v 0#32 = 0#1 := by
    simp only [IntOp.cmpi, BitVec.slt]
    rw [decide_eq_false]
    · rfl
    · rw [BitVec.toInt_eq_toNat_of_lt (by omega)]
      simp
  rw [e]
  simp [Scalar.select]

theorem idx_apply (k : Fin 100) :
    (broadcastInDim S100x1 ![0] Gen.bcast_S100_S100x1_0
            (select
              (cmpi CmpIPredicate.slt (V0 (Proc.tc.devRef main_arg1))
                (broadcastInDim S100 ![] Gen.bcast_S_S100 (constantI S_ 32 0#32)))
              (addi (V0 (Proc.tc.devRef main_arg1))
                (broadcastInDim S100 ![] Gen.bcast_S_S100 (constantI S_ 32 5120#32)))
              (V0 (Proc.tc.devRef main_arg1))) : IVec S100x1 32) (ix2 k 0) = BitVec.ofNat 32 (rowOf V0 hid k).val := by
  pointwise
  exact keep_index _ (hid k)

theorem v24 (r : Fin 100) (k : Fin 8960) : (res_main_v24 V0 : S100x8960.Idx → BitVec 32) (ix2 r k) = IntOp.andi (BitVec.setWidth 32 ((V0 (Proc.devRef .tc main_arg5) : S5120x8960.Idx → BitVec 8) (ix2 (rowOf V0 hid r) k))) 15#32 := by
  unfold res_main_v24 res_main_v7
  clean_types
  pointwise
  rw [gather_r _ _ r k _ (idx_apply V0 hid r)]
theorem v34 (r : Fin 100) (k : Fin 8960) : (res_main_v34 V0 : S100x8960.Idx → BitVec 32) (ix2 r k) = IntOp.shrsi .host (BitVec.setWidth 32 ((V0 (Proc.devRef .tc main_arg5) : S5120x8960.Idx → BitVec 8) (ix2 (rowOf V0 hid r) k))) 4#32 := by
  unfold res_main_v34 res_main_v7
  clean_types
  pointwise
  rw [gather_r _ _ r k _ (idx_apply V0 hid r)]
theorem v15 (r : Fin 100) : (res_main_v15 V0 : S100x1.Idx → EReal) (ix2 r 0) = (V0 (Proc.devRef .tc main_arg6) : S5120.Idx → EReal) (ix1 (rowOf V0 hid r)) := by
  unfold res_main_v15
  clean_types
  pointwise
  rw [gather_v _ _ r _ (idx_apply V0 hid r)]

theorem v95 (r : Fin 100) (k : Fin 8960) : (res_main_v95 V0 : S100x8960.Idx → BitVec 32) (ix2 r k) = IntOp.andi (BitVec.setWidth 32 ((V0 (Proc.devRef .tc main_arg10) : S5120x8960.Idx → BitVec 8) (ix2 (rowOf V0 hid r) k))) 15#32 := by
  unfold res_main_v95 res_main_v78
  clean_types
  pointwise
  rw [gather_r _ _ r k _ (idx_apply V0 hid r)]
theorem v105 (r : Fin 100) (k : Fin 8960) : (res_main_v105 V0 : S100x8960.Idx → BitVec 32) (ix2 r k) = IntOp.shrsi .host (BitVec.setWidth 32 ((V0 (Proc.devRef .tc main_arg10) : S5120x8960.Idx → BitVec 8) (ix2 (rowOf V0 hid r) k))) 4#32 := by
  unfold res_main_v105 res_main_v78
  clean_types
  pointwise
  rw [gather_r _ _ r k _ (idx_apply V0 hid r)]
theorem v86 (r : Fin 100) : (res_main_v86 V0 : S100x1.Idx → EReal) (ix2 r 0) = (V0 (Proc.devRef .tc main_arg11) : S5120.Idx → EReal) (ix1 (rowOf V0 hid r)) := by
  unfold res_main_v86
  clean_types
  pointwise
  rw [gather_v _ _ r _ (idx_apply V0 hid r)]

theorem res_up (r : Fin 2) (n : Fin 17920) : (val3 V0 (Proc.devRef .tc main_v118) : S2x1x17920.Idx → EReal) (ix3 r 0 n) = resSpec (xOf V0) (rowOf V0 hid) (fun k => (V0 (Proc.devRef .tc main_arg11) : S5120.Idx → EReal) (ix1 k)) (fun k j => (V0 (Proc.devRef .tc main_arg10) : S5120x8960.Idx → BitVec 8) (ix2 k j)) r n := by
  rw [val3_main_v118]
  clean_types
  pointwise
  unfold resSpec
  refine Finset.sum_congr rfl fun k _ => ?_
  congr 1
  · exact gather_x _ _ r k _ (idx_apply V0 hid k)
  · split
    · next h =>
      rw [v95 V0 hid, v86 V0 hid, low_nib]
      exact congrArg₂ (· * ·) (congrArg (snib _) (show 0 = n.val % 2 by omega)) rfl
    · next h =>
      rw [v105 V0 hid, v86 V0 hid, high_nib]
      exact congrArg₂ (· * ·) (congrArg (snib _) (show 1 = n.val % 2 by omega)) rfl

theorem res_gate (r : Fin 2) (n : Fin 17920) : (val3 V0 (Proc.devRef .tc main_v47) : S2x1x17920.Idx → EReal) (ix3 r 0 n) = resSpec (xOf V0) (rowOf V0 hid) (fun k => (V0 (Proc.devRef .tc main_arg6) : S5120.Idx → EReal) (ix1 k)) (fun k j => (V0 (Proc.devRef .tc main_arg5) : S5120x8960.Idx → BitVec 8) (ix2 k j)) r n := by
  rw [val3_main_v47]
  clean_types
  pointwise
  unfold resSpec
  refine Finset.sum_congr rfl fun k _ => ?_
  congr 1
  · exact gather_x _ _ r k _ (idx_apply V0 hid k)
  · split
    · next h =>
      rw [v24 V0 hid, v15 V0 hid, low_nib]
      exact congrArg₂ (· * ·) (congrArg (snib _) (show 0 = n.val % 2 by omega)) rfl
    · next h =>
      rw [v34 V0 hid, v15 V0 hid, high_nib]
      exact congrArg₂ (· * ·) (congrArg (snib _) (show 1 = n.val % 2 by omega)) rfl

/-- The code field read by shifts and a mask. -/
theorem code_field (w : BitVec 32) (f : Fin 10) :
    FloatOps.uitofp (F := Ideal) FTy.bf16 (IntOp.andi (IntOp.shrui ArithUnit.host w (IntOp.muli 3#32 (BitVec.ofNat 32 f.val))) 7#32) = code3 w f.val := by
  have e : (IntOp.andi (IntOp.shrui ArithUnit.host w (IntOp.muli 3#32 (BitVec.ofNat 32 f.val))) 7#32).toNat = w.toNat / 2 ^ (3 * f.val) % 8 := by
    have hm : IntOp.muli 3#32 (BitVec.ofNat 32 f.val) = BitVec.ofNat 32 (3 * f.val) := by revert f; decide
    have hf := f.isLt
    rw [hm]
    simp only [IntOp.andi, IntOp.shrui]
    have hm2 : (BitVec.ofNat 32 (3 * f.val)).toNat = 3 * f.val := by rw [BitVec.toNat_ofNat]; exact Nat.mod_eq_of_lt (by omega)
    rw [if_pos (by rw [hm2]; omega)]
    rw [BitVec.toNat_and, BitVec.ushiftRight_eq', BitVec.toNat_ushiftRight, hm2, Nat.shiftRight_eq_div_pow]
    exact Nat.and_two_pow_sub_one_eq_mod _ 3
  show (((BitVec.toNat _ : ℕ) : ℝ) : EReal) = _
  rw [e]; rfl

/-- A zero point widened to a word and read as a number. -/
theorem zero_point (b : BitVec 8) : FloatOps.sitofp (F := Ideal) FTy.bf16 (BitVec.setWidth 32 b) = zval b := by
  have e : (BitVec.setWidth 32 b).toInt = (b.toNat : ℤ) := by
    rw [BitVec.toInt_eq_toNat_of_lt (by rw [BitVec.toNat_setWidth]; have := b.isLt; omega), BitVec.toNat_setWidth]
    have := b.isLt
    rw [Nat.mod_eq_of_lt (by omega)]
  show (((BitVec.toInt _ : ℤ) : ℝ) : EReal) = _
  rw [e, zval]
  push_cast
  rfl

include hid in
theorem base_gate (r : Fin 2) (n : Fin 17920) : (res_main_v70 V0 : S2x1x17920.Idx → EReal) (ix3 r 0 n)
    = baseSpec (xOf V0) (fun k j => (V0 (Proc.devRef .tc main_arg2) : S5120x1792.Idx → BitVec 32) (ix2 k j)) (fun g j => (V0 (Proc.devRef .tc main_arg3) : S40x17920.Idx → EReal) (ix2 g j)) (fun g j => (V0 (Proc.devRef .tc main_arg4) : S40x17920.Idx → BitVec 8) (ix2 g j)) r n
      + (val3 V0 (Proc.devRef .tc main_v47) : S2x1x17920.Idx → EReal) (ix3 r 0 n) := by
  rw [res_gate V0 hid]
  unfold res_main_v70
  clean_types
  pointwise
  congr 1
  · unfold baseSpec
    refine Finset.sum_congr rfl fun k _ => ?_
    rw [code_field _ ⟨n.val / 1792, by omega⟩, zero_point]
    rfl
  · unfold resSpec
    refine Finset.sum_congr rfl fun k _ => ?_
    congr 1
    · exact gather_x _ _ r k _ (idx_apply V0 hid k)
    · split
      · next h =>
        rw [v24 V0 hid, v15 V0 hid, low_nib]
        exact congrArg₂ (· * ·) (congrArg (snib _) (show 0 = n.val % 2 by omega)) rfl
      · next h =>
        rw [v34 V0 hid, v15 V0 hid, high_nib]
        exact congrArg₂ (· * ·) (congrArg (snib _) (show 1 = n.val % 2 by omega)) rfl

/-- The gated product of two numbers. -/
def gateOf (g u : EReal) : EReal := g * Ideal.div 1 (1 + Ideal.exp (-g)) * u

include hid in
theorem result (r : Fin 2) (n : Fin 17920) : (val3 V0 (Proc.devRef .tc main_v144) : S2x1x17920.Idx → EReal) (ix3 r 0 n)
    = gateOf ((res_main_v70 V0 : S2x1x17920.Idx → EReal) (ix3 r 0 n)) (baseSpec (xOf V0) (fun k j => (V0 (Proc.devRef .tc main_arg7) : S5120x1792.Idx → BitVec 32) (ix2 k j)) (fun g j => (V0 (Proc.devRef .tc main_arg8) : S40x17920.Idx → EReal) (ix2 g j)) (fun g j => (V0 (Proc.devRef .tc main_arg9) : S40x17920.Idx → BitVec 8) (ix2 g j)) r n
      + (val3 V0 (Proc.devRef .tc main_v118) : S2x1x17920.Idx → EReal) (ix3 r 0 n)) := by
  rw [val3_main_v144, res_up V0 hid]
  clean_types
  pointwise
  unfold gateOf
  congr 1
  congr 1
  · unfold baseSpec
    refine Finset.sum_congr rfl fun k _ => ?_
    rw [code_field _ ⟨n.val / 1792, by omega⟩, zero_point]
    rfl
  · unfold resSpec
    refine Finset.sum_congr rfl fun k _ => ?_
    congr 1
    · exact gather_x _ _ r k _ (idx_apply V0 hid k)
    · split
      · next h =>
        rw [v95 V0 hid, v86 V0 hid, low_nib]
        exact congrArg₂ (· * ·) (congrArg (snib _) (show 0 = n.val % 2 by omega)) rfl
      · next h =>
        rw [v105 V0 hid, v86 V0 hid, high_nib]
        exact congrArg₂ (· * ·) (congrArg (snib _) (show 1 = n.val % 2 by omega)) rfl

end Cert.ReferenceIdeal.Hand
end
-- ==== Proof.Ideal.ValRes.lean ====
module
public import proofs.«01_k».proof.Proof.Ideal.Residual
public import Idealize.ShloMosaic.Lib.Pointwise
public import proofs.«01_k».proof.Proof.Ideal.ValWord
public import Idealize.ShloMosaic.Lib.BitcastPair
public import Idealize.ShloMosaic.Lib.WritesUnit
@[expose] public section

noncomputable section

namespace Cert.KernelIdeal.Hand

open Idealize.ShloMosaic Idealize.ShloMosaic.TcCoe Idealize.ShloMosaic.Tactic
open Gen

set_option maxRecDepth 16384
open Idealize.SL Idealize.SL.RA

/-! ## Trip offsets -/

theorem trips6 : k0_t6_loop.trips = 35 := by decide
theorem trips7 : k0_t7_loop.trips = 35 := by decide
theorem trips4 : k0_t4_loop.trips = 100 := by decide
theorem off30_eq : ∀ k : Fin k0_t6_loop.trips, k0_off30 k = ![0, 256 * k.val] := by decide +kernel
theorem off31_0 : ∀ k : Fin k0_t6_loop.trips, k0_off31 k 0#32 = ![0, 0, 512 * k.val + 0] := by decide +kernel
theorem off31_1 : ∀ k : Fin k0_t6_loop.trips, k0_off31 k 128#32 = ![0, 0, 512 * k.val + 128] := by decide +kernel
theorem off31_2 : ∀ k : Fin k0_t6_loop.trips, k0_off31 k 256#32 = ![0, 0, 512 * k.val + 256] := by decide +kernel
theorem off31_3 : ∀ k : Fin k0_t6_loop.trips, k0_off31 k 384#32 = ![0, 0, 512 * k.val + 384] := by decide +kernel
theorem offu_eq : ∀ k : Fin k0_t7_loop.trips, k0_off32 k = ![0, 256 * k.val] := by decide +kernel
theorem offu_0 : ∀ k : Fin k0_t7_loop.trips, k0_off33 k 0#32 = ![0, 0, 512 * k.val + 0] := by decide +kernel
theorem offu_1 : ∀ k : Fin k0_t7_loop.trips, k0_off33 k 128#32 = ![0, 0, 512 * k.val + 128] := by decide +kernel
theorem offu_2 : ∀ k : Fin k0_t7_loop.trips, k0_off33 k 256#32 = ![0, 0, 512 * k.val + 256] := by decide +kernel
theorem offu_3 : ∀ k : Fin k0_t7_loop.trips, k0_off33 k 384#32 = ![0, 0, 512 * k.val + 384] := by decide +kernel
theorem off22_eq : ∀ k : Fin k0_t4_loop.trips, k0_off22 k = ![k.val] := by decide +kernel
theorem off23_eq : ∀ k : Fin k0_t4_loop.trips, k0_off23 k = ![k.val, 0] := by decide +kernel

/-- A property every trip carries on holds after any number of trips. -/
theorem cont_ind {C : Type} {N : ℕ} (step : Fin N → C → C) (g : C) (P : ℕ → C → Prop) (h0 : P 0 g)
    (hs : ∀ (k : Fin N) f, P k.val f → P (k.val + 1) (step k f)) : ∀ n, n ≤ N → P n (cont N step g n) := by
  intro n
  induction n with
  | zero => intro _; exact h0
  | succ n ih =>
    intro h
    have := cont_succ step g ⟨n, h⟩
    rw [show cont N step g (n + 1) = step ⟨n, h⟩ (cont N step g n) from this]
    exact hs ⟨n, h⟩ _ (ih (by omega))

/-! ## The residual payloads at an index -/

/-- The gathered rows: the column `idl` names, zero where it names none. -/
theorem got_apply (idl : Vec Ideal S1x256 .i32) (x : Vec Ideal S2x5120 .bf16) (rg ru : Vec Ideal S1x5120 .bf16) (r : Fin 16) (k : Fin 256) :
    k0_pay284 idl x rg ru (ix2 r k) = if hv : (idl (ix2 0 k)).toNat < 5120 then
      (if h : r.val < 2 then x (ix2 ⟨r.val, h⟩ ⟨_, hv⟩) else if h : r.val - 2 < 1 then rg (ix2 ⟨r.val - 2, h⟩ ⟨_, hv⟩) else if h : r.val - 2 - 1 < 1 then ru (ix2 ⟨r.val - 2 - 1, h⟩ ⟨_, hv⟩) else 0) else 0 := by
  pointwise [k0_pay284]
  exact sum_pick (by norm_num) (fun d : Fin 5120 => if h : r.val < 2 then x (ix2 ⟨r.val, h⟩ d) else if h : r.val - 2 < 1 then rg (ix2 ⟨r.val - 2, h⟩ d) else if h : r.val - 2 - 1 < 1 then ru (ix2 ⟨r.val - 2 - 1, h⟩ d) else 0) (idl (ix2 0 k))

theorem even_apply (k : Fin 256) : IntOp.cmpi CmpIPredicate.eq (IntOp.andi (BitVec.ofNat 32 k.val) 1#32) 0#32 = if k.val % 2 = 0 then 1#1 else 0#1 := by
  revert k; decide

theorem odd_apply (k : Fin 256) : k0_pay288 (ix2 0 k) = if k.val % 2 = 1 then 1#1 else 0#1 := by
  pointwise [k0_pay288, k0_pay286]
  revert k; decide

/-- The bitcast of a word vector to half words: word row `x / 2`, half `x % 2`. -/
theorem half_at (W : IVec S128x256 32) (x : Fin 256) (j : Fin 256) :
    bitcast S256x256 16 W bitcasts_S128x256_w32_S256x256_w16 (ix2 x j) = (W (ix2 ⟨x.val / 2, by omega⟩ j)).extractLsb' (16 * (x.val % 2)) 16 := by
  rw [bitcast_32_16]
  have hr : S256x256.row (ix2 x j) = x.val := rfl
  have hi : (Shape.Bitcasts.srcIdx bitcasts_S128x256_w32_S256x256_w16 (ix2 x j) (S256x256.row (ix2 x j) / 2) (fun a ha => by
        have := Shape.Bitcasts.pos_lt bitcasts_S128x256_w32_S256x256_w16 (ix2 x j) 0 (by decide) a ha; omega)) = (ix2 ⟨x.val / 2, by omega⟩ j : S128x256.Idx) := by
    funext a
    apply Fin.ext
    fin_cases a
    · exact Shape.Bitcasts.srcIdx_row _ _ _ _ _ rfl
    · exact Shape.Bitcasts.srcIdx_other _ _ _ _ _ (by decide)
  rw [hi, hr]

theorem half_lt {k : ℕ} (h : k < 200) : k / 2 < 100 := by omega

section Payloads
variable (idl : Vec Ideal S1x256 .i32) (x : Vec Ideal S2x5120 .bf16) (rg ru : Vec Ideal S1x5120 .bf16)
  (ids : Fin 100 → BitVec 32) (hids : ∀ k, (ids k).toNat < 5120)
  (hidl : ∀ k : Fin 256, idl (ix2 0 k) = if h : k.val < 200 then ids ⟨k.val / 2, half_lt h⟩ else 4294967295#32)

/-- The left-hand side of the residual products. -/
abbrev xsOf : FVec Ideal S16x256 .bf16 := k0_pay290 (k0_pay287 idl x rg ru) k0_pay288 (k0_pay289 idl x rg ru)

include hidl hids in
/-- Row `2 h + b` holds input row `b` at the columns of parity `h`, zero elsewhere. -/
theorem xs_apply (h : ℕ) (hh : h < 2) (b : Fin 2) (k : Fin 256) :
    xsOf idl x rg ru (ix2 ⟨2 * h + b.val, by omega⟩ k)
      = if hk : k.val % 2 = h ∧ k.val < 200 then x (ix2 b ⟨(ids ⟨k.val / 2, half_lt hk.2⟩).toNat, hids _⟩) else 0 := by
  have hgot : ∀ k : Fin 256, k0_pay284 idl x rg ru (ix2 ⟨b.val, by omega⟩ k) = if hk : k.val < 200 then x (ix2 b ⟨(ids ⟨k.val / 2, half_lt hk⟩).toNat, hids _⟩) else 0 := by
    intro k
    rw [got_apply]
    by_cases hk : k.val < 200
    · simp only [hidl k, hk, dif_pos, hids, b.isLt]
    · simp only [hidl k, hk, dif_neg, not_false_eq_true]
      rw [dif_neg (by decide)]
  have he : k0_pay287 idl x rg ru (ix2 b k) = if hk : k.val % 2 = 0 ∧ k.val < 200 then x (ix2 b ⟨(ids ⟨k.val / 2, half_lt hk.2⟩).toNat, hids _⟩) else 0 := by
    pointwise [k0_pay287, k0_pay286]
    rw [even_apply, hgot k]
    by_cases h1 : k.val % 2 = 0 <;> by_cases h2 : k.val < 200 <;> simp [h1, h2, Scalar.select]
  have ho : k0_pay289 idl x rg ru (ix2 b k) = if hk : k.val < 200 then x (ix2 b ⟨(ids ⟨k.val / 2, half_lt hk⟩).toNat, hids _⟩) else 0 := by
    pointwise [k0_pay289]
    rw [hgot k]
  unfold xsOf
  pointwise [k0_pay290]
  interval_cases h
  · simp only [Nat.mul_zero, Nat.zero_add, b.isLt, dif_pos, Fin.eta, he]
  · have h1 : ¬ (2 * 1 + b.val < 2) := by omega
    have h2 : 2 * 1 + b.val - 2 < 2 := by omega
    have h3 : (⟨2 * 1 + b.val - 2, h2⟩ : Fin 2) = b := Fin.ext (by simp)
    rw [dif_neg h1, dif_pos h2, h3, ho, odd_apply]
    by_cases h4 : k.val % 2 = 1 <;> by_cases h5 : k.val < 200 <;> simp [h4, h5, Scalar.select]

include hidl hids in
/-- The gate's row scales, one row per index. -/
theorem rsg_apply (k : Fin 256) (j : Fin 256) (hk : k.val < 200) :
    k0_pay293 (k0_pay285 idl x rg ru) (ix2 k j) = rg (ix2 0 ⟨(ids ⟨k.val / 2, half_lt hk⟩).toNat, hids _⟩) := by
  pointwise [k0_pay293, k0_pay285]
  rw [got_apply]
  simp [hidl k, hk, hids]

include hidl hids in
/-- The up projection's row scales, one row per index. -/
theorem rsu_apply (k : Fin 256) (j : Fin 256) (hk : k.val < 200) :
    k0_pay294 (k0_pay285 idl x rg ru) (ix2 k j) = ru (ix2 0 ⟨(ids ⟨k.val / 2, half_lt hk⟩).toNat, hids _⟩) := by
  pointwise [k0_pay294, k0_pay285]
  rw [got_apply]
  simp [hidl k, hk, hids]

/-- One entry of a residual product: over the 100 rows, the input times the signed nibble times the row's scale. -/
def resTerm (rs : Vec Ideal S1x5120 .bf16) (w : Fin 100 → BitVec 32) (h : ℕ) (b : Fin 2) : EReal :=
  ∑ k : Fin 100, x (ix2 b ⟨(ids k).toNat, hids k⟩) * (snib (byteOf (w k) ((ids k).toNat % 4)) h * rs (ix2 0 ⟨(ids k).toNat, hids k⟩))

/-- The shift of each word row. -/
theorem sh_apply (S : Vec Ideal S128x128 .i32) (hS : ∀ (k : Fin 100) (l : Fin 128), S (ix2 ⟨k.val, by omega⟩ l) = ids k) (k : Fin 100) (j : Fin 256) :
    k0_pay283 (F := Ideal) S (ix2 ⟨k.val, by omega⟩ j) = IntOp.shli .vector (IntOp.andi (ids k) 3#32) 3#32 := by
  pointwise [k0_pay283]
  split <;> rw [hS]

include hidl hids in
/-- One entry of the product `pay263` / `pay272` computes. -/
theorem prod_apply (S : Vec Ideal S128x128 .i32) (hS : ∀ (k : Fin 100) (l : Fin 128), S (ix2 ⟨k.val, by omega⟩ l) = ids k)
    (rs : Vec Ideal S1x5120 .bf16) (v80 : FVec Ideal S256x256 .bf16)
    (h80 : ∀ (k : Fin 256) (j : Fin 256) (hk : k.val < 200), v80 (ix2 k j) = rs (ix2 0 ⟨(ids ⟨k.val / 2, half_lt hk⟩).toNat, hids _⟩))
    (w : Vec Ideal S128x256 .i32) (h : ℕ) (hh : h < 2) (b : Fin 2) (j : Fin 256) :
    k0_pay263 (k0_pay283 (F := Ideal) S) (xsOf idl x rg ru) v80 w (ix2 ⟨2 * h + b.val, by omega⟩ j)
      = resTerm x ids hids rs (fun k => w (ix2 ⟨k.val, by omega⟩ j)) h b := by
  pointwise [k0_pay263]
  unfold resTerm
  refine sum_lanes _ _ h hh ?_ ?_
  · intro k hk
    have := xs_apply idl x rg ru ids hids hidl h hh b k
    rw [dif_neg (by omega)] at this
    rw [this, zero_mul]
  · intro k
    have h1 := xs_apply idl x rg ru ids hids hidl h hh b ⟨2 * k.val + h, by omega⟩
    rw [dif_pos ⟨by simp; omega, by simp; omega⟩] at h1
    have h2 := h80 ⟨2 * k.val + h, by omega⟩ j (by simp; omega)
    have hk : (⟨(2 * k.val + h) / 2, by omega⟩ : Fin 100) = k := Fin.ext (by simp; omega)
    simp only [hk] at h1 h2
    rw [h1, h2]
    congr 2
    rw [half_at]
    have e1 : (2 * k.val + h) % 2 = h := by omega
    have e2 : (⟨(2 * k.val + h) / 2, by omega⟩ : Fin 128) = ⟨k.val, by omega⟩ := Fin.ext (by simp; omega)
    simp only [e1, e2]
    show (Ideal.ofBits FTy.bf16 (BitVec.extractLsb' (16 * h) 16 (IntOp.xori (IntOp.ori (IntOp.andi (IntOp.shrsi .vector (w (ix2 ⟨k.val, by omega⟩ j)) (k0_pay283 (F := Ideal) S (ix2 ⟨k.val, by omega⟩ j))) 15#32) (IntOp.shli .vector (IntOp.andi (IntOp.shrsi .vector (w (ix2 ⟨k.val, by omega⟩ j)) (k0_pay283 (F := Ideal) S (ix2 ⟨k.val, by omega⟩ j))) 240#32) 12#32)) 1124614920#32)) - Ideal.ofBits FTy.bf16 17160#16 : EReal) = _
    rw [sh_apply ids S hS k j, half_code _ _ h hh]
    exact code_value _
end Payloads

/-- What a trip stores for quarter `m` of its columns. -/
def laceOf (o : FVec Ideal S8x256 .f32) (m : ℕ) (hm : m < 4) (b : Fin 2) (l : Fin 128) : EReal :=
  o (ix2 ⟨2 * (l.val % 2) + b.val, by omega⟩ ⟨64 * m + l.val / 2, by omega⟩)

theorem lane_even (l : Fin 128) : IntOp.cmpi CmpIPredicate.eq (IntOp.andi (BitVec.ofNat 32 l.val) 1#32) 0#32 = if l.val % 2 = 0 then 1#1 else 0#1 := by
  revert l; decide

theorem lane_lo (l : Fin 128) : (Scalar.select (IntOp.cmpi CmpIPredicate.slt (IntOp.addi (0#32) (IntOp.shrsi ArithUnit.vector (BitVec.ofNat 32 l.val) 1#32)) 0#32)
      (IntOp.addi (IntOp.addi (0#32) (IntOp.shrsi ArithUnit.vector (BitVec.ofNat 32 l.val) 1#32)) 128#32)
      (IntOp.addi (0#32) (IntOp.shrsi ArithUnit.vector (BitVec.ofNat 32 l.val) 1#32))).toNat % 128 = l.val / 2 := by
  revert l; decide
theorem lane_hi (l : Fin 128) : (Scalar.select (IntOp.cmpi CmpIPredicate.slt (IntOp.addi (64#32) (IntOp.shrsi ArithUnit.vector (BitVec.ofNat 32 l.val) 1#32)) 0#32)
      (IntOp.addi (IntOp.addi (64#32) (IntOp.shrsi ArithUnit.vector (BitVec.ofNat 32 l.val) 1#32)) 128#32)
      (IntOp.addi (64#32) (IntOp.shrsi ArithUnit.vector (BitVec.ofNat 32 l.val) 1#32))).toNat % 128 = 64 + l.val / 2 := by
  revert l; decide

theorem lace_select (o : FVec Ideal S8x256 .f32) (m : ℕ) (hm : m < 4) (b : Fin 2) (l : Fin 128) (u v : Fin 256) (r0 r1 : Fin 8) (h0 : r0.val = b.val) (h1 : r1.val = 2 + b.val)
    (hu : u.val = 64 * m + l.val / 2) (hv : v.val = 64 * m + l.val / 2) :
    Scalar.select (IntOp.cmpi CmpIPredicate.eq (IntOp.andi (BitVec.ofNat 32 l.val) 1#32) 0#32) (o (ix2 r0 u)) (o (ix2 r1 v)) = laceOf o m hm b l := by
  rw [lane_even]
  unfold laceOf Scalar.select
  by_cases h : l.val % 2 = 0
  · rw [if_pos h, if_pos (by decide)]
    congr 2
    · exact Fin.ext (by simp [h0, h])
    · exact Fin.ext hu
  · rw [if_neg h, if_neg (by decide)]
    have h2 : l.val % 2 = 1 := by omega
    congr 2
    · exact Fin.ext (by simp [h1, h2])
    · exact Fin.ext hv

/-- The lane numbers. -/
abbrev lanes : IVec S8x128 32 := iota Kind.tc S8x128 32 [1] iota_S8x128_d1_w32

theorem q0_apply (o27 : IVec S128x256 32) (v67 : FVec Ideal S16x256 .bf16) (v80 : FVec Ideal S256x256 .bf16) (w : Vec Ideal S128x256 .i32) (b : Fin 2) (l : Fin 128) :
    k0_pay265 (k0_pay264 o27 v67 v80 lanes w) (ix3 b 0 l) = laceOf (k0_pay263 o27 v67 v80 w) 0 (by omega) b l := by
  pointwise [k0_pay264, k0_pay265]
  exact lace_select _ _ _ _ _ _ _ _ _ rfl rfl (by simp [lane_lo]) (by simp [lane_lo])
theorem q1_apply (o : FVec Ideal S8x256 .f32) (b : Fin 2) (l : Fin 128) :
    k0_pay266 lanes o (ix3 b 0 l) = laceOf o 1 (by omega) b l := by
  pointwise [k0_pay266]
  exact lace_select _ _ _ _ _ _ _ _ _ rfl rfl (by simp [lane_hi]) (by simp [lane_hi])
theorem q2_apply (o : FVec Ideal S8x256 .f32) (b : Fin 2) (l : Fin 128) :
    k0_pay270 lanes (k0_pay267 o) (k0_pay268 lanes) k0_pay269 (ix3 b 0 l) = laceOf o 2 (by omega) b l := by
  pointwise [k0_pay270, k0_pay267, k0_pay268, k0_pay269]
  exact lace_select _ _ _ _ _ _ _ _ _ rfl rfl (by simp [lane_lo]) (by simp [lane_lo])
theorem q3_apply (o : FVec Ideal S8x256 .f32) (b : Fin 2) (l : Fin 128) :
    k0_pay295 (k0_pay271 lanes o) (ix3 b 0 l) = laceOf o 3 (by omega) b l := by
  pointwise [k0_pay295, k0_pay271]
  exact lace_select _ _ _ _ _ _ _ _ _ rfl rfl (by simp [lane_hi]; omega) (by simp [lane_hi]; omega)

section Loops
variable (c : Dev nD) (i : grid0.Coords)
  (arg3 : Memref sig .tc .vmem S1x256 .i32) (harg3 : arg3.IsWhole) (arg4 : Memref sig .tc .vmem S2x5120 .bf16) (harg4 : arg4.IsWhole) (arg5 : Memref sig .tc .vmem S1280x256 .i32) (harg5 : arg5.IsWhole) (arg6 : Memref sig .tc .vmem S1280x256 .i32) (harg6 : arg6.IsWhole) (arg7 : Memref sig .tc .vmem S40x17920 .bf16) (harg7 : arg7.IsWhole) (arg8 : Memref sig .tc .vmem S40x17920 .bf16) (harg8 : arg8.IsWhole) (arg9 : Memref sig .tc .vmem S40x17920 .i8) (harg9 : arg9.IsWhole) (arg10 : Memref sig .tc .vmem S40x17920 .i8) (harg10 : arg10.IsWhole) (arg11 : Memref sig .tc .vmem S1x5120 .bf16) (harg11 : arg11.IsWhole) (arg12 : Memref sig .tc .vmem S1x5120 .bf16) (harg12 : arg12.IsWhole) (arg15 : Memref sig .tc .vmem S2x1x17920 .bf16) (harg15 : arg15.IsWhole) (arg16 : Memref sig .tc .vmem S2x1x17920 .f32) (harg16 : arg16.IsWhole) (arg17 : Memref sig .tc .vmem S2x1x17920 .f32) (harg17 : arg17.IsWhole) (arg18 : Memref sig .tc .vmem S16x20480 .bf16) (harg18 : arg18.IsWhole) (arg19 : Memref sig .tc .vmem S5x2x320x2x128 .f32) (harg19 : arg19.IsWhole) (arg20 : Memref sig .tc .vmem S5x2x320x2x128 .f32) (harg20 : arg20.IsWhole) (arg21 : Memref sig .tc .vmem S5x16x256 .f32) (harg21 : arg21.IsWhole) (arg24 : Memref sig .tc .vmem S128x128 .i32) (harg24 : arg24.IsWhole)

/-- What a store of the four quarters leaves at an index. -/
theorem quarters (v : View sig .tc .vmem S2x1x17920 .f32) (f : v.ty.Contents (Elt Ideal)) (k : ℕ) (hk : k < 35) (o : FVec Ideal S8x256 .f32)
    (o0 o1 o2 o3 : Fin 3 → ℕ) (i0 : ∀ a, o0 a + ![2, 1, 128] a ≤ S2x1x17920.size a) (i1 : ∀ a, o1 a + ![2, 1, 128] a ≤ S2x1x17920.size a) (i2 : ∀ a, o2 a + ![2, 1, 128] a ≤ S2x1x17920.size a) (i3 : ∀ a, o3 a + ![2, 1, 128] a ≤ S2x1x17920.size a)
    (e0 : o0 = ![0, 0, 512 * k + 0]) (e1 : o1 = ![0, 0, 512 * k + 128]) (e2 : o2 = ![0, 0, 512 * k + 256]) (e3 : o3 = ![0, 0, 512 * k + 384])
    (p0 p1 p2 p3 : FVec Ideal S2x1x128 .f32)
    (h0 : ∀ b l, p0 (ix3 b 0 l) = laceOf o 0 (by omega) b l) (h1 : ∀ b l, p1 (ix3 b 0 l) = laceOf o 1 (by omega) b l)
    (h2 : ∀ b l, p2 (ix3 b 0 l) = laceOf o 2 (by omega) b l) (h3 : ∀ b l, p3 (ix3 b 0 l) = laceOf o 3 (by omega) b l)
    (b : Fin 2) (n : Fin 17920) :
    v.read (Elt Ideal) (v.writes (Elt Ideal) f [⟨Rect.unit o3 ![2, 1, 128] i3, p3⟩, ⟨Rect.unit o2 ![2, 1, 128] i2, p2⟩, ⟨Rect.unit o1 ![2, 1, 128] i1, p1⟩, ⟨Rect.unit o0 ![2, 1, 128] i0, p0⟩]) (ix3 b 0 n)
      = if h : 512 * k ≤ n.val ∧ n.val < 512 * (k + 1) then o (ix2 ⟨2 * (n.val % 2) + b.val, by omega⟩ ⟨n.val / 2 - 256 * k, by omega⟩) else v.read (Elt Ideal) f (ix3 b 0 n) := by
  have hit : ∀ (m : ℕ) (hm : m < 4) (h : 512 * k + 128 * m ≤ n.val ∧ n.val < 512 * k + 128 * (m + 1)),
      laceOf o m hm b ⟨n.val - (512 * k + 128 * m), by omega⟩ = o (ix2 ⟨2 * (n.val % 2) + b.val, by omega⟩ ⟨n.val / 2 - 256 * k, by omega⟩) := by
    intro m hm h
    unfold laceOf
    congr 2
    · exact Fin.ext (by simp; omega)
    · exact Fin.ext (by simp; omega)
  have mem : ∀ (m : ℕ) (h : 512 * k + 128 * m ≤ n.val ∧ n.val < 512 * k + 128 * (m + 1)), ∀ a : Fin 3, ((ix3 b 0 n : S2x1x17920.Idx) a).val = (![0, 0, 512 * k + 128 * m] : Fin 3 → ℕ) a + ((ix3 b 0 (⟨n.val - (512 * k + 128 * m), by omega⟩ : Fin 128) : S2x1x128.Idx) a).val := by
    intro m h a
    fin_cases a
    · simp [ix3]
    · simp [ix3]
    · simp [ix3]; omega
  have miss : ∀ m : ℕ, ¬ (512 * k + 128 * m ≤ n.val ∧ n.val < 512 * k + 128 * (m + 1)) → ((ix3 b 0 n : S2x1x17920.Idx) 2).val < (![0, 0, 512 * k + 128 * m] : Fin 3 → ℕ) 2 ∨ (![0, 0, 512 * k + 128 * m] : Fin 3 → ℕ) 2 + (![2, 1, 128] : Fin 3 → ℕ) 2 ≤ ((ix3 b 0 n : S2x1x17920.Idx) 2).val := by
    intro m h
    simp [ix3]; omega
  by_cases c3 : 512 * k + 128 * 3 ≤ n.val ∧ n.val < 512 * k + 128 * (3 + 1)
  · rw [View.read_writes_cons_unit_of_mem v f i3 p3 _ _ (ix3 b 0 (⟨n.val - (512 * k + 128 * 3), by omega⟩ : Fin 128)) e3 (mem 3 c3), dif_pos (by omega), h3, hit 3 (by omega) c3]
  rw [View.read_writes_cons_unit_of_not_mem v f i3 p3 _ _ e3 2 (miss 3 c3)]
  by_cases c2 : 512 * k + 128 * 2 ≤ n.val ∧ n.val < 512 * k + 128 * (2 + 1)
  · rw [View.read_writes_cons_unit_of_mem v f i2 p2 _ _ (ix3 b 0 (⟨n.val - (512 * k + 128 * 2), by omega⟩ : Fin 128)) e2 (mem 2 c2), dif_pos (by omega), h2, hit 2 (by omega) c2]
  rw [View.read_writes_cons_unit_of_not_mem v f i2 p2 _ _ e2 2 (miss 2 c2)]
  by_cases c1 : 512 * k + 128 * 1 ≤ n.val ∧ n.val < 512 * k + 128 * (1 + 1)
  · rw [View.read_writes_cons_unit_of_mem v f i1 p1 _ _ (ix3 b 0 (⟨n.val - (512 * k + 128 * 1), by omega⟩ : Fin 128)) e1 (mem 1 c1), dif_pos (by omega), h1, hit 1 (by omega) c1]
  rw [View.read_writes_cons_unit_of_not_mem v f i1 p1 _ _ e1 2 (miss 1 c1)]
  by_cases c0 : 512 * k + 128 * 0 ≤ n.val ∧ n.val < 512 * k + 128 * (0 + 1)
  · rw [View.read_writes_cons_unit_of_mem v f i0 p0 _ _ (ix3 b 0 (⟨n.val - (512 * k + 128 * 0), by omega⟩ : Fin 128)) e0 (mem 0 c0), dif_pos (by omega), h0, hit 0 (by omega) c0]
  rw [View.read_writes_cons_unit_of_not_mem v f i0 p0 _ _ e0 2 (miss 0 c0), dif_neg (by omega), View.writes_nil]

section Gate
variable (h3 : k0_cond3 i = 1#1) (v27 : IVec S128x256 32) (v67 : FVec Ideal S16x256 .bf16) (v80 : FVec Ideal S256x256 .bf16) (c0 c1 : BitVec 32)

/-- One trip of the gate's residual loop. -/
theorem trip6_read (X : BufTy.Contents (Elt Ideal) (Memref.whole cc0_scratch4).view.ty) (k : Fin k0_t6_loop.trips) (f : BufTy.Contents (Elt Ideal) arg16.view.ty) (b : Fin 2) (n : Fin 17920) :
    arg16.view.read (Elt Ideal) (step6 (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h3 v27 v67 v80 lanes c0 c1 X k f) (ix3 b 0 n)
      = if h : 512 * k.val ≤ n.val ∧ n.val < 512 * (k.val + 1) then
          k0_pay263 v27 v67 v80 (fun y => X (ix2 (y 0) ⟨256 * k.val + (y 1).val, by have h1 : k.val < 35 := Nat.lt_of_lt_of_le k.isLt k0_t6_abs.2.1; have h2 : (y 1).val < 256 := (y 1).isLt; show _ < 8960; omega⟩)) (ix2 ⟨2 * (n.val % 2) + b.val, by omega⟩ ⟨n.val / 2 - 256 * k.val, by omega⟩)
        else arg16.view.read (Elt Ideal) f (ix3 b 0 n) := by
  have hk : k.val < 35 := Nat.lt_of_lt_of_le k.isLt k0_t6_abs.2.1
  unfold step6 trip6
  sl_open_run
  dsimp only
  have hw : ∀ (inb : ∀ a, k0_off30 k a + ![128, 256] a ≤ S128x8960.size a), (View.readAt (Elt Ideal) (View.whole cc0_scratch4) (Rect.unit (k0_off30 k) ![128, 256] inb).toLoadRect X)
      = (fun y : S128x256.Idx => X (ix2 (y 0) ⟨256 * k.val + (y 1).val, by have h2 : (y 1).val < 256 := (y 1).isLt; show _ < 8960; omega⟩)) := by
    intro inb
    funext y
    refine congrArg X (funext fun a => Fin.ext ?_)
    have := congrFun (off30_eq k) a
    show k0_off30 k a + 1 * (y a).val = _
    rw [this]
    fin_cases a
    · simp [ix2]
    · simp [ix2]
  simp only [hw]
  refine quarters arg16.view f k.val hk _ _ _ _ _ _ _ _ _ (off31_0 k) (off31_1 k) (off31_2 k) (off31_3 k) _ _ _ _ ?_ ?_ ?_ ?_ b n
  · exact q0_apply _ _ _ _
  · exact q1_apply _
  · exact q2_apply _
  · exact q3_apply _

/-- All trips of the gate's residual loop. -/
theorem cont6_read (X : BufTy.Contents (Elt Ideal) (Memref.whole cc0_scratch4).view.ty) (f : BufTy.Contents (Elt Ideal) arg16.view.ty) (b : Fin 2) (n : Fin 17920)
    (T : Fin 8960 → EReal)
    (hT : ∀ (k : ℕ) (hk : k < 35) (j : Fin 256), k0_pay263 v27 v67 v80 (fun y => X (ix2 (y 0) ⟨256 * k + (y 1).val, by have h2 : (y 1).val < 256 := (y 1).isLt; show _ < 8960; omega⟩)) (ix2 ⟨2 * (n.val % 2) + b.val, by omega⟩ j) = T ⟨256 * k + j.val, by omega⟩)
    (N : ℕ) (hN : N = 35) :
    arg16.view.read (Elt Ideal) (cont6 (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h3 v27 v67 v80 lanes c0 c1 X f N) (ix3 b 0 n) = T ⟨n.val / 2, by omega⟩ := by
  have key := cont_ind (N := k0_t6_loop.trips) (step6 (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h3 v27 v67 v80 lanes c0 c1 X) f
    (fun k g => n.val < 512 * k → arg16.view.read (Elt Ideal) g (ix3 b 0 n) = T ⟨n.val / 2, by omega⟩) (fun h => by omega) ?_ N (by rw [hN]; decide)
  · exact key (by omega)
  · intro k g ih hn
    rw [trip6_read]
    have hk : k.val < 35 := Nat.lt_of_lt_of_le k.isLt k0_t6_abs.2.1
    by_cases hc : 512 * k.val ≤ n.val
    · rw [dif_pos ⟨hc, hn⟩]
      rw [hT k.val hk ⟨n.val / 2 - 256 * k.val, by omega⟩]
      congr 1
      exact Fin.ext (by simp; omega)
    · rw [dif_neg (by omega)]
      exact ih (by omega)
end Gate

section Up
variable (h3 : k0_cond3 i = 1#1) (v27 : IVec S128x256 32) (v67 : FVec Ideal S16x256 .bf16) (v80 : FVec Ideal S256x256 .bf16) (c0 c1 : BitVec 32)

/-- One trip of the up projection's residual loop. -/
theorem trip7_read (X : BufTy.Contents (Elt Ideal) (Memref.whole cc0_scratch5).view.ty) (k : Fin k0_t7_loop.trips) (f : BufTy.Contents (Elt Ideal) arg17.view.ty) (b : Fin 2) (n : Fin 17920) :
    arg17.view.read (Elt Ideal) (step7 (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h3 v27 v67 v80 lanes c0 c1 X k f) (ix3 b 0 n)
      = if h : 512 * k.val ≤ n.val ∧ n.val < 512 * (k.val + 1) then
          k0_pay263 v27 v67 v80 (fun y => X (ix2 (y 0) ⟨256 * k.val + (y 1).val, by have h1 : k.val < 35 := Nat.lt_of_lt_of_le k.isLt k0_t7_abs.2.1; have h2 : (y 1).val < 256 := (y 1).isLt; show _ < 8960; omega⟩)) (ix2 ⟨2 * (n.val % 2) + b.val, by omega⟩ ⟨n.val / 2 - 256 * k.val, by omega⟩)
        else arg17.view.read (Elt Ideal) f (ix3 b 0 n) := by
  have hk : k.val < 35 := Nat.lt_of_lt_of_le k.isLt k0_t7_abs.2.1
  unfold step7 trip7
  sl_open_run
  dsimp only
  have hw : ∀ (inb : ∀ a, k0_off32 k a + ![128, 256] a ≤ S128x8960.size a), (View.readAt (Elt Ideal) (View.whole cc0_scratch5) (Rect.unit (k0_off32 k) ![128, 256] inb).toLoadRect X)
      = (fun y : S128x256.Idx => X (ix2 (y 0) ⟨256 * k.val + (y 1).val, by have h2 : (y 1).val < 256 := (y 1).isLt; show _ < 8960; omega⟩)) := by
    intro inb
    funext y
    refine congrArg X (funext fun a => Fin.ext ?_)
    have := congrFun (offu_eq k) a
    show k0_off32 k a + 1 * (y a).val = _
    rw [this]
    fin_cases a
    · simp [ix2]
    · simp [ix2]
  simp only [hw]
  refine quarters arg17.view f k.val hk _ _ _ _ _ _ _ _ _ (offu_0 k) (offu_1 k) (offu_2 k) (offu_3 k) _ _ _ _ ?_ ?_ ?_ ?_ b n
  · exact q0_apply _ _ _ _
  · exact q1_apply _
  · exact q2_apply _
  · exact q3_apply _

/-- All trips of the up projection's residual loop. -/
theorem cont7_read (X : BufTy.Contents (Elt Ideal) (Memref.whole cc0_scratch5).view.ty) (f : BufTy.Contents (Elt Ideal) arg17.view.ty) (b : Fin 2) (n : Fin 17920)
    (T : Fin 8960 → EReal)
    (hT : ∀ (k : ℕ) (hk : k < 35) (j : Fin 256), k0_pay263 v27 v67 v80 (fun y => X (ix2 (y 0) ⟨256 * k + (y 1).val, by have h2 : (y 1).val < 256 := (y 1).isLt; show _ < 8960; omega⟩)) (ix2 ⟨2 * (n.val % 2) + b.val, by omega⟩ j) = T ⟨256 * k + j.val, by omega⟩)
    (N : ℕ) (hN : N = 35) :
    arg17.view.read (Elt Ideal) (cont7 (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h3 v27 v67 v80 lanes c0 c1 X f N) (ix3 b 0 n) = T ⟨n.val / 2, by omega⟩ := by
  have key := cont_ind (N := k0_t7_loop.trips) (step7 (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h3 v27 v67 v80 lanes c0 c1 X) f
    (fun k g => n.val < 512 * k → arg17.view.read (Elt Ideal) g (ix3 b 0 n) = T ⟨n.val / 2, by omega⟩) (fun h => by omega) ?_ N (by rw [hN]; decide)
  · exact key (by omega)
  · intro k g ih hn
    rw [trip7_read]
    have hk : k.val < 35 := Nat.lt_of_lt_of_le k.isLt k0_t7_abs.2.1
    by_cases hc : 512 * k.val ≤ n.val
    · rw [dif_pos ⟨hc, hn⟩]
      rw [hT k.val hk ⟨n.val / 2 - 256 * k.val, by omega⟩]
      congr 1
      exact Fin.ext (by simp; omega)
    · rw [dif_neg (by omega)]
      exact ih (by omega)
end Up

theorem idLt (k : Fin 100) (a : Fin S100.rank) : k.val < S100.size a := by
  rw [Subsingleton.elim a (0 : Fin 1)]; exact k.isLt

/-- Index `k`. -/
def idOf (X : S100.Idx → BitVec 32) (k : Fin 100) : BitVec 32 := X (fun a => ⟨k.val, idLt k a⟩)

theorem idOf_lt (X : S100.Idx → BitVec 32) (hX : ∀ y, (X y).toNat < 5120) (k : Fin 100) : (idOf X k).toNat < 5120 := hX _

theorem rowLt (X : S100.Idx → BitVec 32) (hX : ∀ y, (X y).toNat < 5120) (k : Fin 100) : (idOf X k).toNat / 4 < 1280 := by
  have := idOf_lt X hX k; omega

/-- One trip of the index loop: row `k` takes the index. -/
theorem trip4_read (q : PosShare TreeShare) (h3 : k0_cond3 i = 1#1) (c0 c1 : BitVec 32) (X : S100.Idx → BitVec 32) (k : Fin k0_t4_loop.trips) (f : BufTy.Contents (Elt Ideal) arg24.view.ty) (r l : Fin 128) :
    arg24.view.read (Elt Ideal) (step4 (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q h3 c0 c1 X k f) (ix2 r l)
      = if r.val = k.val then idOf X ⟨k.val, Nat.lt_of_lt_of_le k.isLt k0_t4_abs.2.1⟩ else arg24.view.read (Elt Ideal) f (ix2 r l) := by
  have hk : k.val < 100 := Nat.lt_of_lt_of_le k.isLt k0_t4_abs.2.1
  unfold step4 trip4
  sl_open_run
  dsimp only
  by_cases h : r.val = k.val
  · rw [if_pos h]
    refine (View.read_writes_cons_unit_of_mem (s := S128x128) (size := ![1, 128]) arg24.view f _ _ _ _ (ix2 (0 : Fin 1) l : S1x128.Idx) (off23_eq k) ?_).trans ?_
    rotate_left
    · refine congrArg X (funext fun a => Fin.ext ?_)
      have := congrFun (off22_eq k) a
      show k0_off22 k a + 1 * _ = _
      rw [this]
      fin_cases a
      simp [Shape.Idx.first]
    · intro a
      fin_cases a
      · simp [ix2, h]
      · simp [ix2]
  · rw [if_neg h]
    exact View.read_writes_cons_unit_of_not_mem (s := S128x128) (size := ![1, 128]) arg24.view f _ _ _ _ (off23_eq k) 0 (by simp [ix2]; omega)

/-- All trips of the index loop. -/
theorem cont4_read (q : PosShare TreeShare) (h3 : k0_cond3 i = 1#1) (c0 c1 : BitVec 32) (X : S100.Idx → BitVec 32) (f : BufTy.Contents (Elt Ideal) arg24.view.ty) (k : Fin 100) (l : Fin 128) (N : ℕ) (hN : N = 100) :
    arg24.view.read (Elt Ideal) (cont4 (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q h3 c0 c1 X f N) (ix2 ⟨k.val, by omega⟩ l)
      = idOf X k := by
  have key := cont_ind (N := k0_t4_loop.trips) (step4 (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q h3 c0 c1 X) f
    (fun n g => k.val < n → arg24.view.read (Elt Ideal) g (ix2 ⟨k.val, by omega⟩ l) = idOf X k) (fun h => by omega) ?_ N (by rw [hN]; decide)
  · exact key (by omega)
  · intro j g ih hn
    rw [trip4_read]
    by_cases hc : k.val = j.val
    · rw [if_pos hc]
      exact congrArg X (funext fun a => Fin.ext hc.symm)
    · rw [if_neg hc]
      exact ih (by omega)

theorem trips1 : k0_t1_loop.trips = 100 := by decide

/-- Index `k`, as the transfers read it. -/
theorem idOf_word (X : S100.Idx → BitVec 32) (k : Fin 100) : word X ⟨k.val, k.isLt.trans_eq trips1.symm⟩ = idOf X k := rfl

/-- A collected word row, under the zero rows below. -/
theorem rows_at (X : S100.Idx → BitVec 32) (hX : ∀ y, (X y).toNat < 5120) (W : S1280x8960.Idx → BitVec 32) (g : S128x8960.Idx → BitVec 32) (k : Fin 100) (j : Fin 8960) :
    rowsOf (F := Ideal) X hX W g (ix2 ⟨k.val, by omega⟩ j) = W (ix2 ⟨(idOf X k).toNat / 4, rowLt X hX k⟩ j) := by
  unfold rowsOf
  refine (dif_pos (show k.val < k0_t1_loop.trips by rw [trips1]; exact k.isLt)).trans ?_
  exact congrArg W (funext fun a => by fin_cases a <;> rfl)

end Loops

end Cert.KernelIdeal.Hand
end
-- ==== Proof.Ideal.ValStretch.lean ====
module
public import proofs.«01_k».proof.Proof.Ideal.Residual
public import Idealize.ShloMosaic.Lib.Pointwise
public import proofs.«01_k».proof.Proof.Ideal.ValRes
public import Idealize.ShloMosaic.Lib.BitcastPair
public import Idealize.ShloMosaic.Lib.VecWindow
public import Idealize.ShloMosaic.Lib.Tactic.Stretches
public import Idealize.ShloMosaic.Lib.WritesUnit
@[expose] public section

noncomputable section

namespace Cert.KernelIdeal.Hand

open Idealize.ShloMosaic Idealize.ShloMosaic.TcCoe Idealize.ShloMosaic.Tactic
open Gen

set_option maxRecDepth 16384
open Idealize.SL Idealize.SL.RA
section Stretch
variable (c : Dev nD) (i : grid0.Coords)
  (arg3 : Memref sig .tc .vmem S1x256 .i32) (harg3 : arg3.IsWhole) (arg4 : Memref sig .tc .vmem S2x5120 .bf16) (harg4 : arg4.IsWhole) (arg5 : Memref sig .tc .vmem S1280x256 .i32) (harg5 : arg5.IsWhole) (arg6 : Memref sig .tc .vmem S1280x256 .i32) (harg6 : arg6.IsWhole) (arg7 : Memref sig .tc .vmem S40x17920 .bf16) (harg7 : arg7.IsWhole) (arg8 : Memref sig .tc .vmem S40x17920 .bf16) (harg8 : arg8.IsWhole) (arg9 : Memref sig .tc .vmem S40x17920 .i8) (harg9 : arg9.IsWhole) (arg10 : Memref sig .tc .vmem S40x17920 .i8) (harg10 : arg10.IsWhole) (arg11 : Memref sig .tc .vmem S1x5120 .bf16) (harg11 : arg11.IsWhole) (arg12 : Memref sig .tc .vmem S1x5120 .bf16) (harg12 : arg12.IsWhole) (arg15 : Memref sig .tc .vmem S2x1x17920 .bf16) (harg15 : arg15.IsWhole) (arg16 : Memref sig .tc .vmem S2x1x17920 .f32) (harg16 : arg16.IsWhole) (arg17 : Memref sig .tc .vmem S2x1x17920 .f32) (harg17 : arg17.IsWhole) (arg18 : Memref sig .tc .vmem S16x20480 .bf16) (harg18 : arg18.IsWhole) (arg19 : Memref sig .tc .vmem S5x2x320x2x128 .f32) (harg19 : arg19.IsWhole) (arg20 : Memref sig .tc .vmem S5x2x320x2x128 .f32) (harg20 : arg20.IsWhole) (arg21 : Memref sig .tc .vmem S5x16x256 .f32) (harg21 : arg21.IsWhole) (arg24 : Memref sig .tc .vmem S128x128 .i32) (harg24 : arg24.IsWhole)
section Residual
variable (h3 : k0_cond3 i = 1#1) (q : PosShare TreeShare) (X : S100.Idx → BitVec 32) (hX : ∀ y, (X y).toNat < 5120) (WG WU : S1280x8960.Idx → Elt Ideal .i32) (g4 g5 : S128x8960.Idx → Elt Ideal .i32)
  (X3 : BufTy.Contents (Elt Ideal) arg3.view.ty) (X4 : BufTy.Contents (Elt Ideal) arg4.view.ty) (X11 : BufTy.Contents (Elt Ideal) arg11.view.ty) (X12 : BufTy.Contents (Elt Ideal) arg12.view.ty) (f24 : BufTy.Contents (Elt Ideal) arg24.view.ty) (f16 : BufTy.Contents (Elt Ideal) arg16.view.ty) (f17 : BufTy.Contents (Elt Ideal) arg17.view.ty)
  (hidl : ∀ k : Fin 256, arg3.view.read (Elt Ideal) X3 (ix2 0 k) = if h : k.val < 200 then idOf X ⟨k.val / 2, half_lt h⟩ else 4294967295#32)
include hidl

set_option maxHeartbeats 400000 in
/-- The gate's residual result of the residual stretch. -/
theorem residual_gate (b : Fin 2) (n : Fin 17920) :
    arg16.view.read (Elt Ideal) (residual (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h3 q X hX WG WU g4 g5 X3 X4 X11 X12 f24 f16 f17).1.2.2.2.1 (ix3 b 0 n)
      = resTerm (arg4.view.read (Elt Ideal) X4) (idOf X) (idOf_lt X hX) (arg11.view.read (Elt Ideal) X11) (fun k => WG (ix2 ⟨(idOf X k).toNat / 4, rowLt X hX k⟩ ⟨n.val / 2, by omega⟩)) (n.val % 2) b := by
  unfold residual
  sl_open_run
  dsimp only
  refine cont6_read c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h3 _ _ _ _ _ _ f16 b n (fun j => resTerm (arg4.view.read (Elt Ideal) X4) (idOf X) (idOf_lt X hX) (arg11.view.read (Elt Ideal) X11) (fun k => WG (ix2 ⟨(idOf X k).toNat / 4, rowLt X hX k⟩ j)) (n.val % 2) b) ?_ _ (by decide)
  intro k hk j
  refine (prod_apply _ _ _ _ (idOf X) (idOf_lt X hX) ?_ _ ?_ (arg11.view.read (Elt Ideal) X11) _ ?_ _ (n.val % 2) (by omega) b j).trans ?_
  · intro k
    exact (congrFun (View.readAt_full _ _ _) _).trans (hidl k)
  · intro k l
    exact (congrFun (View.readAt_full _ _ _) _).trans (cont4_read c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q h3 _ _ X _ k l _ (by decide))
  · intro k j hk
    refine (rsg_apply _ _ _ _ (idOf X) (idOf_lt X hX) ?_ k j hk).trans (congrFun (View.readAt_full _ _ _) _)
    intro k
    exact (congrFun (View.readAt_full _ _ _) _).trans (hidl k)
  · congr 1
    · exact View.readAt_full _ _ _
    funext k'
    change View.read (Elt Ideal) (View.whole cc0_scratch4) ((View.whole cc0_scratch4).writes (Elt Ideal) (rowsOf X hX WG g4) [⟨Rect.unit ![100, 0] ![28, 8960] inb_S128x8960_S28x8960_100_0, k0_pay291⟩]) (ix2 ⟨k'.val, by omega⟩ ⟨256 * k + j.val, by omega⟩) = _
    refine (View.read_writes_cons_unit_of_not_mem (s := S128x8960) (size := ![28, 8960]) (View.whole cc0_scratch4) _ _ _ _ _ rfl 0 ?_).trans ?_
    · exact Or.inl (by simp [ix2])
    exact rows_at X hX WG g4 k' _

set_option maxHeartbeats 400000 in
/-- The up projection's residual result of the residual stretch. -/
theorem residual_up (b : Fin 2) (n : Fin 17920) :
    arg17.view.read (Elt Ideal) (residual (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h3 q X hX WG WU g4 g5 X3 X4 X11 X12 f24 f16 f17).1.2.2.2.2 (ix3 b 0 n)
      = resTerm (arg4.view.read (Elt Ideal) X4) (idOf X) (idOf_lt X hX) (arg12.view.read (Elt Ideal) X12) (fun k => WU (ix2 ⟨(idOf X k).toNat / 4, rowLt X hX k⟩ ⟨n.val / 2, by omega⟩)) (n.val % 2) b := by
  unfold residual
  sl_open_run
  dsimp only
  refine cont7_read c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h3 _ _ _ _ _ _ f17 b n (fun j => resTerm (arg4.view.read (Elt Ideal) X4) (idOf X) (idOf_lt X hX) (arg12.view.read (Elt Ideal) X12) (fun k => WU (ix2 ⟨(idOf X k).toNat / 4, rowLt X hX k⟩ j)) (n.val % 2) b) ?_ _ (by decide)
  intro k hk j
  refine (prod_apply _ _ _ _ (idOf X) (idOf_lt X hX) ?_ _ ?_ (arg12.view.read (Elt Ideal) X12) _ ?_ _ (n.val % 2) (by omega) b j).trans ?_
  · intro k
    exact (congrFun (View.readAt_full _ _ _) _).trans (hidl k)
  · intro k l
    exact (congrFun (View.readAt_full _ _ _) _).trans (cont4_read c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q h3 _ _ X _ k l _ (by decide))
  · intro k j hk
    refine (rsu_apply _ _ _ _ (idOf X) (idOf_lt X hX) ?_ k j hk).trans (congrFun (View.readAt_full _ _ _) _)
    intro k
    exact (congrFun (View.readAt_full _ _ _) _).trans (hidl k)
  · congr 1
    · exact View.readAt_full _ _ _
    funext k'
    change View.read (Elt Ideal) (View.whole cc0_scratch5) ((View.whole cc0_scratch5).writes (Elt Ideal) (rowsOf X hX WU g5) [⟨Rect.unit ![100, 0] ![28, 8960] inb_S128x8960_S28x8960_100_0, k0_pay292⟩]) (ix2 ⟨k'.val, by omega⟩ ⟨256 * k + j.val, by omega⟩) = _
    refine (View.read_writes_cons_unit_of_not_mem (s := S128x8960) (size := ![28, 8960]) (View.whole cc0_scratch5) _ _ _ _ _ rfl 0 ?_).trans ?_
    · exact Or.inl (by simp [ix2])
    exact rows_at X hX WU g5 k' _
end Residual
end Stretch

end Cert.KernelIdeal.Hand
end
-- ==== Proof.Ideal.ValHost.lean ====
module
public import proofs.«01_k».proof.Proof.Ideal.Frame
public import proofs.«01_k».proof.Proof.Ideal.ValRes
public import Idealize.ShloMosaic.Lib.StableHlo.ReadAt
public import Idealize.ShloMosaic.Lib.Tactic.WordOmega
public import Idealize.ShloMosaic.Lib.Pointwise
public import Idealize.ShloMosaic.Lib.BitcastPair
public import Idealize.ShloMosaic.Lib.WritesUnit
@[expose] public section

noncomputable section

namespace Cert.KernelIdeal.Hand

open Idealize.ShloMosaic Idealize.ShloMosaic.TcCoe Idealize.ShloMosaic.Tactic
open Gen

set_option maxRecDepth 16384
variable (m : (ℓ : Loc nD τ sig) → Buf (Elt Ideal) ℓ) (c : Dev nD)

/-! ## The arrays the host's lines make, at an index -/

/-- The doubled indices, padded by minus one. -/
theorem V3_apply (k : Fin 256) : (V (F := Ideal) m c main_v3 : S1x256.Idx → BitVec 32) (ix2 0 k) = if h : k.val < 200 then idOf (V (F := Ideal) m c main_arg1) ⟨k.val / 2, half_lt h⟩ else 4294967295#32 := by
  rw [V_unwritten (F := Ideal) m c main_arg1 (by decide)]
  unfold V
  after_reads_at
  split
  · exact congrArg (m ((c : Thread nD τ).loc main_arg1)) (funext fun a => by fin_cases a; rfl)
  · rfl
/-- The input, its middle axis dropped. -/
theorem V4_apply (r : Fin 2) (k : Fin 5120) : (V (F := Ideal) m c main_v4 : S2x5120.Idx → EReal) (ix2 r k) = (m ((c : Thread nD τ).loc main_arg0) : S2x1x5120.Idx → EReal) (ix3 r 0 k) := by
  unfold V
  after_reads_at
/-- The gate's row scales as a row. -/
theorem V5_apply (k : Fin 5120) : (V (F := Ideal) m c main_v5 : S1x5120.Idx → EReal) (ix2 0 k) = (m ((c : Thread nD τ).loc main_arg6) : S5120.Idx → EReal) (ix1 k) := by
  unfold V
  after_reads_at
/-- The up projection's row scales as a row. -/
theorem V6_apply (k : Fin 5120) : (V (F := Ideal) m c main_v6 : S1x5120.Idx → EReal) (ix2 0 k) = (m ((c : Thread nD τ).loc main_arg11) : S5120.Idx → EReal) (ix1 k) := by
  unfold V
  after_reads_at

/-- A byte of a word put together from four. -/
theorem byteOf_join (b : Fin 4 → BitVec 8) (q : Fin 4) :
    byteOf (IntOp.ori (IntOp.ori (IntOp.ori (BitVec.setWidth 32 (b 0)) (IntOp.shli ArithUnit.host (BitVec.setWidth 32 (b 1)) 8#32)) (IntOp.shli ArithUnit.host (BitVec.setWidth 32 (b 2)) 16#32)) (IntOp.shli ArithUnit.host (BitVec.setWidth 32 (b 3)) 24#32)) q.val = b q := by
  unfold byteOf
  simp only [IntOp.ori, IntOp.shli]
  rw [if_pos (by decide), if_pos (by decide), if_pos (by decide)]
  apply BitVec.eq_of_getLsbD_eq
  intro i hi
  fin_cases q <;> interval_cases i <;> simp [BitVec.getLsbD_of_ge]

/-- Byte `id % 4` of word row `id / 4` of the gate's rows is row `id`. -/
theorem V25_byte (id : ℕ) (hid : id < 5120) (j : Fin 8960) :
    byteOf ((V (F := Ideal) m c main_v25 : S1280x8960.Idx → BitVec 32) (ix2 ⟨id / 4, by omega⟩ j)) (id % 4) = (m ((c : Thread nD τ).loc main_arg5) : S5120x8960.Idx → BitVec 8) (ix2 ⟨id, hid⟩ j) := by
  unfold V
  after_reads_at
  refine (byteOf_join (fun q => (m ((c : Thread nD τ).loc main_arg5) : S5120x8960.Idx → BitVec 8) (ix2 ⟨id / 4 * 4 + q.val, by omega⟩ j)) ⟨id % 4, by omega⟩).trans ?_
  congr 2
  exact Fin.ext (by simp; omega)

/-- Byte `id % 4` of word row `id / 4` of the up projection's rows is row `id`. -/
theorem V44_byte (id : ℕ) (hid : id < 5120) (j : Fin 8960) :
    byteOf ((V (F := Ideal) m c main_v44 : S1280x8960.Idx → BitVec 32) (ix2 ⟨id / 4, by omega⟩ j)) (id % 4) = (m ((c : Thread nD τ).loc main_arg10) : S5120x8960.Idx → BitVec 8) (ix2 ⟨id, hid⟩ j) := by
  unfold V
  after_reads_at
  refine (byteOf_join (fun q => (m ((c : Thread nD τ).loc main_arg10) : S5120x8960.Idx → BitVec 8) (ix2 ⟨id / 4 * 4 + q.val, by omega⟩ j)) ⟨id % 4, by omega⟩).trans ?_
  congr 2
  exact Fin.ext (by simp; omega)

end Cert.KernelIdeal.Hand
end
-- ==== Proof.Ideal.ValWin.lean ====
module
public import proofs.«01_k».proof.Proof.Ideal.Frame
public import proofs.«01_k».proof.Proof.Ideal.ValRes
public import Idealize.ShloMosaic.Lib.StableHlo.ReadAt
public import Idealize.ShloMosaic.Lib.Tactic.WordOmega
public import Idealize.ShloMosaic.Lib.Pointwise
public import Idealize.ShloMosaic.Lib.Pipeline.ArrRel
public import Idealize.ShloMosaic.Lib.Pipeline.ValueKit.Geometry
public import Idealize.ShloMosaic.Lib.WritesUnit
@[expose] public section

noncomputable section

namespace Cert.KernelIdeal.Hand

open Idealize.ShloMosaic Idealize.ShloMosaic.TcCoe Idealize.ShloMosaic.Tactic
open Gen

set_option maxRecDepth 16384

/-! ## The arrays the host's lines make, at an index -/

variable (m : (ℓ : Loc nD τ sig) → Buf (Elt Ideal) ℓ) (hX : ∀ (c : Dev nD) y, BitVec.toNat (V m c main_arg1 y) < 5120) (S : Say (F := Ideal)) (c : Dev nD)

/-! ## What the body finds in the windows of the inputs -/

theorem tLt (t : Fin (cfgA m).N) : t.val < 28 := by have := t.isLt; have e : (cfgA m).N = 28 := N_0; omega
theorem ix_w : ∀ t : Fin grid0.N, cc0_transform_2 (grid0.coords t) = ![t.val % 4, t.val / 4] ∧ cc0_transform_3 (grid0.coords t) = ![t.val % 4, t.val / 4] := by decide
theorem wRow (t : ℕ) (r : Fin 1280) : t % 4 * 1280 + r.val < 5120 := by omega
theorem wCol {t : ℕ} (h : t < 28) (k : Fin 256) : t / 4 * 256 + k.val < 1792 := by omega
theorem fetched_0 (t : Fin (cfgA m).N) (d) (r : Fin 1) (k : Fin 256) :
    (rdat m hX S c).fetched 0 t d (ix2 r k : S1x256.Idx) = (V m c main_v3 : S1x256.Idx → BitVec 32) (ix2 r k) := by
  unfold Pipeline.RDat.fetched Pipeline.RDat.blockOf Pipeline.Window.fill
  rw [dif_pos (((cfgA m).win 0).moved_iff _ _ |>.mpr fun a => ((ix2 r k : S1x256.Idx) a).isLt)]
  blk_simp
  show V m c main_v3 _ = V m c main_v3 _
  refine congrArg (V m c main_v3) (funext fun a => Fin.ext ?_)
  match a with
  | ⟨0, _⟩ => show 0 * 1 + 1 * r.val = _; rw [Nat.zero_mul, Nat.one_mul, Nat.zero_add]; rfl
  | ⟨1, _⟩ => show 0 * 256 + 1 * k.val = _; rw [Nat.zero_mul, Nat.one_mul, Nat.zero_add]; rfl
theorem fetched_1 (t : Fin (cfgA m).N) (d) (r : Fin 2) (k : Fin 5120) :
    (rdat m hX S c).fetched 1 t d (ix2 r k : S2x5120.Idx) = (V m c main_v4 : S2x5120.Idx → EReal) (ix2 r k) := by
  unfold Pipeline.RDat.fetched Pipeline.RDat.blockOf Pipeline.Window.fill
  rw [dif_pos (((cfgA m).win 1).moved_iff _ _ |>.mpr fun a => ((ix2 r k : S2x5120.Idx) a).isLt)]
  blk_simp
  show V m c main_v4 _ = V m c main_v4 _
  refine congrArg (V m c main_v4) (funext fun a => Fin.ext ?_)
  match a with
  | ⟨0, _⟩ => show 0 * 2 + 1 * r.val = _; rw [Nat.zero_mul, Nat.one_mul, Nat.zero_add]; rfl
  | ⟨1, _⟩ => show 0 * 5120 + 1 * k.val = _; rw [Nat.zero_mul, Nat.one_mul, Nat.zero_add]; rfl
theorem fetched_2 (t : Fin (cfgA m).N) (d) (r : Fin 1280) (k : Fin 256) :
    (rdat m hX S c).fetched 2 t d (ix2 r k : S1280x256.Idx) = (V m c main_arg2 : S5120x1792.Idx → BitVec 32) (ix2 ⟨t.val % 4 * 1280 + r.val, wRow t.val r⟩ ⟨t.val / 4 * 256 + k.val, wCol (tLt m t) k⟩) := by
  unfold Pipeline.RDat.fetched Pipeline.RDat.blockOf Pipeline.Window.fill
  rw [dif_pos (((cfgA m).win 2).moved_iff _ _ |>.mpr fun a => ((ix2 r k : S1280x256.Idx) a).isLt)]
  blk_simp
  show V m c main_arg2 _ = V m c main_arg2 _
  refine congrArg (V m c main_arg2) (funext fun a => Fin.ext ?_)
  have e := (ix_w (t.cast rfl)).1
  match a with
  | ⟨0, _⟩ => show cc0_transform_2 (grid0.coords t) 0 * 1280 + 1 * r.val = _; rw [Nat.one_mul, show cc0_transform_2 (grid0.coords t) = _ from e]; rfl
  | ⟨1, _⟩ => show cc0_transform_2 (grid0.coords t) 1 * 256 + 1 * k.val = _; rw [Nat.one_mul, show cc0_transform_2 (grid0.coords t) = _ from e]; rfl
theorem fetched_3 (t : Fin (cfgA m).N) (d) (r : Fin 1280) (k : Fin 256) :
    (rdat m hX S c).fetched 3 t d (ix2 r k : S1280x256.Idx) = (V m c main_arg7 : S5120x1792.Idx → BitVec 32) (ix2 ⟨t.val % 4 * 1280 + r.val, wRow t.val r⟩ ⟨t.val / 4 * 256 + k.val, wCol (tLt m t) k⟩) := by
  unfold Pipeline.RDat.fetched Pipeline.RDat.blockOf Pipeline.Window.fill
  rw [dif_pos (((cfgA m).win 3).moved_iff _ _ |>.mpr fun a => ((ix2 r k : S1280x256.Idx) a).isLt)]
  blk_simp
  show V m c main_arg7 _ = V m c main_arg7 _
  refine congrArg (V m c main_arg7) (funext fun a => Fin.ext ?_)
  have e := (ix_w (t.cast rfl)).2
  match a with
  | ⟨0, _⟩ => show cc0_transform_3 (grid0.coords t) 0 * 1280 + 1 * r.val = _; rw [Nat.one_mul, show cc0_transform_3 (grid0.coords t) = _ from e]; rfl
  | ⟨1, _⟩ => show cc0_transform_3 (grid0.coords t) 1 * 256 + 1 * k.val = _; rw [Nat.one_mul, show cc0_transform_3 (grid0.coords t) = _ from e]; rfl
theorem fetched_4 (t : Fin (cfgA m).N) (d) (r : Fin 40) (k : Fin 17920) :
    (rdat m hX S c).fetched 4 t d (ix2 r k : S40x17920.Idx) = (V m c main_arg3 : S40x17920.Idx → EReal) (ix2 r k) := by
  unfold Pipeline.RDat.fetched Pipeline.RDat.blockOf Pipeline.Window.fill
  rw [dif_pos (((cfgA m).win 4).moved_iff _ _ |>.mpr fun a => ((ix2 r k : S40x17920.Idx) a).isLt)]
  blk_simp
  show V m c main_arg3 _ = V m c main_arg3 _
  refine congrArg (V m c main_arg3) (funext fun a => Fin.ext ?_)
  match a with
  | ⟨0, _⟩ => show 0 * 40 + 1 * r.val = _; rw [Nat.zero_mul, Nat.one_mul, Nat.zero_add]; rfl
  | ⟨1, _⟩ => show 0 * 17920 + 1 * k.val = _; rw [Nat.zero_mul, Nat.one_mul, Nat.zero_add]; rfl
theorem fetched_5 (t : Fin (cfgA m).N) (d) (r : Fin 40) (k : Fin 17920) :
    (rdat m hX S c).fetched 5 t d (ix2 r k : S40x17920.Idx) = (V m c main_arg8 : S40x17920.Idx → EReal) (ix2 r k) := by
  unfold Pipeline.RDat.fetched Pipeline.RDat.blockOf Pipeline.Window.fill
  rw [dif_pos (((cfgA m).win 5).moved_iff _ _ |>.mpr fun a => ((ix2 r k : S40x17920.Idx) a).isLt)]
  blk_simp
  show V m c main_arg8 _ = V m c main_arg8 _
  refine congrArg (V m c main_arg8) (funext fun a => Fin.ext ?_)
  match a with
  | ⟨0, _⟩ => show 0 * 40 + 1 * r.val = _; rw [Nat.zero_mul, Nat.one_mul, Nat.zero_add]; rfl
  | ⟨1, _⟩ => show 0 * 17920 + 1 * k.val = _; rw [Nat.zero_mul, Nat.one_mul, Nat.zero_add]; rfl
theorem fetched_6 (t : Fin (cfgA m).N) (d) (r : Fin 40) (k : Fin 17920) :
    (rdat m hX S c).fetched 6 t d (ix2 r k : S40x17920.Idx) = (V m c main_arg4 : S40x17920.Idx → BitVec 8) (ix2 r k) := by
  unfold Pipeline.RDat.fetched Pipeline.RDat.blockOf Pipeline.Window.fill
  rw [dif_pos (((cfgA m).win 6).moved_iff _ _ |>.mpr fun a => ((ix2 r k : S40x17920.Idx) a).isLt)]
  blk_simp
  show V m c main_arg4 _ = V m c main_arg4 _
  refine congrArg (V m c main_arg4) (funext fun a => Fin.ext ?_)
  match a with
  | ⟨0, _⟩ => show 0 * 40 + 1 * r.val = _; rw [Nat.zero_mul, Nat.one_mul, Nat.zero_add]; rfl
  | ⟨1, _⟩ => show 0 * 17920 + 1 * k.val = _; rw [Nat.zero_mul, Nat.one_mul, Nat.zero_add]; rfl
theorem fetched_7 (t : Fin (cfgA m).N) (d) (r : Fin 40) (k : Fin 17920) :
    (rdat m hX S c).fetched 7 t d (ix2 r k : S40x17920.Idx) = (V m c main_arg9 : S40x17920.Idx → BitVec 8) (ix2 r k) := by
  unfold Pipeline.RDat.fetched Pipeline.RDat.blockOf Pipeline.Window.fill
  rw [dif_pos (((cfgA m).win 7).moved_iff _ _ |>.mpr fun a => ((ix2 r k : S40x17920.Idx) a).isLt)]
  blk_simp
  show V m c main_arg9 _ = V m c main_arg9 _
  refine congrArg (V m c main_arg9) (funext fun a => Fin.ext ?_)
  match a with
  | ⟨0, _⟩ => show 0 * 40 + 1 * r.val = _; rw [Nat.zero_mul, Nat.one_mul, Nat.zero_add]; rfl
  | ⟨1, _⟩ => show 0 * 17920 + 1 * k.val = _; rw [Nat.zero_mul, Nat.one_mul, Nat.zero_add]; rfl
theorem fetched_8 (t : Fin (cfgA m).N) (d) (r : Fin 1) (k : Fin 5120) :
    (rdat m hX S c).fetched 8 t d (ix2 r k : S1x5120.Idx) = (V m c main_v5 : S1x5120.Idx → EReal) (ix2 r k) := by
  unfold Pipeline.RDat.fetched Pipeline.RDat.blockOf Pipeline.Window.fill
  rw [dif_pos (((cfgA m).win 8).moved_iff _ _ |>.mpr fun a => ((ix2 r k : S1x5120.Idx) a).isLt)]
  blk_simp
  show V m c main_v5 _ = V m c main_v5 _
  refine congrArg (V m c main_v5) (funext fun a => Fin.ext ?_)
  match a with
  | ⟨0, _⟩ => show 0 * 1 + 1 * r.val = _; rw [Nat.zero_mul, Nat.one_mul, Nat.zero_add]; rfl
  | ⟨1, _⟩ => show 0 * 5120 + 1 * k.val = _; rw [Nat.zero_mul, Nat.one_mul, Nat.zero_add]; rfl
theorem fetched_9 (t : Fin (cfgA m).N) (d) (r : Fin 1) (k : Fin 5120) :
    (rdat m hX S c).fetched 9 t d (ix2 r k : S1x5120.Idx) = (V m c main_v6 : S1x5120.Idx → EReal) (ix2 r k) := by
  unfold Pipeline.RDat.fetched Pipeline.RDat.blockOf Pipeline.Window.fill
  rw [dif_pos (((cfgA m).win 9).moved_iff _ _ |>.mpr fun a => ((ix2 r k : S1x5120.Idx) a).isLt)]
  blk_simp
  show V m c main_v6 _ = V m c main_v6 _
  refine congrArg (V m c main_v6) (funext fun a => Fin.ext ?_)
  match a with
  | ⟨0, _⟩ => show 0 * 1 + 1 * r.val = _; rw [Nat.zero_mul, Nat.one_mul, Nat.zero_add]; rfl
  | ⟨1, _⟩ => show 0 * 5120 + 1 * k.val = _; rw [Nat.zero_mul, Nat.one_mul, Nat.zero_add]; rfl

/-- A window of an input that the body leaves as it was holds, at every point, what its transfer there puts in. -/
theorem found (w : Fin 13) (hw : (spec0 w).isOut = false) (hk : ∀ t Y X, S.aft w t Y X → X = Y) (t : Fin (cfgA m).N) (Y)
    (h : (rdat m hX S c).Finds w t Y) : ∃ d, Y = (rdat m hX S c).fetched w t d :=
  Pipeline.RDat.finds_in_eq_fetched (rdat m hX S c) w hw (fun _ _ _ => rfl) (fun t Y X h => hk _ Y X h) t Y h

theorem fetch_out : ∀ (w : Fin 13), (spec0 w).isOut = true → ∀ t : Fin (cfgA m).N, ((cfgA m).win w).fetch t = false := by
  intro w hw t
  unfold Pipeline.Window.fetch
  rw [show ((cfgA m).win w).isOut = true from hw]
  rfl

theorem flush10 (t : Fin (cfgA m).N) : ((cfgA m).win 10).flush t = true ↔ t.val % 28 = 27 :=
  Pipeline.Window.flush_const ((cfgA m).win 10) rfl (fun _ _ => rfl) N_0 rfl t
/-- The output is written back once, whole. -/
theorem whole10 : ((cfgA m).win 10).WholeAt (27 : Fin 28) := by
  refine ⟨(flush10 m (27 : Fin 28)).mpr rfl, fun t ht => ?_, fun a => ?_⟩
  · have h1 := (flush10 m t).mp ht
    have h2 := tLt m t
    exact Fin.ext (show t.val = 27 by omega)
  · exact ⟨(show ∀ a : Fin 3, cc0_transform_12 (grid0.coords (27 : Fin 28)) a = 0 by decide +kernel) a, rfl⟩
theorem flush11 (t : Fin (cfgA m).N) : ((cfgA m).win 11).flush t = true ↔ t.val % 28 = 27 :=
  Pipeline.Window.flush_const ((cfgA m).win 11) rfl (fun _ _ => rfl) N_0 rfl t
/-- The output is written back once, whole. -/
theorem whole11 : ((cfgA m).win 11).WholeAt (27 : Fin 28) := by
  refine ⟨(flush11 m (27 : Fin 28)).mpr rfl, fun t ht => ?_, fun a => ?_⟩
  · have h1 := (flush11 m t).mp ht
    have h2 := tLt m t
    exact Fin.ext (show t.val = 27 by omega)
  · exact ⟨(show ∀ a : Fin 3, cc0_transform_13 (grid0.coords (27 : Fin 28)) a = 0 by decide +kernel) a, rfl⟩
theorem flush12 (t : Fin (cfgA m).N) : ((cfgA m).win 12).flush t = true ↔ t.val % 28 = 27 :=
  Pipeline.Window.flush_const ((cfgA m).win 12) rfl (fun _ _ => rfl) N_0 rfl t
/-- The output is written back once, whole. -/
theorem whole12 : ((cfgA m).win 12).WholeAt (27 : Fin 28) := by
  refine ⟨(flush12 m (27 : Fin 28)).mpr rfl, fun t ht => ?_, fun a => ?_⟩
  · have h1 := (flush12 m t).mp ht
    have h2 := tLt m t
    exact Fin.ext (show t.val = 27 by omega)
  · exact ⟨(show ∀ a : Fin 3, cc0_transform_14 (grid0.coords (27 : Fin 28)) a = 0 by decide +kernel) a, rfl⟩
end Cert.KernelIdeal.Hand
end
-- ==== Proof.Ideal.ValByte.lean ====
module
public import proofs.«01_k».proof.Proof.Ideal.Residual
public import Idealize.ShloMosaic.Lib.Pointwise
public import proofs.«01_k».proof.Proof.Ideal.ValRes
public import Idealize.ShloMosaic.Lib.BitcastPair
public import Idealize.ShloMosaic.Lib.VecWindow
public import Idealize.ShloMosaic.Lib.Tactic.Stretches
public import Idealize.ShloMosaic.Lib.WritesUnit
public import proofs.«01_k».proof.Proof.Ideal.ValSpec
@[expose] public section

noncomputable section

namespace Cert.KernelIdeal.Hand

open Idealize.ShloMosaic Idealize.ShloMosaic.TcCoe Idealize.ShloMosaic.Tactic
open Gen

set_option maxRecDepth 16384
open Idealize.SL Idealize.SL.RA
/-! ## Words and sums of the base product -/

/-- The bitcast of a word vector to bytes: word row `x / 4`, byte `x % 4`. -/
theorem byte_at (W : IVec S128x256 32) (x : Fin 512) (n : Fin 256) :
    bitcast S512x256 8 W bitcasts_S128x256_w32_S512x256_w8 (ix2 x n) = byteOf (W (ix2 ⟨x.val / 4, by omega⟩ n)) (x.val % 4) := by
  unfold byteOf
  apply BitVec.eq_of_getLsbD_eq
  intro j hj
  rw [bitcast_getLsbD _ _ _ _ hj (by decide), BitVec.getLsbD_extractLsb']
  have hr : S512x256.row (ix2 x n) = x.val := rfl
  have hi : ∀ hp, (Shape.Bitcasts.srcIdx bitcasts_S128x256_w32_S512x256_w8 (ix2 x n) ((S512x256.row (ix2 x n) * 8 + j) / 32) hp) = (ix2 ⟨x.val / 4, by omega⟩ n : S128x256.Idx) := by
    intro hp
    funext a
    apply Fin.ext
    fin_cases a
    · refine (Shape.Bitcasts.srcIdx_row _ _ _ _ _ rfl).trans ?_
      rw [hr]
      show (x.val * 8 + j) / 32 = x.val / 4
      omega
    · exact Shape.Bitcasts.srcIdx_other _ _ _ _ _ (by decide)
  rw [hi, hr, show (x.val * 8 + j) % 32 = 8 * (x.val % 4) + j by omega]
  simp [hj]

/-- A byte whose set bits are a three-bit field of a word, moved up by `o`. -/
theorem byte_field (w v : BitVec 32) (b f o : ℕ) (ho : o ≤ 5)
    (h : ∀ j, j < 8 → v.getLsbD (8 * b + j) = (decide (o ≤ j) && decide (j < o + 3) && w.getLsbD (3 * f + (j - o)))) :
    (byteOf v b).toNat = w.toNat / 2 ^ (3 * f) % 8 * 2 ^ o := by
  have e : byteOf v b = ((w.extractLsb' (3 * f) 3).setWidth 8 <<< o) := by
    apply BitVec.eq_of_getLsbD_eq
    intro j hj
    unfold byteOf
    rw [BitVec.getLsbD_extractLsb', h j hj]
    simp only [BitVec.getLsbD_shiftLeft, BitVec.getLsbD_setWidth, BitVec.getLsbD_extractLsb']
    by_cases h1 : o ≤ j
    · by_cases h2 : j < o + 3
      · simp [h1, h2, hj, show ¬ j < o by omega, show j - o < 8 by omega, show j - o < 3 by omega]
      · simp [h1, h2, hj, show ¬ j - o < 3 by omega]
    · simp [h1, show j < o by omega]
  rw [e]
  simp only [BitVec.toNat_shiftLeft, BitVec.toNat_setWidth, BitVec.extractLsb'_toNat, Nat.shiftRight_eq_div_pow, Nat.shiftLeft_eq]
  have hc : w.toNat / 2 ^ (3 * f) % 2 ^ 3 < 8 := Nat.mod_lt _ (by decide)
  have hp : (2:ℕ) ^ o ≤ 2 ^ 5 := Nat.pow_le_pow_right (by decide) ho
  rw [Nat.mod_eq_of_lt (show w.toNat / 2 ^ (3 * f) % 2 ^ 3 < 2 ^ 8 by omega)]
  rw [Nat.mod_eq_of_lt]
  · rfl
  have : w.toNat / 2 ^ (3 * f) % 2 ^ 3 * 2 ^ o ≤ 7 * 2 ^ 5 := Nat.mul_le_mul (by omega) hp
  omega

/-- A sum over rows in which only one residue of four counts. -/
theorem sum_four (f : Fin 512 → EReal) (s : Fin 4) (h : ∀ x : Fin 512, x.val % 4 ≠ s.val → f x = 0) :
    ∑ x, f x = ∑ d : Fin 128, f ⟨4 * d.val + s.val, by omega⟩ := by
  rw [← (finProdFinEquiv (m := 128) (n := 4)).sum_comp, Fintype.sum_prod_type]
  refine Finset.sum_congr rfl fun d _ => ?_
  rw [Finset.sum_eq_single s]
  · congr 1
    apply Fin.ext
    simp [finProdFinEquiv]; omega
  · intro b _ hb
    apply h
    intro hc
    apply hb
    apply Fin.ext
    have : (finProdFinEquiv (m := 128) (n := 4) (d, b)).val = b.val + 4 * d.val := rfl
    omega
  · intro hh; exact absurd (Finset.mem_univ _) hh

/-- The scaling of code, zero point and scale by powers of two leaves the product alone. -/
theorem unscale (c z : ℕ) (s : EReal) (o : ℕ) :
    (((c * 2 ^ o : ℕ) : ℝ) : EReal) - (((z : ℕ) : ℝ) : EReal) * (((2 ^ o : ℝ)) : EReal) = ((((c : ℝ) - (z : ℝ)) * 2 ^ o : ℝ) : EReal) ∧
    ((((c : ℝ) - (z : ℝ)) * 2 ^ o : ℝ) : EReal) * (s * (((1 / 2 ^ o : ℝ)) : EReal)) = ((((c : ℕ) : ℝ) : EReal) - (((z : ℕ) : ℝ) : EReal)) * s := by
  constructor
  · rw [← EReal.coe_mul, ← EReal.coe_sub]
    congr 1
    push_cast
    ring
  · rw [mul_comm s, ← mul_assoc, ← EReal.coe_mul, ← EReal.coe_sub]
    congr 2
    field_simp

theorem exp_down : ∀ o : Fin 6, Ideal.ofBits .f32 (BitVec.ofNat 32 (0x3F800000 - o.val * 0x800000)) = (((1 / 2 ^ o.val : ℝ)) : EReal) := by
  intro o
  fin_cases o <;> simp [Ideal.ofBits, Ideal.ieee, -EReal.coe_mul, -EReal.coe_pow] <;> norm_num
theorem exp_up : ∀ o : Fin 6, Ideal.ofBits .f32 (BitVec.ofNat 32 (0x3F800000 + o.val * 0x800000)) = (((2 ^ o.val : ℝ)) : EReal) := by
  intro o
  fin_cases o <;> simp [Ideal.ofBits, Ideal.ieee, -EReal.coe_mul, -EReal.coe_pow] <;> norm_num
/-- A load read at an index, the place named by the caller. -/
theorem load_at {s : Shape} {e : EltTy} (v : View sig .tc .vmem s e) (X : v.ty.Contents (Elt Ideal)) {off off' size : Fin s.rank → ℕ} (inb : ∀ a, off a + size a ≤ s.size a)
    (x : (Rect.unit off size inb).shape.Idx) (y : s.Idx) (heq : off = off') (hx : ∀ a, (y a).val = off' a + (x a).val) :
    View.readAt (Elt Ideal) v (Rect.unit off size inb).toLoadRect X x = v.read (Elt Ideal) X y := by
  subst heq
  refine congrArg (v.read (Elt Ideal) X) (funext fun a => Fin.ext ?_)
  show off a + 1 * (x a).val = (y a).val
  rw [hx a, Nat.one_mul]

/-- The field of slot `s` of plane `p`, the bits it is moved up by, and whether it is the up projection's. -/
def patF : ℕ → ℕ → Fin 10
  | 0, 0 => 0 | 0, 1 => 3 | 0, 2 => 6 | 0, _ => 8
  | 1, 0 => 1 | 1, 1 => 4 | 1, 2 => 7 | 1, _ => 9
  | 2, 0 => 0 | 2, 1 => 3 | 2, 2 => 6 | 2, _ => 8
  | 3, 0 => 1 | 3, 1 => 4 | 3, 2 => 7 | 3, _ => 9
  | _, 0 => 2 | _, 1 => 5 | _, 2 => 2 | _, _ => 5
def patO : ℕ → ℕ → Fin 6
  | 0, 0 => 0 | 0, 1 => 1 | 0, 2 => 2 | 0, _ => 0
  | 1, 0 => 3 | 1, 1 => 4 | 1, 2 => 5 | 1, _ => 3
  | 2, 0 => 0 | 2, 1 => 1 | 2, 2 => 2 | 2, _ => 0
  | 3, 0 => 3 | 3, 1 => 4 | 3, 2 => 5 | 3, _ => 3
  | _, 0 => 4 | _, 1 => 5 | _, 2 => 0 | _, _ => 1
def patU : ℕ → ℕ → Bool
  | 0, _ => false | 1, _ => false | 2, _ => true | 3, _ => true
  | _, 0 => false | _, 1 => false | _, _ => true

/-- The column of slot `s` of plane `p` at place `m` of column block `b`. -/
def colAt (b : Fin 7) (p s : ℕ) (m : Fin 256) : Fin 17920 := ⟨1792 * (patF p s).val + 256 * b.val + m.val, by have := (patF p s).isLt; omega⟩

end Cert.KernelIdeal.Hand
end
-- ==== Proof.Ideal.ValGroup.lean ====
module
public import proofs.«01_k».proof.Proof.Ideal.Residual
public import Idealize.ShloMosaic.Lib.Pointwise
public import proofs.«01_k».proof.Proof.Ideal.ValRes
public import Idealize.ShloMosaic.Lib.BitcastPair
public import Idealize.ShloMosaic.Lib.VecWindow
public import Idealize.ShloMosaic.Lib.Tactic.Stretches
public import Idealize.ShloMosaic.Lib.WritesUnit
public import proofs.«01_k».proof.Proof.Ideal.ValByte
@[expose] public section

noncomputable section

namespace Cert.KernelIdeal.Hand

open Idealize.ShloMosaic Idealize.ShloMosaic.TcCoe Idealize.ShloMosaic.Tactic
open Gen

set_option maxRecDepth 16384
open Idealize.SL Idealize.SL.RA
theorem off10_eq : ∀ k : Fin k0_t3_loop.trips, k0_off10 k = ![128 * k.val, 0] := by decide +kernel
theorem off11_eq : ∀ (i : grid0.Coords) (k : Fin k0_t3_loop.trips), k0_off11 i k = ![0, 512 * (10 * (i 1).val + k.val)] := by decide +kernel
theorem off12_eq : ∀ (i : grid0.Coords) (k : Fin k0_t3_loop.trips), k0_off12 i k = ![0, 0, 8 * (10 * (i 1).val + k.val), 0, 0] := by decide +kernel
theorem off13_eq : ∀ (i : grid0.Coords) (k : Fin k0_t3_loop.trips), k0_off13 i k = ![0, 1, 8 * (10 * (i 1).val + k.val), 0, 0] := by decide +kernel
theorem off14_eq : ∀ (i : grid0.Coords) (k : Fin k0_t3_loop.trips), k0_off14 i k = ![1, 0, 8 * (10 * (i 1).val + k.val), 0, 0] := by decide +kernel
theorem off15_eq : ∀ (i : grid0.Coords) (k : Fin k0_t3_loop.trips), k0_off15 i k = ![1, 1, 8 * (10 * (i 1).val + k.val), 0, 0] := by decide +kernel
theorem off16_eq : ∀ (i : grid0.Coords) (k : Fin k0_t3_loop.trips), k0_off16 i k = ![2, 0, 8 * (10 * (i 1).val + k.val), 0, 0] := by decide +kernel
theorem off17_eq : ∀ (i : grid0.Coords) (k : Fin k0_t3_loop.trips), k0_off17 i k = ![2, 1, 8 * (10 * (i 1).val + k.val), 0, 0] := by decide +kernel
theorem off18_eq : ∀ (i : grid0.Coords) (k : Fin k0_t3_loop.trips), k0_off18 i k = ![3, 0, 8 * (10 * (i 1).val + k.val), 0, 0] := by decide +kernel
theorem off19_eq : ∀ (i : grid0.Coords) (k : Fin k0_t3_loop.trips), k0_off19 i k = ![3, 1, 8 * (10 * (i 1).val + k.val), 0, 0] := by decide +kernel
theorem off20_eq : ∀ (i : grid0.Coords) (k : Fin k0_t3_loop.trips), k0_off20 i k = ![4, 0, 8 * (10 * (i 1).val + k.val), 0, 0] := by decide +kernel
theorem off21_eq : ∀ (i : grid0.Coords) (k : Fin k0_t3_loop.trips), k0_off21 i k = ![4, 1, 8 * (10 * (i 1).val + k.val), 0, 0] := by decide +kernel

/-- One plane's product: the spread inputs times the dequantized bytes. -/
def planeSum (l : Vec Ideal S16x512 .bf16) (v : IVec S128x256 32) (z0 z1 s0 s1 : Vec Ideal S1x1x8x2x128 .f32) (r : Fin 16) (n : Fin 256) : EReal :=
  ∑ x : Fin 512, l (ix2 r x) * ((((((byteOf (v (ix2 ⟨x.val / 4, by omega⟩ n)) (x.val % 4)).toNat : ℕ) : ℝ) : EReal)
    - (if n.val < 128 then z0 else z1) (ix5 0 0 ⟨x.val % 16 / 2, by omega⟩ ⟨x.val % 2, by omega⟩ ⟨n.val % 128, by omega⟩))
    * (if n.val < 128 then s0 else s1) (ix5 0 0 ⟨x.val % 16 / 2, by omega⟩ ⟨x.val % 2, by omega⟩ ⟨n.val % 128, by omega⟩))

section Planes
variable (l : Vec Ideal S16x512 .bf16) (v : IVec S128x256 32) (z0 z1 s0 s1 : Vec Ideal S1x1x8x2x128 .f32) (acc : Vec Ideal S1x16x256 .f32) (r : Fin 16) (n : Fin 256)

theorem plane_0 : k0_pay254 (F := Ideal) l v (shapeCast S8x2x128 z0 shapeCasts_S1x1x8x2x128_S8x2x128) z1 s0 s1 acc (ix3 0 r n) = acc (ix3 0 r n) + planeSum l v z0 z1 s0 s1 r n := by
  pointwise [k0_pay254]
  unfold planeSum
  congr 1
  refine Finset.sum_congr rfl fun x _ => ?_
  rw [byte_at]
  have e1 : x.val % 16 % 2 = x.val % 2 := by omega
  by_cases h : n.val < 128
  · simp only [dif_pos h, if_pos h]
    have e2 : n.val % 128 = n.val := by omega
    simp only [e1, e2]
    rfl
  · simp only [dif_neg h, if_neg h]
    have e2 : n.val % 128 = n.val - 128 := by omega
    simp only [e1, e2]
    rfl
theorem plane_1 : k0_pay256 (F := Ideal) l v (k0_pay255 z0) z1 s0 s1 acc (ix3 0 r n) = acc (ix3 0 r n) + planeSum l v z0 z1 s0 s1 r n := plane_0 l v z0 z1 s0 s1 acc r n
theorem plane_2 : k0_pay258 (F := Ideal) l v (k0_pay257 z0) z1 s0 s1 acc (ix3 0 r n) = acc (ix3 0 r n) + planeSum l v z0 z1 s0 s1 r n := plane_0 l v z0 z1 s0 s1 acc r n
theorem plane_3 : k0_pay261 (F := Ideal) l v (k0_pay259 z0) (k0_pay260 z1) s0 s1 acc (ix3 0 r n) = acc (ix3 0 r n) + planeSum l v z0 z1 s0 s1 r n := plane_0 l v z0 z1 s0 s1 acc r n
theorem plane_4 : k0_pay4 (F := Ideal) l v (k0_pay262 z0 z1) s0 s1 acc (ix3 0 r n) = acc (ix3 0 r n) + planeSum l v z0 z1 s0 s1 r n := plane_0 l v z0 z1 s0 s1 acc r n
end Planes

/-- What a store of the five planes leaves at an index. -/
theorem planes_store (v : View sig .tc .vmem S5x16x256 .f32) (f : v.ty.Contents (Elt Ideal)) (p0 p1 p2 p3 p4 : FVec Ideal S1x16x256 .f32)
    (i0 : ∀ a, (![0, 0, 0] : Fin 3 → ℕ) a + ![1, 16, 256] a ≤ S5x16x256.size a) (i1 : ∀ a, (![1, 0, 0] : Fin 3 → ℕ) a + ![1, 16, 256] a ≤ S5x16x256.size a) (i2 : ∀ a, (![2, 0, 0] : Fin 3 → ℕ) a + ![1, 16, 256] a ≤ S5x16x256.size a) (i3 : ∀ a, (![3, 0, 0] : Fin 3 → ℕ) a + ![1, 16, 256] a ≤ S5x16x256.size a) (i4 : ∀ a, (![4, 0, 0] : Fin 3 → ℕ) a + ![1, 16, 256] a ≤ S5x16x256.size a)
    (p : Fin 5) (r : Fin 16) (n : Fin 256) (G : Fin 5 → EReal) (h0 : p0 (ix3 0 r n) = G 0) (h1 : p1 (ix3 0 r n) = G 1) (h2 : p2 (ix3 0 r n) = G 2) (h3 : p3 (ix3 0 r n) = G 3) (h4 : p4 (ix3 0 r n) = G 4) :
    v.read (Elt Ideal) (v.writes (Elt Ideal) f [⟨Rect.unit ![4, 0, 0] ![1, 16, 256] i4, p4⟩, ⟨Rect.unit ![3, 0, 0] ![1, 16, 256] i3, p3⟩, ⟨Rect.unit ![2, 0, 0] ![1, 16, 256] i2, p2⟩, ⟨Rect.unit ![1, 0, 0] ![1, 16, 256] i1, p1⟩, ⟨Rect.unit ![0, 0, 0] ![1, 16, 256] i0, p0⟩]) (ix3 p r n)
      = G p := by
  have mem : ∀ q : Fin 5, p = q → ∀ a : Fin 3, ((ix3 p r n : S5x16x256.Idx) a).val = (![q.val, 0, 0] : Fin 3 → ℕ) a + ((ix3 (0 : Fin 1) r n : S1x16x256.Idx) a).val := by
    intro q h a
    subst h
    fin_cases a <;> simp [ix3]
  have miss : ∀ q : Fin 5, p ≠ q → ((ix3 p r n : S5x16x256.Idx) 0).val < (![q.val, 0, 0] : Fin 3 → ℕ) 0 ∨ (![q.val, 0, 0] : Fin 3 → ℕ) 0 + (![1, 16, 256] : Fin 3 → ℕ) 0 ≤ ((ix3 p r n : S5x16x256.Idx) 0).val := by
    intro q h
    have : p.val ≠ q.val := fun e => h (Fin.ext e)
    simp [ix3]
    omega
  by_cases c4 : p = 4
  · rw [View.read_writes_cons_unit_of_mem v f i4 p4 _ _ (ix3 0 r n) rfl (mem 4 c4), c4]; exact h4
  rw [View.read_writes_cons_unit_of_not_mem v f i4 p4 _ _ rfl 0 (miss 4 c4)]
  by_cases c3 : p = 3
  · rw [View.read_writes_cons_unit_of_mem v f i3 p3 _ _ (ix3 0 r n) rfl (mem 3 c3), c3]; exact h3
  rw [View.read_writes_cons_unit_of_not_mem v f i3 p3 _ _ rfl 0 (miss 3 c3)]
  by_cases c2 : p = 2
  · rw [View.read_writes_cons_unit_of_mem v f i2 p2 _ _ (ix3 0 r n) rfl (mem 2 c2), c2]; exact h2
  rw [View.read_writes_cons_unit_of_not_mem v f i2 p2 _ _ rfl 0 (miss 2 c2)]
  by_cases c1 : p = 1
  · rw [View.read_writes_cons_unit_of_mem v f i1 p1 _ _ (ix3 0 r n) rfl (mem 1 c1), c1]; exact h1
  rw [View.read_writes_cons_unit_of_not_mem v f i1 p1 _ _ rfl 0 (miss 1 c1)]
  have c0 : p = 0 := by
    apply Fin.ext
    have g1 : p.val ≠ 1 := fun e => c1 (Fin.ext e)
    have g2 : p.val ≠ 2 := fun e => c2 (Fin.ext e)
    have g3 : p.val ≠ 3 := fun e => c3 (Fin.ext e)
    have g4 : p.val ≠ 4 := fun e => c4 (Fin.ext e)
    show p.val = 0
    omega
  rw [View.read_writes_cons_unit_of_mem v f i0 p0 _ _ (ix3 0 r n) rfl (mem 0 c0), c0]; exact h0

/-- The masked word of plane `p`: the first two from the gate's word, the next two from the up projection's, the last from both. -/
def maskW (p : Fin 5) (wg wu : BitVec 32) : BitVec 32 :=
  ![wg &&& 119279111#32, wg &&& 954232888#32, wu &&& 119279111#32, wu &&& 954232888#32, ((wg >>> 2) &&& 57456#32) ||| ((wu <<< 10) &&& 235339776#32)] p

section Groups
variable (c : Dev nD) (i : grid0.Coords)
  (arg3 : Memref sig .tc .vmem S1x256 .i32) (harg3 : arg3.IsWhole) (arg4 : Memref sig .tc .vmem S2x5120 .bf16) (harg4 : arg4.IsWhole) (arg5 : Memref sig .tc .vmem S1280x256 .i32) (harg5 : arg5.IsWhole) (arg6 : Memref sig .tc .vmem S1280x256 .i32) (harg6 : arg6.IsWhole) (arg7 : Memref sig .tc .vmem S40x17920 .bf16) (harg7 : arg7.IsWhole) (arg8 : Memref sig .tc .vmem S40x17920 .bf16) (harg8 : arg8.IsWhole) (arg9 : Memref sig .tc .vmem S40x17920 .i8) (harg9 : arg9.IsWhole) (arg10 : Memref sig .tc .vmem S40x17920 .i8) (harg10 : arg10.IsWhole) (arg11 : Memref sig .tc .vmem S1x5120 .bf16) (harg11 : arg11.IsWhole) (arg12 : Memref sig .tc .vmem S1x5120 .bf16) (harg12 : arg12.IsWhole) (arg15 : Memref sig .tc .vmem S2x1x17920 .bf16) (harg15 : arg15.IsWhole) (arg16 : Memref sig .tc .vmem S2x1x17920 .f32) (harg16 : arg16.IsWhole) (arg17 : Memref sig .tc .vmem S2x1x17920 .f32) (harg17 : arg17.IsWhole) (arg18 : Memref sig .tc .vmem S16x20480 .bf16) (harg18 : arg18.IsWhole) (arg19 : Memref sig .tc .vmem S5x2x320x2x128 .f32) (harg19 : arg19.IsWhole) (arg20 : Memref sig .tc .vmem S5x2x320x2x128 .f32) (harg20 : arg20.IsWhole) (arg21 : Memref sig .tc .vmem S5x16x256 .f32) (harg21 : arg21.IsWhole) (arg24 : Memref sig .tc .vmem S128x128 .i32) (harg24 : arg24.IsWhole)
variable (w1 : BitVec 32) (X5 : BufTy.Contents (Elt Ideal) arg5.view.ty) (X6 : BufTy.Contents (Elt Ideal) arg6.view.ty) (X18 : BufTy.Contents (Elt Ideal) arg18.view.ty) (X19 : BufTy.Contents (Elt Ideal) arg19.view.ty) (X20 : BufTy.Contents (Elt Ideal) arg20.view.ty)

/-- Group `k` of plane `p`, from the windows. -/
def groupSum (k : Fin k0_t3_loop.trips) (hk : 10 * (i 1).val + k.val < 40) (hk' : k.val < 10) (p : Fin 5) (r : Fin 16) (n : Fin 256) : EReal :=
  ∑ x : Fin 512, arg18.view.read (Elt Ideal) X18 (ix2 r ⟨512 * (10 * (i 1).val + k.val) + x.val, by omega⟩)
    * ((((((byteOf (maskW p (arg5.view.read (Elt Ideal) X5 (ix2 ⟨128 * k.val + x.val / 4, by omega⟩ n)) (arg6.view.read (Elt Ideal) X6 (ix2 ⟨128 * k.val + x.val / 4, by omega⟩ n))) (x.val % 4)).toNat : ℕ) : ℝ) : EReal)
      - arg20.view.read (Elt Ideal) X20 (ix5 p ⟨n.val / 128, by omega⟩ ⟨8 * (10 * (i 1).val + k.val) + x.val % 16 / 2, by omega⟩ ⟨x.val % 2, by omega⟩ ⟨n.val % 128, by omega⟩))
      * arg19.view.read (Elt Ideal) X19 (ix5 p ⟨n.val / 128, by omega⟩ ⟨8 * (10 * (i 1).val + k.val) + x.val % 16 / 2, by omega⟩ ⟨x.val % 2, by omega⟩ ⟨n.val % 128, by omega⟩))

/-- The loads of one plane of one group put together. -/
theorem plane_loads (k : Fin k0_t3_loop.trips) (hk : 10 * (i 1).val + k.val < 40) (hk' : k.val < 10) (p : Fin 5) (r : Fin 16) (n : Fin 256)
    (l : Vec Ideal S16x512 .bf16) (v : IVec S128x256 32) (A A' : EReal) (hA : A = A')
    (o0 o1 : Fin 5 → ℕ) (i0 i0' : ∀ a, o0 a + S1x1x8x2x128.size a ≤ S5x2x320x2x128.size a) (i1 i1' : ∀ a, o1 a + S1x1x8x2x128.size a ≤ S5x2x320x2x128.size a)
    (e0 : o0 = ![p.val, 0, 8 * (10 * (i 1).val + k.val), 0, 0]) (e1 : o1 = ![p.val, 1, 8 * (10 * (i 1).val + k.val), 0, 0])
    (hl : ∀ x : Fin 512, l (ix2 r x) = arg18.view.read (Elt Ideal) X18 (ix2 r ⟨512 * (10 * (i 1).val + k.val) + x.val, by omega⟩))
    (hv : ∀ y : Fin 128, v (ix2 y n) = maskW p (arg5.view.read (Elt Ideal) X5 (ix2 ⟨128 * k.val + y.val, by omega⟩ n)) (arg6.view.read (Elt Ideal) X6 (ix2 ⟨128 * k.val + y.val, by omega⟩ n))) :
    A + planeSum l v (View.readAt (Elt Ideal) arg20.view (Rect.unit (s := S5x2x320x2x128) o0 S1x1x8x2x128.size i0).toLoadRect X20) (View.readAt (Elt Ideal) arg20.view (Rect.unit (s := S5x2x320x2x128) o1 S1x1x8x2x128.size i1).toLoadRect X20)
      (View.readAt (Elt Ideal) arg19.view (Rect.unit (s := S5x2x320x2x128) o0 S1x1x8x2x128.size i0').toLoadRect X19) (View.readAt (Elt Ideal) arg19.view (Rect.unit (s := S5x2x320x2x128) o1 S1x1x8x2x128.size i1').toLoadRect X19) r n
      = A' + groupSum i arg5 arg6 arg18 arg19 arg20 X5 X6 X18 X19 X20 k hk hk' p r n := by
  unfold planeSum groupSum
  refine congrArg₂ (· + ·) hA ?_
  refine Finset.sum_congr rfl fun x _ => ?_
  rw [hl, hv]
  have pos : ∀ (j : ℕ) (hj : j = n.val / 128) (a : Fin 5), ((ix5 p ⟨n.val / 128, by omega⟩ ⟨8 * (10 * (i 1).val + k.val) + x.val % 16 / 2, by omega⟩ ⟨x.val % 2, by omega⟩ ⟨n.val % 128, by omega⟩ : S5x2x320x2x128.Idx) a).val
      = (![p.val, j, 8 * (10 * (i 1).val + k.val), 0, 0] : Fin 5 → ℕ) a + ((ix5 0 0 ⟨x.val % 16 / 2, by omega⟩ ⟨x.val % 2, by omega⟩ ⟨n.val % 128, by omega⟩ : S1x1x8x2x128.Idx) a).val := by
    intro j hj a
    fin_cases a <;> simp [ix5] <;> omega
  by_cases h : n.val < 128
  · rw [if_pos h, if_pos h, load_at arg20.view X20 i0 _ _ e0 (pos 0 (by omega)), load_at arg19.view X19 i0' _ _ e0 (pos 0 (by omega))]
  · rw [if_neg h, if_neg h, load_at arg20.view X20 i1 _ _ e1 (pos 1 (by omega)), load_at arg19.view X19 i1' _ _ e1 (pos 1 (by omega))]

/-- One trip of the group loop. -/
theorem trip3_read (k : Fin k0_t3_loop.trips) (hk : 10 * (i 1).val + k.val < 40) (hk' : k.val < 10) (f : BufTy.Contents (Elt Ideal) arg21.view.ty) (p : Fin 5) (r : Fin 16) (n : Fin 256) :
    arg21.view.read (Elt Ideal) (step3 (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 w1 X5 X6 X18 X19 X20 k f) (ix3 p r n)
      = arg21.view.read (Elt Ideal) f (ix3 p r n) + groupSum i arg5 arg6 arg18 arg19 arg20 X5 X6 X18 X19 X20 k hk hk' p r n := by
  have hacc : ∀ (q : Fin 5) (inb : ∀ a, (![q.val, 0, 0] : Fin 3 → ℕ) a + S1x16x256.size a ≤ S5x16x256.size a), (View.readAt (Elt Ideal) arg21.view (Rect.unit (s := S5x16x256) ![q.val, 0, 0] S1x16x256.size inb).toLoadRect f : Vec Ideal S1x16x256 .f32) (ix3 0 r n) = arg21.view.read (Elt Ideal) f (ix3 q r n) := by
    intro q inb
    refine load_at arg21.view f inb (ix3 0 r n) _ rfl fun a => ?_
    fin_cases a <;> simp [ix3]
  have hl : ∀ (inb : ∀ a, k0_off11 i k a + S16x512.size a ≤ S16x20480.size a) (x : Fin 512), (View.readAt (Elt Ideal) arg18.view (Rect.unit (s := S16x20480) (k0_off11 i k) S16x512.size inb).toLoadRect X18 : Vec Ideal S16x512 .bf16) (ix2 r x) = arg18.view.read (Elt Ideal) X18 (ix2 r ⟨512 * (10 * (i 1).val + k.val) + x.val, by omega⟩) := by
    intro inb x
    refine load_at arg18.view X18 inb (ix2 r x) _ (off11_eq i k) fun a => ?_
    fin_cases a <;> simp [ix2]
  have h5 : ∀ (inb : ∀ a, k0_off10 k a + S128x256.size a ≤ S1280x256.size a) (y : Fin 128), (View.readAt (Elt Ideal) arg5.view (Rect.unit (s := S1280x256) (k0_off10 k) S128x256.size inb).toLoadRect X5 : IVec S128x256 32) (ix2 y n) = arg5.view.read (Elt Ideal) X5 (ix2 ⟨128 * k.val + y.val, by omega⟩ n) := by
    intro inb y
    refine load_at arg5.view X5 inb (ix2 y n) _ (off10_eq k) fun a => ?_
    fin_cases a <;> simp [ix2]
  have h6 : ∀ (inb : ∀ a, k0_off10 k a + S128x256.size a ≤ S1280x256.size a) (y : Fin 128), (View.readAt (Elt Ideal) arg6.view (Rect.unit (s := S1280x256) (k0_off10 k) S128x256.size inb).toLoadRect X6 : IVec S128x256 32) (ix2 y n) = arg6.view.read (Elt Ideal) X6 (ix2 ⟨128 * k.val + y.val, by omega⟩ n) := by
    intro inb y
    refine load_at arg6.view X6 inb (ix2 y n) _ (off10_eq k) fun a => ?_
    fin_cases a <;> simp [ix2]
  unfold step3 trip3
  sl_open_run
  dsimp only
  refine planes_store arg21.view f _ _ _ _ _ _ _ _ _ _ p r n (fun q => arg21.view.read (Elt Ideal) f (ix3 q r n) + groupSum i arg5 arg6 arg18 arg19 arg20 X5 X6 X18 X19 X20 k hk hk' q r n) ?_ ?_ ?_ ?_ ?_
  · refine (plane_0 _ _ _ _ _ _ _ r n).trans ?_
    refine plane_loads i arg5 arg6 arg18 arg19 arg20 X5 X6 X18 X19 X20 k hk hk' 0 r n _ _ _ _ (hacc 0 _) _ _ _ _ _ _ (off12_eq i k) (off13_eq i k) (hl _) fun y => ?_
    exact congrArg (· &&& 119279111#32) (h5 _ y)
  · refine (plane_1 _ _ _ _ _ _ _ r n).trans ?_
    refine plane_loads i arg5 arg6 arg18 arg19 arg20 X5 X6 X18 X19 X20 k hk hk' 1 r n _ _ _ _ (hacc 1 _) _ _ _ _ _ _ (off14_eq i k) (off15_eq i k) (hl _) fun y => ?_
    exact congrArg (· &&& 954232888#32) (h5 _ y)
  · refine (plane_2 _ _ _ _ _ _ _ r n).trans ?_
    refine plane_loads i arg5 arg6 arg18 arg19 arg20 X5 X6 X18 X19 X20 k hk hk' 2 r n _ _ _ _ (hacc 2 _) _ _ _ _ _ _ (off16_eq i k) (off17_eq i k) (hl _) fun y => ?_
    exact congrArg (· &&& 119279111#32) (h6 _ y)
  · refine (plane_3 _ _ _ _ _ _ _ r n).trans ?_
    refine plane_loads i arg5 arg6 arg18 arg19 arg20 X5 X6 X18 X19 X20 k hk hk' 3 r n _ _ _ _ (hacc 3 _) _ _ _ _ _ _ (off18_eq i k) (off19_eq i k) (hl _) fun y => ?_
    exact congrArg (· &&& 954232888#32) (h6 _ y)
  · refine (plane_4 _ _ _ _ _ _ _ r n).trans ?_
    refine plane_loads i arg5 arg6 arg18 arg19 arg20 X5 X6 X18 X19 X20 k hk hk' 4 r n _ _ _ _ (hacc 4 _) _ _ _ _ _ _ (off20_eq i k) (off21_eq i k) (hl _) fun y => ?_
    exact congrArg₂ (fun a b : BitVec 32 => ((a >>> 2) &&& 57456#32) ||| ((b <<< 10) &&& 235339776#32)) (h5 _ y) (h6 _ y)

/-- All trips of a point: ten groups. -/
theorem cont3_read (hi : (i 1).val < 4) (f : BufTy.Contents (Elt Ideal) arg21.view.ty) (p : Fin 5) (r : Fin 16) (n : Fin 256) (T : Fin 10 → EReal)
    (hT : ∀ (k : Fin k0_t3_loop.trips) (hk' : k.val < 10), groupSum i arg5 arg6 arg18 arg19 arg20 X5 X6 X18 X19 X20 k (by omega) hk' p r n = T ⟨k.val, hk'⟩) (N : ℕ) (hN : N = 10) :
    arg21.view.read (Elt Ideal) (cont3 (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 w1 X5 X6 X18 X19 X20 f N) (ix3 p r n) = arg21.view.read (Elt Ideal) f (ix3 p r n) + ∑ k, T k := by
  have key := cont_ind (N := k0_t3_loop.trips) (step3 (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 w1 X5 X6 X18 X19 X20) f
    (fun m g => m ≤ 10 → arg21.view.read (Elt Ideal) g (ix3 p r n) = arg21.view.read (Elt Ideal) f (ix3 p r n) + ∑ k : Fin m, if h : k.val < 10 then T ⟨k.val, h⟩ else 0) (fun _ => by simp) ?_ N (by rw [hN]; decide)
  · subst hN
    refine (key (le_refl _)).trans ?_
    exact congrArg _ (Finset.sum_congr rfl fun k _ => dif_pos k.isLt)
  · intro k g ih hm
    have hk' : k.val < 10 := hm
    rw [trip3_read c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 w1 X5 X6 X18 X19 X20 k (by omega) hk', ih (by omega), hT k hk', Fin.sum_univ_castSucc, add_assoc]
    congr 2
    show _ = if h : k.val < 10 then T ⟨k.val, h⟩ else 0
    rw [dif_pos hk']
end Groups
end Cert.KernelIdeal.Hand
end
-- ==== Proof.Ideal.ValCollapse.lean ====
module
public import proofs.«01_k».proof.Proof.Ideal.Residual
public import Idealize.ShloMosaic.Lib.Pointwise
public import proofs.«01_k».proof.Proof.Ideal.ValRes
public import Idealize.ShloMosaic.Lib.BitcastPair
public import Idealize.ShloMosaic.Lib.VecWindow
public import Idealize.ShloMosaic.Lib.Tactic.Stretches
public import Idealize.ShloMosaic.Lib.WritesUnit
public import proofs.«01_k».proof.Proof.Ideal.ValGroup
@[expose] public section

noncomputable section

namespace Cert.KernelIdeal.Hand

open Idealize.ShloMosaic Idealize.ShloMosaic.TcCoe Idealize.ShloMosaic.Tactic
open Gen

set_option maxRecDepth 16384
open Idealize.SL Idealize.SL.RA
/-! ## A group's sum is the reference's -/

/-- One row's share of a base product at a column. -/
def baseTerm (x : Fin 2 → Fin 5120 → EReal) (W : Bool → Fin 5120 → Fin 1792 → BitVec 32) (sc : Bool → Fin 40 → Fin 17920 → EReal) (Z : Bool → Fin 40 → Fin 17920 → BitVec 8) (u : Bool) (r : Fin 2) (n : Fin 17920) (k : Fin 5120) : EReal :=
  x r k * ((code3 (W u k ⟨n.val % 1792, by omega⟩) (n.val / 1792) - zval (Z u ⟨k.val / 128, by omega⟩ n)) * sc u ⟨k.val / 128, by omega⟩ n)

/-- One group's share. -/
def baseGroup (x : Fin 2 → Fin 5120 → EReal) (W : Bool → Fin 5120 → Fin 1792 → BitVec 32) (sc : Bool → Fin 40 → Fin 17920 → EReal) (Z : Bool → Fin 40 → Fin 17920 → BitVec 8) (u : Bool) (r : Fin 2) (n : Fin 17920) (g : ℕ) : EReal :=
  if h : g < 40 then ∑ d : Fin 128, baseTerm x W sc Z u r n ⟨128 * g + d.val, by omega⟩ else 0

/-- All groups make the base product. -/
theorem base_groups (x : Fin 2 → Fin 5120 → EReal) (W : Bool → Fin 5120 → Fin 1792 → BitVec 32) (sc : Bool → Fin 40 → Fin 17920 → EReal) (Z : Bool → Fin 40 → Fin 17920 → BitVec 8) (u : Bool) (r : Fin 2) (n : Fin 17920) :
    ∑ g ∈ Finset.range 40, baseGroup x W sc Z u r n g = baseSpec x (W u) (sc u) (Z u) r n := by
  have h : baseSpec x (W u) (sc u) (Z u) r n = ∑ k : Fin (40 * 128), baseTerm x W sc Z u r n k := rfl
  rw [h, ← (finProdFinEquiv (m := 40) (n := 128)).sum_comp, Fintype.sum_prod_type, ← Fin.sum_univ_eq_sum_range]
  refine Finset.sum_congr rfl fun g _ => ?_
  refine (dif_pos g.isLt).trans ?_
  refine Finset.sum_congr rfl fun d _ => ?_
  refine congrArg (baseTerm x W sc Z u r n) (Fin.ext ?_)
  show 128 * g.val + d.val = d.val + 128 * g.val
  omega

set_option maxHeartbeats 2000000 in
/-- The masked byte of a slot is its field's code, moved up. -/
theorem mask_byte (p : Fin 5) (s : Fin 4) (wg wu : BitVec 32) :
    (byteOf (maskW p wg wu) s.val).toNat = (bif patU p.val s.val then wu else wg).toNat / 2 ^ (3 * (patF p.val s.val).val) % 8 * 2 ^ (patO p.val s.val).val := by
  refine byte_field _ _ _ _ _ (by have := (patO p.val s.val).isLt; omega) ?_
  intro j hj
  fin_cases p <;> fin_cases s <;> interval_cases j <;> simp [maskW, patF, patO, patU]

/-- The inputs as they are spread over the bytes. -/
def SpreadOk (x : Fin 2 → Fin 5120 → EReal) (v : View sig .tc .vmem S16x20480 .bf16) (f : v.ty.Contents (Elt Ideal)) : Prop :=
  ∀ (R : Fin 16) (n : Fin 20480), v.read (Elt Ideal) f (ix2 R n) = if R.val / 2 = n.val % 4 then x ⟨R.val % 2, by omega⟩ ⟨n.val / 4, by omega⟩ else 0
/-- A slot's scale and zero point. -/
def scaleAt (sc : Bool → Fin 40 → Fin 17920 → EReal) (b : Fin 7) (p s : ℕ) (g : Fin 40) (m : Fin 256) : EReal :=
  sc (patU p s) g (colAt b p s m) * (((1 / 2 ^ (patO p s).val : ℝ)) : EReal)
def zeroAt (Z : Bool → Fin 40 → Fin 17920 → BitVec 8) (b : Fin 7) (p s : ℕ) (g : Fin 40) (m : Fin 256) : EReal :=
  zval (Z (patU p s) g (colAt b p s m)) * (((2 ^ (patO p s).val : ℝ)) : EReal)
def TableOk (T : ℕ → ℕ → Fin 40 → Fin 256 → EReal) (v : View sig .tc .vmem S5x2x320x2x128 .f32) (f : v.ty.Contents (Elt Ideal)) : Prop :=
  ∀ (p : Fin 5) (j : Fin 2) (R : Fin 320) (b : Fin 2) (l : Fin 128), v.read (Elt Ideal) f (ix5 p j R b l) = T p.val (2 * (R.val % 2) + b.val) ⟨R.val / 8, by omega⟩ ⟨128 * j.val + l.val, by omega⟩

theorem table_at (T : ℕ → ℕ → Fin 40 → Fin 256 → EReal) (v : View sig .tc .vmem S5x2x320x2x128 .f32) (f : v.ty.Contents (Elt Ideal)) (h : TableOk T v f) (p : Fin 5) (s : Fin 4) (g : Fin 40) (m : Fin 256)
    (j : Fin 2) (R : Fin 320) (b : Fin 2) (l : Fin 128) (hs : 2 * (R.val % 2) + b.val = s.val) (hg : R.val / 8 = g.val) (hm : 128 * j.val + l.val = m.val) :
    v.read (Elt Ideal) f (ix5 p j R b l) = T p.val s.val g m := by
  rw [h p j R b l, hs, show (⟨R.val / 8, by omega⟩ : Fin 40) = g from Fin.ext hg, show (⟨128 * j.val + l.val, by omega⟩ : Fin 256) = m from Fin.ext hm]

section Collapse
variable (c : Dev nD) (i : grid0.Coords)
  (arg3 : Memref sig .tc .vmem S1x256 .i32) (harg3 : arg3.IsWhole) (arg4 : Memref sig .tc .vmem S2x5120 .bf16) (harg4 : arg4.IsWhole) (arg5 : Memref sig .tc .vmem S1280x256 .i32) (harg5 : arg5.IsWhole) (arg6 : Memref sig .tc .vmem S1280x256 .i32) (harg6 : arg6.IsWhole) (arg7 : Memref sig .tc .vmem S40x17920 .bf16) (harg7 : arg7.IsWhole) (arg8 : Memref sig .tc .vmem S40x17920 .bf16) (harg8 : arg8.IsWhole) (arg9 : Memref sig .tc .vmem S40x17920 .i8) (harg9 : arg9.IsWhole) (arg10 : Memref sig .tc .vmem S40x17920 .i8) (harg10 : arg10.IsWhole) (arg11 : Memref sig .tc .vmem S1x5120 .bf16) (harg11 : arg11.IsWhole) (arg12 : Memref sig .tc .vmem S1x5120 .bf16) (harg12 : arg12.IsWhole) (arg15 : Memref sig .tc .vmem S2x1x17920 .bf16) (harg15 : arg15.IsWhole) (arg16 : Memref sig .tc .vmem S2x1x17920 .f32) (harg16 : arg16.IsWhole) (arg17 : Memref sig .tc .vmem S2x1x17920 .f32) (harg17 : arg17.IsWhole) (arg18 : Memref sig .tc .vmem S16x20480 .bf16) (harg18 : arg18.IsWhole) (arg19 : Memref sig .tc .vmem S5x2x320x2x128 .f32) (harg19 : arg19.IsWhole) (arg20 : Memref sig .tc .vmem S5x2x320x2x128 .f32) (harg20 : arg20.IsWhole) (arg21 : Memref sig .tc .vmem S5x16x256 .f32) (harg21 : arg21.IsWhole) (arg24 : Memref sig .tc .vmem S128x128 .i32) (harg24 : arg24.IsWhole)
variable (X5 : BufTy.Contents (Elt Ideal) arg5.view.ty) (X6 : BufTy.Contents (Elt Ideal) arg6.view.ty) (X18 : BufTy.Contents (Elt Ideal) arg18.view.ty) (X19 : BufTy.Contents (Elt Ideal) arg19.view.ty) (X20 : BufTy.Contents (Elt Ideal) arg20.view.ty)
variable (x : Fin 2 → Fin 5120 → EReal) (W : Bool → Fin 5120 → Fin 1792 → BitVec 32) (sc : Bool → Fin 40 → Fin 17920 → EReal) (Z : Bool → Fin 40 → Fin 17920 → BitVec 8) (b : Fin 7)

/-- A window of words: rows from `1280 * a`, columns of block `b`. -/
def WordsOk (w : Fin 5120 → Fin 1792 → BitVec 32) (a : ℕ) (ha : a < 4) (v : View sig .tc .vmem S1280x256 .i32) (f : v.ty.Contents (Elt Ideal)) : Prop :=
  ∀ (y : Fin 1280) (m : Fin 256), v.read (Elt Ideal) f (ix2 y m) = w ⟨1280 * a + y.val, by omega⟩ ⟨256 * b.val + m.val, by omega⟩

theorem words_pick (p : Fin 5) (s : Fin 4) (a : ℕ) (ha : a < 4) (h5 : WordsOk b (W false) a ha arg5.view X5) (h6 : WordsOk b (W true) a ha arg6.view X6) (y : Fin 1280) (m : Fin 256) :
    (bif patU p.val s.val then arg6.view.read (Elt Ideal) X6 (ix2 y m) else arg5.view.read (Elt Ideal) X5 (ix2 y m) : BitVec 32) = W (patU p.val s.val) ⟨1280 * a + y.val, by omega⟩ ⟨256 * b.val + m.val, by omega⟩ := by
  cases patU p.val s.val
  · exact h5 y m
  · exact h6 y m

theorem spread_at (h18 : SpreadOk x arg18.view X18) (s : Fin 4) (r : Fin 2) (k : Fin 5120) (R : Fin 16) (n : Fin 20480) (hR : R.val = 2 * s.val + r.val) (hn : n.val = 4 * k.val + s.val) :
    arg18.view.read (Elt Ideal) X18 (ix2 R n) = x r k := by
  refine (h18 R n).trans ((if_pos (by omega)).trans ?_)
  rw [show (⟨R.val % 2, by omega⟩ : Fin 2) = r from Fin.ext (by show R.val % 2 = r.val; omega), show (⟨n.val / 4, by omega⟩ : Fin 5120) = k from Fin.ext (by show n.val / 4 = k.val; omega)]
theorem spread_off (h18 : SpreadOk x arg18.view X18) (s : Fin 4) (r : Fin 2) (R : Fin 16) (n : Fin 20480) (hR : R.val = 2 * s.val + r.val) (hn : n.val % 4 ≠ s.val) :
    arg18.view.read (Elt Ideal) X18 (ix2 R n) = 0 := by
  refine (h18 R n).trans (if_neg (by omega))

theorem term_eq (p : Fin 5) (s : Fin 4) (r : Fin 2) (m : Fin 256) (k : Fin 5120) (g : Fin 40) (hg : g.val = k.val / 128) (q : Fin 1792) (hq : q.val = 256 * b.val + m.val) (w : BitVec 32) (hw : w = W (patU p.val s.val) k q) :
    x r k * (((((w.toNat / 2 ^ (3 * (patF p.val s.val).val) % 8 * 2 ^ (patO p.val s.val).val : ℕ) : ℝ) : EReal) - zeroAt Z b p.val s.val g m) * scaleAt sc b p.val s.val g m)
      = baseTerm x W sc Z (patU p.val s.val) r (colAt b p.val s.val m) k := by
  have hf := (patF p.val s.val).isLt
  have hb := b.isLt
  unfold baseTerm zeroAt scaleAt zval code3
  rw [(unscale _ _ (sc (patU p.val s.val) g (colAt b p.val s.val m)) _).1, (unscale _ _ (sc (patU p.val s.val) g (colAt b p.val s.val m)) _).2, hw]
  have e1 : (colAt b p.val s.val m).val / 1792 = (patF p.val s.val).val := by
    show (1792 * (patF p.val s.val).val + 256 * b.val + m.val) / 1792 = _
    omega
  have e2 : (⟨(colAt b p.val s.val m).val % 1792, by omega⟩ : Fin 1792) = q := Fin.ext (by
    show (1792 * (patF p.val s.val).val + 256 * b.val + m.val) % 1792 = q.val
    omega)
  have e3 : (⟨k.val / 128, by omega⟩ : Fin 40) = g := Fin.ext hg.symm
  rw [e1, e2, e3]

set_option maxHeartbeats 1000000 in
theorem group_eq (ha : (i 1).val < 4) (h5 : WordsOk b (W false) (i 1).val ha arg5.view X5) (h6 : WordsOk b (W true) (i 1).val ha arg6.view X6) (h18 : SpreadOk x arg18.view X18)
    (h19 : TableOk (scaleAt sc b) arg19.view X19) (h20 : TableOk (zeroAt Z b) arg20.view X20)
    (k : Fin k0_t3_loop.trips) (hk : 10 * (i 1).val + k.val < 40) (hk' : k.val < 10) (p : Fin 5) (s : Fin 4) (r : Fin 2) (R : Fin 16) (hR : R.val = 2 * s.val + r.val) (m : Fin 256) :
    groupSum i arg5 arg6 arg18 arg19 arg20 X5 X6 X18 X19 X20 k hk hk' p R m = baseGroup x W sc Z (patU p.val s.val) r (colAt b p.val s.val m) (10 * (i 1).val + k.val) := by
  unfold groupSum baseGroup
  rw [dif_pos hk]
  refine (sum_four _ s ?_).trans (Finset.sum_congr rfl fun d _ => ?_)
  · intro y hy
    rw [spread_off arg18 X18 x h18 s r R _ hR (by dsimp only; omega), zero_mul]
  · have ek : 128 * (10 * (i 1).val + k.val) + d.val < 5120 := by omega
    rw [spread_at arg18 X18 x h18 s r ⟨128 * (10 * (i 1).val + k.val) + d.val, ek⟩ R _ hR (by dsimp only; omega),
      table_at _ arg20.view X20 h20 p s ⟨10 * (i 1).val + k.val, hk⟩ m _ _ _ _ (by dsimp only; omega) (by dsimp only; omega) (by dsimp only; omega),
      table_at _ arg19.view X19 h19 p s ⟨10 * (i 1).val + k.val, hk⟩ m _ _ _ _ (by dsimp only; omega) (by dsimp only; omega) (by dsimp only; omega)]
    have es : (4 * d.val + s.val) % 4 = s.val := by omega
    have ey : (⟨128 * k.val + (4 * d.val + s.val) / 4, by omega⟩ : Fin 1280) = ⟨128 * k.val + d.val, by omega⟩ := Fin.ext (by dsimp only; omega)
    dsimp only
    rw [es, ey, mask_byte p s]
    refine term_eq x W sc Z b p s r m _ _ (by dsimp only; omega) ⟨256 * b.val + m.val, by omega⟩ rfl _ ?_
    refine (words_pick arg5 arg6 X5 X6 W b p s _ ha h5 h6 ⟨128 * k.val + d.val, by omega⟩ m).trans ?_
    refine congrArg (fun q => W (patU p.val s.val) q _) (Fin.ext ?_)
    dsimp only; omega
end Collapse
end Cert.KernelIdeal.Hand
end
-- ==== Proof.Ideal.ValTable.lean ====
module
public import proofs.«01_k».proof.Proof.Ideal.Residual
public import Idealize.ShloMosaic.Lib.Pointwise
public import proofs.«01_k».proof.Proof.Ideal.ValRes
public import Idealize.ShloMosaic.Lib.BitcastPair
public import Idealize.ShloMosaic.Lib.VecWindow
public import Idealize.ShloMosaic.Lib.Tactic.Stretches
public import Idealize.ShloMosaic.Lib.WritesUnit
public import proofs.«01_k».proof.Proof.Ideal.ValSpec
public import proofs.«01_k».proof.Proof.Ideal.ValByte
@[expose] public section

noncomputable section

namespace Cert.KernelIdeal.Hand

open Idealize.ShloMosaic Idealize.ShloMosaic.TcCoe Idealize.ShloMosaic.Tactic
open Gen

set_option maxRecDepth 16384
open Idealize.SL Idealize.SL.RA
/-! ## The table of scales and zero points -/

/-- The order of the table's pieces, newest first. -/
def patOrder : List ℕ := [79, 78, 77, 76, 75, 74, 73, 72, 71, 70, 69, 68, 67, 66, 65, 64, 63, 62, 61, 60, 59, 58, 57, 56, 55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]
theorem patOrder_lt : ∀ n ∈ patOrder, n < 80 := by decide
theorem patOrder_mem : ∀ n : Fin 80, n.val ∈ patOrder := by decide

/-- The column a slot's field starts at. -/
def patOff : ℕ → ℕ → BitVec 32
  | 0, 0 => 0#32
  | 0, 1 => 5376#32
  | 0, 2 => 10752#32
  | 0, _ => 14336#32
  | 1, 0 => 1792#32
  | 1, 1 => 7168#32
  | 1, 2 => 12544#32
  | 1, _ => 16128#32
  | 2, 0 => 0#32
  | 2, 1 => 5376#32
  | 2, 2 => 10752#32
  | 2, _ => 14336#32
  | 3, 0 => 1792#32
  | 3, 1 => 7168#32
  | 3, 2 => 12544#32
  | 3, _ => 16128#32
  | _, 0 => 3584#32
  | _, 1 => 8960#32
  | _, 2 => 3584#32
  | _, _ => 8960#32
/-- The scale of a slot: one over the power of two its field is moved up by. -/
def patDown : ℕ → ℕ → BitVec 32
  | 0, 0 => 1065353216#32
  | 0, 1 => 1056964608#32
  | 0, 2 => 1048576000#32
  | 0, _ => 1065353216#32
  | 1, 0 => 1040187392#32
  | 1, 1 => 1031798784#32
  | 1, 2 => 1023410176#32
  | 1, _ => 1040187392#32
  | 2, 0 => 1065353216#32
  | 2, 1 => 1056964608#32
  | 2, 2 => 1048576000#32
  | 2, _ => 1065353216#32
  | 3, 0 => 1040187392#32
  | 3, 1 => 1031798784#32
  | 3, 2 => 1023410176#32
  | 3, _ => 1040187392#32
  | _, 0 => 1031798784#32
  | _, 1 => 1023410176#32
  | _, 2 => 1065353216#32
  | _, _ => 1056964608#32
/-- The factor of a slot's zero points. -/
def patUp : ℕ → ℕ → BitVec 32
  | 0, 0 => 1065353216#32
  | 0, 1 => 1073741824#32
  | 0, 2 => 1082130432#32
  | 0, _ => 1065353216#32
  | 1, 0 => 1090519040#32
  | 1, 1 => 1098907648#32
  | 1, 2 => 1107296256#32
  | 1, _ => 1090519040#32
  | 2, 0 => 1065353216#32
  | 2, 1 => 1073741824#32
  | 2, 2 => 1082130432#32
  | 2, _ => 1065353216#32
  | 3, 0 => 1090519040#32
  | 3, 1 => 1098907648#32
  | 3, 2 => 1107296256#32
  | 3, _ => 1090519040#32
  | _, 0 => 1098907648#32
  | _, 1 => 1107296256#32
  | _, 2 => 1065353216#32
  | _, _ => 1073741824#32
theorem patOff_eq : ∀ (p : Fin 5) (s : Fin 4), patOff p.val s.val = BitVec.ofNat 32 (1792 * (patF p.val s.val).val) := by decide
theorem patDown_eq : ∀ (p : Fin 5) (s : Fin 4), patDown p.val s.val = BitVec.ofNat 32 (0x3F800000 - (patO p.val s.val).val * 0x800000) := by decide +kernel
theorem patUp_eq : ∀ (p : Fin 5) (s : Fin 4), patUp p.val s.val = BitVec.ofNat 32 (0x3F800000 + (patO p.val s.val).val * 0x800000) := by decide +kernel
theorem patOff_mem (p s : ℕ) : ∃ f : Fin 10, patOff p s = BitVec.ofNat 32 (1792 * f.val) := by
  unfold patOff
  split <;> first | exact ⟨0, rfl⟩ | exact ⟨1, rfl⟩ | exact ⟨2, rfl⟩ | exact ⟨3, rfl⟩ | exact ⟨4, rfl⟩ | exact ⟨5, rfl⟩ | exact ⟨6, rfl⟩ | exact ⟨7, rfl⟩ | exact ⟨8, rfl⟩ | exact ⟨9, rfl⟩
theorem patInb (n : ℕ) : ∀ a : Fin 5, (![1, 1, 40, 2, 128] : Fin 5 → ℕ) a = 0 ∨ (![n / 16 % 5, n % 2, 2 * (n / 2 % 4) + n / 8 % 2, 0, 0] : Fin 5 → ℕ) a + (![1, 1, 8, 1, 1] : Fin 5 → ℕ) a * ((![1, 1, 40, 2, 128] : Fin 5 → ℕ) a - 1) < S5x2x320x2x128.size a := by
  intro a
  right
  fin_cases a <;> simp <;> omega
theorem patPos : ∀ a : Fin 5, 0 < (![1, 1, 8, 1, 1] : Fin 5 → ℕ) a := by decide

/-- The place of piece `n`. -/
def patRect (n : ℕ) : Rect S5x2x320x2x128 :=
  { off := ![n / 16 % 5, n % 2, 2 * (n / 2 % 4) + n / 8 % 2, 0, 0], size := ![1, 1, 40, 2, 128], stride := ![1, 1, 8, 1, 1], inb := patInb n, stride_pos := patPos }

/-- Two rows of sources, scaled, side by side. -/
def patBoth (c0 c1 : BitVec 32) (A B : FVec Ideal S40x256 .bf16) : FVec Ideal S40x2x256 .f32 :=
  concatenate S40x2x256 1 [⟨S40x1x256, shapeCast S40x1x256 (mulf (extf .f32 A bitsLt_bf16_f32) (broadcast S40x256 (Scalar.ofBits .f32 c0 : Ideal .f32))) shapeCasts_S40x256_S40x1x256⟩,
    ⟨S40x1x256, shapeCast S40x1x256 (mulf (extf .f32 B bitsLt_bf16_f32) (broadcast S40x256 (Scalar.ofBits .f32 c1 : Ideal .f32))) shapeCasts_S40x256_S40x1x256⟩] concatenates_S40x1x256_S40x1x256_S40x2x256_d1
def patLo (c0 c1 : BitVec 32) (A B : FVec Ideal S40x256 .bf16) : FVec Ideal S1x1x40x2x128 .f32 :=
  shapeCast S1x1x40x2x128 (extractStridedSlice S40x2x128 ![0, 0, 0] (patBoth c0 c1 A B) slices_S40x2x256_o0_0_0_S40x2x128) shapeCasts_S40x2x128_S1x1x40x2x128
def patHi (c0 c1 : BitVec 32) (A B : FVec Ideal S40x256 .bf16) : FVec Ideal S1x1x40x2x128 .f32 :=
  shapeCast S1x1x40x2x128 (extractStridedSlice S40x2x128 ![0, 0, 128] (patBoth c0 c1 A B) slices_S40x2x256_o0_0_128_S40x2x128) shapeCasts_S40x2x128_S1x1x40x2x128

/-- Piece `n`. -/
def patPiece (A : ℕ → ℕ → FVec Ideal S40x256 .bf16) (C : ℕ → ℕ → BitVec 32) (n : ℕ) : View.Piece (Elt Ideal) S5x2x320x2x128 .f32 :=
  ⟨patRect n, bif n % 2 == 0 then patLo (C (n / 16) (2 * (n / 8 % 2))) (C (n / 16) (2 * (n / 8 % 2) + 1)) (A (n / 16) (2 * (n / 8 % 2))) (A (n / 16) (2 * (n / 8 % 2) + 1))
    else patHi (C (n / 16) (2 * (n / 8 % 2))) (C (n / 16) (2 * (n / 8 % 2) + 1)) (A (n / 16) (2 * (n / 8 % 2))) (A (n / 16) (2 * (n / 8 % 2) + 1))⟩

theorem patLo_apply (C : ℕ → BitVec 32) (A : ℕ → FVec Ideal S40x256 .bf16) (h : ℕ) (g : Fin 40) (b : Fin 2) (l : Fin 128) :
    patLo (C h) (C (h + 1)) (A h) (A (h + 1)) (ix5 0 0 g b l) = A (h + b.val) (ix2 g ⟨l.val, by omega⟩) * Ideal.ofBits .f32 (C (h + b.val)) := by
  pointwise [patLo, patBoth]
  split
  · exact congrArg (fun k => A (h + k) (ix2 g ⟨l.val, by omega⟩) * Ideal.ofBits .f32 (C (h + k))) (show 0 = b.val from by omega)
  · exact congrArg (fun k => A (h + k) (ix2 g ⟨l.val, by omega⟩) * Ideal.ofBits .f32 (C (h + k))) (show 1 = b.val from by omega)

theorem patHi_apply (C : ℕ → BitVec 32) (A : ℕ → FVec Ideal S40x256 .bf16) (h : ℕ) (g : Fin 40) (b : Fin 2) (l : Fin 128) :
    patHi (C h) (C (h + 1)) (A h) (A (h + 1)) (ix5 0 0 g b l) = A (h + b.val) (ix2 g ⟨128 + l.val, by omega⟩) * Ideal.ofBits .f32 (C (h + b.val)) := by
  pointwise [patHi, patBoth]
  split
  · exact congrArg (fun k => A (h + k) (ix2 g ⟨128 + l.val, by omega⟩) * Ideal.ofBits .f32 (C (h + k))) (show 0 = b.val from by omega)
  · exact congrArg (fun k => A (h + k) (ix2 g ⟨128 + l.val, by omega⟩) * Ideal.ofBits .f32 (C (h + k))) (show 1 = b.val from by omega)

/-- The table's value at an index. -/
def patVal (A : ℕ → ℕ → FVec Ideal S40x256 .bf16) (C : ℕ → ℕ → BitVec 32) (p s : ℕ) (g : Fin 40) (m : Fin 256) : EReal :=
  A p s (ix2 g m) * Ideal.ofBits .f32 (C p s)
def patG (A : ℕ → ℕ → FVec Ideal S40x256 .bf16) (C : ℕ → ℕ → BitVec 32) (y : S5x2x320x2x128.Idx) : EReal :=
  patVal A C (y 0).val (2 * ((y 2).val % 2) + (y 3).val) ⟨(y 2).val / 8, by have : (y 2).val < 320 := (y 2).isLt; omega⟩ ⟨128 * (y 1).val + (y 4).val, by have h1 : (y 1).val < 2 := (y 1).isLt; have h4 : (y 4).val < 128 := (y 4).isLt; omega⟩

theorem patVal_congr (A : ℕ → ℕ → FVec Ideal S40x256 .bf16) (C : ℕ → ℕ → BitVec 32) {p p' s s' : ℕ} {g g' : Fin 40} {m m' : Fin 256} (hp : p = p') (hs : s = s') (hg : g.val = g'.val) (hm : m.val = m'.val) :
    patVal A C p s g m = patVal A C p' s' g' m' := by
  rw [hp, hs, Fin.ext hg, Fin.ext hm]

theorem patPiece_ok (A : ℕ → ℕ → FVec Ideal S40x256 .bf16) (C : ℕ → ℕ → BitVec 32) (n : ℕ) (hn : n < 80) (x : (patPiece A C n).1.shape.Idx) :
    (patPiece A C n).2 x = patG A C ((patPiece A C n).1.emb x) := by
  have h2 : (x 2).val < 40 := (x 2).isLt
  have h3 : (x 3).val < 2 := (x 3).isLt
  have h4 : (x 4).val < 128 := (x 4).isLt
  have h0 : (x 0).val < 1 := (x 0).isLt
  have h1 : (x 1).val < 1 := (x 1).isLt
  have hx : x = (ix5 (0 : Fin 1) (0 : Fin 1) ⟨(x 2).val, h2⟩ ⟨(x 3).val, h3⟩ ⟨(x 4).val, h4⟩ : S1x1x40x2x128.Idx) := by
    funext a
    apply Fin.ext
    fin_cases a
    · show (x 0).val = 0; omega
    · show (x 1).val = 0; omega
    · rfl
    · rfl
    · rfl
  have e : ∀ a, ((patPiece A C n).1.emb x a).val = (patRect n).off a + (patRect n).stride a * (x a).val := fun _ => rfl
  have key : patG A C ((patPiece A C n).1.emb x) = patVal A C (n / 16) (2 * (n / 8 % 2) + (x 3).val) ⟨(x 2).val, h2⟩ ⟨128 * (n % 2) + (x 4).val, by omega⟩ := by
    refine patVal_congr A C ?_ ?_ ?_ ?_
    · rw [e 0]; show n / 16 % 5 + 1 * (x 0).val = _; omega
    · rw [e 2, e 3]; show 2 * ((2 * (n / 2 % 4) + n / 8 % 2 + 8 * (x 2).val) % 2) + (0 + 1 * (x 3).val) = _; omega
    · show ((patPiece A C n).1.emb x 2).val / 8 = (x 2).val
      rw [e 2]; show (2 * (n / 2 % 4) + n / 8 % 2 + 8 * (x 2).val) / 8 = _; omega
    · show 128 * ((patPiece A C n).1.emb x 1).val + ((patPiece A C n).1.emb x 4).val = 128 * (n % 2) + (x 4).val
      rw [e 1, e 4]; show 128 * (n % 2 + 1 * (x 1).val) + (0 + 1 * (x 4).val) = _; omega
  rw [key]
  rcases Nat.mod_two_eq_zero_or_one n with h | h
  · have hb : (n % 2 == 0) = true := by simp [h]
    show (bif n % 2 == 0 then patLo _ _ _ _ else patHi _ _ _ _ : FVec Ideal S1x1x40x2x128 .f32) x = _
    rw [hb]
    refine (congrArg (patLo _ _ _ _) hx).trans ?_
    refine (patLo_apply (C (n / 16)) (A (n / 16)) (2 * (n / 8 % 2)) ⟨(x 2).val, h2⟩ ⟨(x 3).val, h3⟩ ⟨(x 4).val, h4⟩).trans ?_
    exact patVal_congr A C rfl rfl rfl (by show (x 4).val = 128 * (n % 2) + (x 4).val; rw [h]; omega)
  · have hb : (n % 2 == 0) = false := by simp [h]
    show (bif n % 2 == 0 then patLo _ _ _ _ else patHi _ _ _ _ : FVec Ideal S1x1x40x2x128 .f32) x = _
    rw [hb]
    refine (congrArg (patHi _ _ _ _) hx).trans ?_
    refine (patHi_apply (C (n / 16)) (A (n / 16)) (2 * (n / 8 % 2)) ⟨(x 2).val, h2⟩ ⟨(x 3).val, h3⟩ ⟨(x 4).val, h4⟩).trans ?_
    exact patVal_congr A C rfl rfl rfl (by show 128 + (x 4).val = 128 * (n % 2) + (x 4).val; rw [h])

theorem piece_no (p s q j : ℕ) (hp : p < 5) (hs : s < 2) (hq : q < 4) (hj : j < 2) :
    (16 * p + 8 * s + 2 * q + j) / 16 % 5 = p ∧ (16 * p + 8 * s + 2 * q + j) % 2 = j ∧ (16 * p + 8 * s + 2 * q + j) / 2 % 4 = q ∧ (16 * p + 8 * s + 2 * q + j) / 8 % 2 = s := by
  have h : 8 * s + 2 * q + j < 16 := by omega
  have h1 : (16 * p + 8 * s + 2 * q + j) / 16 = p := by omega
  have h2 : (16 * p + 8 * s + 2 * q + j) / 2 = 8 * p + 4 * s + q := by omega
  have h3 : (16 * p + 8 * s + 2 * q + j) / 8 = 2 * p + s := by omega
  rw [h1, h2, h3]
  refine ⟨?_, ?_, ?_, ?_⟩ <;> omega

/-- The table read after all its pieces are stored. -/
theorem pieces_read (v : View sig .tc .vmem S5x2x320x2x128 .f32) (f : v.ty.Contents (Elt Ideal)) (A : ℕ → ℕ → FVec Ideal S40x256 .bf16) (C : ℕ → ℕ → BitVec 32)
    (p : Fin 5) (j : Fin 2) (R : Fin 320) (b : Fin 2) (l : Fin 128) :
    v.read (Elt Ideal) (v.writes (Elt Ideal) f (patOrder.map (patPiece A C))) (ix5 p j R b l)
      = patVal A C p.val (2 * (R.val % 2) + b.val) ⟨R.val / 8, by omega⟩ ⟨128 * j.val + l.val, by omega⟩ := by
  refine View.read_writes_apply_of_pieces v f (patG A C) _ ?_ _ ?_
  · intro q hq x
    obtain ⟨n, hn, rfl⟩ := List.mem_map.1 hq
    exact patPiece_ok A C n (patOrder_lt n hn) x
  · obtain ⟨s, hs, es⟩ : ∃ s, s < 2 ∧ s = R.val % 2 := ⟨_, Nat.mod_lt _ (by decide), rfl⟩
    obtain ⟨q, hq, eq⟩ : ∃ q, q < 4 ∧ q = R.val % 8 / 2 := ⟨_, by omega, rfl⟩
    have hp := p.isLt
    have hj := j.isLt
    refine ⟨patPiece A C (16 * p.val + 8 * s + 2 * q + j.val), List.mem_map.2 ⟨_, patOrder_mem ⟨16 * p.val + 8 * s + 2 * q + j.val, by omega⟩, rfl⟩, ?_⟩
    refine LoadRect.mem_set _ |>.2 ?_
    obtain ⟨e1, e2, e3, e4⟩ := piece_no p.val s q j.val hp hs hq hj
    intro a
    fin_cases a
    · refine ⟨0, Nat.one_pos, ?_⟩
      show p.val = (16 * p.val + 8 * s + 2 * q + j.val) / 16 % 5 + 1 * 0
      rw [e1]; rfl
    · refine ⟨0, Nat.one_pos, ?_⟩
      show j.val = (16 * p.val + 8 * s + 2 * q + j.val) % 2 + 1 * 0
      rw [e2]; rfl
    · refine ⟨R.val / 8, by show R.val / 8 < 40; omega, ?_⟩
      show R.val = 2 * ((16 * p.val + 8 * s + 2 * q + j.val) / 2 % 4) + (16 * p.val + 8 * s + 2 * q + j.val) / 8 % 2 + 8 * (R.val / 8)
      rw [e3, e4]
      omega
    · refine ⟨b.val, b.isLt, ?_⟩
      show b.val = 0 + 1 * b.val
      omega
    · refine ⟨l.val, l.isLt, ?_⟩
      show l.val = 0 + 1 * l.val
      omega

theorem off9_eq : ∀ (i : grid0.Coords) (f : Fin 10), k0_off9 i (BitVec.ofNat 32 (1792 * f.val)) = ![0, 1792 * f.val + 256 * (i 0).val] := by decide +kernel
theorem off9_in : ∀ (i : grid0.Coords) (f : Fin 10) (a : Fin 2), k0_off9 i (BitVec.ofNat 32 (1792 * f.val)) a + S40x256.size a ≤ S40x17920.size a := by decide +kernel
theorem patOff_in (i : grid0.Coords) (p s : ℕ) (a : Fin 2) : k0_off9 i (patOff p s) a + S40x256.size a ≤ S40x17920.size a := by
  obtain ⟨f, hf⟩ := patOff_mem p s
  rw [hf]
  exact off9_in i f a

section Pattern
variable (c : Dev nD) (i : grid0.Coords)
  (arg3 : Memref sig .tc .vmem S1x256 .i32) (harg3 : arg3.IsWhole) (arg4 : Memref sig .tc .vmem S2x5120 .bf16) (harg4 : arg4.IsWhole) (arg5 : Memref sig .tc .vmem S1280x256 .i32) (harg5 : arg5.IsWhole) (arg6 : Memref sig .tc .vmem S1280x256 .i32) (harg6 : arg6.IsWhole) (arg7 : Memref sig .tc .vmem S40x17920 .bf16) (harg7 : arg7.IsWhole) (arg8 : Memref sig .tc .vmem S40x17920 .bf16) (harg8 : arg8.IsWhole) (arg9 : Memref sig .tc .vmem S40x17920 .i8) (harg9 : arg9.IsWhole) (arg10 : Memref sig .tc .vmem S40x17920 .i8) (harg10 : arg10.IsWhole) (arg11 : Memref sig .tc .vmem S1x5120 .bf16) (harg11 : arg11.IsWhole) (arg12 : Memref sig .tc .vmem S1x5120 .bf16) (harg12 : arg12.IsWhole) (arg15 : Memref sig .tc .vmem S2x1x17920 .bf16) (harg15 : arg15.IsWhole) (arg16 : Memref sig .tc .vmem S2x1x17920 .f32) (harg16 : arg16.IsWhole) (arg17 : Memref sig .tc .vmem S2x1x17920 .f32) (harg17 : arg17.IsWhole) (arg18 : Memref sig .tc .vmem S16x20480 .bf16) (harg18 : arg18.IsWhole) (arg19 : Memref sig .tc .vmem S5x2x320x2x128 .f32) (harg19 : arg19.IsWhole) (arg20 : Memref sig .tc .vmem S5x2x320x2x128 .f32) (harg20 : arg20.IsWhole) (arg21 : Memref sig .tc .vmem S5x16x256 .f32) (harg21 : arg21.IsWhole) (arg24 : Memref sig .tc .vmem S128x128 .i32) (harg24 : arg24.IsWhole)
variable (h2 : k0_cond2 i = 1#1) (X7 : BufTy.Contents (Elt Ideal) arg7.view.ty) (X8 : BufTy.Contents (Elt Ideal) arg8.view.ty) (X9 : BufTy.Contents (Elt Ideal) arg9.view.ty) (X10 : BufTy.Contents (Elt Ideal) arg10.view.ty)

/-- The scales a slot is filled from. -/
def rowS (v : View sig .tc .vmem S40x17920 .bf16) (X : v.ty.Contents (Elt Ideal)) (p s : ℕ) : FVec Ideal S40x256 .bf16 :=
  View.readAt (Elt Ideal) v (Rect.unit (s := S40x17920) (k0_off9 i (patOff p s)) S40x256.size (patOff_in i p s)).toLoadRect X
def srcS : ℕ → ℕ → FVec Ideal S40x256 .bf16
  | 0, s => rowS i arg7.view X7 0 s
  | 1, s => rowS i arg7.view X7 1 s
  | 2, s => rowS i arg8.view X8 2 s
  | 3, s => rowS i arg8.view X8 3 s
  | p, 0 => rowS i arg7.view X7 p 0
  | p, 1 => rowS i arg7.view X7 p 1
  | p, s => rowS i arg8.view X8 p s
/-- The zero points a slot is filled from. -/
def srcZ (p s : ℕ) : FVec Ideal S40x256 .bf16 :=
  bif patU p s then uitofp .bf16 (View.readAt (Elt Ideal) arg10.view (Rect.unit (s := S40x17920) (k0_off9 i (patOff p s)) S40x256.size (patOff_in i p s)).toLoadRect X10 : IVec S40x256 8)
  else uitofp .bf16 (View.readAt (Elt Ideal) arg9.view (Rect.unit (s := S40x17920) (k0_off9 i (patOff p s)) S40x256.size (patOff_in i p s)).toLoadRect X9 : IVec S40x256 8)

set_option maxHeartbeats 4000000 in
theorem pattern_scales : (pattern (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h2 X7 X8 X9 X10).1.1 = patOrder.map (patPiece (srcS i arg7 arg8 X7 X8) patDown) := by
  unfold pattern
  sl_open_run
  dsimp only
  rfl
set_option maxHeartbeats 4000000 in
theorem pattern_zeros : (pattern (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h2 X7 X8 X9 X10).1.2.1 = patOrder.map (patPiece (srcZ i arg9 arg10 X9 X10) patUp) := by
  unfold pattern
  sl_open_run
  dsimp only
  rfl

theorem srcS_apply (p : Fin 5) (s : Fin 4) (g : Fin 40) (m : Fin 256) (n : Fin 17920) (hn : n.val = 1792 * (patF p.val s.val).val + 256 * (i 0).val + m.val) :
    srcS i arg7 arg8 X7 X8 p.val s.val (ix2 g m) = bif patU p.val s.val then arg8.view.read (Elt Ideal) X8 (ix2 g n) else arg7.view.read (Elt Ideal) X7 (ix2 g n) := by
  have key : ∀ (v : View sig .tc .vmem S40x17920 .bf16) (X : v.ty.Contents (Elt Ideal)), rowS i v X p.val s.val (ix2 g m) = v.read (Elt Ideal) X (ix2 g n) := by
    intro v X
    refine load_at v X _ (ix2 g m) (ix2 g n) ((congrArg (k0_off9 i) (patOff_eq p s)).trans (off9_eq i _)) fun a => ?_
    fin_cases a
    · simp [ix2]
    · exact hn
  have e7 := key arg7.view X7
  have e8 := key arg8.view X8
  clear key hn
  fin_cases p <;> fin_cases s <;> first | exact e7 | exact e8

theorem srcZ_apply (p : Fin 5) (s : Fin 4) (g : Fin 40) (m : Fin 256) (n : Fin 17920) (hn : n.val = 1792 * (patF p.val s.val).val + 256 * (i 0).val + m.val) :
    srcZ i arg9 arg10 X9 X10 p.val s.val (ix2 g m) = zval (bif patU p.val s.val then arg10.view.read (Elt Ideal) X10 (ix2 g n) else arg9.view.read (Elt Ideal) X9 (ix2 g n) : BitVec 8) := by
  have key : ∀ (v : View sig .tc .vmem S40x17920 .i8) (X : v.ty.Contents (Elt Ideal)), (View.readAt (Elt Ideal) v (Rect.unit (s := S40x17920) (k0_off9 i (patOff p.val s.val)) S40x256.size (patOff_in i p.val s.val)).toLoadRect X : IVec S40x256 8) (ix2 g m) = v.read (Elt Ideal) X (ix2 g n) := by
    intro v X
    refine load_at v X _ (ix2 g m) (ix2 g n) ((congrArg (k0_off9 i) (patOff_eq p s)).trans (off9_eq i _)) fun a => ?_
    fin_cases a
    · simp [ix2]
    · exact hn
  unfold srcZ
  cases patU p.val s.val
  · exact congrArg (fun b : BitVec 8 => ((b.toNat : ℝ) : EReal)) (key arg9.view X9)
  · exact congrArg (fun b : BitVec 8 => ((b.toNat : ℝ) : EReal)) (key arg10.view X10)
end Pattern
end Cert.KernelIdeal.Hand
end
-- ==== Proof.Ideal.ValGate.lean ====
module
public import proofs.«01_k».proof.Proof.Ideal.Residual
public import Idealize.ShloMosaic.Lib.Pointwise
public import proofs.«01_k».proof.Proof.Ideal.ValRes
public import Idealize.ShloMosaic.Lib.BitcastPair
public import Idealize.ShloMosaic.Lib.VecWindow
public import Idealize.ShloMosaic.Lib.Tactic.Stretches
public import Idealize.ShloMosaic.Lib.WritesUnit
public import proofs.«01_k».proof.Proof.Ideal.ValByte
@[expose] public section

noncomputable section

namespace Cert.KernelIdeal.Hand

open Idealize.ShloMosaic Idealize.ShloMosaic.TcCoe Idealize.ShloMosaic.Tactic
open Gen

set_option maxRecDepth 16384
open Idealize.SL Idealize.SL.RA
/-! ## The gate -/

theorem off34_eq : ∀ (i : grid0.Coords) (f : Fin 10), k0_off34 i (BitVec.ofNat 32 (1792 * f.val)) = ![0, 0, 1792 * f.val + 256 * (i 0).val] := by decide +kernel
theorem off34_in : ∀ (i : grid0.Coords) (f : Fin 10) (a : Fin 3), k0_off34 i (BitVec.ofNat 32 (1792 * f.val)) a + S2x1x256.size a ≤ S2x1x17920.size a := by decide +kernel
/-- The field a column lies in. -/
def fieldOf (n : Fin 17920) : Fin 10 := ⟨n.val / 1792, by omega⟩
/-- The column field `q` starts at. -/
def gOff : ℕ → BitVec 32
  | 0 => 0#32
  | 1 => 1792#32
  | 2 => 3584#32
  | 3 => 5376#32
  | 4 => 7168#32
  | 5 => 8960#32
  | 6 => 10752#32
  | 7 => 12544#32
  | 8 => 14336#32
  | _ => 16128#32
theorem gOff_eq : ∀ q : Fin 10, gOff q.val = BitVec.ofNat 32 (1792 * q.val) := by decide
theorem gOff_off (i : grid0.Coords) (q : Fin 10) : k0_off34 i (gOff q.val) = ![0, 0, 1792 * q.val + 256 * (i 0).val] := by rw [gOff_eq q]; exact off34_eq i q
theorem gOff_in (i : grid0.Coords) (q : Fin 10) (a : Fin 3) : k0_off34 i (gOff q.val) a + S2x1x256.size a ≤ S2x1x17920.size a := by rw [gOff_eq q]; exact off34_in i q a
/-- Where field `q` is stored. -/
def gateRect (i : grid0.Coords) (q : Fin 10) : Rect S2x1x17920 := Rect.unit (s := S2x1x17920) (k0_off34 i (gOff q.val)) S2x1x256.size (gOff_in i q)
theorem acc_in : ∀ (p : Fin 5) (s : Fin 4) (a : Fin 3), (![p.val, 2 * s.val, 0] : Fin 3 → ℕ) a + S1x2x256.size a ≤ S5x16x256.size a := by decide

/-- The plane and row of the gate's field `f`, then the up projection's. -/
def gateP : ℕ → ℕ
  | 0 => 0
  | 1 => 1
  | 2 => 4
  | 3 => 0
  | 4 => 1
  | 5 => 4
  | 6 => 0
  | 7 => 1
  | 8 => 0
  | _ => 1
def gateR : ℕ → ℕ
  | 0 => 0
  | 1 => 0
  | 2 => 0
  | 3 => 2
  | 4 => 2
  | 5 => 2
  | 6 => 4
  | 7 => 4
  | 8 => 6
  | _ => 6
def upP : ℕ → ℕ
  | 0 => 2
  | 1 => 3
  | 2 => 4
  | 3 => 2
  | 4 => 3
  | 5 => 4
  | 6 => 2
  | 7 => 3
  | 8 => 2
  | _ => 3
def upR : ℕ → ℕ
  | 0 => 0
  | 1 => 0
  | 2 => 4
  | 3 => 2
  | 4 => 2
  | 5 => 6
  | 6 => 4
  | 7 => 4
  | 8 => 6
  | _ => 6
theorem gate_in : ∀ (q : Fin 10) (a : Fin 3), (![gateP q.val, gateR q.val, 0] : Fin 3 → ℕ) a + S1x2x256.size a ≤ S5x16x256.size a := by decide
theorem up_in : ∀ (q : Fin 10) (a : Fin 3), (![upP q.val, upR q.val, 0] : Fin 3 → ℕ) a + S1x2x256.size a ≤ S5x16x256.size a := by decide
theorem gateP_lt : ∀ q : Fin 10, gateP q.val < 5 := by decide
theorem upP_lt : ∀ q : Fin 10, upP q.val < 5 := by decide
theorem gateR_lt : ∀ q : Fin 10, gateR q.val < 7 := by decide
theorem upR_lt : ∀ q : Fin 10, upR q.val < 7 := by decide

/-- The order of the gate's pieces, newest first. -/
def gateOrder : List (Fin 10) := [⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩]

/-- What a store of one block of every field in a list leaves at an index. -/
theorem gates_store (v : View sig .tc .vmem S2x1x17920 .bf16) (f : v.ty.Contents (Elt Ideal)) (i : grid0.Coords) (hi : (i 0).val < 7) (P : Fin 10 → FVec Ideal S2x1x256 .bf16) (r : Fin 2) (n : Fin 17920) :
    ∀ L : List (Fin 10), v.read (Elt Ideal) (v.writes (Elt Ideal) f (L.map fun q => (⟨gateRect i q, P q⟩ : View.Piece (Elt Ideal) S2x1x17920 .bf16))) (ix3 r 0 n)
      = if n.val % 1792 / 256 = (i 0).val ∧ fieldOf n ∈ L then P (fieldOf n) (ix3 r 0 ⟨n.val % 256, by omega⟩) else v.read (Elt Ideal) f (ix3 r 0 n) := by
  intro L
  induction L with
  | nil => simp [View.writes_nil]
  | cons q L ih =>
    by_cases hb : n.val % 1792 / 256 = (i 0).val
    · by_cases hq : fieldOf n = q
      · rw [if_pos ⟨hb, by rw [hq]; exact List.mem_cons_self⟩]
        subst hq
        refine (View.read_writes_cons_unit_of_mem (s := S2x1x17920) (size := S2x1x256.size) v f (gOff_in i _) (P (fieldOf n)) _ _ (ix3 r 0 ⟨n.val % 256, by omega⟩) (gOff_off i _) fun a => ?_).trans rfl
        fin_cases a
        · simp [ix3]
        · simp [ix3]
        · show n.val = 1792 * (n.val / 1792) + 256 * (i 0).val + n.val % 256; omega
      · refine (View.read_writes_cons_unit_of_not_mem (s := S2x1x17920) (size := S2x1x256.size) v f (gOff_in i q) _ _ _ (gOff_off i q) 2 ?_).trans (ih.trans ?_)
        · have : n.val / 1792 ≠ q.val := fun e => hq (Fin.ext e)
          have := q.isLt
          show n.val < 1792 * q.val + 256 * (i 0).val ∨ 1792 * q.val + 256 * (i 0).val + 256 ≤ n.val
          omega
        · simp [hq]
    · refine (View.read_writes_cons_unit_of_not_mem (s := S2x1x17920) (size := S2x1x256.size) v f (gOff_in i q) _ _ _ (gOff_off i q) 2 ?_).trans (ih.trans ?_)
      · show n.val < 1792 * q.val + 256 * (i 0).val ∨ 1792 * q.val + 256 * (i 0).val + 256 ≤ n.val
        omega
      · simp [hb]

theorem gate_apply (a : Vec Ideal S1x2x256 .f32) (b : Vec Ideal S2x1x256 .f32) (a' : Vec Ideal S1x2x256 .f32) (b' : Vec Ideal S2x1x256 .f32) (r : Fin 2) (n : Fin 256) :
    k0_pay297 (F := Ideal) a b a' b' (ix3 r 0 n) = (a (ix3 0 r n) + b (ix3 r 0 n)) * Ideal.div 1 (1 + Ideal.exp (-(a (ix3 0 r n) + b (ix3 r 0 n)))) * (a' (ix3 0 r n) + b' (ix3 r 0 n)) := by
  pointwise [k0_pay297]
  rfl

section Gates
variable (c : Dev nD) (i : grid0.Coords)
  (arg3 : Memref sig .tc .vmem S1x256 .i32) (harg3 : arg3.IsWhole) (arg4 : Memref sig .tc .vmem S2x5120 .bf16) (harg4 : arg4.IsWhole) (arg5 : Memref sig .tc .vmem S1280x256 .i32) (harg5 : arg5.IsWhole) (arg6 : Memref sig .tc .vmem S1280x256 .i32) (harg6 : arg6.IsWhole) (arg7 : Memref sig .tc .vmem S40x17920 .bf16) (harg7 : arg7.IsWhole) (arg8 : Memref sig .tc .vmem S40x17920 .bf16) (harg8 : arg8.IsWhole) (arg9 : Memref sig .tc .vmem S40x17920 .i8) (harg9 : arg9.IsWhole) (arg10 : Memref sig .tc .vmem S40x17920 .i8) (harg10 : arg10.IsWhole) (arg11 : Memref sig .tc .vmem S1x5120 .bf16) (harg11 : arg11.IsWhole) (arg12 : Memref sig .tc .vmem S1x5120 .bf16) (harg12 : arg12.IsWhole) (arg15 : Memref sig .tc .vmem S2x1x17920 .bf16) (harg15 : arg15.IsWhole) (arg16 : Memref sig .tc .vmem S2x1x17920 .f32) (harg16 : arg16.IsWhole) (arg17 : Memref sig .tc .vmem S2x1x17920 .f32) (harg17 : arg17.IsWhole) (arg18 : Memref sig .tc .vmem S16x20480 .bf16) (harg18 : arg18.IsWhole) (arg19 : Memref sig .tc .vmem S5x2x320x2x128 .f32) (harg19 : arg19.IsWhole) (arg20 : Memref sig .tc .vmem S5x2x320x2x128 .f32) (harg20 : arg20.IsWhole) (arg21 : Memref sig .tc .vmem S5x16x256 .f32) (harg21 : arg21.IsWhole) (arg24 : Memref sig .tc .vmem S128x128 .i32) (harg24 : arg24.IsWhole)
variable (h4 : k0_cond4 i = 1#1) (X21 : BufTy.Contents (Elt Ideal) arg21.view.ty) (X16 : BufTy.Contents (Elt Ideal) arg16.view.ty) (X17 : BufTy.Contents (Elt Ideal) arg17.view.ty)

def gatePay (q : Fin 10) : FVec Ideal S2x1x256 .bf16 :=
  k0_pay297 (F := Ideal) (View.readAt (Elt Ideal) arg21.view (Rect.unit (s := S5x16x256) ![gateP q.val, gateR q.val, 0] S1x2x256.size (gate_in q)).toLoadRect X21)
    (View.readAt (Elt Ideal) arg16.view (Rect.unit (s := S2x1x17920) (k0_off34 i (gOff q.val)) S2x1x256.size (gOff_in i q)).toLoadRect X16)
    (View.readAt (Elt Ideal) arg21.view (Rect.unit (s := S5x16x256) ![upP q.val, upR q.val, 0] S1x2x256.size (up_in q)).toLoadRect X21)
    (View.readAt (Elt Ideal) arg17.view (Rect.unit (s := S2x1x17920) (k0_off34 i (gOff q.val)) S2x1x256.size (gOff_in i q)).toLoadRect X17)

set_option maxHeartbeats 4000000 in
theorem gate_pieces : (gate (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h4 X21 X16 X17).1
    = gateOrder.map fun q => (⟨gateRect i q, gatePay i arg16 arg17 arg21 X21 X16 X17 q⟩ : View.Piece (Elt Ideal) S2x1x17920 .bf16) := by
  unfold gate
  sl_open_run
  dsimp only
  rfl

set_option maxHeartbeats 1000000 in
/-- The result's block after the last point of a column block. -/
theorem gate_read (hi : (i 0).val < 7) (f : BufTy.Contents (Elt Ideal) arg15.view.ty) (r : Fin 2) (n : Fin 17920) :
    arg15.view.read (Elt Ideal) (arg15.view.writes (Elt Ideal) f (gate (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h4 X21 X16 X17).1) (ix3 r 0 n)
      = if n.val % 1792 / 256 = (i 0).val then
          (arg21.view.read (Elt Ideal) X21 (ix3 ⟨gateP (fieldOf n).val, gateP_lt _⟩ ⟨gateR (fieldOf n).val + r.val, by have := gateR_lt (fieldOf n); omega⟩ ⟨n.val % 256, by omega⟩) + arg16.view.read (Elt Ideal) X16 (ix3 r 0 n))
            * Ideal.div 1 (1 + Ideal.exp (-(arg21.view.read (Elt Ideal) X21 (ix3 ⟨gateP (fieldOf n).val, gateP_lt _⟩ ⟨gateR (fieldOf n).val + r.val, by have := gateR_lt (fieldOf n); omega⟩ ⟨n.val % 256, by omega⟩) + arg16.view.read (Elt Ideal) X16 (ix3 r 0 n))))
            * (arg21.view.read (Elt Ideal) X21 (ix3 ⟨upP (fieldOf n).val, upP_lt _⟩ ⟨upR (fieldOf n).val + r.val, by have := upR_lt (fieldOf n); omega⟩ ⟨n.val % 256, by omega⟩) + arg17.view.read (Elt Ideal) X17 (ix3 r 0 n))
        else arg15.view.read (Elt Ideal) f (ix3 r 0 n) := by
  rw [gate_pieces]
  refine (gates_store arg15.view f i hi _ r n _).trans ?_
  have hm : ∀ q : Fin 10, q ∈ gateOrder := by decide
  by_cases hb : n.val % 1792 / 256 = (i 0).val
  · rw [if_pos ⟨hb, hm _⟩, if_pos hb]
    refine (gate_apply _ _ _ _ r ⟨n.val % 256, by omega⟩).trans ?_
    have ha : ∀ (p u : ℕ) (hp : p < 5) (hu : u < 7) (inb : ∀ a : Fin 3, (![p, u, 0] : Fin 3 → ℕ) a + S1x2x256.size a ≤ S5x16x256.size a), (View.readAt (Elt Ideal) arg21.view (Rect.unit (s := S5x16x256) ![p, u, 0] S1x2x256.size inb).toLoadRect X21 : Vec Ideal S1x2x256 .f32) (ix3 0 r ⟨n.val % 256, by omega⟩)
        = arg21.view.read (Elt Ideal) X21 (ix3 ⟨p, hp⟩ ⟨u + r.val, by omega⟩ ⟨n.val % 256, by omega⟩) := by
      intro p u hp hu inb
      refine load_at arg21.view X21 _ (ix3 0 r ⟨n.val % 256, by omega⟩) _ rfl fun a => ?_
      fin_cases a <;> simp [ix3]
    have pos : ∀ a : Fin 3, ((ix3 r 0 n : S2x1x17920.Idx) a).val = (![0, 0, 1792 * (n.val / 1792) + 256 * (i 0).val] : Fin 3 → ℕ) a + ((ix3 r 0 (⟨n.val % 256, by omega⟩ : Fin 256) : S2x1x256.Idx) a).val := by
      intro a
      fin_cases a
      · simp [ix3]
      · simp [ix3]
      · show n.val = 1792 * (n.val / 1792) + 256 * (i 0).val + n.val % 256; omega
    have hb16 : (View.readAt (Elt Ideal) arg16.view (Rect.unit (s := S2x1x17920) (k0_off34 i (gOff (fieldOf n).val)) S2x1x256.size (gOff_in i (fieldOf n))).toLoadRect X16 : Vec Ideal S2x1x256 .f32) (ix3 r 0 ⟨n.val % 256, by omega⟩) = arg16.view.read (Elt Ideal) X16 (ix3 r 0 n) :=
      load_at arg16.view X16 _ (ix3 r 0 ⟨n.val % 256, by omega⟩) _ (gOff_off i _) pos
    have hb17 : (View.readAt (Elt Ideal) arg17.view (Rect.unit (s := S2x1x17920) (k0_off34 i (gOff (fieldOf n).val)) S2x1x256.size (gOff_in i (fieldOf n))).toLoadRect X17 : Vec Ideal S2x1x256 .f32) (ix3 r 0 ⟨n.val % 256, by omega⟩) = arg17.view.read (Elt Ideal) X17 (ix3 r 0 n) :=
      load_at arg17.view X17 _ (ix3 r 0 ⟨n.val % 256, by omega⟩) _ (gOff_off i _) pos
    rw [ha _ _ (gateP_lt _) (gateR_lt _), ha _ _ (upP_lt _) (upR_lt _), hb16, hb17]
  · rw [if_neg (fun h => hb h.1), if_neg hb]
end Gates
end Cert.KernelIdeal.Hand
end
-- ==== Proof.Ideal.ValSpread.lean ====
module
public import proofs.«01_k».proof.Proof.Ideal.Residual
public import Idealize.ShloMosaic.Lib.Pointwise
public import proofs.«01_k».proof.Proof.Ideal.ValRes
public import Idealize.ShloMosaic.Lib.BitcastPair
public import Idealize.ShloMosaic.Lib.VecWindow
public import Idealize.ShloMosaic.Lib.Tactic.Stretches
public import Idealize.ShloMosaic.Lib.WritesUnit
@[expose] public section

noncomputable section

namespace Cert.KernelIdeal.Hand

open Idealize.ShloMosaic Idealize.ShloMosaic.TcCoe Idealize.ShloMosaic.Tactic
open Gen

set_option maxRecDepth 16384
open Idealize.SL Idealize.SL.RA
theorem off7_eq : ∀ k : Fin k0_t2_loop.trips, k0_off7 k = ![0, 128 * k.val] := by decide +kernel
theorem off8_0 : ∀ k : Fin k0_t2_loop.trips, k0_off8 k 0#32 = ![0, 512 * k.val + 0] := by decide +kernel
theorem off8_1 : ∀ k : Fin k0_t2_loop.trips, k0_off8 k 1#32 = ![0, 512 * k.val + 128] := by decide +kernel
theorem off8_2 : ∀ k : Fin k0_t2_loop.trips, k0_off8 k 2#32 = ![0, 512 * k.val + 256] := by decide +kernel
theorem off8_3 : ∀ k : Fin k0_t2_loop.trips, k0_off8 k 3#32 = ![0, 512 * k.val + 384] := by decide +kernel
theorem lane_0 : ∀ l : Fin 128, (Scalar.select (IntOp.cmpi CmpIPredicate.slt (IntOp.addi 0#32 (IntOp.shrsi ArithUnit.vector (BitVec.ofNat 32 l.val) 2#32)) 0#32) (IntOp.addi (IntOp.addi 0#32 (IntOp.shrsi ArithUnit.vector (BitVec.ofNat 32 l.val) 2#32)) 128#32) (IntOp.addi 0#32 (IntOp.shrsi ArithUnit.vector (BitVec.ofNat 32 l.val) 2#32))).toNat % 128 = 0 + l.val / 4 := by decide +kernel
theorem lane_1 : ∀ l : Fin 128, (Scalar.select (IntOp.cmpi CmpIPredicate.slt (IntOp.addi 32#32 (IntOp.shrsi ArithUnit.vector (BitVec.ofNat 32 l.val) 2#32)) 0#32) (IntOp.addi (IntOp.addi 32#32 (IntOp.shrsi ArithUnit.vector (BitVec.ofNat 32 l.val) 2#32)) 128#32) (IntOp.addi 32#32 (IntOp.shrsi ArithUnit.vector (BitVec.ofNat 32 l.val) 2#32))).toNat % 128 = 32 + l.val / 4 := by decide +kernel
theorem lane_2 : ∀ l : Fin 128, (Scalar.select (IntOp.cmpi CmpIPredicate.slt (IntOp.addi 64#32 (IntOp.shrsi ArithUnit.vector (BitVec.ofNat 32 l.val) 2#32)) 0#32) (IntOp.addi (IntOp.addi 64#32 (IntOp.shrsi ArithUnit.vector (BitVec.ofNat 32 l.val) 2#32)) 128#32) (IntOp.addi 64#32 (IntOp.shrsi ArithUnit.vector (BitVec.ofNat 32 l.val) 2#32))).toNat % 128 = 64 + l.val / 4 := by decide +kernel
theorem lane_3 : ∀ l : Fin 128, (Scalar.select (IntOp.cmpi CmpIPredicate.slt (IntOp.addi 96#32 (IntOp.shrsi ArithUnit.vector (BitVec.ofNat 32 l.val) 2#32)) 0#32) (IntOp.addi (IntOp.addi 96#32 (IntOp.shrsi ArithUnit.vector (BitVec.ofNat 32 l.val) 2#32)) 128#32) (IntOp.addi 96#32 (IntOp.shrsi ArithUnit.vector (BitVec.ofNat 32 l.val) 2#32))).toNat % 128 = 96 + l.val / 4 := by decide +kernel
theorem lane_mine : ∀ (R : Fin 8) (l : Fin 128), IntOp.cmpi CmpIPredicate.eq (IntOp.andi (BitVec.ofNat 32 l.val) 3#32) (IntOp.shrsi ArithUnit.vector (BitVec.ofNat 32 R.val) 1#32) = if l.val % 4 = R.val / 2 then 1#1 else 0#1 := by decide +kernel

theorem pay6_apply (x : Vec Ideal S2x128 .bf16) (R : Fin 8) (l : Fin 128) : k0_pay6 (F := Ideal) x (ix2 R l) = x (ix2 ⟨R.val % 2, by omega⟩ l) := by
  pointwise [k0_pay6]
  split_ifs <;> · congr 2; apply Fin.ext; dsimp only; omega

/-- Quarter `q` of a stretch of the spread inputs: row `2 s + b` holds input row `b` at the lanes of residue `s`. -/
def spreadQ (x : Vec Ideal S2x128 .bf16) (q : Fin 4) (R : Fin 16) (l : Fin 128) : EReal :=
  if R.val / 2 = l.val % 4 then x (ix2 ⟨R.val % 2, by omega⟩ ⟨32 * q.val + l.val / 4, by omega⟩) else 0

theorem spread_select (x : Vec Ideal S2x128 .bf16) (q : Fin 4) (R : Fin 16) (l : Fin 128) (w : BitVec 32) (hw : w.toNat % 128 = 32 * q.val + l.val / 4) (hlt : w.toNat % 128 < 128) :
    (if h : R.val < 8 then Scalar.select (IntOp.cmpi CmpIPredicate.eq (IntOp.andi (BitVec.ofNat 32 l.val) 3#32) (IntOp.shrsi ArithUnit.vector (BitVec.ofNat 32 R.val) 1#32))
        (k0_pay6 (F := Ideal) x (ix2 ⟨R.val, h⟩ ⟨w.toNat % 128, hlt⟩)) (0 : EReal) else 0) = spreadQ x q R l := by
  unfold spreadQ
  by_cases h : R.val < 8
  · rw [dif_pos h, lane_mine ⟨R.val, h⟩ l, pay6_apply]
    by_cases hc : l.val % 4 = R.val / 2
    · rw [if_pos hc, if_pos hc.symm]
      show x _ = x _
      congr 2
      exact Fin.ext hw
    · rw [if_neg hc, if_neg (fun e => hc e.symm)]
      rfl
  · rw [dif_neg h, if_neg (by omega)]

theorem spread_0 (x : Vec Ideal S2x128 .bf16) (R : Fin 16) (l : Fin 128) : k0_pay7 (F := Ideal) lanes k0_pay1 x (ix2 R l) = spreadQ x 0 R l := by
  pointwise [k0_pay7, k0_pay1]
  have := spread_select x 0 R l _ (lane_0 l) (Nat.mod_lt _ (by decide))
  exact this
theorem spread_1 (x : Vec Ideal S2x128 .bf16) (R : Fin 16) (l : Fin 128) : k0_pay9 (F := Ideal) k0_pay1 (k0_pay6 x) (k0_pay8 lanes) (ix2 R l) = spreadQ x 1 R l := by
  pointwise [k0_pay9, k0_pay1, k0_pay8]
  have := spread_select x 1 R l _ (lane_1 l) (Nat.mod_lt _ (by decide))
  exact this
theorem spread_2 (x : Vec Ideal S2x128 .bf16) (R : Fin 16) (l : Fin 128) : k0_pay10 (F := Ideal) lanes k0_pay1 (k0_pay6 x) (ix2 R l) = spreadQ x 2 R l := by
  pointwise [k0_pay10, k0_pay1]
  have := spread_select x 2 R l _ (lane_2 l) (Nat.mod_lt _ (by decide))
  exact this
theorem spread_3 (x : Vec Ideal S2x128 .bf16) (R : Fin 16) (l : Fin 128) : k0_pay2 (F := Ideal) (k0_pay6 x) k0_pay11 (ix2 R l) = spreadQ x 3 R l := by
  pointwise [k0_pay2, k0_pay1, k0_pay11]
  have := spread_select x 3 R l _ (lane_3 l) (Nat.mod_lt _ (by decide))
  exact this

/-- What a store of the four quarters leaves at an index. -/
theorem spread_store (v : View sig .tc .vmem S16x20480 .bf16) (f : v.ty.Contents (Elt Ideal)) (k : ℕ) (hk : k < 40) (x : Vec Ideal S2x128 .bf16)
    (o0 o1 o2 o3 : Fin 2 → ℕ) (i0 : ∀ a, o0 a + ![16, 128] a ≤ S16x20480.size a) (i1 : ∀ a, o1 a + ![16, 128] a ≤ S16x20480.size a) (i2 : ∀ a, o2 a + ![16, 128] a ≤ S16x20480.size a) (i3 : ∀ a, o3 a + ![16, 128] a ≤ S16x20480.size a)
    (e0 : o0 = ![0, 512 * k + 0]) (e1 : o1 = ![0, 512 * k + 128]) (e2 : o2 = ![0, 512 * k + 256]) (e3 : o3 = ![0, 512 * k + 384])
    (p0 p1 p2 p3 : FVec Ideal S16x128 .bf16)
    (h0 : ∀ b l, p0 (ix2 b l) = spreadQ x 0 b l) (h1 : ∀ b l, p1 (ix2 b l) = spreadQ x 1 b l)
    (h2 : ∀ b l, p2 (ix2 b l) = spreadQ x 2 b l) (h3 : ∀ b l, p3 (ix2 b l) = spreadQ x 3 b l)
    (R : Fin 16) (n : Fin 20480) :
    v.read (Elt Ideal) (v.writes (Elt Ideal) f [⟨Rect.unit o3 ![16, 128] i3, p3⟩, ⟨Rect.unit o2 ![16, 128] i2, p2⟩, ⟨Rect.unit o1 ![16, 128] i1, p1⟩, ⟨Rect.unit o0 ![16, 128] i0, p0⟩]) (ix2 R n)
      = if h : 512 * k ≤ n.val ∧ n.val < 512 * (k + 1) then (if R.val / 2 = n.val % 4 then x (ix2 ⟨R.val % 2, by omega⟩ ⟨n.val / 4 - 128 * k, by omega⟩) else 0) else v.read (Elt Ideal) f (ix2 R n) := by
  have hit : ∀ (m : ℕ) (hm : m < 4) (h : 512 * k + 128 * m ≤ n.val ∧ n.val < 512 * k + 128 * (m + 1)),
      spreadQ x ⟨m, hm⟩ R ⟨n.val - (512 * k + 128 * m), by omega⟩ = (if R.val / 2 = n.val % 4 then x (ix2 ⟨R.val % 2, by omega⟩ ⟨n.val / 4 - 128 * k, by omega⟩) else 0) := by
    intro m hm h
    unfold spreadQ
    dsimp only
    rw [show (n.val - (512 * k + 128 * m)) % 4 = n.val % 4 by omega]
    congr 3
    apply Fin.ext
    dsimp only
    omega
  have mem : ∀ (m : ℕ) (h : 512 * k + 128 * m ≤ n.val ∧ n.val < 512 * k + 128 * (m + 1)), ∀ a : Fin 2, ((ix2 R n : S16x20480.Idx) a).val = (![0, 512 * k + 128 * m] : Fin 2 → ℕ) a + ((ix2 R (⟨n.val - (512 * k + 128 * m), by omega⟩ : Fin 128) : S16x128.Idx) a).val := by
    intro m h a
    fin_cases a
    · simp [ix2]
    · simp [ix2]; omega
  have miss : ∀ m : ℕ, ¬ (512 * k + 128 * m ≤ n.val ∧ n.val < 512 * k + 128 * (m + 1)) → ((ix2 R n : S16x20480.Idx) 1).val < (![0, 512 * k + 128 * m] : Fin 2 → ℕ) 1 ∨ (![0, 512 * k + 128 * m] : Fin 2 → ℕ) 1 + (![16, 128] : Fin 2 → ℕ) 1 ≤ ((ix2 R n : S16x20480.Idx) 1).val := by
    intro m h
    simp [ix2]; omega
  by_cases c3 : 512 * k + 128 * 3 ≤ n.val ∧ n.val < 512 * k + 128 * (3 + 1)
  · rw [View.read_writes_cons_unit_of_mem v f i3 p3 _ _ (ix2 R (⟨n.val - (512 * k + 128 * 3), by omega⟩ : Fin 128)) e3 (mem 3 c3), dif_pos (by omega), h3]
    exact hit 3 (by omega) c3
  rw [View.read_writes_cons_unit_of_not_mem v f i3 p3 _ _ e3 1 (miss 3 c3)]
  by_cases c2 : 512 * k + 128 * 2 ≤ n.val ∧ n.val < 512 * k + 128 * (2 + 1)
  · rw [View.read_writes_cons_unit_of_mem v f i2 p2 _ _ (ix2 R (⟨n.val - (512 * k + 128 * 2), by omega⟩ : Fin 128)) e2 (mem 2 c2), dif_pos (by omega), h2]
    exact hit 2 (by omega) c2
  rw [View.read_writes_cons_unit_of_not_mem v f i2 p2 _ _ e2 1 (miss 2 c2)]
  by_cases c1 : 512 * k + 128 * 1 ≤ n.val ∧ n.val < 512 * k + 128 * (1 + 1)
  · rw [View.read_writes_cons_unit_of_mem v f i1 p1 _ _ (ix2 R (⟨n.val - (512 * k + 128 * 1), by omega⟩ : Fin 128)) e1 (mem 1 c1), dif_pos (by omega), h1]
    exact hit 1 (by omega) c1
  rw [View.read_writes_cons_unit_of_not_mem v f i1 p1 _ _ e1 1 (miss 1 c1)]
  by_cases c0 : 512 * k + 128 * 0 ≤ n.val ∧ n.val < 512 * k + 128 * (0 + 1)
  · rw [View.read_writes_cons_unit_of_mem v f i0 p0 _ _ (ix2 R (⟨n.val - (512 * k + 128 * 0), by omega⟩ : Fin 128)) e0 (mem 0 c0), dif_pos (by omega), h0]
    exact hit 0 (by omega) c0
  rw [View.read_writes_cons_unit_of_not_mem v f i0 p0 _ _ e0 1 (miss 0 c0), dif_neg (by omega), View.writes_nil]

section Spread
variable (c : Dev nD) (i : grid0.Coords)
  (arg3 : Memref sig .tc .vmem S1x256 .i32) (harg3 : arg3.IsWhole) (arg4 : Memref sig .tc .vmem S2x5120 .bf16) (harg4 : arg4.IsWhole) (arg5 : Memref sig .tc .vmem S1280x256 .i32) (harg5 : arg5.IsWhole) (arg6 : Memref sig .tc .vmem S1280x256 .i32) (harg6 : arg6.IsWhole) (arg7 : Memref sig .tc .vmem S40x17920 .bf16) (harg7 : arg7.IsWhole) (arg8 : Memref sig .tc .vmem S40x17920 .bf16) (harg8 : arg8.IsWhole) (arg9 : Memref sig .tc .vmem S40x17920 .i8) (harg9 : arg9.IsWhole) (arg10 : Memref sig .tc .vmem S40x17920 .i8) (harg10 : arg10.IsWhole) (arg11 : Memref sig .tc .vmem S1x5120 .bf16) (harg11 : arg11.IsWhole) (arg12 : Memref sig .tc .vmem S1x5120 .bf16) (harg12 : arg12.IsWhole) (arg15 : Memref sig .tc .vmem S2x1x17920 .bf16) (harg15 : arg15.IsWhole) (arg16 : Memref sig .tc .vmem S2x1x17920 .f32) (harg16 : arg16.IsWhole) (arg17 : Memref sig .tc .vmem S2x1x17920 .f32) (harg17 : arg17.IsWhole) (arg18 : Memref sig .tc .vmem S16x20480 .bf16) (harg18 : arg18.IsWhole) (arg19 : Memref sig .tc .vmem S5x2x320x2x128 .f32) (harg19 : arg19.IsWhole) (arg20 : Memref sig .tc .vmem S5x2x320x2x128 .f32) (harg20 : arg20.IsWhole) (arg21 : Memref sig .tc .vmem S5x16x256 .f32) (harg21 : arg21.IsWhole) (arg24 : Memref sig .tc .vmem S128x128 .i32) (harg24 : arg24.IsWhole)
variable (h1 : k0_cond1 i = 1#1)

/-- One trip of the loop that spreads the inputs. -/
theorem trip2_read (X : BufTy.Contents (Elt Ideal) arg4.view.ty) (k : Fin k0_t2_loop.trips) (f : BufTy.Contents (Elt Ideal) arg18.view.ty) (R : Fin 16) (n : Fin 20480) :
    arg18.view.read (Elt Ideal) (step2 (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h1 lanes X k f) (ix2 R n)
      = if 512 * k.val ≤ n.val ∧ n.val < 512 * (k.val + 1) then
          (if R.val / 2 = n.val % 4 then arg4.view.read (Elt Ideal) X (ix2 ⟨R.val % 2, by omega⟩ ⟨n.val / 4, by omega⟩) else 0)
        else arg18.view.read (Elt Ideal) f (ix2 R n) := by
  have hk : k.val < 40 := Nat.lt_of_lt_of_le k.isLt k0_t2_abs.2.1
  unfold step2 trip2
  sl_open_run
  dsimp only
  refine (spread_store arg18.view f k.val hk _ _ _ _ _ _ _ _ _ (off8_0 k) (off8_1 k) (off8_2 k) (off8_3 k) _ _ _ _ (spread_0 _) (spread_1 _) (spread_2 _) (spread_3 _) R n).trans ?_
  by_cases hc : 512 * k.val ≤ n.val ∧ n.val < 512 * (k.val + 1)
  · rw [dif_pos hc, if_pos hc]
    congr 1
    refine congrArg (arg4.view.read (Elt Ideal) X) (funext fun a => Fin.ext ?_)
    have := congrFun (off7_eq k) a
    show k0_off7 k a + 1 * _ = _
    rw [this]
    fin_cases a
    · simp [ix2]
    · simp [ix2]; omega
  · rw [dif_neg hc, if_neg hc]

/-- All trips: row `2 s + b` of the spread inputs holds input row `b` at the columns of residue `s`. -/
theorem cont2_read (X : BufTy.Contents (Elt Ideal) arg4.view.ty) (f : BufTy.Contents (Elt Ideal) arg18.view.ty) (R : Fin 16) (n : Fin 20480) (N : ℕ) (hN : N = 40) :
    arg18.view.read (Elt Ideal) (cont2 (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h1 lanes X f N) (ix2 R n)
      = if R.val / 2 = n.val % 4 then arg4.view.read (Elt Ideal) X (ix2 ⟨R.val % 2, by omega⟩ ⟨n.val / 4, by omega⟩) else 0 := by
  have key := cont_ind (N := k0_t2_loop.trips) (step2 (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h1 lanes X) f
    (fun k g => n.val < 512 * k → arg18.view.read (Elt Ideal) g (ix2 R n) = if R.val / 2 = n.val % 4 then arg4.view.read (Elt Ideal) X (ix2 ⟨R.val % 2, by omega⟩ ⟨n.val / 4, by omega⟩) else 0) (fun h => by omega) ?_ N (by rw [hN]; decide)
  · exact key (by omega)
  · intro k g ih hn
    rw [trip2_read]
    by_cases hc : 512 * k.val ≤ n.val
    · rw [if_pos ⟨hc, hn⟩]
    · rw [if_neg (by omega)]
      exact ih (by omega)
end Spread
end Cert.KernelIdeal.Hand
end
-- ==== Proof.Ideal.ValPoint.lean ====
module
public import proofs.«01_k».proof.Proof.Ideal.Residual
public import Idealize.ShloMosaic.Lib.Pointwise
public import proofs.«01_k».proof.Proof.Ideal.ValRes
public import Idealize.ShloMosaic.Lib.BitcastPair
public import Idealize.ShloMosaic.Lib.VecWindow
public import Idealize.ShloMosaic.Lib.Tactic.Stretches
public import Idealize.ShloMosaic.Lib.WritesUnit
public import proofs.«01_k».proof.Proof.Ideal.ValCollapse
public import proofs.«01_k».proof.Proof.Ideal.ValTable
public import proofs.«01_k».proof.Proof.Ideal.ValGate
public import proofs.«01_k».proof.Proof.Ideal.ValSpread
public import proofs.«01_k».proof.Proof.Ideal.Body
@[expose] public section

noncomputable section

namespace Cert.KernelIdeal.Hand

open Idealize.ShloMosaic Idealize.ShloMosaic.TcCoe Idealize.ShloMosaic.Tactic
open Gen

set_option maxRecDepth 16384
open Idealize.SL Idealize.SL.RA
/-! ## One grid point's share of the base products -/

/-- The silu gate. -/
def gated (g u : EReal) : EReal := g * Ideal.div 1 (1 + Ideal.exp (-g)) * u

/-- The accumulators hold the first `N` groups' sums. -/
def AccOk (x : Fin 2 → Fin 5120 → EReal) (W : Bool → Fin 5120 → Fin 1792 → BitVec 32) (sc : Bool → Fin 40 → Fin 17920 → EReal) (Z : Bool → Fin 40 → Fin 17920 → BitVec 8) (b : Fin 7) (N : ℕ)
    (v : View sig .tc .vmem S5x16x256 .f32) (f : v.ty.Contents (Elt Ideal)) : Prop :=
  ∀ (p : Fin 5) (s : Fin 4) (r : Fin 2) (R : Fin 16) (m : Fin 256), R.val = 2 * s.val + r.val →
    v.read (Elt Ideal) f (ix3 p R m) = ∑ g ∈ Finset.range N, baseGroup x W sc Z (patU p.val s.val) r (colAt b p.val s.val m) g

theorem gate_tab : ∀ q : Fin 10, patU (gateP q.val) (gateR q.val / 2) = false ∧ patF (gateP q.val) (gateR q.val / 2) = q ∧ gateR q.val = 2 * (gateR q.val / 2) := by decide
theorem up_tab : ∀ q : Fin 10, patU (upP q.val) (upR q.val / 2) = true ∧ patF (upP q.val) (upR q.val / 2) = q ∧ upR q.val = 2 * (upR q.val / 2) := by decide

section Point
variable {c : Dev nD} {i : grid0.Coords}
  {arg3 : Memref sig .tc .vmem S1x256 .i32} {harg3 : arg3.IsWhole} {arg4 : Memref sig .tc .vmem S2x5120 .bf16} {harg4 : arg4.IsWhole} {arg5 : Memref sig .tc .vmem S1280x256 .i32} {harg5 : arg5.IsWhole} {arg6 : Memref sig .tc .vmem S1280x256 .i32} {harg6 : arg6.IsWhole} {arg7 : Memref sig .tc .vmem S40x17920 .bf16} {harg7 : arg7.IsWhole} {arg8 : Memref sig .tc .vmem S40x17920 .bf16} {harg8 : arg8.IsWhole} {arg9 : Memref sig .tc .vmem S40x17920 .i8} {harg9 : arg9.IsWhole} {arg10 : Memref sig .tc .vmem S40x17920 .i8} {harg10 : arg10.IsWhole} {arg11 : Memref sig .tc .vmem S1x5120 .bf16} {harg11 : arg11.IsWhole} {arg12 : Memref sig .tc .vmem S1x5120 .bf16} {harg12 : arg12.IsWhole} {arg15 : Memref sig .tc .vmem S2x1x17920 .bf16} {harg15 : arg15.IsWhole} {arg16 : Memref sig .tc .vmem S2x1x17920 .f32} {harg16 : arg16.IsWhole} {arg17 : Memref sig .tc .vmem S2x1x17920 .f32} {harg17 : arg17.IsWhole} {arg18 : Memref sig .tc .vmem S16x20480 .bf16} {harg18 : arg18.IsWhole} {arg19 : Memref sig .tc .vmem S5x2x320x2x128 .f32} {harg19 : arg19.IsWhole} {arg20 : Memref sig .tc .vmem S5x2x320x2x128 .f32} {harg20 : arg20.IsWhole} {arg21 : Memref sig .tc .vmem S5x16x256 .f32} {harg21 : arg21.IsWhole} {arg24 : Memref sig .tc .vmem S128x128 .i32} {harg24 : arg24.IsWhole}
variable {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty} {X9 : BufTy.Contents (Elt Ideal) arg9.view.ty} {X10 : BufTy.Contents (Elt Ideal) arg10.view.ty}
  {f15 f15' : BufTy.Contents (Elt Ideal) arg15.view.ty} {f16' : BufTy.Contents (Elt Ideal) arg16.view.ty} {f17' : BufTy.Contents (Elt Ideal) arg17.view.ty} {f18 f18' : BufTy.Contents (Elt Ideal) arg18.view.ty} {f19 f19' : BufTy.Contents (Elt Ideal) arg19.view.ty} {f20 f20' : BufTy.Contents (Elt Ideal) arg20.view.ty} {f21 f21' g21 : BufTy.Contents (Elt Ideal) arg21.view.ty}
variable (x : Fin 2 → Fin 5120 → EReal) (W : Bool → Fin 5120 → Fin 1792 → BitVec 32) (sc : Bool → Fin 40 → Fin 17920 → EReal) (Z : Bool → Fin 40 → Fin 17920 → BitVec 8) (b : Fin 7)

theorem scales_table (h2 : k0_cond2 i = 1#1) (hb : (i 0).val = b.val) (h7 : ∀ g n, arg7.view.read (Elt Ideal) X7 (ix2 g n) = sc false g n) (h8 : ∀ g n, arg8.view.read (Elt Ideal) X8 (ix2 g n) = sc true g n) (f : BufTy.Contents (Elt Ideal) arg19.view.ty) :
    TableOk (scaleAt sc b) arg19.view (arg19.view.writes (Elt Ideal) f (pattern (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h2 X7 X8 X9 X10).1.1) := by
  intro p j R b' l
  rw [pattern_scales]
  refine (pieces_read arg19.view f _ _ p j R b' l).trans ?_
  obtain ⟨s, hs⟩ : ∃ s : Fin 4, s.val = 2 * (R.val % 2) + b'.val := ⟨⟨_, by omega⟩, rfl⟩
  rw [← hs]
  unfold patVal scaleAt
  rw [srcS_apply i arg7 arg8 X7 X8 p s _ _ (colAt b p.val s.val ⟨128 * j.val + l.val, by omega⟩) (by rw [hb]; rfl), patDown_eq p s]
  cases patU p.val s.val
  · exact congrArg₂ (· * ·) (h7 _ _) (exp_down (patO p.val s.val))
  · exact congrArg₂ (· * ·) (h8 _ _) (exp_down (patO p.val s.val))

theorem zeros_table (h2 : k0_cond2 i = 1#1) (hb : (i 0).val = b.val) (h9 : ∀ g n, (arg9.view.read (Elt Ideal) X9 (ix2 g n) : BitVec 8) = Z false g n) (h10 : ∀ g n, (arg10.view.read (Elt Ideal) X10 (ix2 g n) : BitVec 8) = Z true g n) (f : BufTy.Contents (Elt Ideal) arg20.view.ty) :
    TableOk (zeroAt Z b) arg20.view (arg20.view.writes (Elt Ideal) f (pattern (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h2 X7 X8 X9 X10).1.2.1) := by
  intro p j R b' l
  rw [pattern_zeros]
  refine (pieces_read arg20.view f _ _ p j R b' l).trans ?_
  obtain ⟨s, hs⟩ : ∃ s : Fin 4, s.val = 2 * (R.val % 2) + b'.val := ⟨⟨_, by omega⟩, rfl⟩
  rw [← hs]
  unfold patVal zeroAt
  rw [srcZ_apply i arg9 arg10 X9 X10 p s _ _ (colAt b p.val s.val ⟨128 * j.val + l.val, by omega⟩) (by rw [hb]; rfl), patUp_eq p s]
  cases patU p.val s.val
  · exact congrArg₂ (· * ·) (congrArg zval (h9 _ _)) (exp_up (patO p.val s.val))
  · exact congrArg₂ (· * ·) (congrArg zval (h10 _ _)) (exp_up (patO p.val s.val))

theorem clear_apply (p : Fin 5) (R : Fin 16) (m : Fin 256) : k0_pay3 (F := Ideal) (ix3 p R m) = (0 : EReal) := by
  pointwise [k0_pay3] <;> first | rfl | simp [Ideal.ofBits, Ideal.ieee]

theorem cleared (h2 : k0_cond2 i = 1#1) (f : BufTy.Contents (Elt Ideal) arg21.view.ty) (p : Fin 5) (R : Fin 16) (m : Fin 256) :
    arg21.view.read (Elt Ideal) (arg21.view.writes (Elt Ideal) f (pattern (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h2 X7 X8 X9 X10).1.2.2) (ix3 p R m) = 0 := by
  have e : (pattern (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h2 X7 X8 X9 X10).1.2.2 = [(⟨Rect.unit (s := S5x16x256) ![0, 0, 0] S5x16x256.size inb_S5x16x256_S5x16x256_0_0_0, k0_pay3 (F := Ideal)⟩ : View.Piece (Elt Ideal) S5x16x256 .f32)] := by
    unfold pattern
    sl_open_run
    dsimp only
  rw [e]
  refine (View.read_writes_cons_unit_of_mem (s := S5x16x256) (size := S5x16x256.size) arg21.view f inb_S5x16x256_S5x16x256_0_0_0 (k0_pay3 (F := Ideal)) _ _ (ix3 p R m) rfl fun a => ?_).trans (clear_apply p R m)
  fin_cases a <;> simp [ix3]

theorem acc_step (w1 : BitVec 32) (ha : (i 1).val < 4) (h5 : WordsOk b (W false) (i 1).val ha arg5.view X5) (h6 : WordsOk b (W true) (i 1).val ha arg6.view X6) (h18 : SpreadOk x arg18.view f18)
    (h19 : TableOk (scaleAt sc b) arg19.view f19) (h20 : TableOk (zeroAt Z b) arg20.view f20) (h21 : AccOk x W sc Z b (10 * (i 1).val) arg21.view f21) (N : ℕ) (hN : N = 10) :
    AccOk x W sc Z b (10 * (i 1).val + 10) arg21.view (cont3 (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 w1 X5 X6 f18 f19 f20 f21 N) := by
  intro p s r R m hR
  refine (cont3_read c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 w1 X5 X6 f18 f19 f20 ha f21 p R m (fun k => baseGroup x W sc Z (patU p.val s.val) r (colAt b p.val s.val m) (10 * (i 1).val + k.val))
    (fun k hk' => group_eq i arg5 arg6 arg18 arg19 arg20 X5 X6 f18 f19 f20 x W sc Z b ha h5 h6 h18 h19 h20 k _ hk' p s r R hR m) N hN).trans ?_
  refine (congrArg₂ (· + ·) (h21 p s r R m hR) (Fin.sum_univ_eq_sum_range (fun k => baseGroup x W sc Z (patU p.val s.val) r (colAt b p.val s.val m) (10 * (i 1).val + k)) 10)).trans ?_
  exact (Finset.sum_range_add _ _ _).symm

/-- What a grid point leaves in the kept buffers. -/
theorem point_base (hb : (i 0).val = b.val) (ha : (i 1).val < 4) (hz : k0_cond2 i = 1#1 → (i 1).val = 0)
    (h4 : ∀ r k, arg4.view.read (Elt Ideal) X4 (ix2 r k) = x r k) (h5 : WordsOk b (W false) (i 1).val ha arg5.view X5) (h6 : WordsOk b (W true) (i 1).val ha arg6.view X6)
    (h7 : ∀ g n, arg7.view.read (Elt Ideal) X7 (ix2 g n) = sc false g n) (h8 : ∀ g n, arg8.view.read (Elt Ideal) X8 (ix2 g n) = sc true g n)
    (h9 : ∀ g n, (arg9.view.read (Elt Ideal) X9 (ix2 g n) : BitVec 8) = Z false g n) (h10 : ∀ g n, (arg10.view.read (Elt Ideal) X10 (ix2 g n) : BitVec 8) = Z true g n)
    (hc1 : ¬ k0_cond1 i = 1#1 → SpreadOk x arg18.view f18)
    (hc2 : ¬ k0_cond2 i = 1#1 → TableOk (scaleAt sc b) arg19.view f19 ∧ TableOk (zeroAt Z b) arg20.view f20 ∧ AccOk x W sc Z b (10 * (i 1).val) arg21.view f21)
    (hL : Lhs (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 X4 f18 f18') (hP : Pat (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 X7 X8 X9 X10 f19 f20 f21 f19' f20' g21)
    (hA : f21' = cont3 (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 (BitVec.ofNat 32 (i 1).val) X5 X6 f18' f19' f20' g21 k0_t3_loop.trips) :
    SpreadOk x arg18.view f18' ∧ TableOk (scaleAt sc b) arg19.view f19' ∧ TableOk (zeroAt Z b) arg20.view f20' ∧ AccOk x W sc Z b (10 * (i 1).val + 10) arg21.view f21' := by
  have h18 : SpreadOk x arg18.view f18' := by
    by_cases h1 : k0_cond1 i = 1#1
    · rw [hL.1 h1]
      intro R n
      refine (cont2_read c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h1 X4 f18 R n _ (by decide)).trans ?_
      rw [h4]
    · rw [hL.2 h1]; exact hc1 h1
  have h123 : TableOk (scaleAt sc b) arg19.view f19' ∧ TableOk (zeroAt Z b) arg20.view f20' ∧ AccOk x W sc Z b (10 * (i 1).val) arg21.view g21 := by
    by_cases h2 : k0_cond2 i = 1#1
    · obtain ⟨e19, e20, e21⟩ := hP.1 h2
      rw [e19, e20, e21]
      refine ⟨scales_table sc b h2 hb h7 h8 f19, zeros_table Z b h2 hb h9 h10 f20, ?_⟩
      intro p s r R m hR
      refine (cleared h2 f21 p R m).trans ?_
      rw [hz h2]
      rfl
    · obtain ⟨e19, e20, e21⟩ := hP.2 h2
      rw [e19, e20, e21]; exact hc2 h2
  refine ⟨h18, h123.1, h123.2.1, ?_⟩
  rw [hA]
  exact acc_step x W sc Z b _ ha h5 h6 h18 h123.1 h123.2.1 h123.2.2 _ (by decide)

/-- What the last grid point of a column block leaves in the first result. -/
theorem out_read (hb : (i 0).val = b.val) (h4 : k0_cond4 i = 1#1) (hacc : AccOk x W sc Z b 40 arg21.view f21') (G U : Fin 2 → Fin 17920 → EReal)
    (hG : ∀ r n, arg16.view.read (Elt Ideal) f16' (ix3 r 0 n) = G r n) (hU : ∀ r n, arg17.view.read (Elt Ideal) f17' (ix3 r 0 n) = U r n)
    (hO : Out (F := Ideal) c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 f21' f16' f17' f15 f15') (r : Fin 2) (n : Fin 17920) :
    arg15.view.read (Elt Ideal) f15' (ix3 r 0 n) = if n.val % 1792 / 256 = b.val then
      gated (baseSpec x (W false) (sc false) (Z false) r n + G r n) (baseSpec x (W true) (sc true) (Z true) r n + U r n) else arg15.view.read (Elt Ideal) f15 (ix3 r 0 n) := by
  rw [hO.1 h4]
  refine (gate_read c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 h4 f21' f16' f17' (by rw [hb]; exact b.isLt) f15 r n).trans ?_
  by_cases hk : n.val % 1792 / 256 = b.val
  · have key : ∀ (P : ℕ) (hP : P < 5) (R0 : ℕ) (hR : R0 < 7) (u : Bool) (_ : patU P (R0 / 2) = u ∧ patF P (R0 / 2) = fieldOf n ∧ R0 = 2 * (R0 / 2)),
        arg21.view.read (Elt Ideal) f21' (ix3 ⟨P, hP⟩ ⟨R0 + r.val, by omega⟩ ⟨n.val % 256, by omega⟩) = baseSpec x (W u) (sc u) (Z u) r n := by
      intro P hP R0 hR u ⟨hu, hF, hev⟩
      refine (hacc ⟨P, hP⟩ ⟨R0 / 2, by omega⟩ r _ _ (by show R0 + r.val = 2 * (R0 / 2) + r.val; omega)).trans ?_
      have hc : colAt b P (R0 / 2) ⟨n.val % 256, by omega⟩ = n := Fin.ext (by
        show 1792 * (patF P (R0 / 2)).val + 256 * b.val + n.val % 256 = n.val
        rw [hF]
        show 1792 * (n.val / 1792) + 256 * b.val + n.val % 256 = n.val
        omega)
      show ∑ g ∈ Finset.range 40, baseGroup x W sc Z (patU P (R0 / 2)) r (colAt b P (R0 / 2) ⟨n.val % 256, by omega⟩) g = _
      rw [hc, hu]
      exact base_groups x W sc Z u r n
    rw [if_pos (hk.trans hb.symm), if_pos hk, hG, hU, key _ _ _ (gateR_lt _) false (gate_tab (fieldOf n)), key _ _ _ (upR_lt _) true (up_tab (fieldOf n))]
    rfl
  · rw [if_neg (fun h => hk (h.trans hb)), if_neg hk]
end Point
end Cert.KernelIdeal.Hand
end
-- ==== Proof.Ideal.ValRun.lean ====
module
public import proofs.«01_k».proof.Proof.Ideal.Frame
public import proofs.«01_k».proof.Proof.Ideal.ValStretch
public import proofs.«01_k».proof.Proof.Ideal.ValHost
public import proofs.«01_k».proof.Proof.Ideal.ValWin
public import proofs.«01_k».proof.Proof.Ideal.ValSpec
public import proofs.«01_k».proof.Proof.Ideal.ValPoint
public import Idealize.ShloMosaic.Lib.Pipeline.ArrRel
public import Idealize.ShloMosaic.Lib.Pipeline.ValueKit.Geometry
@[expose] public section

noncomputable section

namespace Cert.KernelIdeal.Hand

open Idealize.ShloMosaic Idealize.ShloMosaic.TcCoe Idealize.ShloMosaic.Tactic
open Idealize.SL Idealize.SL.RA
open Gen

set_option maxRecDepth 16384

section Pieces
variable {c : Dev nD} {i : grid0.Coords}
  {arg3 : Memref sig .tc .vmem S1x256 .i32} {harg3 : arg3.IsWhole} {arg4 : Memref sig .tc .vmem S2x5120 .bf16} {harg4 : arg4.IsWhole} {arg5 : Memref sig .tc .vmem S1280x256 .i32} {harg5 : arg5.IsWhole} {arg6 : Memref sig .tc .vmem S1280x256 .i32} {harg6 : arg6.IsWhole} {arg7 : Memref sig .tc .vmem S40x17920 .bf16} {harg7 : arg7.IsWhole} {arg8 : Memref sig .tc .vmem S40x17920 .bf16} {harg8 : arg8.IsWhole} {arg9 : Memref sig .tc .vmem S40x17920 .i8} {harg9 : arg9.IsWhole} {arg10 : Memref sig .tc .vmem S40x17920 .i8} {harg10 : arg10.IsWhole} {arg11 : Memref sig .tc .vmem S1x5120 .bf16} {harg11 : arg11.IsWhole} {arg12 : Memref sig .tc .vmem S1x5120 .bf16} {harg12 : arg12.IsWhole} {arg15 : Memref sig .tc .vmem S2x1x17920 .bf16} {harg15 : arg15.IsWhole} {arg16 : Memref sig .tc .vmem S2x1x17920 .f32} {harg16 : arg16.IsWhole} {arg17 : Memref sig .tc .vmem S2x1x17920 .f32} {harg17 : arg17.IsWhole} {arg18 : Memref sig .tc .vmem S16x20480 .bf16} {harg18 : arg18.IsWhole} {arg19 : Memref sig .tc .vmem S5x2x320x2x128 .f32} {harg19 : arg19.IsWhole} {arg20 : Memref sig .tc .vmem S5x2x320x2x128 .f32} {harg20 : arg20.IsWhole} {arg21 : Memref sig .tc .vmem S5x16x256 .f32} {harg21 : arg21.IsWhole} {arg24 : Memref sig .tc .vmem S128x128 .i32} {harg24 : arg24.IsWhole}
  {q : PosShare TreeShare} {X : S100.Idx → BitVec 32} {hX : ∀ y, (X y).toNat < 5120} {WG WU : S1280x8960.Idx → Elt Ideal .i32}
  {X3 : BufTy.Contents (Elt Ideal) arg3.view.ty} {X4 : BufTy.Contents (Elt Ideal) arg4.view.ty} {X11 : BufTy.Contents (Elt Ideal) arg11.view.ty} {X12 : BufTy.Contents (Elt Ideal) arg12.view.ty} {f16 f16' : BufTy.Contents (Elt Ideal) arg16.view.ty} {f17 f17' : BufTy.Contents (Elt Ideal) arg17.view.ty}
/-- The residual results after the point that makes them. -/
theorem res_values (h : Res c i arg3 harg3 arg4 harg4 arg5 harg5 arg6 harg6 arg7 harg7 arg8 harg8 arg9 harg9 arg10 harg10 arg11 harg11 arg12 harg12 arg15 harg15 arg16 harg16 arg17 harg17 arg18 harg18 arg19 harg19 arg20 harg20 arg21 harg21 arg24 harg24 q X hX WG WU X3 X4 X11 X12 f16 f17 f16' f17') (h3 : k0_cond3 i = 1#1)
    (hidl : ∀ k : Fin 256, arg3.view.read (Elt Ideal) X3 (ix2 0 k) = if h : k.val < 200 then idOf X ⟨k.val / 2, half_lt h⟩ else 4294967295#32) (b : Fin 2) (n : Fin 17920) :
    arg16.view.read (Elt Ideal) f16' (ix3 b 0 n) = resTerm (arg4.view.read (Elt Ideal) X4) (idOf X) (idOf_lt X hX) (arg11.view.read (Elt Ideal) X11) (fun k => WG (ix2 ⟨(idOf X k).toNat / 4, rowLt X hX k⟩ ⟨n.val / 2, by omega⟩)) (n.val % 2) b
    ∧ arg17.view.read (Elt Ideal) f17' (ix3 b 0 n) = resTerm (arg4.view.read (Elt Ideal) X4) (idOf X) (idOf_lt X hX) (arg12.view.read (Elt Ideal) X12) (fun k => WU (ix2 ⟨(idOf X k).toNat / 4, rowLt X hX k⟩ ⟨n.val / 2, by omega⟩)) (n.val % 2) b := by
  obtain ⟨g4, g5, f24, e1, e2⟩ := h.1 h3
  refine ⟨?_, ?_⟩
  · rw [e1]
    exact residual_gate _ _ _ _ _ _ _ _ _ _ _ _ _ _ _ _ _ _ _ _ _ _ _ _ _ _ _ _ _ _ _ _ _ _ _ _ _ _ _ _ _ _ _ _ _ _ _ _ _ _ _ _ _ hidl b n
  · rw [e2]
    exact residual_up _ _ _ _ _ _ _ _ _ _ _ _ _ _ _ _ _ _ _ _ _ _ _ _ _ _ _ _ _ _ _ _ _ _ _ _ _ _ _ _ _ _ _ _ _ _ _ _ _ _ _ _ _ hidl b n
end Pieces

variable (m : (ℓ : Loc nD τ sig) → Buf (Elt Ideal) ℓ) (hX : ∀ (c : Dev nD) y, BitVec.toNat (V m c main_arg1 y) < 5120)

/-! ## What the results are to hold -/

/-- The input. -/
def xIn (r : Fin 2) (k : Fin 5120) : EReal := (m (((0 : Dev nD) : Thread nD τ).loc main_arg0) : S2x1x5120.Idx → EReal) (ix3 r 0 k)
/-- The rows named by the indices. -/
def rowIn (k : Fin 100) : Fin 5120 := ⟨(idOf (V m 0 main_arg1) k).toNat, idOf_lt _ (hX 0) k⟩
def resG (b : Fin 2) (n : Fin 17920) : EReal :=
  resSpec (xIn m) (rowIn m hX) (fun k => (m (((0 : Dev nD) : Thread nD τ).loc main_arg6) : S5120.Idx → EReal) (ix1 k)) (fun k j => (m (((0 : Dev nD) : Thread nD τ).loc main_arg5) : S5120x8960.Idx → BitVec 8) (ix2 k j)) b n
def resU (b : Fin 2) (n : Fin 17920) : EReal :=
  resSpec (xIn m) (rowIn m hX) (fun k => (m (((0 : Dev nD) : Thread nD τ).loc main_arg11) : S5120.Idx → EReal) (ix1 k)) (fun k j => (m (((0 : Dev nD) : Thread nD τ).loc main_arg10) : S5120x8960.Idx → BitVec 8) (ix2 k j)) b n

theorem resTerm_gate (x : S2x5120.Idx → EReal) (rs : S1x5120.Idx → EReal) (hx : ∀ r k, x (ix2 r k) = (V m 0 main_v4 : S2x5120.Idx → EReal) (ix2 r k)) (hrs : ∀ k, rs (ix2 0 k) = (V m 0 main_v5 : S1x5120.Idx → EReal) (ix2 0 k)) (b : Fin 2) (n : Fin 17920) :
    resTerm x (idOf (V m 0 main_arg1)) (idOf_lt _ (hX 0)) rs (fun k => (V m 0 main_v25 : S1280x8960.Idx → BitVec 32) (ix2 ⟨(idOf (V m 0 main_arg1) k).toNat / 4, rowLt _ (hX 0) k⟩ ⟨n.val / 2, by omega⟩)) (n.val % 2) b = resG m hX b n := by
  unfold resTerm resG resSpec
  refine Finset.sum_congr rfl fun k _ => ?_
  rw [hx, hrs, V4_apply m 0, V5_apply m 0, V25_byte m 0 _ (idOf_lt _ (hX 0) k)]
  rfl
theorem resTerm_up (x : S2x5120.Idx → EReal) (rs : S1x5120.Idx → EReal) (hx : ∀ r k, x (ix2 r k) = (V m 0 main_v4 : S2x5120.Idx → EReal) (ix2 r k)) (hrs : ∀ k, rs (ix2 0 k) = (V m 0 main_v6 : S1x5120.Idx → EReal) (ix2 0 k)) (b : Fin 2) (n : Fin 17920) :
    resTerm x (idOf (V m 0 main_arg1)) (idOf_lt _ (hX 0)) rs (fun k => (V m 0 main_v44 : S1280x8960.Idx → BitVec 32) (ix2 ⟨(idOf (V m 0 main_arg1) k).toNat / 4, rowLt _ (hX 0) k⟩ ⟨n.val / 2, by omega⟩)) (n.val % 2) b = resU m hX b n := by
  unfold resTerm resU resSpec
  refine Finset.sum_congr rfl fun k _ => ?_
  rw [hx, hrs, V4_apply m 0, V6_apply m 0, V44_byte m 0 _ (idOf_lt _ (hX 0) k)]
  rfl

/-- The packed words, scales and zero points: the gate projection's, or the up projection's. -/
def wIn (u : Bool) (k : Fin 5120) (q : Fin 1792) : BitVec 32 :=
  bif u then (m (((0 : Dev nD) : Thread nD τ).loc main_arg7) : S5120x1792.Idx → BitVec 32) (ix2 k q) else (m (((0 : Dev nD) : Thread nD τ).loc main_arg2) : S5120x1792.Idx → BitVec 32) (ix2 k q)
def scIn (u : Bool) (g : Fin 40) (n : Fin 17920) : EReal :=
  bif u then (m (((0 : Dev nD) : Thread nD τ).loc main_arg8) : S40x17920.Idx → EReal) (ix2 g n) else (m (((0 : Dev nD) : Thread nD τ).loc main_arg3) : S40x17920.Idx → EReal) (ix2 g n)
def zIn (u : Bool) (g : Fin 40) (n : Fin 17920) : BitVec 8 :=
  bif u then (m (((0 : Dev nD) : Thread nD τ).loc main_arg9) : S40x17920.Idx → BitVec 8) (ix2 g n) else (m (((0 : Dev nD) : Thread nD τ).loc main_arg4) : S40x17920.Idx → BitVec 8) (ix2 g n)
/-- The first result. -/
def outIn (r : Fin 2) (n : Fin 17920) : EReal :=
  gated (baseSpec (xIn m) (wIn m false) (scIn m false) (zIn m false) r n + resG m hX r n) (baseSpec (xIn m) (wIn m true) (scIn m true) (zIn m true) r n + resU m hX r n)

/-- What is said of a run: from the second point on the inputs are spread; within a column block the table and the partial sums are as they should be; the inputs' windows are
left alone; at the fourth point the residual results are made, and at the other points they are left alone; the last point of a column block makes that block's first result. -/
def say : Say (F := Ideal) where
  inv t f18 f19 f20 f21 := (1 ≤ t → SpreadOk (xIn m) (Memref.whole cc0_scratch0).view f18) ∧
    ∀ b : Fin 7, t / 4 = b.val → t % 4 ≠ 0 → TableOk (scaleAt (scIn m) b) (Memref.whole cc0_scratch1).view f19 ∧ TableOk (zeroAt (zIn m) b) (Memref.whole cc0_scratch2).view f20
      ∧ AccOk (xIn m) (wIn m) (scIn m) (zIn m) b (10 * (t % 4)) (Memref.whole cc0_scratch3).view f21
  aft := fun
    | 10 => fun t Y X => (t.val % 4 = 3 → ∀ r n, X (ix3 r 0 n : S2x1x17920.Idx) = if n.val % 1792 / 256 = t.val / 4 then outIn m hX r n else Y (ix3 r 0 n : S2x1x17920.Idx)) ∧ (t.val % 4 ≠ 3 → X = Y)
    | 11 => fun t Y X => (t.val = 3 → ∀ b n, X (ix3 b 0 n : S2x1x17920.Idx) = resG m hX b n) ∧ (t.val ≠ 3 → X = Y)
    | 12 => fun t Y X => (t.val = 3 → ∀ b n, X (ix3 b 0 n : S2x1x17920.Idx) = resU m hX b n) ∧ (t.val ≠ 3 → X = Y)
    | _ => fun _ Y X => X = Y

/-- After the fourth point the residual results are found made. -/
theorem leaves_11 : ∀ (k : ℕ) (t : Fin (cfgA m).N), t.val = k → 3 ≤ k → ∀ X, (rdat m hX (say m hX) 0).Leaves 11 t X → ∀ b n, X (ix3 b 0 n : S2x1x17920.Idx) = resG m hX b n := by
  intro k
  induction k with
  | zero => intro t _ h; omega
  | succ k ih =>
    intro t ht h X ⟨Y, hY, hA⟩ b n
    by_cases h3 : t.val = 3
    · exact hA.1 h3 b n
    · obtain rfl := hA.2 h3
      have hl := tLt m t
      rcases ((rdat m hX (say m hX) 0).finds_of_pos (fetch_out m 11 rfl t) (by omega) _).mp hY with hf | hf
      · have := (flush11 m _).mp hf
        simp only at this
        omega
      · exact ih _ (by simp only; omega) (by omega) _ hf b n
theorem leaves_12 : ∀ (k : ℕ) (t : Fin (cfgA m).N), t.val = k → 3 ≤ k → ∀ X, (rdat m hX (say m hX) 0).Leaves 12 t X → ∀ b n, X (ix3 b 0 n : S2x1x17920.Idx) = resU m hX b n := by
  intro k
  induction k with
  | zero => intro t _ h; omega
  | succ k ih =>
    intro t ht h X ⟨Y, hY, hA⟩ b n
    by_cases h3 : t.val = 3
    · exact hA.1 h3 b n
    · obtain rfl := hA.2 h3
      have hl := tLt m t
      rcases ((rdat m hX (say m hX) 0).finds_of_pos (fetch_out m 12 rfl t) (by omega) _).mp hY with hf | hf
      · have := (flush12 m _).mp hf
        simp only at this
        omega
      · exact ih _ (by simp only; omega) (by omega) _ hf b n

/-- After the last point of a column block that block of the first result is found made. -/
theorem leaves_10 : ∀ (k : ℕ) (t : Fin (cfgA m).N), t.val = k → ∀ X, (rdat m hX (say m hX) 0).Leaves 10 t X → ∀ (r : Fin 2) (n : Fin 17920), n.val % 1792 / 256 < (k + 1) / 4 → X (ix3 r 0 n : S2x1x17920.Idx) = outIn m hX r n := by
  intro k
  induction k with
  | zero => intro t _ X _ r n h; omega
  | succ k ih =>
    intro t ht X ⟨Y, hY, hA⟩ r n hn
    have hl := tLt m t
    have before : n.val % 1792 / 256 < (k + 1) / 4 → Y (ix3 r 0 n : S2x1x17920.Idx) = outIn m hX r n := by
      intro hk
      rcases ((rdat m hX (say m hX) 0).finds_of_pos (fetch_out m 10 rfl t) (by omega) _).mp hY with hf | hf
      · have := (flush10 m _).mp hf
        simp only at this
        omega
      · exact ih _ (by simp only; omega) _ hf r n hk
    by_cases h3 : t.val % 4 = 3
    · refine (hA.1 h3 r n).trans ?_
      by_cases hb : n.val % 1792 / 256 = t.val / 4
      · exact if_pos hb
      · exact (if_neg hb).trans (before (by omega))
    · obtain rfl := hA.2 h3
      exact before (by omega)

theorem coord_val : ∀ t : Fin grid0.N, (grid0.coords t 0).val = t.val / 4 ∧ (grid0.coords t 1).val = t.val % 4 := by decide

theorem word_at (w w' : S5120x1792.Idx → BitVec 32) (h : w = w') {k k' : Fin 5120} {q q' : Fin 1792} (hk : k.val = k'.val) (hq : q.val = q'.val) : w (ix2 k q) = w' (ix2 k' q') := by
  rw [h, Fin.ext hk, Fin.ext hq]

set_option maxHeartbeats 4000000 in
theorem say_holds : Holds m hX (say m hX) := by
  refine ⟨fun _ _ _ _ => ⟨fun h => absurd h (by decide), fun _ _ h => absurd rfl h⟩, ?_⟩
  intro c t X3 X4 X5 X6 X7 X8 X9 X10 X11 X12 f15 f16 f17 f18 f19 f20 f21 f15' f16' f17' f18' f19' f20' f21' F0 F1 F2 F3 F4 F5 F6 F7 F8 F9 F10 F11 F12 hI hp
  obtain rfl : c = 0 := Subsingleton.elim _ _
  obtain ⟨g21, hL, hP, hA, hR, hO⟩ := hp
  have hval : t.val = 3 → ∀ b n, (mw11 m t).view.read (Elt Ideal) f16' (ix3 b 0 n : S2x1x17920.Idx) = resG m hX b n ∧ (mw12 m t).view.read (Elt Ideal) f17' (ix3 b 0 n : S2x1x17920.Idx) = resU m hX b n := by
    intro ht b n
    have h3 : k0_cond3 (grid0.coords t) = 1#1 := (cond3_iff t).mpr ht
    obtain ⟨d0, e0⟩ := found m hX _ 0 0 rfl (fun _ _ _ h => h) t _ F0
    obtain ⟨d1, e1⟩ := found m hX _ 0 1 rfl (fun _ _ _ h => h) t _ F1
    obtain ⟨d8, e8⟩ := found m hX _ 0 8 rfl (fun _ _ _ h => h) t _ F8
    obtain ⟨d9, e9⟩ := found m hX _ 0 9 rfl (fun _ _ _ h => h) t _ F9
    have := res_values hR h3 (fun k => (congrFun e0 _).trans ((fetched_0 m hX _ 0 t d0 0 k).trans (V3_apply m 0 k))) b n
    exact ⟨this.1.trans (resTerm_gate m hX _ _ (fun r k => (congrFun e1 _).trans (fetched_1 m hX _ 0 t d1 r k)) (fun k => (congrFun e8 _).trans (fetched_8 m hX _ 0 t d8 0 k)) b n),
      this.2.trans (resTerm_up m hX _ _ (fun r k => (congrFun e1 _).trans (fetched_1 m hX _ 0 t d1 r k)) (fun k => (congrFun e9 _).trans (fetched_9 m hX _ 0 t d9 0 k)) b n)⟩
  have hkeep : t.val ≠ 3 → f16' = f16 ∧ f17' = f17 := fun ht => hR.2 fun h => ht ((cond3_iff t).mp h)
  have hl := tLt m t
  obtain ⟨c0, c1⟩ := coord_val t
  obtain ⟨b, hb⟩ : ∃ b : Fin 7, b.val = t.val / 4 := ⟨⟨t.val / 4, by omega⟩, rfl⟩
  have ha : (grid0.coords t 1).val < 4 := by rw [c1]; omega
  obtain ⟨d1, e1⟩ := found m hX _ 0 1 rfl (fun _ _ _ h => h) t _ F1
  obtain ⟨d2, e2⟩ := found m hX _ 0 2 rfl (fun _ _ _ h => h) t _ F2
  obtain ⟨d3, e3⟩ := found m hX _ 0 3 rfl (fun _ _ _ h => h) t _ F3
  obtain ⟨d4, e4⟩ := found m hX _ 0 4 rfl (fun _ _ _ h => h) t _ F4
  obtain ⟨d5, e5⟩ := found m hX _ 0 5 rfl (fun _ _ _ h => h) t _ F5
  obtain ⟨d6, e6⟩ := found m hX _ 0 6 rfl (fun _ _ _ h => h) t _ F6
  obtain ⟨d7, e7⟩ := found m hX _ 0 7 rfl (fun _ _ _ h => h) t _ F7
  have v4 : ∀ r k, (mw1 m t).view.read (Elt Ideal) X4 (ix2 r k : S2x5120.Idx) = xIn m r k := fun r k =>
    (congrFun e1 _).trans ((fetched_1 m hX _ 0 t d1 r k).trans (V4_apply m 0 r k))
  have v5 : WordsOk b (wIn m false) (grid0.coords t 1).val ha (mw2 m t).view X5 := fun y q =>
    (congrFun e2 _).trans ((fetched_2 m hX _ 0 t d2 y q).trans (word_at _ _ (V_unwritten m 0 main_arg2 (by decide)) (by dsimp only; rw [c1]; omega) (by dsimp only; rw [hb]; omega)))
  have v6 : WordsOk b (wIn m true) (grid0.coords t 1).val ha (mw3 m t).view X6 := fun y q =>
    (congrFun e3 _).trans ((fetched_3 m hX _ 0 t d3 y q).trans (word_at _ _ (V_unwritten m 0 main_arg7 (by decide)) (by dsimp only; rw [c1]; omega) (by dsimp only; rw [hb]; omega)))
  have v7 : ∀ g n, (mw4 m t).view.read (Elt Ideal) X7 (ix2 g n : S40x17920.Idx) = scIn m false g n := fun g n =>
    (congrFun e4 _).trans ((fetched_4 m hX _ 0 t d4 g n).trans (congrFun (V_unwritten m 0 main_arg3 (by decide)) _))
  have v8 : ∀ g n, (mw5 m t).view.read (Elt Ideal) X8 (ix2 g n : S40x17920.Idx) = scIn m true g n := fun g n =>
    (congrFun e5 _).trans ((fetched_5 m hX _ 0 t d5 g n).trans (congrFun (V_unwritten m 0 main_arg8 (by decide)) _))
  have v9 : ∀ g n, ((mw6 m t).view.read (Elt Ideal) X9 (ix2 g n : S40x17920.Idx) : BitVec 8) = zIn m false g n := fun g n =>
    (congrFun e6 _).trans ((fetched_6 m hX _ 0 t d6 g n).trans (congrFun (V_unwritten m 0 main_arg4 (by decide)) _))
  have v10 : ∀ g n, ((mw7 m t).view.read (Elt Ideal) X10 (ix2 g n : S40x17920.Idx) : BitVec 8) = zIn m true g n := fun g n =>
    (congrFun e7 _).trans ((fetched_7 m hX _ 0 t d7 g n).trans (congrFun (V_unwritten m 0 main_arg9 (by decide)) _))
  obtain ⟨s18, t19, t20, acc⟩ := point_base (xIn m) (wIn m) (scIn m) (zIn m) b (c0.trans hb.symm) ha (fun h => c1.trans ((cond2_iff t).mp h)) v4 v5 v6 v7 v8 v9 v10
    (fun h => hI.1 (by rw [cond1_iff] at h; omega))
    (fun h => by
      have := hI.2 b hb.symm (by rwa [cond2_iff] at h)
      rw [c1]; exact this) hL hP hA
  have g16 : t.val % 4 = 3 → ∀ r n, (mw11 m t).view.read (Elt Ideal) f16' (ix3 r 0 n : S2x1x17920.Idx) = resG m hX r n := by
    intro h4 r n
    by_cases ht : t.val = 3
    · exact (hval ht r n).1
    · rw [(hkeep ht).1]
      rcases ((rdat m hX (say m hX) 0).finds_of_pos (fetch_out m 11 rfl t) (by omega) _).mp F11 with hf | hf
      · have := (flush11 m _).mp hf
        simp only at this
        omega
      · exact leaves_11 m hX _ _ rfl (by simp only; omega) _ hf r n
  have g17 : t.val % 4 = 3 → ∀ r n, (mw12 m t).view.read (Elt Ideal) f17' (ix3 r 0 n : S2x1x17920.Idx) = resU m hX r n := by
    intro h4 r n
    by_cases ht : t.val = 3
    · exact (hval ht r n).2
    · rw [(hkeep ht).2]
      rcases ((rdat m hX (say m hX) 0).finds_of_pos (fetch_out m 12 rfl t) (by omega) _).mp F12 with hf | hf
      · have := (flush12 m _).mp hf
        simp only at this
        omega
      · exact leaves_12 m hX _ _ rfl (by simp only; omega) _ hf r n
  refine ⟨⟨fun _ => s18, fun b' hb' h' => ?_⟩, rfl, rfl, rfl, rfl, rfl, rfl, rfl, rfl, rfl, rfl, ⟨fun h3 r n => ?_, fun h3 => ?_⟩, ⟨fun ht b n => (hval ht b n).1, fun ht => ?_⟩, ⟨fun ht b n => (hval ht b n).2, fun ht => ?_⟩⟩
  · obtain rfl : b' = b := Fin.ext (by omega)
    refine ⟨t19, t20, ?_⟩
    rw [show 10 * ((t.val + 1) % 4) = 10 * (grid0.coords t 1).val + 10 by rw [c1]; omega]
    exact acc
  · have h3' : t.val % 4 = 3 := h3
    have hacc : AccOk (xIn m) (wIn m) (scIn m) (zIn m) b 40 (Memref.whole cc0_scratch3).view f21' := by
      rw [show 40 = 10 * (grid0.coords t 1).val + 10 by rw [c1, h3']]
      exact acc
    have := out_read (xIn m) (wIn m) (scIn m) (zIn m) b (c0.trans hb.symm) ((cond4_iff t).mpr h3') hacc (resG m hX) (resU m hX) (g16 h3') (g17 h3') hO r n
    rw [hb] at this
    exact this
  · rw [hO.2 fun h => h3 ((cond4_iff t).mp h)]
  · rw [(hkeep ht).1]
  · rw [(hkeep ht).2]

/-- The first result after a run. -/
theorem final_out {r : PUnit × MemSt nD τ sig (Elt Ideal)} (h : Pipeline.RDat.FramePost (cfgA m) (rdat m hX (say m hX)) (V m) r) (b : Fin 2) (n : Fin 17920) :
    (r.2.mem (((0 : Dev nD) : Thread nD τ).loc main_v45_0) : S2x1x17920.Idx → EReal) (ix3 b 0 n) = outIn m hX b n := by
  obtain ⟨X, hL, hE⟩ := Pipeline.RDat.ArrAt.emb_eq_of_wholeAt ((h 0).1 10) (whole10 m)
  exact (hE (ix3 b 0 n : S2x1x17920.Idx)).trans (leaves_10 m hX 27 (27 : Fin 28) rfl X hL b n (by omega))

/-- The residual results after a run. -/
theorem final_res {r : PUnit × MemSt nD τ sig (Elt Ideal)} (h : Pipeline.RDat.FramePost (cfgA m) (rdat m hX (say m hX)) (V m) r) (b : Fin 2) (n : Fin 17920) :
    (r.2.mem (((0 : Dev nD) : Thread nD τ).loc main_v45_1) : S2x1x17920.Idx → EReal) (ix3 b 0 n) = resG m hX b n
      ∧ (r.2.mem (((0 : Dev nD) : Thread nD τ).loc main_v45_2) : S2x1x17920.Idx → EReal) (ix3 b 0 n) = resU m hX b n := by
  refine ⟨?_, ?_⟩
  · obtain ⟨X, hL, hE⟩ := Pipeline.RDat.ArrAt.emb_eq_of_wholeAt ((h 0).1 11) (whole11 m)
    exact (hE (ix3 b 0 n : S2x1x17920.Idx)).trans (leaves_11 m hX 27 (27 : Fin 28) rfl (by omega) X hL b n)
  · obtain ⟨X, hL, hE⟩ := Pipeline.RDat.ArrAt.emb_eq_of_wholeAt ((h 0).1 12) (whole12 m)
    exact (hE (ix3 b 0 n : S2x1x17920.Idx)).trans (leaves_12 m hX 27 (27 : Fin 28) rfl (by omega) X hL b n)

end Cert.KernelIdeal.Hand
end
-- ==== Proof.lean ====
/- The frames of the kernel, of its idealization and of the reference, that the idealization rewrote nothing, and that all three results are the reference's. -/
module

public import proofs.«01_k».proof.Defs
public import proofs.«01_k».proof.Proof.Gen.Kernel
public import proofs.«01_k».proof.Proof.Gen.KernelIdeal
public import proofs.«01_k».proof.Proof.Gen.Pre_ids_in_range
public import proofs.«01_k».proof.Proof.Frame
public import proofs.«01_k».proof.Proof.Ideal.Frame
public import proofs.«01_k».proof.Proof.Gen.ReferenceIdeal
public import proofs.«01_k».proof.Proof.Gen.ReferenceIdeal.Run
public import proofs.«01_k».proof.Proof.Ideal.ValRef
public import proofs.«01_k».proof.Proof.Ideal.ValRun
public import Idealize.ShloMosaic.Lib.StableHlo.Predicate

@[expose] public section

noncomputable section

namespace Cert.Proof

open Idealize.ShloMosaic Idealize.ShloMosaic.TcCoe

/-- An index at least 0 and below 5120 as a signed word is a row number. -/
theorem row_of_bits (v : BitVec 32)
    (e : IntOp.andi (IntOp.cmpi .sge v 0#32) (IntOp.cmpi .slt v 5120#32) = 1#1) : v.toNat < 5120 := by
  have h1 : IntOp.cmpi .sge v 0#32 = 1#1 ∧ IntOp.cmpi .slt v 5120#32 = 1#1 := by
    revert e
    generalize IntOp.cmpi .sge v 0#32 = a
    generalize IntOp.cmpi .slt v 5120#32 = b
    revert a b; decide
  obtain ⟨ha, hb⟩ := h1
  simp only [IntOp.cmpi, StableHlo.Predicate.ofBool_eq_one_iff, BitVec.sle, BitVec.slt, decide_eq_true_eq] at ha hb
  rw [show (0#32).toInt = 0 from rfl] at ha
  rw [show (5120#32).toInt = 5120 from rfl] at hb
  rw [BitVec.toInt_eq_msb_cond] at ha hb
  have := v.isLt
  cases hm : v.msb <;> simp only [hm, if_true, if_false, Bool.false_eq_true] at ha hb <;> omega

theorem rows_Kernel (m : (ℓ : Loc Kernel.nD Kernel.τ Kernel.sig) → Buf (Elt Bits) ℓ) (h : Pre_Kernel m) (c : Dev Kernel.nD) (y) :
    BitVec.toNat (Kernel.Hand.V m c Kernel.main_arg1 y) < 5120 := by
  rw [Kernel.Hand.V_unwritten m c Kernel.main_arg1 (by decide)]
  exact row_of_bits _ (congrFun (h c) y)

theorem frame_Kernel : quiescent_Kernel := fun m g h =>
  (θ_run _ _ _).mono (fun _ hr => ⟨fun c => Kernel.Hand.args_kept m (rows_Kernel m h) _ hr.1 c, hr.2⟩)
    (Kernel.Hand.run_main m (rows_Kernel m h) Kernel.Hand.nothing g (Kernel.Hand.nothing_holds m (rows_Kernel m h)))

theorem rows_KernelIdeal (m : (ℓ : Loc KernelIdeal.nD KernelIdeal.τ KernelIdeal.sig) → Buf (Elt Ideal) ℓ) (h : Pre_KernelIdeal m) (c : Dev KernelIdeal.nD) (y) :
    BitVec.toNat (KernelIdeal.Hand.V m c KernelIdeal.main_arg1 y) < 5120 := by
  rw [KernelIdeal.Hand.V_unwritten m c KernelIdeal.main_arg1 (by decide)]
  exact row_of_bits _ (congrFun (h c) y)

theorem frame_KernelIdeal : quiescent_KernelIdeal := fun m g h =>
  (θ_run _ _ _).mono (fun _ hr => ⟨fun c => KernelIdeal.Hand.args_kept m (rows_KernelIdeal m h) _ hr.1 c, hr.2⟩)
    (KernelIdeal.Hand.run_main m (rows_KernelIdeal m h) KernelIdeal.Hand.nothing g (KernelIdeal.Hand.nothing_holds m (rows_KernelIdeal m h)))

theorem frame_ReferenceIdeal : quiescent_ReferenceIdeal := fun m g _ =>
  (θ_run _ _ _).mono (fun r hr => ⟨fun c => (hr c).2.2.2, sem_eq_zero_of_no_sems (by decide) r.2⟩) (ReferenceIdeal.Value.run m g)

theorem frame_ReferenceIdeal_pre : quiescent_ReferenceIdeal_pre_ids_in_range := fun m g _ =>
  (θ_run _ _ _).mono (fun r hr => ⟨fun c => (hr c).2.2.2, sem_eq_zero_of_no_sems (by decide) r.2⟩) (ReferenceIdeal.Value.run m g)

section Agree
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (hX : ∀ (c : Dev KernelIdeal.nD) y, BitVec.toNat (KernelIdeal.Hand.V m c KernelIdeal.main_arg1 y) < 5120)

/-- The reference's device contents at the start. -/
abbrev V0 : Valuation ReferenceIdeal.τ ReferenceIdeal.sig (Elt Ideal) := StableHlo.launchContents m' (0 : Dev ReferenceIdeal.nD)

/-- The two memories hold the same arguments. -/
structure Same : Prop where
  a0 : (V0 m' (Proc.devRef .tc ReferenceIdeal.main_arg0) : ReferenceIdeal.S2x1x5120.Idx → EReal) = m (((0 : Dev KernelIdeal.nD).tc : Thread KernelIdeal.nD KernelIdeal.τ).loc KernelIdeal.main_arg0)
  a1 : (V0 m' (Proc.devRef .tc ReferenceIdeal.main_arg1) : ReferenceIdeal.S100.Idx → BitVec 32) = m (((0 : Dev KernelIdeal.nD).tc : Thread KernelIdeal.nD KernelIdeal.τ).loc KernelIdeal.main_arg1)
  a2 : (V0 m' (Proc.devRef .tc ReferenceIdeal.main_arg2) : ReferenceIdeal.S5120x1792.Idx → BitVec 32) = m (((0 : Dev KernelIdeal.nD).tc : Thread KernelIdeal.nD KernelIdeal.τ).loc KernelIdeal.main_arg2)
  a3 : (V0 m' (Proc.devRef .tc ReferenceIdeal.main_arg3) : ReferenceIdeal.S40x17920.Idx → EReal) = m (((0 : Dev KernelIdeal.nD).tc : Thread KernelIdeal.nD KernelIdeal.τ).loc KernelIdeal.main_arg3)
  a4 : (V0 m' (Proc.devRef .tc ReferenceIdeal.main_arg4) : ReferenceIdeal.S40x17920.Idx → BitVec 8) = m (((0 : Dev KernelIdeal.nD).tc : Thread KernelIdeal.nD KernelIdeal.τ).loc KernelIdeal.main_arg4)
  a5 : (V0 m' (Proc.devRef .tc ReferenceIdeal.main_arg5) : ReferenceIdeal.S5120x8960.Idx → BitVec 8) = m (((0 : Dev KernelIdeal.nD).tc : Thread KernelIdeal.nD KernelIdeal.τ).loc KernelIdeal.main_arg5)
  a6 : (V0 m' (Proc.devRef .tc ReferenceIdeal.main_arg6) : ReferenceIdeal.S5120.Idx → EReal) = m (((0 : Dev KernelIdeal.nD).tc : Thread KernelIdeal.nD KernelIdeal.τ).loc KernelIdeal.main_arg6)
  a7 : (V0 m' (Proc.devRef .tc ReferenceIdeal.main_arg7) : ReferenceIdeal.S5120x1792.Idx → BitVec 32) = m (((0 : Dev KernelIdeal.nD).tc : Thread KernelIdeal.nD KernelIdeal.τ).loc KernelIdeal.main_arg7)
  a8 : (V0 m' (Proc.devRef .tc ReferenceIdeal.main_arg8) : ReferenceIdeal.S40x17920.Idx → EReal) = m (((0 : Dev KernelIdeal.nD).tc : Thread KernelIdeal.nD KernelIdeal.τ).loc KernelIdeal.main_arg8)
  a9 : (V0 m' (Proc.devRef .tc ReferenceIdeal.main_arg9) : ReferenceIdeal.S40x17920.Idx → BitVec 8) = m (((0 : Dev KernelIdeal.nD).tc : Thread KernelIdeal.nD KernelIdeal.τ).loc KernelIdeal.main_arg9)
  a10 : (V0 m' (Proc.devRef .tc ReferenceIdeal.main_arg10) : ReferenceIdeal.S5120x8960.Idx → BitVec 8) = m (((0 : Dev KernelIdeal.nD).tc : Thread KernelIdeal.nD KernelIdeal.τ).loc KernelIdeal.main_arg10)
  a11 : (V0 m' (Proc.devRef .tc ReferenceIdeal.main_arg11) : ReferenceIdeal.S5120.Idx → EReal) = m (((0 : Dev KernelIdeal.nD).tc : Thread KernelIdeal.nD KernelIdeal.τ).loc KernelIdeal.main_arg11)

variable {m m'}

theorem index_agree (s : Same m m') (k : Fin 100) : (V0 m' (Proc.devRef .tc ReferenceIdeal.main_arg1) : ReferenceIdeal.S100.Idx → BitVec 32) (ix1 k)
    = KernelIdeal.Hand.idOf (KernelIdeal.Hand.V m 0 KernelIdeal.main_arg1) k := by
  rw [s.a1, KernelIdeal.Hand.V_unwritten m 0 KernelIdeal.main_arg1 (by decide)]
  unfold KernelIdeal.Hand.idOf
  exact congrArg (m (((0 : Dev KernelIdeal.nD).tc : Thread KernelIdeal.nD KernelIdeal.τ).loc KernelIdeal.main_arg1) : KernelIdeal.S100.Idx → BitVec 32) (funext fun a => by match a with | ⟨0, _⟩ => rfl)

include hX in
theorem index_lt (s : Same m m') (k : Fin 100) : ((V0 m' (Proc.devRef .tc ReferenceIdeal.main_arg1) : ReferenceIdeal.S100.Idx → BitVec 32) (ix1 k)).toNat < 5120 := by
  rw [index_agree s k]; exact KernelIdeal.Hand.idOf_lt _ (hX 0) k

theorem rows_agree (s : Same m m') : ReferenceIdeal.Hand.rowOf (V0 m') (index_lt hX s) = KernelIdeal.Hand.rowIn m hX := by
  funext k
  refine Fin.ext ?_
  show ((V0 m' (Proc.devRef .tc ReferenceIdeal.main_arg1) : ReferenceIdeal.S100.Idx → BitVec 32) (ix1 k)).toNat = (KernelIdeal.Hand.idOf (KernelIdeal.Hand.V m 0 KernelIdeal.main_arg1) k).toNat
  rw [index_agree s k]

theorem inputs_agree (s : Same m m') : ReferenceIdeal.Hand.xOf (V0 m') = KernelIdeal.Hand.xIn m := by
  funext r k
  exact congrFun s.a0 (ix3 r 0 k)

theorem gate_agree (s : Same m m') (r : Fin 2) (n : Fin 17920) :
    (ReferenceIdeal.Value.val3 (V0 m') (Proc.devRef .tc ReferenceIdeal.main_v47) : ReferenceIdeal.S2x1x17920.Idx → EReal) (ix3 r 0 n) = KernelIdeal.Hand.resG m hX r n := by
  rw [ReferenceIdeal.Hand.res_gate (V0 m') (index_lt hX s), rows_agree hX s, inputs_agree s, s.a5, s.a6]
  rfl

theorem up_agree (s : Same m m') (r : Fin 2) (n : Fin 17920) :
    (ReferenceIdeal.Value.val3 (V0 m') (Proc.devRef .tc ReferenceIdeal.main_v118) : ReferenceIdeal.S2x1x17920.Idx → EReal) (ix3 r 0 n) = KernelIdeal.Hand.resU m hX r n := by
  rw [ReferenceIdeal.Hand.res_up (V0 m') (index_lt hX s), rows_agree hX s, inputs_agree s, s.a10, s.a11]
  rfl

theorem out_agree (s : Same m m') (r : Fin 2) (n : Fin 17920) :
    (ReferenceIdeal.Value.val3 (V0 m') (Proc.devRef .tc ReferenceIdeal.main_v144) : ReferenceIdeal.S2x1x17920.Idx → EReal) (ix3 r 0 n) = KernelIdeal.Hand.outIn m hX r n := by
  rw [ReferenceIdeal.Hand.result (V0 m') (index_lt hX s), ReferenceIdeal.Hand.base_gate (V0 m') (index_lt hX s), gate_agree hX s, up_agree hX s, inputs_agree s, s.a2, s.a3, s.a4, s.a7, s.a8, s.a9]
  rfl

end Agree

theorem at_entry (f g : ReferenceIdeal.S2x1x17920.Idx → EReal) (h : ∀ (r : Fin 2) (n : Fin 17920), f (ix3 r 0 n) = g (ix3 r 0 n)) (i : ReferenceIdeal.S2x1x17920.Idx) : f i = g i := by
  have e : i = ix3 (i 0) 0 (i 2) := by
    funext a
    match a with
    | ⟨0, _⟩ => rfl
    | ⟨1, _⟩ => exact Subsingleton.elim (α := Fin 1) _ _
    | ⟨2, _⟩ => rfl
  rw [e]; exact h _ _

theorem algebraic_KernelIdeal_ReferenceIdeal : Cert.algebraic_KernelIdeal_ReferenceIdeal := by
  intro m g m' g' hp hA
  have hX := rows_KernelIdeal m hp
  obtain ⟨h0, h1, h2, h3, h4, h5, h6, h7, h8, h9, h10, h11⟩ := hA 0
  have s : Same m m' := ⟨h0, h1, h2, h3, h4, h5, h6, h7, h8, h9, h10, h11⟩
  refine ⟨fun _ => (ReferenceIdeal.Value.val3 (V0 m') (Proc.devRef .tc ReferenceIdeal.main_v144) : ReferenceIdeal.S2x1x17920.Idx → EReal),
    fun _ => (ReferenceIdeal.Value.val3 (V0 m') (Proc.devRef .tc ReferenceIdeal.main_v47) : ReferenceIdeal.S2x1x17920.Idx → EReal),
    fun _ => (ReferenceIdeal.Value.val3 (V0 m') (Proc.devRef .tc ReferenceIdeal.main_v118) : ReferenceIdeal.S2x1x17920.Idx → EReal), ?_, ?_⟩
  · refine (θ_run _ _ _).mono (fun r hr c => ?_) (KernelIdeal.Hand.run_main m hX _ g (KernelIdeal.Hand.say_holds m hX))
    obtain rfl : c = 0 := Subsingleton.elim _ _
    refine ⟨funext fun i => ?_, funext fun i => ?_, funext fun i => ?_, KernelIdeal.Hand.args_kept m hX _ hr.1 0⟩
    · exact at_entry (r.2.mem (((0 : Dev KernelIdeal.nD).tc : Thread KernelIdeal.nD KernelIdeal.τ).loc KernelIdeal.main_v45_0)) _ (fun b n => (KernelIdeal.Hand.final_out m hX hr.1 b n).trans (out_agree hX s b n).symm) i
    · exact at_entry (r.2.mem (((0 : Dev KernelIdeal.nD).tc : Thread KernelIdeal.nD KernelIdeal.τ).loc KernelIdeal.main_v45_1)) _ (fun b n => (KernelIdeal.Hand.final_res m hX hr.1 b n).1.trans (gate_agree hX s b n).symm) i
    · exact at_entry (r.2.mem (((0 : Dev KernelIdeal.nD).tc : Thread KernelIdeal.nD KernelIdeal.τ).loc KernelIdeal.main_v45_2)) _ (fun b n => (KernelIdeal.Hand.final_res m hX hr.1 b n).2.trans (up_agree hX s b n).symm) i
  · refine (θ_run _ _ _).mono (fun r hr c => ?_) (ReferenceIdeal.Value.run m' g')
    obtain rfl : c = 0 := Subsingleton.elim _ _
    obtain ⟨e0, e1, e2, e3⟩ := hr 0
    exact ⟨e0.trans (ReferenceIdeal.Value.val3_main_v144 _).symm, e1.trans (ReferenceIdeal.Value.val3_main_v47 _).symm, e2.trans (ReferenceIdeal.Value.val3_main_v118 _).symm, e3⟩

theorem claim : Cert.Claim :=
  ⟨Cert.Kernel.Gen.facts, Cert.KernelIdeal.Gen.facts, Cert.ReferenceIdeal.Gen.facts, Cert.Pre_ids_in_range.Gen.facts,
    frame_Kernel, frame_KernelIdeal, frame_ReferenceIdeal, frame_ReferenceIdeal_pre, trivial, algebraic_KernelIdeal_ReferenceIdeal⟩

end Cert.Proof
end
